-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideReferenceIdeal (m : (ℓ : Loc Cert.WideReferenceIdeal.nD Cert.WideReferenceIdeal.τ Cert.WideReferenceIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareReferenceIdeal (m : (ℓ : Loc Cert.SquareReferenceIdeal.nD Cert.SquareReferenceIdeal.τ Cert.SquareReferenceIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Kvproj (m : (ℓ : Loc Cert.Kvproj.nD Cert.Kvproj.τ Cert.Kvproj.sig) → Buf (Elt Bits) ℓ) : Prop :=
  True

def Pre_KvprojIdeal (m : (ℓ : Loc Cert.KvprojIdeal.nD Cert.KvprojIdeal.τ Cert.KvprojIdeal.sig) → Buf (Elt Ideal) ℓ) : Prop :=
  True

def Pre_KvprojReferenceIdeal (m : (ℓ : Loc Cert.KvprojReferenceIdeal.nD Cert.KvprojReferenceIdeal.τ Cert.KvprojReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamMemory (m : (ℓ : Loc Cert.AdamMemory.nD Cert.AdamMemory.τ Cert.AdamMemory.sig) → Buf (Elt Bits) ℓ) : Prop :=
  True

def Pre_AdamMemoryIdeal (m : (ℓ : Loc Cert.AdamMemoryIdeal.nD Cert.AdamMemoryIdeal.τ Cert.AdamMemoryIdeal.sig) → Buf (Elt Ideal) ℓ) : Prop :=
  True

def Pre_AdamMemoryReferenceIdeal (m : (ℓ : Loc Cert.AdamMemoryReferenceIdeal.nD Cert.AdamMemoryReferenceIdeal.τ Cert.AdamMemoryReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareReferenceIdeal (m : (ℓ : Loc Cert.AdamSquareReferenceIdeal.nD Cert.AdamSquareReferenceIdeal.τ Cert.AdamSquareReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ r.2.sem = fun _ => 0)

def quiescent_WideReferenceIdeal [hWideReferenceIdeal : Cert.WideReferenceIdeal.Facts] : Prop :=
  ∀ (m : (ℓ : Loc Cert.WideReferenceIdeal.nD Cert.WideReferenceIdeal.τ Cert.WideReferenceIdeal.sig) → Buf (Elt Ideal) ℓ) (g : Dev Cert.WideReferenceIdeal.nD → PrngReg), Pre_WideReferenceIdeal m →
    θ_run (Cert.WideReferenceIdeal.defs (F := Ideal)) (onTc (τ := Cert.WideReferenceIdeal.τ) (Cert.WideReferenceIdeal.main (F := Ideal))) ⟨m, fun _ => 0, g⟩ (fun r => (∀ c : Dev Cert.WideReferenceIdeal.nD,
      r.2.mem ((c.tc : Thread Cert.WideReferenceIdeal.nD Cert.WideReferenceIdeal.τ).loc Cert.WideReferenceIdeal.main_arg0) = m ((c.tc : Thread Cert.WideReferenceIdeal.nD Cert.WideReferenceIdeal.τ).loc Cert.WideReferenceIdeal.main_arg0)
      ∧ r.2.mem ((c.tc : Thread Cert.WideReferenceIdeal.nD Cert.WideReferenceIdeal.τ).loc Cert.WideReferenceIdeal.main_arg1) = m ((c.tc : Thread Cert.WideReferenceIdeal.nD Cert.WideReferenceIdeal.τ).loc Cert.WideReferenceIdeal.main_arg1))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareReferenceIdeal [hSquareReferenceIdeal : Cert.SquareReferenceIdeal.Facts] : Prop :=
  ∀ (m : (ℓ : Loc Cert.SquareReferenceIdeal.nD Cert.SquareReferenceIdeal.τ Cert.SquareReferenceIdeal.sig) → Buf (Elt Ideal) ℓ) (g : Dev Cert.SquareReferenceIdeal.nD → PrngReg), Pre_SquareReferenceIdeal m →
    θ_run (Cert.SquareReferenceIdeal.defs (F := Ideal)) (onTc (τ := Cert.SquareReferenceIdeal.τ) (Cert.SquareReferenceIdeal.main (F := Ideal))) ⟨m, fun _ => 0, g⟩ (fun r => (∀ c : Dev Cert.SquareReferenceIdeal.nD,
      r.2.mem ((c.tc : Thread Cert.SquareReferenceIdeal.nD Cert.SquareReferenceIdeal.τ).loc Cert.SquareReferenceIdeal.main_arg0) = m ((c.tc : Thread Cert.SquareReferenceIdeal.nD Cert.SquareReferenceIdeal.τ).loc Cert.SquareReferenceIdeal.main_arg0)
      ∧ r.2.mem ((c.tc : Thread Cert.SquareReferenceIdeal.nD Cert.SquareReferenceIdeal.τ).loc Cert.SquareReferenceIdeal.main_arg1) = m ((c.tc : Thread Cert.SquareReferenceIdeal.nD Cert.SquareReferenceIdeal.τ).loc Cert.SquareReferenceIdeal.main_arg1))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Kvproj [hKvproj : Cert.Kvproj.Facts] : Prop :=
  ∀ (m : (ℓ : Loc Cert.Kvproj.nD Cert.Kvproj.τ Cert.Kvproj.sig) → Buf (Elt Bits) ℓ) (g : Dev Cert.Kvproj.nD → PrngReg), Pre_Kvproj m →
    θ_run (Cert.Kvproj.defs (F := Bits)) (onTc (τ := Cert.Kvproj.τ) (Cert.Kvproj.main (F := Bits))) ⟨m, fun _ => 0, g⟩ (fun r => (∀ c : Dev Cert.Kvproj.nD,
      r.2.mem ((c.tc : Thread Cert.Kvproj.nD Cert.Kvproj.τ).loc Cert.Kvproj.main_arg0) = m ((c.tc : Thread Cert.Kvproj.nD Cert.Kvproj.τ).loc Cert.Kvproj.main_arg0)
      ∧ r.2.mem ((c.tc : Thread Cert.Kvproj.nD Cert.Kvproj.τ).loc Cert.Kvproj.main_arg1) = m ((c.tc : Thread Cert.Kvproj.nD Cert.Kvproj.τ).loc Cert.Kvproj.main_arg1)
      ∧ r.2.mem ((c.tc : Thread Cert.Kvproj.nD Cert.Kvproj.τ).loc Cert.Kvproj.main_arg2) = m ((c.tc : Thread Cert.Kvproj.nD Cert.Kvproj.τ).loc Cert.Kvproj.main_arg2))
      ∧ r.2.sem = fun _ => 0)

def quiescent_KvprojIdeal [hKvprojIdeal : Cert.KvprojIdeal.Facts] : Prop :=
  ∀ (m : (ℓ : Loc Cert.KvprojIdeal.nD Cert.KvprojIdeal.τ Cert.KvprojIdeal.sig) → Buf (Elt Ideal) ℓ) (g : Dev Cert.KvprojIdeal.nD → PrngReg), Pre_KvprojIdeal m →
    θ_run (Cert.KvprojIdeal.defs (F := Ideal)) (onTc (τ := Cert.KvprojIdeal.τ) (Cert.KvprojIdeal.main (F := Ideal))) ⟨m, fun _ => 0, g⟩ (fun r => (∀ c : Dev Cert.KvprojIdeal.nD,
      r.2.mem ((c.tc : Thread Cert.KvprojIdeal.nD Cert.KvprojIdeal.τ).loc Cert.KvprojIdeal.main_arg0) = m ((c.tc : Thread Cert.KvprojIdeal.nD Cert.KvprojIdeal.τ).loc Cert.KvprojIdeal.main_arg0)
      ∧ r.2.mem ((c.tc : Thread Cert.KvprojIdeal.nD Cert.KvprojIdeal.τ).loc Cert.KvprojIdeal.main_arg1) = m ((c.tc : Thread Cert.KvprojIdeal.nD Cert.KvprojIdeal.τ).loc Cert.KvprojIdeal.main_arg1)
      ∧ r.2.mem ((c.tc : Thread Cert.KvprojIdeal.nD Cert.KvprojIdeal.τ).loc Cert.KvprojIdeal.main_arg2) = m ((c.tc : Thread Cert.KvprojIdeal.nD Cert.KvprojIdeal.τ).loc Cert.KvprojIdeal.main_arg2))
      ∧ r.2.sem = fun _ => 0)

def quiescent_KvprojReferenceIdeal [hKvprojReferenceIdeal : Cert.KvprojReferenceIdeal.Facts] : Prop :=
  ∀ (m : (ℓ : Loc Cert.KvprojReferenceIdeal.nD Cert.KvprojReferenceIdeal.τ Cert.KvprojReferenceIdeal.sig) → Buf (Elt Ideal) ℓ) (g : Dev Cert.KvprojReferenceIdeal.nD → PrngReg), Pre_KvprojReferenceIdeal m →
    θ_run (Cert.KvprojReferenceIdeal.defs (F := Ideal)) (onTc (τ := Cert.KvprojReferenceIdeal.τ) (Cert.KvprojReferenceIdeal.main (F := Ideal))) ⟨m, fun _ => 0, g⟩ (fun r => (∀ c : Dev Cert.KvprojReferenceIdeal.nD,
      r.2.mem ((c.tc : Thread Cert.KvprojReferenceIdeal.nD Cert.KvprojReferenceIdeal.τ).loc Cert.KvprojReferenceIdeal.main_arg0) = m ((c.tc : Thread Cert.KvprojReferenceIdeal.nD Cert.KvprojReferenceIdeal.τ).loc Cert.KvprojReferenceIdeal.main_arg0)
      ∧ r.2.mem ((c.tc : Thread Cert.KvprojReferenceIdeal.nD Cert.KvprojReferenceIdeal.τ).loc Cert.KvprojReferenceIdeal.main_arg1) = m ((c.tc : Thread Cert.KvprojReferenceIdeal.nD Cert.KvprojReferenceIdeal.τ).loc Cert.KvprojReferenceIdeal.main_arg1)
      ∧ r.2.mem ((c.tc : Thread Cert.KvprojReferenceIdeal.nD Cert.KvprojReferenceIdeal.τ).loc Cert.KvprojReferenceIdeal.main_arg2) = m ((c.tc : Thread Cert.KvprojReferenceIdeal.nD Cert.KvprojReferenceIdeal.τ).loc Cert.KvprojReferenceIdeal.main_arg2))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4))
      ∧ r.2.sem = fun _ => 0)

def quiescent_AdamMemory [hAdamMemory : Cert.AdamMemory.Facts] : Prop :=
  ∀ (m : (ℓ : Loc Cert.AdamMemory.nD Cert.AdamMemory.τ Cert.AdamMemory.sig) → Buf (Elt Bits) ℓ) (g : Dev Cert.AdamMemory.nD → PrngReg), Pre_AdamMemory m →
    θ_run (Cert.AdamMemory.defs (F := Bits)) (onTc (τ := Cert.AdamMemory.τ) (Cert.AdamMemory.main (F := Bits))) ⟨m, fun _ => 0, g⟩ (fun r => (∀ c : Dev Cert.AdamMemory.nD,
      r.2.mem ((c.tc : Thread Cert.AdamMemory.nD Cert.AdamMemory.τ).loc Cert.AdamMemory.main_arg0) = m ((c.tc : Thread Cert.AdamMemory.nD Cert.AdamMemory.τ).loc Cert.AdamMemory.main_arg0)
      ∧ r.2.mem ((c.tc : Thread Cert.AdamMemory.nD Cert.AdamMemory.τ).loc Cert.AdamMemory.main_arg1) = m ((c.tc : Thread Cert.AdamMemory.nD Cert.AdamMemory.τ).loc Cert.AdamMemory.main_arg1)
      ∧ r.2.mem ((c.tc : Thread Cert.AdamMemory.nD Cert.AdamMemory.τ).loc Cert.AdamMemory.main_arg2) = m ((c.tc : Thread Cert.AdamMemory.nD Cert.AdamMemory.τ).loc Cert.AdamMemory.main_arg2)
      ∧ r.2.mem ((c.tc : Thread Cert.AdamMemory.nD Cert.AdamMemory.τ).loc Cert.AdamMemory.main_arg3) = m ((c.tc : Thread Cert.AdamMemory.nD Cert.AdamMemory.τ).loc Cert.AdamMemory.main_arg3)
      ∧ r.2.mem ((c.tc : Thread Cert.AdamMemory.nD Cert.AdamMemory.τ).loc Cert.AdamMemory.main_arg4) = m ((c.tc : Thread Cert.AdamMemory.nD Cert.AdamMemory.τ).loc Cert.AdamMemory.main_arg4))
      ∧ r.2.sem = fun _ => 0)

def quiescent_AdamMemoryIdeal [hAdamMemoryIdeal : Cert.AdamMemoryIdeal.Facts] : Prop :=
  ∀ (m : (ℓ : Loc Cert.AdamMemoryIdeal.nD Cert.AdamMemoryIdeal.τ Cert.AdamMemoryIdeal.sig) → Buf (Elt Ideal) ℓ) (g : Dev Cert.AdamMemoryIdeal.nD → PrngReg), Pre_AdamMemoryIdeal m →
    θ_run (Cert.AdamMemoryIdeal.defs (F := Ideal)) (onTc (τ := Cert.AdamMemoryIdeal.τ) (Cert.AdamMemoryIdeal.main (F := Ideal))) ⟨m, fun _ => 0, g⟩ (fun r => (∀ c : Dev Cert.AdamMemoryIdeal.nD,
      r.2.mem ((c.tc : Thread Cert.AdamMemoryIdeal.nD Cert.AdamMemoryIdeal.τ).loc Cert.AdamMemoryIdeal.main_arg0) = m ((c.tc : Thread Cert.AdamMemoryIdeal.nD Cert.AdamMemoryIdeal.τ).loc Cert.AdamMemoryIdeal.main_arg0)
      ∧ r.2.mem ((c.tc : Thread Cert.AdamMemoryIdeal.nD Cert.AdamMemoryIdeal.τ).loc Cert.AdamMemoryIdeal.main_arg1) = m ((c.tc : Thread Cert.AdamMemoryIdeal.nD Cert.AdamMemoryIdeal.τ).loc Cert.AdamMemoryIdeal.main_arg1)
      ∧ r.2.mem ((c.tc : Thread Cert.AdamMemoryIdeal.nD Cert.AdamMemoryIdeal.τ).loc Cert.AdamMemoryIdeal.main_arg2) = m ((c.tc : Thread Cert.AdamMemoryIdeal.nD Cert.AdamMemoryIdeal.τ).loc Cert.AdamMemoryIdeal.main_arg2)
      ∧ r.2.mem ((c.tc : Thread Cert.AdamMemoryIdeal.nD Cert.AdamMemoryIdeal.τ).loc Cert.AdamMemoryIdeal.main_arg3) = m ((c.tc : Thread Cert.AdamMemoryIdeal.nD Cert.AdamMemoryIdeal.τ).loc Cert.AdamMemoryIdeal.main_arg3)
      ∧ r.2.mem ((c.tc : Thread Cert.AdamMemoryIdeal.nD Cert.AdamMemoryIdeal.τ).loc Cert.AdamMemoryIdeal.main_arg4) = m ((c.tc : Thread Cert.AdamMemoryIdeal.nD Cert.AdamMemoryIdeal.τ).loc Cert.AdamMemoryIdeal.main_arg4))
      ∧ r.2.sem = fun _ => 0)

def quiescent_AdamMemoryReferenceIdeal [hAdamMemoryReferenceIdeal : Cert.AdamMemoryReferenceIdeal.Facts] : Prop :=
  ∀ (m : (ℓ : Loc Cert.AdamMemoryReferenceIdeal.nD Cert.AdamMemoryReferenceIdeal.τ Cert.AdamMemoryReferenceIdeal.sig) → Buf (Elt Ideal) ℓ) (g : Dev Cert.AdamMemoryReferenceIdeal.nD → PrngReg), Pre_AdamMemoryReferenceIdeal m →
    θ_run (Cert.AdamMemoryReferenceIdeal.defs (F := Ideal)) (onTc (τ := Cert.AdamMemoryReferenceIdeal.τ) (Cert.AdamMemoryReferenceIdeal.main (F := Ideal))) ⟨m, fun _ => 0, g⟩ (fun r => (∀ c : Dev Cert.AdamMemoryReferenceIdeal.nD,
      r.2.mem ((c.tc : Thread Cert.AdamMemoryReferenceIdeal.nD Cert.AdamMemoryReferenceIdeal.τ).loc Cert.AdamMemoryReferenceIdeal.main_arg0) = m ((c.tc : Thread Cert.AdamMemoryReferenceIdeal.nD Cert.AdamMemoryReferenceIdeal.τ).loc Cert.AdamMemoryReferenceIdeal.main_arg0)
      ∧ r.2.mem ((c.tc : Thread Cert.AdamMemoryReferenceIdeal.nD Cert.AdamMemoryReferenceIdeal.τ).loc Cert.AdamMemoryReferenceIdeal.main_arg1) = m ((c.tc : Thread Cert.AdamMemoryReferenceIdeal.nD Cert.AdamMemoryReferenceIdeal.τ).loc Cert.AdamMemoryReferenceIdeal.main_arg1)
      ∧ r.2.mem ((c.tc : Thread Cert.AdamMemoryReferenceIdeal.nD Cert.AdamMemoryReferenceIdeal.τ).loc Cert.AdamMemoryReferenceIdeal.main_arg2) = m ((c.tc : Thread Cert.AdamMemoryReferenceIdeal.nD Cert.AdamMemoryReferenceIdeal.τ).loc Cert.AdamMemoryReferenceIdeal.main_arg2)
      ∧ r.2.mem ((c.tc : Thread Cert.AdamMemoryReferenceIdeal.nD Cert.AdamMemoryReferenceIdeal.τ).loc Cert.AdamMemoryReferenceIdeal.main_arg3) = m ((c.tc : Thread Cert.AdamMemoryReferenceIdeal.nD Cert.AdamMemoryReferenceIdeal.τ).loc Cert.AdamMemoryReferenceIdeal.main_arg3)
      ∧ r.2.mem ((c.tc : Thread Cert.AdamMemoryReferenceIdeal.nD Cert.AdamMemoryReferenceIdeal.τ).loc Cert.AdamMemoryReferenceIdeal.main_arg4) = m ((c.tc : Thread Cert.AdamMemoryReferenceIdeal.nD Cert.AdamMemoryReferenceIdeal.τ).loc Cert.AdamMemoryReferenceIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4)
      ∧ r.2.mem ((c.tc : Thread Cert.AdamSquare.nD Cert.AdamSquare.τ).loc Cert.AdamSquare.main_arg5) = m ((c.tc : Thread Cert.AdamSquare.nD Cert.AdamSquare.τ).loc Cert.AdamSquare.main_arg5)
      ∧ r.2.mem ((c.tc : Thread Cert.AdamSquare.nD Cert.AdamSquare.τ).loc Cert.AdamSquare.main_arg6) = m ((c.tc : Thread Cert.AdamSquare.nD Cert.AdamSquare.τ).loc Cert.AdamSquare.main_arg6)
      ∧ r.2.mem ((c.tc : Thread Cert.AdamSquare.nD Cert.AdamSquare.τ).loc Cert.AdamSquare.main_arg7) = m ((c.tc : Thread Cert.AdamSquare.nD Cert.AdamSquare.τ).loc Cert.AdamSquare.main_arg7)
      ∧ r.2.mem ((c.tc : Thread Cert.AdamSquare.nD Cert.AdamSquare.τ).loc Cert.AdamSquare.main_arg8) = m ((c.tc : Thread Cert.AdamSquare.nD Cert.AdamSquare.τ).loc Cert.AdamSquare.main_arg8)
      ∧ r.2.mem ((c.tc : Thread Cert.AdamSquare.nD Cert.AdamSquare.τ).loc Cert.AdamSquare.main_arg9) = m ((c.tc : Thread Cert.AdamSquare.nD Cert.AdamSquare.τ).loc Cert.AdamSquare.main_arg9)
      ∧ r.2.mem ((c.tc : Thread Cert.AdamSquare.nD Cert.AdamSquare.τ).loc Cert.AdamSquare.main_arg10) = m ((c.tc : Thread Cert.AdamSquare.nD Cert.AdamSquare.τ).loc Cert.AdamSquare.main_arg10)
      ∧ r.2.mem ((c.tc : Thread Cert.AdamSquare.nD Cert.AdamSquare.τ).loc Cert.AdamSquare.main_arg11) = m ((c.tc : Thread Cert.AdamSquare.nD Cert.AdamSquare.τ).loc Cert.AdamSquare.main_arg11)
      ∧ r.2.mem ((c.tc : Thread Cert.AdamSquare.nD Cert.AdamSquare.τ).loc Cert.AdamSquare.main_arg12) = m ((c.tc : Thread Cert.AdamSquare.nD Cert.AdamSquare.τ).loc Cert.AdamSquare.main_arg12)
      ∧ r.2.mem ((c.tc : Thread Cert.AdamSquare.nD Cert.AdamSquare.τ).loc Cert.AdamSquare.main_arg13) = m ((c.tc : Thread Cert.AdamSquare.nD Cert.AdamSquare.τ).loc Cert.AdamSquare.main_arg13)
      ∧ r.2.mem ((c.tc : Thread Cert.AdamSquare.nD Cert.AdamSquare.τ).loc Cert.AdamSquare.main_arg14) = m ((c.tc : Thread Cert.AdamSquare.nD Cert.AdamSquare.τ).loc Cert.AdamSquare.main_arg14))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4)
      ∧ r.2.mem ((c.tc : Thread Cert.AdamSquareIdeal.nD Cert.AdamSquareIdeal.τ).loc Cert.AdamSquareIdeal.main_arg5) = m ((c.tc : Thread Cert.AdamSquareIdeal.nD Cert.AdamSquareIdeal.τ).loc Cert.AdamSquareIdeal.main_arg5)
      ∧ r.2.mem ((c.tc : Thread Cert.AdamSquareIdeal.nD Cert.AdamSquareIdeal.τ).loc Cert.AdamSquareIdeal.main_arg6) = m ((c.tc : Thread Cert.AdamSquareIdeal.nD Cert.AdamSquareIdeal.τ).loc Cert.AdamSquareIdeal.main_arg6)
      ∧ r.2.mem ((c.tc : Thread Cert.AdamSquareIdeal.nD Cert.AdamSquareIdeal.τ).loc Cert.AdamSquareIdeal.main_arg7) = m ((c.tc : Thread Cert.AdamSquareIdeal.nD Cert.AdamSquareIdeal.τ).loc Cert.AdamSquareIdeal.main_arg7)
      ∧ r.2.mem ((c.tc : Thread Cert.AdamSquareIdeal.nD Cert.AdamSquareIdeal.τ).loc Cert.AdamSquareIdeal.main_arg8) = m ((c.tc : Thread Cert.AdamSquareIdeal.nD Cert.AdamSquareIdeal.τ).loc Cert.AdamSquareIdeal.main_arg8)
      ∧ r.2.mem ((c.tc : Thread Cert.AdamSquareIdeal.nD Cert.AdamSquareIdeal.τ).loc Cert.AdamSquareIdeal.main_arg9) = m ((c.tc : Thread Cert.AdamSquareIdeal.nD Cert.AdamSquareIdeal.τ).loc Cert.AdamSquareIdeal.main_arg9)
      ∧ r.2.mem ((c.tc : Thread Cert.AdamSquareIdeal.nD Cert.AdamSquareIdeal.τ).loc Cert.AdamSquareIdeal.main_arg10) = m ((c.tc : Thread Cert.AdamSquareIdeal.nD Cert.AdamSquareIdeal.τ).loc Cert.AdamSquareIdeal.main_arg10)
      ∧ r.2.mem ((c.tc : Thread Cert.AdamSquareIdeal.nD Cert.AdamSquareIdeal.τ).loc Cert.AdamSquareIdeal.main_arg11) = m ((c.tc : Thread Cert.AdamSquareIdeal.nD Cert.AdamSquareIdeal.τ).loc Cert.AdamSquareIdeal.main_arg11)
      ∧ r.2.mem ((c.tc : Thread Cert.AdamSquareIdeal.nD Cert.AdamSquareIdeal.τ).loc Cert.AdamSquareIdeal.main_arg12) = m ((c.tc : Thread Cert.AdamSquareIdeal.nD Cert.AdamSquareIdeal.τ).loc Cert.AdamSquareIdeal.main_arg12)
      ∧ r.2.mem ((c.tc : Thread Cert.AdamSquareIdeal.nD Cert.AdamSquareIdeal.τ).loc Cert.AdamSquareIdeal.main_arg13) = m ((c.tc : Thread Cert.AdamSquareIdeal.nD Cert.AdamSquareIdeal.τ).loc Cert.AdamSquareIdeal.main_arg13)
      ∧ r.2.mem ((c.tc : Thread Cert.AdamSquareIdeal.nD Cert.AdamSquareIdeal.τ).loc Cert.AdamSquareIdeal.main_arg14) = m ((c.tc : Thread Cert.AdamSquareIdeal.nD Cert.AdamSquareIdeal.τ).loc Cert.AdamSquareIdeal.main_arg14))
      ∧ r.2.sem = fun _ => 0)

def quiescent_AdamSquareReferenceIdeal [hAdamSquareReferenceIdeal : Cert.AdamSquareReferenceIdeal.Facts] : Prop :=
  ∀ (m : (ℓ : Loc Cert.AdamSquareReferenceIdeal.nD Cert.AdamSquareReferenceIdeal.τ Cert.AdamSquareReferenceIdeal.sig) → Buf (Elt Ideal) ℓ) (g : Dev Cert.AdamSquareReferenceIdeal.nD → PrngReg), Pre_AdamSquareReferenceIdeal m →
    θ_run (Cert.AdamSquareReferenceIdeal.defs (F := Ideal)) (onTc (τ := Cert.AdamSquareReferenceIdeal.τ) (Cert.AdamSquareReferenceIdeal.main (F := Ideal))) ⟨m, fun _ => 0, g⟩ (fun r => (∀ c : Dev Cert.AdamSquareReferenceIdeal.nD,
      r.2.mem ((c.tc : Thread Cert.AdamSquareReferenceIdeal.nD Cert.AdamSquareReferenceIdeal.τ).loc Cert.AdamSquareReferenceIdeal.main_arg0) = m ((c.tc : Thread Cert.AdamSquareReferenceIdeal.nD Cert.AdamSquareReferenceIdeal.τ).loc Cert.AdamSquareReferenceIdeal.main_arg0)
      ∧ r.2.mem ((c.tc : Thread Cert.AdamSquareReferenceIdeal.nD Cert.AdamSquareReferenceIdeal.τ).loc Cert.AdamSquareReferenceIdeal.main_arg1) = m ((c.tc : Thread Cert.AdamSquareReferenceIdeal.nD Cert.AdamSquareReferenceIdeal.τ).loc Cert.AdamSquareReferenceIdeal.main_arg1)
      ∧ r.2.mem ((c.tc : Thread Cert.AdamSquareReferenceIdeal.nD Cert.AdamSquareReferenceIdeal.τ).loc Cert.AdamSquareReferenceIdeal.main_arg2) = m ((c.tc : Thread Cert.AdamSquareReferenceIdeal.nD Cert.AdamSquareReferenceIdeal.τ).loc Cert.AdamSquareReferenceIdeal.main_arg2)
      ∧ r.2.mem ((c.tc : Thread Cert.AdamSquareReferenceIdeal.nD Cert.AdamSquareReferenceIdeal.τ).loc Cert.AdamSquareReferenceIdeal.main_arg3) = m ((c.tc : Thread Cert.AdamSquareReferenceIdeal.nD Cert.AdamSquareReferenceIdeal.τ).loc Cert.AdamSquareReferenceIdeal.main_arg3)
      ∧ r.2.mem ((c.tc : Thread Cert.AdamSquareReferenceIdeal.nD Cert.AdamSquareReferenceIdeal.τ).loc Cert.AdamSquareReferenceIdeal.main_arg4) = m ((c.tc : Thread Cert.AdamSquareReferenceIdeal.nD Cert.AdamSquareReferenceIdeal.τ).loc Cert.AdamSquareReferenceIdeal.main_arg4)
      ∧ r.2.mem ((c.tc : Thread Cert.AdamSquareReferenceIdeal.nD Cert.AdamSquareReferenceIdeal.τ).loc Cert.AdamSquareReferenceIdeal.main_arg5) = m ((c.tc : Thread Cert.AdamSquareReferenceIdeal.nD Cert.AdamSquareReferenceIdeal.τ).loc Cert.AdamSquareReferenceIdeal.main_arg5)
      ∧ r.2.mem ((c.tc : Thread Cert.AdamSquareReferenceIdeal.nD Cert.AdamSquareReferenceIdeal.τ).loc Cert.AdamSquareReferenceIdeal.main_arg6) = m ((c.tc : Thread Cert.AdamSquareReferenceIdeal.nD Cert.AdamSquareReferenceIdeal.τ).loc Cert.AdamSquareReferenceIdeal.main_arg6)
      ∧ r.2.mem ((c.tc : Thread Cert.AdamSquareReferenceIdeal.nD Cert.AdamSquareReferenceIdeal.τ).loc Cert.AdamSquareReferenceIdeal.main_arg7) = m ((c.tc : Thread Cert.AdamSquareReferenceIdeal.nD Cert.AdamSquareReferenceIdeal.τ).loc Cert.AdamSquareReferenceIdeal.main_arg7)
      ∧ r.2.mem ((c.tc : Thread Cert.AdamSquareReferenceIdeal.nD Cert.AdamSquareReferenceIdeal.τ).loc Cert.AdamSquareReferenceIdeal.main_arg8) = m ((c.tc : Thread Cert.AdamSquareReferenceIdeal.nD Cert.AdamSquareReferenceIdeal.τ).loc Cert.AdamSquareReferenceIdeal.main_arg8)
      ∧ r.2.mem ((c.tc : Thread Cert.AdamSquareReferenceIdeal.nD Cert.AdamSquareReferenceIdeal.τ).loc Cert.AdamSquareReferenceIdeal.main_arg9) = m ((c.tc : Thread Cert.AdamSquareReferenceIdeal.nD Cert.AdamSquareReferenceIdeal.τ).loc Cert.AdamSquareReferenceIdeal.main_arg9)
      ∧ r.2.mem ((c.tc : Thread Cert.AdamSquareReferenceIdeal.nD Cert.AdamSquareReferenceIdeal.τ).loc Cert.AdamSquareReferenceIdeal.main_arg10) = m ((c.tc : Thread Cert.AdamSquareReferenceIdeal.nD Cert.AdamSquareReferenceIdeal.τ).loc Cert.AdamSquareReferenceIdeal.main_arg10)
      ∧ r.2.mem ((c.tc : Thread Cert.AdamSquareReferenceIdeal.nD Cert.AdamSquareReferenceIdeal.τ).loc Cert.AdamSquareReferenceIdeal.main_arg11) = m ((c.tc : Thread Cert.AdamSquareReferenceIdeal.nD Cert.AdamSquareReferenceIdeal.τ).loc Cert.AdamSquareReferenceIdeal.main_arg11)
      ∧ r.2.mem ((c.tc : Thread Cert.AdamSquareReferenceIdeal.nD Cert.AdamSquareReferenceIdeal.τ).loc Cert.AdamSquareReferenceIdeal.main_arg12) = m ((c.tc : Thread Cert.AdamSquareReferenceIdeal.nD Cert.AdamSquareReferenceIdeal.τ).loc Cert.AdamSquareReferenceIdeal.main_arg12)
      ∧ r.2.mem ((c.tc : Thread Cert.AdamSquareReferenceIdeal.nD Cert.AdamSquareReferenceIdeal.τ).loc Cert.AdamSquareReferenceIdeal.main_arg13) = m ((c.tc : Thread Cert.AdamSquareReferenceIdeal.nD Cert.AdamSquareReferenceIdeal.τ).loc Cert.AdamSquareReferenceIdeal.main_arg13)
      ∧ r.2.mem ((c.tc : Thread Cert.AdamSquareReferenceIdeal.nD Cert.AdamSquareReferenceIdeal.τ).loc Cert.AdamSquareReferenceIdeal.main_arg14) = m ((c.tc : Thread Cert.AdamSquareReferenceIdeal.nD Cert.AdamSquareReferenceIdeal.τ).loc Cert.AdamSquareReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)) (v5 : (c : Dev Cert.KernelIdeal.nD) → Buf (Elt Ideal) ((c.tc : Thread Cert.KernelIdeal.nD Cert.KernelIdeal.τ).loc Cert.KernelIdeal.main_v16_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_v16_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_v110) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_v112) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v17_0)) (v1 : (c : Dev Cert.MlpIdeal.nD) → Buf (Elt Ideal) ((c.tc : Thread Cert.MlpIdeal.nD Cert.MlpIdeal.τ).loc Cert.MlpIdeal.main_v17_1)) (v2 : (c : Dev Cert.MlpIdeal.nD) → Buf (Elt Ideal) ((c.tc : Thread Cert.MlpIdeal.nD Cert.MlpIdeal.τ).loc Cert.MlpIdeal.main_v17_2)) (v3 : (c : Dev Cert.MlpIdeal.nD) → Buf (Elt Ideal) ((c.tc : Thread Cert.MlpIdeal.nD Cert.MlpIdeal.τ).loc Cert.MlpIdeal.main_v17_3)) (v4 : (c : Dev Cert.MlpIdeal.nD) → Buf (Elt Ideal) ((c.tc : Thread Cert.MlpIdeal.nD Cert.MlpIdeal.τ).loc Cert.MlpIdeal.main_v17_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v17_0) = v0 c
          ∧ r.2.mem ((c.tc : Thread Cert.MlpIdeal.nD Cert.MlpIdeal.τ).loc Cert.MlpIdeal.main_v17_1) = v1 c
          ∧ r.2.mem ((c.tc : Thread Cert.MlpIdeal.nD Cert.MlpIdeal.τ).loc Cert.MlpIdeal.main_v17_2) = v2 c
          ∧ r.2.mem ((c.tc : Thread Cert.MlpIdeal.nD Cert.MlpIdeal.τ).loc Cert.MlpIdeal.main_v17_3) = v3 c
          ∧ r.2.mem ((c.tc : Thread Cert.MlpIdeal.nD Cert.MlpIdeal.τ).loc Cert.MlpIdeal.main_v17_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v52) = v0 c
          ∧ r.2.mem ((c.tc : Thread Cert.MlpReferenceIdeal.nD Cert.MlpReferenceIdeal.τ).loc Cert.MlpReferenceIdeal.main_v53) = v1 c
          ∧ r.2.mem ((c.tc : Thread Cert.MlpReferenceIdeal.nD Cert.MlpReferenceIdeal.τ).loc Cert.MlpReferenceIdeal.main_v51) = v2 c
          ∧ r.2.mem ((c.tc : Thread Cert.MlpReferenceIdeal.nD Cert.MlpReferenceIdeal.τ).loc Cert.MlpReferenceIdeal.main_v54) = v3 c
          ∧ r.2.mem ((c.tc : Thread Cert.MlpReferenceIdeal.nD Cert.MlpReferenceIdeal.τ).loc Cert.MlpReferenceIdeal.main_v55) = v4 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Wide_WideIdeal : Prop :=
  True

def algebraic_WideIdeal_WideReferenceIdeal [hWideIdeal : Cert.WideIdeal.Facts] [hWideReferenceIdeal : Cert.WideReferenceIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideReferenceIdeal.nD Cert.WideReferenceIdeal.τ Cert.WideReferenceIdeal.sig) → Buf (Elt Ideal) ℓ) (g' : Dev Cert.WideReferenceIdeal.nD → PrngReg), Pre_WideIdeal m →
    (∀ c : Dev Cert.WideIdeal.nD,
      m' ((c.tc : Thread Cert.WideReferenceIdeal.nD Cert.WideReferenceIdeal.τ).loc Cert.WideReferenceIdeal.main_arg0) = m ((c.tc : Thread Cert.WideIdeal.nD Cert.WideIdeal.τ).loc Cert.WideIdeal.main_arg0)
      ∧ m' ((c.tc : Thread Cert.WideReferenceIdeal.nD Cert.WideReferenceIdeal.τ).loc Cert.WideReferenceIdeal.main_arg1) = m ((c.tc : Thread Cert.WideIdeal.nD Cert.WideIdeal.τ).loc Cert.WideIdeal.main_arg1)) →
    ∃ (v0 : (c : Dev Cert.WideIdeal.nD) → Buf (Elt Ideal) ((c.tc : Thread Cert.WideIdeal.nD Cert.WideIdeal.τ).loc Cert.WideIdeal.main_v0)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v0) = v0 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ θ_run (Cert.WideReferenceIdeal.defs (F := Ideal)) (onTc (τ := Cert.WideReferenceIdeal.τ) (Cert.WideReferenceIdeal.main (F := Ideal))) ⟨m', fun _ => 0, g'⟩ (fun r => ∀ c : Dev Cert.WideReferenceIdeal.nD,
          r.2.mem ((c.tc : Thread Cert.WideReferenceIdeal.nD Cert.WideReferenceIdeal.τ).loc Cert.WideReferenceIdeal.main_v5) = v0 c
          ∧ r.2.mem ((c.tc : Thread Cert.WideReferenceIdeal.nD Cert.WideReferenceIdeal.τ).loc Cert.WideReferenceIdeal.main_arg0) = m' ((c.tc : Thread Cert.WideReferenceIdeal.nD Cert.WideReferenceIdeal.τ).loc Cert.WideReferenceIdeal.main_arg0)
          ∧ r.2.mem ((c.tc : Thread Cert.WideReferenceIdeal.nD Cert.WideReferenceIdeal.τ).loc Cert.WideReferenceIdeal.main_arg1) = m' ((c.tc : Thread Cert.WideReferenceIdeal.nD Cert.WideReferenceIdeal.τ).loc Cert.WideReferenceIdeal.main_arg1))

def preserves_Square_SquareIdeal : Prop :=
  True

def algebraic_SquareIdeal_SquareReferenceIdeal [hSquareIdeal : Cert.SquareIdeal.Facts] [hSquareReferenceIdeal : Cert.SquareReferenceIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareReferenceIdeal.nD Cert.SquareReferenceIdeal.τ Cert.SquareReferenceIdeal.sig) → Buf (Elt Ideal) ℓ) (g' : Dev Cert.SquareReferenceIdeal.nD → PrngReg), Pre_SquareIdeal m →
    (∀ c : Dev Cert.SquareIdeal.nD,
      m' ((c.tc : Thread Cert.SquareReferenceIdeal.nD Cert.SquareReferenceIdeal.τ).loc Cert.SquareReferenceIdeal.main_arg0) = m ((c.tc : Thread Cert.SquareIdeal.nD Cert.SquareIdeal.τ).loc Cert.SquareIdeal.main_arg0)
      ∧ m' ((c.tc : Thread Cert.SquareReferenceIdeal.nD Cert.SquareReferenceIdeal.τ).loc Cert.SquareReferenceIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v0)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v0) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareReferenceIdeal.defs (F := Ideal)) (onTc (τ := Cert.SquareReferenceIdeal.τ) (Cert.SquareReferenceIdeal.main (F := Ideal))) ⟨m', fun _ => 0, g'⟩ (fun r => ∀ c : Dev Cert.SquareReferenceIdeal.nD,
          r.2.mem ((c.tc : Thread Cert.SquareReferenceIdeal.nD Cert.SquareReferenceIdeal.τ).loc Cert.SquareReferenceIdeal.main_v5) = v0 c
          ∧ r.2.mem ((c.tc : Thread Cert.SquareReferenceIdeal.nD Cert.SquareReferenceIdeal.τ).loc Cert.SquareReferenceIdeal.main_arg0) = m' ((c.tc : Thread Cert.SquareReferenceIdeal.nD Cert.SquareReferenceIdeal.τ).loc Cert.SquareReferenceIdeal.main_arg0)
          ∧ r.2.mem ((c.tc : Thread Cert.SquareReferenceIdeal.nD Cert.SquareReferenceIdeal.τ).loc Cert.SquareReferenceIdeal.main_arg1) = m' ((c.tc : Thread Cert.SquareReferenceIdeal.nD Cert.SquareReferenceIdeal.τ).loc Cert.SquareReferenceIdeal.main_arg1))

def preserves_Input_InputIdeal : Prop :=
  True

def algebraic_InputIdeal_InputReferenceIdeal [hInputIdeal : Cert.InputIdeal.Facts] [hInputReferenceIdeal : Cert.InputReferenceIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputIdeal m →
    (∀ c : Dev Cert.InputIdeal.nD,
      m' ((c.tc : Thread Cert.InputReferenceIdeal.nD Cert.InputReferenceIdeal.τ).loc Cert.InputReferenceIdeal.main_arg0) = m ((c.tc : Thread Cert.InputIdeal.nD Cert.InputIdeal.τ).loc Cert.InputIdeal.main_arg0)
      ∧ m' ((c.tc : Thread Cert.InputReferenceIdeal.nD Cert.InputReferenceIdeal.τ).loc Cert.InputReferenceIdeal.main_arg1) = m ((c.tc : Thread Cert.InputIdeal.nD Cert.InputIdeal.τ).loc Cert.InputIdeal.main_arg1)
      ∧ m' ((c.tc : Thread Cert.InputReferenceIdeal.nD Cert.InputReferenceIdeal.τ).loc Cert.InputReferenceIdeal.main_arg2) = m ((c.tc : Thread Cert.InputIdeal.nD Cert.InputIdeal.τ).loc Cert.InputIdeal.main_arg2)
      ∧ m' ((c.tc : Thread Cert.InputReferenceIdeal.nD Cert.InputReferenceIdeal.τ).loc Cert.InputReferenceIdeal.main_arg3) = m ((c.tc : Thread Cert.InputIdeal.nD Cert.InputIdeal.τ).loc Cert.InputIdeal.main_arg3)
      ∧ m' ((c.tc : Thread Cert.InputReferenceIdeal.nD Cert.InputReferenceIdeal.τ).loc Cert.InputReferenceIdeal.main_arg4) = m ((c.tc : Thread Cert.InputIdeal.nD Cert.InputIdeal.τ).loc Cert.InputIdeal.main_arg4)) →
    ∃ (v0 : (c : Dev Cert.InputIdeal.nD) → Buf (Elt Ideal) ((c.tc : Thread Cert.InputIdeal.nD Cert.InputIdeal.τ).loc Cert.InputIdeal.main_v0_0)) (v1 : (c : Dev Cert.InputIdeal.nD) → Buf (Elt Ideal) ((c.tc : Thread Cert.InputIdeal.nD Cert.InputIdeal.τ).loc Cert.InputIdeal.main_v0_1)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v0_0) = v0 c
          ∧ r.2.mem ((c.tc : Thread Cert.InputIdeal.nD Cert.InputIdeal.τ).loc Cert.InputIdeal.main_v0_1) = v1 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v40) = v0 c
          ∧ r.2.mem ((c.tc : Thread Cert.InputReferenceIdeal.nD Cert.InputReferenceIdeal.τ).loc Cert.InputReferenceIdeal.main_v41) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)
      ∧ m' ((c.tc : Thread Cert.LossReferenceIdeal.nD Cert.LossReferenceIdeal.τ).loc Cert.LossReferenceIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)) (v5 : (c : Dev Cert.LossIdeal.nD) → Buf (Elt Ideal) ((c.tc : Thread Cert.LossIdeal.nD Cert.LossIdeal.τ).loc Cert.LossIdeal.main_v0_5)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_v0_5) = v5 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v69) = v0 c
          ∧ r.2.mem ((c.tc : Thread Cert.LossReferenceIdeal.nD Cert.LossReferenceIdeal.τ).loc Cert.LossReferenceIdeal.main_v82) = v1 c
          ∧ r.2.mem ((c.tc : Thread Cert.LossReferenceIdeal.nD Cert.LossReferenceIdeal.τ).loc Cert.LossReferenceIdeal.main_v68) = v2 c
          ∧ r.2.mem ((c.tc : Thread Cert.LossReferenceIdeal.nD Cert.LossReferenceIdeal.τ).loc Cert.LossReferenceIdeal.main_v83) = v3 c
          ∧ r.2.mem ((c.tc : Thread Cert.LossReferenceIdeal.nD Cert.LossReferenceIdeal.τ).loc Cert.LossReferenceIdeal.main_v84) = v4 c
          ∧ r.2.mem ((c.tc : Thread Cert.LossReferenceIdeal.nD Cert.LossReferenceIdeal.τ).loc Cert.LossReferenceIdeal.main_v85) = v5 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v13_0)) (v1 : (c : Dev Cert.MemoryIdeal.nD) → Buf (Elt Ideal) ((c.tc : Thread Cert.MemoryIdeal.nD Cert.MemoryIdeal.τ).loc Cert.MemoryIdeal.main_v13_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v13_0) = v0 c
          ∧ r.2.mem ((c.tc : Thread Cert.MemoryIdeal.nD Cert.MemoryIdeal.τ).loc Cert.MemoryIdeal.main_v13_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v23) = v0 c
          ∧ r.2.mem ((c.tc : Thread Cert.MemoryReferenceIdeal.nD Cert.MemoryReferenceIdeal.τ).loc Cert.MemoryReferenceIdeal.main_v24) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v15) = v0 c
          ∧ r.2.mem ((c.tc : Thread Cert.InprojReferenceIdeal.nD Cert.InprojReferenceIdeal.τ).loc Cert.InprojReferenceIdeal.main_v16) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Kvproj_KvprojIdeal : Prop :=
  True

def algebraic_KvprojIdeal_KvprojReferenceIdeal [hKvprojIdeal : Cert.KvprojIdeal.Facts] [hKvprojReferenceIdeal : Cert.KvprojReferenceIdeal.Facts] : Prop :=
  ∀ (m : (ℓ : Loc Cert.KvprojIdeal.nD Cert.KvprojIdeal.τ Cert.KvprojIdeal.sig) → Buf (Elt Ideal) ℓ) (g : Dev Cert.KvprojIdeal.nD → PrngReg)
    (m' : (ℓ : Loc Cert.KvprojReferenceIdeal.nD Cert.KvprojReferenceIdeal.τ Cert.KvprojReferenceIdeal.sig) → Buf (Elt Ideal) ℓ) (g' : Dev Cert.KvprojReferenceIdeal.nD → PrngReg), Pre_KvprojIdeal m →
    (∀ c : Dev Cert.KvprojIdeal.nD,
      m' ((c.tc : Thread Cert.KvprojReferenceIdeal.nD Cert.KvprojReferenceIdeal.τ).loc Cert.KvprojReferenceIdeal.main_arg0) = m ((c.tc : Thread Cert.KvprojIdeal.nD Cert.KvprojIdeal.τ).loc Cert.KvprojIdeal.main_arg0)
      ∧ m' ((c.tc : Thread Cert.KvprojReferenceIdeal.nD Cert.KvprojReferenceIdeal.τ).loc Cert.KvprojReferenceIdeal.main_arg1) = m ((c.tc : Thread Cert.KvprojIdeal.nD Cert.KvprojIdeal.τ).loc Cert.KvprojIdeal.main_arg1)
      ∧ m' ((c.tc : Thread Cert.KvprojReferenceIdeal.nD Cert.KvprojReferenceIdeal.τ).loc Cert.KvprojReferenceIdeal.main_arg2) = m ((c.tc : Thread Cert.KvprojIdeal.nD Cert.KvprojIdeal.τ).loc Cert.KvprojIdeal.main_arg2)) →
    ∃ (v0 : (c : Dev Cert.KvprojIdeal.nD) → Buf (Elt Ideal) ((c.tc : Thread Cert.KvprojIdeal.nD Cert.KvprojIdeal.τ).loc Cert.KvprojIdeal.main_v0_0)) (v1 : (c : Dev Cert.KvprojIdeal.nD) → Buf (Elt Ideal) ((c.tc : Thread Cert.KvprojIdeal.nD Cert.KvprojIdeal.τ).loc Cert.KvprojIdeal.main_v0_1)),
      θ_run (Cert.KvprojIdeal.defs (F := Ideal)) (onTc (τ := Cert.KvprojIdeal.τ) (Cert.KvprojIdeal.main (F := Ideal))) ⟨m, fun _ => 0, g⟩ (fun r => ∀ c : Dev Cert.KvprojIdeal.nD,
          r.2.mem ((c.tc : Thread Cert.KvprojIdeal.nD Cert.KvprojIdeal.τ).loc Cert.KvprojIdeal.main_v0_0) = v0 c
          ∧ r.2.mem ((c.tc : Thread Cert.KvprojIdeal.nD Cert.KvprojIdeal.τ).loc Cert.KvprojIdeal.main_v0_1) = v1 c
          ∧ r.2.mem ((c.tc : Thread Cert.KvprojIdeal.nD Cert.KvprojIdeal.τ).loc Cert.KvprojIdeal.main_arg0) = m ((c.tc : Thread Cert.KvprojIdeal.nD Cert.KvprojIdeal.τ).loc Cert.KvprojIdeal.main_arg0)
          ∧ r.2.mem ((c.tc : Thread Cert.KvprojIdeal.nD Cert.KvprojIdeal.τ).loc Cert.KvprojIdeal.main_arg1) = m ((c.tc : Thread Cert.KvprojIdeal.nD Cert.KvprojIdeal.τ).loc Cert.KvprojIdeal.main_arg1)
          ∧ r.2.mem ((c.tc : Thread Cert.KvprojIdeal.nD Cert.KvprojIdeal.τ).loc Cert.KvprojIdeal.main_arg2) = m ((c.tc : Thread Cert.KvprojIdeal.nD Cert.KvprojIdeal.τ).loc Cert.KvprojIdeal.main_arg2))
      ∧ θ_run (Cert.KvprojReferenceIdeal.defs (F := Ideal)) (onTc (τ := Cert.KvprojReferenceIdeal.τ) (Cert.KvprojReferenceIdeal.main (F := Ideal))) ⟨m', fun _ => 0, g'⟩ (fun r => ∀ c : Dev Cert.KvprojReferenceIdeal.nD,
          r.2.mem ((c.tc : Thread Cert.KvprojReferenceIdeal.nD Cert.KvprojReferenceIdeal.τ).loc Cert.KvprojReferenceIdeal.main_v15) = v0 c
          ∧ r.2.mem ((c.tc : Thread Cert.KvprojReferenceIdeal.nD Cert.KvprojReferenceIdeal.τ).loc Cert.KvprojReferenceIdeal.main_v16) = v1 c
          ∧ r.2.mem ((c.tc : Thread Cert.KvprojReferenceIdeal.nD Cert.KvprojReferenceIdeal.τ).loc Cert.KvprojReferenceIdeal.main_arg0) = m' ((c.tc : Thread Cert.KvprojReferenceIdeal.nD Cert.KvprojReferenceIdeal.τ).loc Cert.KvprojReferenceIdeal.main_arg0)
          ∧ r.2.mem ((c.tc : Thread Cert.KvprojReferenceIdeal.nD Cert.KvprojReferenceIdeal.τ).loc Cert.KvprojReferenceIdeal.main_arg1) = m' ((c.tc : Thread Cert.KvprojReferenceIdeal.nD Cert.KvprojReferenceIdeal.τ).loc Cert.KvprojReferenceIdeal.main_arg1)
          ∧ r.2.mem ((c.tc : Thread Cert.KvprojReferenceIdeal.nD Cert.KvprojReferenceIdeal.τ).loc Cert.KvprojReferenceIdeal.main_arg2) = m' ((c.tc : Thread Cert.KvprojReferenceIdeal.nD Cert.KvprojReferenceIdeal.τ).loc Cert.KvprojReferenceIdeal.main_arg2))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)
      ∧ m' ((c.tc : Thread Cert.AdamDownReferenceIdeal.nD Cert.AdamDownReferenceIdeal.τ).loc Cert.AdamDownReferenceIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v3) = v0 c
          ∧ r.2.mem ((c.tc : Thread Cert.AdamDownReferenceIdeal.nD Cert.AdamDownReferenceIdeal.τ).loc Cert.AdamDownReferenceIdeal.main_v27) = v1 c
          ∧ r.2.mem ((c.tc : Thread Cert.AdamDownReferenceIdeal.nD Cert.AdamDownReferenceIdeal.τ).loc Cert.AdamDownReferenceIdeal.main_v8) = v2 c
          ∧ r.2.mem ((c.tc : Thread Cert.AdamDownReferenceIdeal.nD Cert.AdamDownReferenceIdeal.τ).loc Cert.AdamDownReferenceIdeal.main_v14) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v4) = v0 c
          ∧ r.2.mem ((c.tc : Thread Cert.AdamUpReferenceIdeal.nD Cert.AdamUpReferenceIdeal.τ).loc Cert.AdamUpReferenceIdeal.main_v28) = v1 c
          ∧ r.2.mem ((c.tc : Thread Cert.AdamUpReferenceIdeal.nD Cert.AdamUpReferenceIdeal.τ).loc Cert.AdamUpReferenceIdeal.main_v9) = v2 c
          ∧ r.2.mem ((c.tc : Thread Cert.AdamUpReferenceIdeal.nD Cert.AdamUpReferenceIdeal.τ).loc Cert.AdamUpReferenceIdeal.main_v15) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4))

def preserves_AdamMemory_AdamMemoryIdeal : Prop :=
  True

def algebraic_AdamMemoryIdeal_AdamMemoryReferenceIdeal [hAdamMemoryIdeal : Cert.AdamMemoryIdeal.Facts] [hAdamMemoryReferenceIdeal : Cert.AdamMemoryReferenceIdeal.Facts] : Prop :=
  ∀ (m : (ℓ : Loc Cert.AdamMemoryIdeal.nD Cert.AdamMemoryIdeal.τ Cert.AdamMemoryIdeal.sig) → Buf (Elt Ideal) ℓ) (g : Dev Cert.AdamMemoryIdeal.nD → PrngReg)
    (m' : (ℓ : Loc Cert.AdamMemoryReferenceIdeal.nD Cert.AdamMemoryReferenceIdeal.τ Cert.AdamMemoryReferenceIdeal.sig) → Buf (Elt Ideal) ℓ) (g' : Dev Cert.AdamMemoryReferenceIdeal.nD → PrngReg), Pre_AdamMemoryIdeal m →
    (∀ c : Dev Cert.AdamMemoryIdeal.nD,
      m' ((c.tc : Thread Cert.AdamMemoryReferenceIdeal.nD Cert.AdamMemoryReferenceIdeal.τ).loc Cert.AdamMemoryReferenceIdeal.main_arg0) = m ((c.tc : Thread Cert.AdamMemoryIdeal.nD Cert.AdamMemoryIdeal.τ).loc Cert.AdamMemoryIdeal.main_arg0)
      ∧ m' ((c.tc : Thread Cert.AdamMemoryReferenceIdeal.nD Cert.AdamMemoryReferenceIdeal.τ).loc Cert.AdamMemoryReferenceIdeal.main_arg1) = m ((c.tc : Thread Cert.AdamMemoryIdeal.nD Cert.AdamMemoryIdeal.τ).loc Cert.AdamMemoryIdeal.main_arg1)
      ∧ m' ((c.tc : Thread Cert.AdamMemoryReferenceIdeal.nD Cert.AdamMemoryReferenceIdeal.τ).loc Cert.AdamMemoryReferenceIdeal.main_arg2) = m ((c.tc : Thread Cert.AdamMemoryIdeal.nD Cert.AdamMemoryIdeal.τ).loc Cert.AdamMemoryIdeal.main_arg2)
      ∧ m' ((c.tc : Thread Cert.AdamMemoryReferenceIdeal.nD Cert.AdamMemoryReferenceIdeal.τ).loc Cert.AdamMemoryReferenceIdeal.main_arg3) = m ((c.tc : Thread Cert.AdamMemoryIdeal.nD Cert.AdamMemoryIdeal.τ).loc Cert.AdamMemoryIdeal.main_arg3)
      ∧ m' ((c.tc : Thread Cert.AdamMemoryReferenceIdeal.nD Cert.AdamMemoryReferenceIdeal.τ).loc Cert.AdamMemoryReferenceIdeal.main_arg4) = m ((c.tc : Thread Cert.AdamMemoryIdeal.nD Cert.AdamMemoryIdeal.τ).loc Cert.AdamMemoryIdeal.main_arg4)) →
    ∃ (v0 : (c : Dev Cert.AdamMemoryIdeal.nD) → Buf (Elt Ideal) ((c.tc : Thread Cert.AdamMemoryIdeal.nD Cert.AdamMemoryIdeal.τ).loc Cert.AdamMemoryIdeal.main_v0_0)) (v1 : (c : Dev Cert.AdamMemoryIdeal.nD) → Buf (Elt Ideal) ((c.tc : Thread Cert.AdamMemoryIdeal.nD Cert.AdamMemoryIdeal.τ).loc Cert.AdamMemoryIdeal.main_v0_1)) (v2 : (c : Dev Cert.AdamMemoryIdeal.nD) → Buf (Elt Ideal) ((c.tc : Thread Cert.AdamMemoryIdeal.nD Cert.AdamMemoryIdeal.τ).loc Cert.AdamMemoryIdeal.main_v0_2)) (v3 : (c : Dev Cert.AdamMemoryIdeal.nD) → Buf (Elt Ideal) ((c.tc : Thread Cert.AdamMemoryIdeal.nD Cert.AdamMemoryIdeal.τ).loc Cert.AdamMemoryIdeal.main_v0_3)),
      θ_run (Cert.AdamMemoryIdeal.defs (F := Ideal)) (onTc (τ := Cert.AdamMemoryIdeal.τ) (Cert.AdamMemoryIdeal.main (F := Ideal))) ⟨m, fun _ => 0, g⟩ (fun r => ∀ c : Dev Cert.AdamMemoryIdeal.nD,
          r.2.mem ((c.tc : Thread Cert.AdamMemoryIdeal.nD Cert.AdamMemoryIdeal.τ).loc Cert.AdamMemoryIdeal.main_v0_0) = v0 c
          ∧ r.2.mem ((c.tc : Thread Cert.AdamMemoryIdeal.nD Cert.AdamMemoryIdeal.τ).loc Cert.AdamMemoryIdeal.main_v0_1) = v1 c
          ∧ r.2.mem ((c.tc : Thread Cert.AdamMemoryIdeal.nD Cert.AdamMemoryIdeal.τ).loc Cert.AdamMemoryIdeal.main_v0_2) = v2 c
          ∧ r.2.mem ((c.tc : Thread Cert.AdamMemoryIdeal.nD Cert.AdamMemoryIdeal.τ).loc Cert.AdamMemoryIdeal.main_v0_3) = v3 c
          ∧ r.2.mem ((c.tc : Thread Cert.AdamMemoryIdeal.nD Cert.AdamMemoryIdeal.τ).loc Cert.AdamMemoryIdeal.main_arg0) = m ((c.tc : Thread Cert.AdamMemoryIdeal.nD Cert.AdamMemoryIdeal.τ).loc Cert.AdamMemoryIdeal.main_arg0)
          ∧ r.2.mem ((c.tc : Thread Cert.AdamMemoryIdeal.nD Cert.AdamMemoryIdeal.τ).loc Cert.AdamMemoryIdeal.main_arg1) = m ((c.tc : Thread Cert.AdamMemoryIdeal.nD Cert.AdamMemoryIdeal.τ).loc Cert.AdamMemoryIdeal.main_arg1)
          ∧ r.2.mem ((c.tc : Thread Cert.AdamMemoryIdeal.nD Cert.AdamMemoryIdeal.τ).loc Cert.AdamMemoryIdeal.main_arg2) = m ((c.tc : Thread Cert.AdamMemoryIdeal.nD Cert.AdamMemoryIdeal.τ).loc Cert.AdamMemoryIdeal.main_arg2)
          ∧ r.2.mem ((c.tc : Thread Cert.AdamMemoryIdeal.nD Cert.AdamMemoryIdeal.τ).loc Cert.AdamMemoryIdeal.main_arg3) = m ((c.tc : Thread Cert.AdamMemoryIdeal.nD Cert.AdamMemoryIdeal.τ).loc Cert.AdamMemoryIdeal.main_arg3)
          ∧ r.2.mem ((c.tc : Thread Cert.AdamMemoryIdeal.nD Cert.AdamMemoryIdeal.τ).loc Cert.AdamMemoryIdeal.main_arg4) = m ((c.tc : Thread Cert.AdamMemoryIdeal.nD Cert.AdamMemoryIdeal.τ).loc Cert.AdamMemoryIdeal.main_arg4))
      ∧ θ_run (Cert.AdamMemoryReferenceIdeal.defs (F := Ideal)) (onTc (τ := Cert.AdamMemoryReferenceIdeal.τ) (Cert.AdamMemoryReferenceIdeal.main (F := Ideal))) ⟨m', fun _ => 0, g'⟩ (fun r => ∀ c : Dev Cert.AdamMemoryReferenceIdeal.nD,
          r.2.mem ((c.tc : Thread Cert.AdamMemoryReferenceIdeal.nD Cert.AdamMemoryReferenceIdeal.τ).loc Cert.AdamMemoryReferenceIdeal.main_v3) = v0 c
          ∧ r.2.mem ((c.tc : Thread Cert.AdamMemoryReferenceIdeal.nD Cert.AdamMemoryReferenceIdeal.τ).loc Cert.AdamMemoryReferenceIdeal.main_v27) = v1 c
          ∧ r.2.mem ((c.tc : Thread Cert.AdamMemoryReferenceIdeal.nD Cert.AdamMemoryReferenceIdeal.τ).loc Cert.AdamMemoryReferenceIdeal.main_v8) = v2 c
          ∧ r.2.mem ((c.tc : Thread Cert.AdamMemoryReferenceIdeal.nD Cert.AdamMemoryReferenceIdeal.τ).loc Cert.AdamMemoryReferenceIdeal.main_v14) = v3 c
          ∧ r.2.mem ((c.tc : Thread Cert.AdamMemoryReferenceIdeal.nD Cert.AdamMemoryReferenceIdeal.τ).loc Cert.AdamMemoryReferenceIdeal.main_arg0) = m' ((c.tc : Thread Cert.AdamMemoryReferenceIdeal.nD Cert.AdamMemoryReferenceIdeal.τ).loc Cert.AdamMemoryReferenceIdeal.main_arg0)
          ∧ r.2.mem ((c.tc : Thread Cert.AdamMemoryReferenceIdeal.nD Cert.AdamMemoryReferenceIdeal.τ).loc Cert.AdamMemoryReferenceIdeal.main_arg1) = m' ((c.tc : Thread Cert.AdamMemoryReferenceIdeal.nD Cert.AdamMemoryReferenceIdeal.τ).loc Cert.AdamMemoryReferenceIdeal.main_arg1)
          ∧ r.2.mem ((c.tc : Thread Cert.AdamMemoryReferenceIdeal.nD Cert.AdamMemoryReferenceIdeal.τ).loc Cert.AdamMemoryReferenceIdeal.main_arg2) = m' ((c.tc : Thread Cert.AdamMemoryReferenceIdeal.nD Cert.AdamMemoryReferenceIdeal.τ).loc Cert.AdamMemoryReferenceIdeal.main_arg2)
          ∧ r.2.mem ((c.tc : Thread Cert.AdamMemoryReferenceIdeal.nD Cert.AdamMemoryReferenceIdeal.τ).loc Cert.AdamMemoryReferenceIdeal.main_arg3) = m' ((c.tc : Thread Cert.AdamMemoryReferenceIdeal.nD Cert.AdamMemoryReferenceIdeal.τ).loc Cert.AdamMemoryReferenceIdeal.main_arg3)
          ∧ r.2.mem ((c.tc : Thread Cert.AdamMemoryReferenceIdeal.nD Cert.AdamMemoryReferenceIdeal.τ).loc Cert.AdamMemoryReferenceIdeal.main_arg4) = m' ((c.tc : Thread Cert.AdamMemoryReferenceIdeal.nD Cert.AdamMemoryReferenceIdeal.τ).loc Cert.AdamMemoryReferenceIdeal.main_arg4))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)) (v3 : (c : Dev Cert.AdamInIdeal.nD) → Buf (Elt Ideal) ((c.tc : Thread Cert.AdamInIdeal.nD Cert.AdamInIdeal.τ).loc Cert.AdamInIdeal.main_v3_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_v3_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v3) = v0 c
          ∧ r.2.mem ((c.tc : Thread Cert.AdamInReferenceIdeal.nD Cert.AdamInReferenceIdeal.τ).loc Cert.AdamInReferenceIdeal.main_v30) = v1 c
          ∧ r.2.mem ((c.tc : Thread Cert.AdamInReferenceIdeal.nD Cert.AdamInReferenceIdeal.τ).loc Cert.AdamInReferenceIdeal.main_v11) = v2 c
          ∧ r.2.mem ((c.tc : Thread Cert.AdamInReferenceIdeal.nD Cert.AdamInReferenceIdeal.τ).loc Cert.AdamInReferenceIdeal.main_v17) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamSquare_AdamSquareIdeal : Prop :=
  True

def algebraic_AdamSquareIdeal_AdamSquareReferenceIdeal [hAdamSquareIdeal : Cert.AdamSquareIdeal.Facts] [hAdamSquareReferenceIdeal : Cert.AdamSquareReferenceIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareReferenceIdeal.nD Cert.AdamSquareReferenceIdeal.τ Cert.AdamSquareReferenceIdeal.sig) → Buf (Elt Ideal) ℓ) (g' : Dev Cert.AdamSquareReferenceIdeal.nD → PrngReg), Pre_AdamSquareIdeal m →
    (∀ c : Dev Cert.AdamSquareIdeal.nD,
      m' ((c.tc : Thread Cert.AdamSquareReferenceIdeal.nD Cert.AdamSquareReferenceIdeal.τ).loc Cert.AdamSquareReferenceIdeal.main_arg0) = m ((c.tc : Thread Cert.AdamSquareIdeal.nD Cert.AdamSquareIdeal.τ).loc Cert.AdamSquareIdeal.main_arg0)
      ∧ m' ((c.tc : Thread Cert.AdamSquareReferenceIdeal.nD Cert.AdamSquareReferenceIdeal.τ).loc Cert.AdamSquareReferenceIdeal.main_arg1) = m ((c.tc : Thread Cert.AdamSquareIdeal.nD Cert.AdamSquareIdeal.τ).loc Cert.AdamSquareIdeal.main_arg1)
      ∧ m' ((c.tc : Thread Cert.AdamSquareReferenceIdeal.nD Cert.AdamSquareReferenceIdeal.τ).loc Cert.AdamSquareReferenceIdeal.main_arg2) = m ((c.tc : Thread Cert.AdamSquareIdeal.nD Cert.AdamSquareIdeal.τ).loc Cert.AdamSquareIdeal.main_arg2)
      ∧ m' ((c.tc : Thread Cert.AdamSquareReferenceIdeal.nD Cert.AdamSquareReferenceIdeal.τ).loc Cert.AdamSquareReferenceIdeal.main_arg3) = m ((c.tc : Thread Cert.AdamSquareIdeal.nD Cert.AdamSquareIdeal.τ).loc Cert.AdamSquareIdeal.main_arg3)
      ∧ m' ((c.tc : Thread Cert.AdamSquareReferenceIdeal.nD Cert.AdamSquareReferenceIdeal.τ).loc Cert.AdamSquareReferenceIdeal.main_arg4) = m ((c.tc : Thread Cert.AdamSquareIdeal.nD Cert.AdamSquareIdeal.τ).loc Cert.AdamSquareIdeal.main_arg4)
      ∧ m' ((c.tc : Thread Cert.AdamSquareReferenceIdeal.nD Cert.AdamSquareReferenceIdeal.τ).loc Cert.AdamSquareReferenceIdeal.main_arg5) = m ((c.tc : Thread Cert.AdamSquareIdeal.nD Cert.AdamSquareIdeal.τ).loc Cert.AdamSquareIdeal.main_arg5)
      ∧ m' ((c.tc : Thread Cert.AdamSquareReferenceIdeal.nD Cert.AdamSquareReferenceIdeal.τ).loc Cert.AdamSquareReferenceIdeal.main_arg6) = m ((c.tc : Thread Cert.AdamSquareIdeal.nD Cert.AdamSquareIdeal.τ).loc Cert.AdamSquareIdeal.main_arg6)
      ∧ m' ((c.tc : Thread Cert.AdamSquareReferenceIdeal.nD Cert.AdamSquareReferenceIdeal.τ).loc Cert.AdamSquareReferenceIdeal.main_arg7) = m ((c.tc : Thread Cert.AdamSquareIdeal.nD Cert.AdamSquareIdeal.τ).loc Cert.AdamSquareIdeal.main_arg7)
      ∧ m' ((c.tc : Thread Cert.AdamSquareReferenceIdeal.nD Cert.AdamSquareReferenceIdeal.τ).loc Cert.AdamSquareReferenceIdeal.main_arg8) = m ((c.tc : Thread Cert.AdamSquareIdeal.nD Cert.AdamSquareIdeal.τ).loc Cert.AdamSquareIdeal.main_arg8)
      ∧ m' ((c.tc : Thread Cert.AdamSquareReferenceIdeal.nD Cert.AdamSquareReferenceIdeal.τ).loc Cert.AdamSquareReferenceIdeal.main_arg9) = m ((c.tc : Thread Cert.AdamSquareIdeal.nD Cert.AdamSquareIdeal.τ).loc Cert.AdamSquareIdeal.main_arg9)
      ∧ m' ((c.tc : Thread Cert.AdamSquareReferenceIdeal.nD Cert.AdamSquareReferenceIdeal.τ).loc Cert.AdamSquareReferenceIdeal.main_arg10) = m ((c.tc : Thread Cert.AdamSquareIdeal.nD Cert.AdamSquareIdeal.τ).loc Cert.AdamSquareIdeal.main_arg10)
      ∧ m' ((c.tc : Thread Cert.AdamSquareReferenceIdeal.nD Cert.AdamSquareReferenceIdeal.τ).loc Cert.AdamSquareReferenceIdeal.main_arg11) = m ((c.tc : Thread Cert.AdamSquareIdeal.nD Cert.AdamSquareIdeal.τ).loc Cert.AdamSquareIdeal.main_arg11)
      ∧ m' ((c.tc : Thread Cert.AdamSquareReferenceIdeal.nD Cert.AdamSquareReferenceIdeal.τ).loc Cert.AdamSquareReferenceIdeal.main_arg12) = m ((c.tc : Thread Cert.AdamSquareIdeal.nD Cert.AdamSquareIdeal.τ).loc Cert.AdamSquareIdeal.main_arg12)
      ∧ m' ((c.tc : Thread Cert.AdamSquareReferenceIdeal.nD Cert.AdamSquareReferenceIdeal.τ).loc Cert.AdamSquareReferenceIdeal.main_arg13) = m ((c.tc : Thread Cert.AdamSquareIdeal.nD Cert.AdamSquareIdeal.τ).loc Cert.AdamSquareIdeal.main_arg13)
      ∧ m' ((c.tc : Thread Cert.AdamSquareReferenceIdeal.nD Cert.AdamSquareReferenceIdeal.τ).loc Cert.AdamSquareReferenceIdeal.main_arg14) = m ((c.tc : Thread Cert.AdamSquareIdeal.nD Cert.AdamSquareIdeal.τ).loc Cert.AdamSquareIdeal.main_arg14)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_3)) (v2 : (c : Dev Cert.AdamSquareIdeal.nD) → Buf (Elt Ideal) ((c.tc : Thread Cert.AdamSquareIdeal.nD Cert.AdamSquareIdeal.τ).loc Cert.AdamSquareIdeal.main_v0_6)) (v3 : (c : Dev Cert.AdamSquareIdeal.nD) → Buf (Elt Ideal) ((c.tc : Thread Cert.AdamSquareIdeal.nD Cert.AdamSquareIdeal.τ).loc Cert.AdamSquareIdeal.main_v0_9)) (v4 : (c : Dev Cert.AdamSquareIdeal.nD) → Buf (Elt Ideal) ((c.tc : Thread Cert.AdamSquareIdeal.nD Cert.AdamSquareIdeal.τ).loc Cert.AdamSquareIdeal.main_v0_1)) (v5 : (c : Dev Cert.AdamSquareIdeal.nD) → Buf (Elt Ideal) ((c.tc : Thread Cert.AdamSquareIdeal.nD Cert.AdamSquareIdeal.τ).loc Cert.AdamSquareIdeal.main_v0_4)) (v6 : (c : Dev Cert.AdamSquareIdeal.nD) → Buf (Elt Ideal) ((c.tc : Thread Cert.AdamSquareIdeal.nD Cert.AdamSquareIdeal.τ).loc Cert.AdamSquareIdeal.main_v0_7)) (v7 : (c : Dev Cert.AdamSquareIdeal.nD) → Buf (Elt Ideal) ((c.tc : Thread Cert.AdamSquareIdeal.nD Cert.AdamSquareIdeal.τ).loc Cert.AdamSquareIdeal.main_v0_10)) (v8 : (c : Dev Cert.AdamSquareIdeal.nD) → Buf (Elt Ideal) ((c.tc : Thread Cert.AdamSquareIdeal.nD Cert.AdamSquareIdeal.τ).loc Cert.AdamSquareIdeal.main_v0_2)) (v9 : (c : Dev Cert.AdamSquareIdeal.nD) → Buf (Elt Ideal) ((c.tc : Thread Cert.AdamSquareIdeal.nD Cert.AdamSquareIdeal.τ).loc Cert.AdamSquareIdeal.main_v0_5)) (v10 : (c : Dev Cert.AdamSquareIdeal.nD) → Buf (Elt Ideal) ((c.tc : Thread Cert.AdamSquareIdeal.nD Cert.AdamSquareIdeal.τ).loc Cert.AdamSquareIdeal.main_v0_8)) (v11 : (c : Dev Cert.AdamSquareIdeal.nD) → Buf (Elt Ideal) ((c.tc : Thread Cert.AdamSquareIdeal.nD Cert.AdamSquareIdeal.τ).loc Cert.AdamSquareIdeal.main_v0_11)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_3) = v1 c
          ∧ r.2.mem ((c.tc : Thread Cert.AdamSquareIdeal.nD Cert.AdamSquareIdeal.τ).loc Cert.AdamSquareIdeal.main_v0_6) = v2 c
          ∧ r.2.mem ((c.tc : Thread Cert.AdamSquareIdeal.nD Cert.AdamSquareIdeal.τ).loc Cert.AdamSquareIdeal.main_v0_9) = v3 c
          ∧ r.2.mem ((c.tc : Thread Cert.AdamSquareIdeal.nD Cert.AdamSquareIdeal.τ).loc Cert.AdamSquareIdeal.main_v0_1) = v4 c
          ∧ r.2.mem ((c.tc : Thread Cert.AdamSquareIdeal.nD Cert.AdamSquareIdeal.τ).loc Cert.AdamSquareIdeal.main_v0_4) = v5 c
          ∧ r.2.mem ((c.tc : Thread Cert.AdamSquareIdeal.nD Cert.AdamSquareIdeal.τ).loc Cert.AdamSquareIdeal.main_v0_7) = v6 c
          ∧ r.2.mem ((c.tc : Thread Cert.AdamSquareIdeal.nD Cert.AdamSquareIdeal.τ).loc Cert.AdamSquareIdeal.main_v0_10) = v7 c
          ∧ r.2.mem ((c.tc : Thread Cert.AdamSquareIdeal.nD Cert.AdamSquareIdeal.τ).loc Cert.AdamSquareIdeal.main_v0_2) = v8 c
          ∧ r.2.mem ((c.tc : Thread Cert.AdamSquareIdeal.nD Cert.AdamSquareIdeal.τ).loc Cert.AdamSquareIdeal.main_v0_5) = v9 c
          ∧ r.2.mem ((c.tc : Thread Cert.AdamSquareIdeal.nD Cert.AdamSquareIdeal.τ).loc Cert.AdamSquareIdeal.main_v0_8) = v10 c
          ∧ r.2.mem ((c.tc : Thread Cert.AdamSquareIdeal.nD Cert.AdamSquareIdeal.τ).loc Cert.AdamSquareIdeal.main_v0_11) = v11 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4)
          ∧ r.2.mem ((c.tc : Thread Cert.AdamSquareIdeal.nD Cert.AdamSquareIdeal.τ).loc Cert.AdamSquareIdeal.main_arg5) = m ((c.tc : Thread Cert.AdamSquareIdeal.nD Cert.AdamSquareIdeal.τ).loc Cert.AdamSquareIdeal.main_arg5)
          ∧ r.2.mem ((c.tc : Thread Cert.AdamSquareIdeal.nD Cert.AdamSquareIdeal.τ).loc Cert.AdamSquareIdeal.main_arg6) = m ((c.tc : Thread Cert.AdamSquareIdeal.nD Cert.AdamSquareIdeal.τ).loc Cert.AdamSquareIdeal.main_arg6)
          ∧ r.2.mem ((c.tc : Thread Cert.AdamSquareIdeal.nD Cert.AdamSquareIdeal.τ).loc Cert.AdamSquareIdeal.main_arg7) = m ((c.tc : Thread Cert.AdamSquareIdeal.nD Cert.AdamSquareIdeal.τ).loc Cert.AdamSquareIdeal.main_arg7)
          ∧ r.2.mem ((c.tc : Thread Cert.AdamSquareIdeal.nD Cert.AdamSquareIdeal.τ).loc Cert.AdamSquareIdeal.main_arg8) = m ((c.tc : Thread Cert.AdamSquareIdeal.nD Cert.AdamSquareIdeal.τ).loc Cert.AdamSquareIdeal.main_arg8)
          ∧ r.2.mem ((c.tc : Thread Cert.AdamSquareIdeal.nD Cert.AdamSquareIdeal.τ).loc Cert.AdamSquareIdeal.main_arg9) = m ((c.tc : Thread Cert.AdamSquareIdeal.nD Cert.AdamSquareIdeal.τ).loc Cert.AdamSquareIdeal.main_arg9)
          ∧ r.2.mem ((c.tc : Thread Cert.AdamSquareIdeal.nD Cert.AdamSquareIdeal.τ).loc Cert.AdamSquareIdeal.main_arg10) = m ((c.tc : Thread Cert.AdamSquareIdeal.nD Cert.AdamSquareIdeal.τ).loc Cert.AdamSquareIdeal.main_arg10)
          ∧ r.2.mem ((c.tc : Thread Cert.AdamSquareIdeal.nD Cert.AdamSquareIdeal.τ).loc Cert.AdamSquareIdeal.main_arg11) = m ((c.tc : Thread Cert.AdamSquareIdeal.nD Cert.AdamSquareIdeal.τ).loc Cert.AdamSquareIdeal.main_arg11)
          ∧ r.2.mem ((c.tc : Thread Cert.AdamSquareIdeal.nD Cert.AdamSquareIdeal.τ).loc Cert.AdamSquareIdeal.main_arg12) = m ((c.tc : Thread Cert.AdamSquareIdeal.nD Cert.AdamSquareIdeal.τ).loc Cert.AdamSquareIdeal.main_arg12)
          ∧ r.2.mem ((c.tc : Thread Cert.AdamSquareIdeal.nD Cert.AdamSquareIdeal.τ).loc Cert.AdamSquareIdeal.main_arg13) = m ((c.tc : Thread Cert.AdamSquareIdeal.nD Cert.AdamSquareIdeal.τ).loc Cert.AdamSquareIdeal.main_arg13)
          ∧ r.2.mem ((c.tc : Thread Cert.AdamSquareIdeal.nD Cert.AdamSquareIdeal.τ).loc Cert.AdamSquareIdeal.main_arg14) = m ((c.tc : Thread Cert.AdamSquareIdeal.nD Cert.AdamSquareIdeal.τ).loc Cert.AdamSquareIdeal.main_arg14))
      ∧ θ_run (Cert.AdamSquareReferenceIdeal.defs (F := Ideal)) (onTc (τ := Cert.AdamSquareReferenceIdeal.τ) (Cert.AdamSquareReferenceIdeal.main (F := Ideal))) ⟨m', fun _ => 0, g'⟩ (fun r => ∀ c : Dev Cert.AdamSquareReferenceIdeal.nD,
          r.2.mem ((c.tc : Thread Cert.AdamSquareReferenceIdeal.nD Cert.AdamSquareReferenceIdeal.τ).loc Cert.AdamSquareReferenceIdeal.main_v3) = v0 c
          ∧ r.2.mem ((c.tc : Thread Cert.AdamSquareReferenceIdeal.nD Cert.AdamSquareReferenceIdeal.τ).loc Cert.AdamSquareReferenceIdeal.main_v35) = v1 c
          ∧ r.2.mem ((c.tc : Thread Cert.AdamSquareReferenceIdeal.nD Cert.AdamSquareReferenceIdeal.τ).loc Cert.AdamSquareReferenceIdeal.main_v16) = v2 c
          ∧ r.2.mem ((c.tc : Thread Cert.AdamSquareReferenceIdeal.nD Cert.AdamSquareReferenceIdeal.τ).loc Cert.AdamSquareReferenceIdeal.main_v22) = v3 c
          ∧ r.2.mem ((c.tc : Thread Cert.AdamSquareReferenceIdeal.nD Cert.AdamSquareReferenceIdeal.τ).loc Cert.AdamSquareReferenceIdeal.main_v7) = v4 c
          ∧ r.2.mem ((c.tc : Thread Cert.AdamSquareReferenceIdeal.nD Cert.AdamSquareReferenceIdeal.τ).loc Cert.AdamSquareReferenceIdeal.main_v59) = v5 c
          ∧ r.2.mem ((c.tc : Thread Cert.AdamSquareReferenceIdeal.nD Cert.AdamSquareReferenceIdeal.τ).loc Cert.AdamSquareReferenceIdeal.main_v40) = v6 c
          ∧ r.2.mem ((c.tc : Thread Cert.AdamSquareReferenceIdeal.nD Cert.AdamSquareReferenceIdeal.τ).loc Cert.AdamSquareReferenceIdeal.main_v46) = v7 c
          ∧ r.2.mem ((c.tc : Thread Cert.AdamSquareReferenceIdeal.nD Cert.AdamSquareReferenceIdeal.τ).loc Cert.AdamSquareReferenceIdeal.main_v11) = v8 c
          ∧ r.2.mem ((c.tc : Thread Cert.AdamSquareReferenceIdeal.nD Cert.AdamSquareReferenceIdeal.τ).loc Cert.AdamSquareReferenceIdeal.main_v83) = v9 c
          ∧ r.2.mem ((c.tc : Thread Cert.AdamSquareReferenceIdeal.nD Cert.AdamSquareReferenceIdeal.τ).loc Cert.AdamSquareReferenceIdeal.main_v64) = v10 c
          ∧ r.2.mem ((c.tc : Thread Cert.AdamSquareReferenceIdeal.nD Cert.AdamSquareReferenceIdeal.τ).loc Cert.AdamSquareReferenceIdeal.main_v70) = v11 c
          ∧ r.2.mem ((c.tc : Thread Cert.AdamSquareReferenceIdeal.nD Cert.AdamSquareReferenceIdeal.τ).loc Cert.AdamSquareReferenceIdeal.main_arg0) = m' ((c.tc : Thread Cert.AdamSquareReferenceIdeal.nD Cert.AdamSquareReferenceIdeal.τ).loc Cert.AdamSquareReferenceIdeal.main_arg0)
          ∧ r.2.mem ((c.tc : Thread Cert.AdamSquareReferenceIdeal.nD Cert.AdamSquareReferenceIdeal.τ).loc Cert.AdamSquareReferenceIdeal.main_arg1) = m' ((c.tc : Thread Cert.AdamSquareReferenceIdeal.nD Cert.AdamSquareReferenceIdeal.τ).loc Cert.AdamSquareReferenceIdeal.main_arg1)
          ∧ r.2.mem ((c.tc : Thread Cert.AdamSquareReferenceIdeal.nD Cert.AdamSquareReferenceIdeal.τ).loc Cert.AdamSquareReferenceIdeal.main_arg2) = m' ((c.tc : Thread Cert.AdamSquareReferenceIdeal.nD Cert.AdamSquareReferenceIdeal.τ).loc Cert.AdamSquareReferenceIdeal.main_arg2)
          ∧ r.2.mem ((c.tc : Thread Cert.AdamSquareReferenceIdeal.nD Cert.AdamSquareReferenceIdeal.τ).loc Cert.AdamSquareReferenceIdeal.main_arg3) = m' ((c.tc : Thread Cert.AdamSquareReferenceIdeal.nD Cert.AdamSquareReferenceIdeal.τ).loc Cert.AdamSquareReferenceIdeal.main_arg3)
          ∧ r.2.mem ((c.tc : Thread Cert.AdamSquareReferenceIdeal.nD Cert.AdamSquareReferenceIdeal.τ).loc Cert.AdamSquareReferenceIdeal.main_arg4) = m' ((c.tc : Thread Cert.AdamSquareReferenceIdeal.nD Cert.AdamSquareReferenceIdeal.τ).loc Cert.AdamSquareReferenceIdeal.main_arg4)
          ∧ r.2.mem ((c.tc : Thread Cert.AdamSquareReferenceIdeal.nD Cert.AdamSquareReferenceIdeal.τ).loc Cert.AdamSquareReferenceIdeal.main_arg5) = m' ((c.tc : Thread Cert.AdamSquareReferenceIdeal.nD Cert.AdamSquareReferenceIdeal.τ).loc Cert.AdamSquareReferenceIdeal.main_arg5)
          ∧ r.2.mem ((c.tc : Thread Cert.AdamSquareReferenceIdeal.nD Cert.AdamSquareReferenceIdeal.τ).loc Cert.AdamSquareReferenceIdeal.main_arg6) = m' ((c.tc : Thread Cert.AdamSquareReferenceIdeal.nD Cert.AdamSquareReferenceIdeal.τ).loc Cert.AdamSquareReferenceIdeal.main_arg6)
          ∧ r.2.mem ((c.tc : Thread Cert.AdamSquareReferenceIdeal.nD Cert.AdamSquareReferenceIdeal.τ).loc Cert.AdamSquareReferenceIdeal.main_arg7) = m' ((c.tc : Thread Cert.AdamSquareReferenceIdeal.nD Cert.AdamSquareReferenceIdeal.τ).loc Cert.AdamSquareReferenceIdeal.main_arg7)
          ∧ r.2.mem ((c.tc : Thread Cert.AdamSquareReferenceIdeal.nD Cert.AdamSquareReferenceIdeal.τ).loc Cert.AdamSquareReferenceIdeal.main_arg8) = m' ((c.tc : Thread Cert.AdamSquareReferenceIdeal.nD Cert.AdamSquareReferenceIdeal.τ).loc Cert.AdamSquareReferenceIdeal.main_arg8)
          ∧ r.2.mem ((c.tc : Thread Cert.AdamSquareReferenceIdeal.nD Cert.AdamSquareReferenceIdeal.τ).loc Cert.AdamSquareReferenceIdeal.main_arg9) = m' ((c.tc : Thread Cert.AdamSquareReferenceIdeal.nD Cert.AdamSquareReferenceIdeal.τ).loc Cert.AdamSquareReferenceIdeal.main_arg9)
          ∧ r.2.mem ((c.tc : Thread Cert.AdamSquareReferenceIdeal.nD Cert.AdamSquareReferenceIdeal.τ).loc Cert.AdamSquareReferenceIdeal.main_arg10) = m' ((c.tc : Thread Cert.AdamSquareReferenceIdeal.nD Cert.AdamSquareReferenceIdeal.τ).loc Cert.AdamSquareReferenceIdeal.main_arg10)
          ∧ r.2.mem ((c.tc : Thread Cert.AdamSquareReferenceIdeal.nD Cert.AdamSquareReferenceIdeal.τ).loc Cert.AdamSquareReferenceIdeal.main_arg11) = m' ((c.tc : Thread Cert.AdamSquareReferenceIdeal.nD Cert.AdamSquareReferenceIdeal.τ).loc Cert.AdamSquareReferenceIdeal.main_arg11)
          ∧ r.2.mem ((c.tc : Thread Cert.AdamSquareReferenceIdeal.nD Cert.AdamSquareReferenceIdeal.τ).loc Cert.AdamSquareReferenceIdeal.main_arg12) = m' ((c.tc : Thread Cert.AdamSquareReferenceIdeal.nD Cert.AdamSquareReferenceIdeal.τ).loc Cert.AdamSquareReferenceIdeal.main_arg12)
          ∧ r.2.mem ((c.tc : Thread Cert.AdamSquareReferenceIdeal.nD Cert.AdamSquareReferenceIdeal.τ).loc Cert.AdamSquareReferenceIdeal.main_arg13) = m' ((c.tc : Thread Cert.AdamSquareReferenceIdeal.nD Cert.AdamSquareReferenceIdeal.τ).loc Cert.AdamSquareReferenceIdeal.main_arg13)
          ∧ r.2.mem ((c.tc : Thread Cert.AdamSquareReferenceIdeal.nD Cert.AdamSquareReferenceIdeal.τ).loc Cert.AdamSquareReferenceIdeal.main_arg14) = m' ((c.tc : Thread Cert.AdamSquareReferenceIdeal.nD Cert.AdamSquareReferenceIdeal.τ).loc Cert.AdamSquareReferenceIdeal.main_arg14))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hWide : Cert.Wide.Facts) (hWideIdeal : Cert.WideIdeal.Facts) (hWideReferenceIdeal : Cert.WideReferenceIdeal.Facts) (hSquare : Cert.Square.Facts) (hSquareIdeal : Cert.SquareIdeal.Facts) (hSquareReferenceIdeal : Cert.SquareReferenceIdeal.Facts) (hInput : Cert.Input.Facts) (hInputIdeal : Cert.InputIdeal.Facts) (hInputReferenceIdeal : Cert.InputReferenceIdeal.Facts) (hLoss : Cert.Loss.Facts) (hLossIdeal : Cert.LossIdeal.Facts) (hLossReferenceIdeal : Cert.LossReferenceIdeal.Facts) (hMemory : Cert.Memory.Facts) (hMemoryIdeal : Cert.MemoryIdeal.Facts) (hMemoryReferenceIdeal : Cert.MemoryReferenceIdeal.Facts) (hInproj : Cert.Inproj.Facts) (hInprojIdeal : Cert.InprojIdeal.Facts) (hInprojReferenceIdeal : Cert.InprojReferenceIdeal.Facts) (hKvproj : Cert.Kvproj.Facts) (hKvprojIdeal : Cert.KvprojIdeal.Facts) (hKvprojReferenceIdeal : Cert.KvprojReferenceIdeal.Facts) (hAdamDown : Cert.AdamDown.Facts) (hAdamDownIdeal : Cert.AdamDownIdeal.Facts) (hAdamDownReferenceIdeal : Cert.AdamDownReferenceIdeal.Facts) (hAdamUp : Cert.AdamUp.Facts) (hAdamUpIdeal : Cert.AdamUpIdeal.Facts) (hAdamUpReferenceIdeal : Cert.AdamUpReferenceIdeal.Facts) (hAdamMemory : Cert.AdamMemory.Facts) (hAdamMemoryIdeal : Cert.AdamMemoryIdeal.Facts) (hAdamMemoryReferenceIdeal : Cert.AdamMemoryReferenceIdeal.Facts) (hAdamIn : Cert.AdamIn.Facts) (hAdamInIdeal : Cert.AdamInIdeal.Facts) (hAdamInReferenceIdeal : Cert.AdamInReferenceIdeal.Facts) (hAdamSquare : Cert.AdamSquare.Facts) (hAdamSquareIdeal : Cert.AdamSquareIdeal.Facts) (hAdamSquareReferenceIdeal : Cert.AdamSquareReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Wide (hWide := hWide)
    ∧ quiescent_WideIdeal (hWideIdeal := hWideIdeal)
    ∧ quiescent_WideReferenceIdeal (hWideReferenceIdeal := hWideReferenceIdeal)
    ∧ quiescent_Square (hSquare := hSquare)
    ∧ quiescent_SquareIdeal (hSquareIdeal := hSquareIdeal)
    ∧ quiescent_SquareReferenceIdeal (hSquareReferenceIdeal := hSquareReferenceIdeal)
    ∧ quiescent_Input (hInput := hInput)
    ∧ quiescent_InputIdeal (hInputIdeal := hInputIdeal)
    ∧ quiescent_InputReferenceIdeal (hInputReferenceIdeal := hInputReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Kvproj (hKvproj := hKvproj)
    ∧ quiescent_KvprojIdeal (hKvprojIdeal := hKvprojIdeal)
    ∧ quiescent_KvprojReferenceIdeal (hKvprojReferenceIdeal := hKvprojReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamMemory (hAdamMemory := hAdamMemory)
    ∧ quiescent_AdamMemoryIdeal (hAdamMemoryIdeal := hAdamMemoryIdeal)
    ∧ quiescent_AdamMemoryReferenceIdeal (hAdamMemoryReferenceIdeal := hAdamMemoryReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamSquare (hAdamSquare := hAdamSquare)
    ∧ quiescent_AdamSquareIdeal (hAdamSquareIdeal := hAdamSquareIdeal)
    ∧ quiescent_AdamSquareReferenceIdeal (hAdamSquareReferenceIdeal := hAdamSquareReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Wide_WideIdeal
    ∧ algebraic_WideIdeal_WideReferenceIdeal (hWideIdeal := hWideIdeal) (hWideReferenceIdeal := hWideReferenceIdeal)
    ∧ preserves_Square_SquareIdeal
    ∧ algebraic_SquareIdeal_SquareReferenceIdeal (hSquareIdeal := hSquareIdeal) (hSquareReferenceIdeal := hSquareReferenceIdeal)
    ∧ preserves_Input_InputIdeal
    ∧ algebraic_InputIdeal_InputReferenceIdeal (hInputIdeal := hInputIdeal) (hInputReferenceIdeal := hInputReferenceIdeal)
    ∧ preserves_Loss_LossIdeal
    ∧ algebraic_LossIdeal_LossReferenceIdeal (hLossIdeal := hLossIdeal) (hLossReferenceIdeal := hLossReferenceIdeal)
    ∧ preserves_Memory_MemoryIdeal
    ∧ algebraic_MemoryIdeal_MemoryReferenceIdeal (hMemoryIdeal := hMemoryIdeal) (hMemoryReferenceIdeal := hMemoryReferenceIdeal)
    ∧ preserves_Inproj_InprojIdeal
    ∧ algebraic_InprojIdeal_InprojReferenceIdeal (hInprojIdeal := hInprojIdeal) (hInprojReferenceIdeal := hInprojReferenceIdeal)
    ∧ preserves_Kvproj_KvprojIdeal
    ∧ algebraic_KvprojIdeal_KvprojReferenceIdeal (hKvprojIdeal := hKvprojIdeal) (hKvprojReferenceIdeal := hKvprojReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamMemory_AdamMemoryIdeal
    ∧ algebraic_AdamMemoryIdeal_AdamMemoryReferenceIdeal (hAdamMemoryIdeal := hAdamMemoryIdeal) (hAdamMemoryReferenceIdeal := hAdamMemoryReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamSquare_AdamSquareIdeal
    ∧ algebraic_AdamSquareIdeal_AdamSquareReferenceIdeal (hAdamSquareIdeal := hAdamSquareIdeal) (hAdamSquareReferenceIdeal := hAdamSquareReferenceIdeal)
-- ==== Pre_finite.lean ====
abbrev S8192x1024 : Shape := ⟨2, ![8192, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S1024x1024 .bf16) (main_arg7 : FVec F S1x1024 .f32) (main_v2 : IVec S8192x1024 1) (main_v5 : IVec S8192x1024 1) (main_v9 : IVec S256x1024 1) (main_v13 : IVec S256x1024 1) (main_v17 : IVec S1024x1024 1) (main_v18 : FVec F S1024x1024 .f32) : IVec S8192x1024 1 × IVec S8192x1024 1 × IVec S256x1024 1 × IVec S256x1024 1 × IVec S1024x1024 1 × IVec S1024x1024 1 × IVec S1024x1024 1 × IVec S1x1024 1 :=
  let main_v19 : FVec F S1024x1024 .f32 := Host.absf main_v18
  let main_cst_4 : FVec F S_ .f32 := constant S_ .f32 0x7F800000#32
  let main_v20 : FVec F S1024x1024 .f32 := broadcastInDim S1024x1024 ![] bcast_S_S1024x1024 main_cst_4
  let main_v21 : IVec S1024x1024 1 := cmpf .olt main_v19 main_v20
  let main_v22 : FVec F S1024x1024 .f32 := (extf .f32 · bitsLt_bf16_f32) main_arg6
  let main_v23 : FVec F S1024x1024 .f32 := Host.absf main_v22
  let main_cst_5 : FVec F S_ .f32 := constant S_ .f32 0x7F800000#32
  let main_v24 : FVec F S1024x1024 .f32 := broadcastInDim S1024x1024 ![] bcast_S_S1024x1024 main_cst_5
  let main_v25 : IVec S1024x1024 1 := cmpf .olt main_v23 main_v24
  let main_v26 : FVec F S1x1024 .f32 := Host.absf main_arg7
  let main_cst_6 : FVec F S_ .f32 := constant S_ .f32 0x7F800000#32
  let main_v27 : FVec F S1x1024 .f32 := broadcastInDim S1x1024 ![] bcast_S_S1x1024 main_cst_6
  let main_v28 : IVec S1x1024 1 := cmpf .olt main_v26 main_v27
  (main_v2, main_v5, main_v9, main_v13, main_v17, main_v21, main_v25, main_v28)

def fn {F : FTy → Type} [FloatOps F] (main_arg0 : FVec F S8192x1024 .f32) (main_arg1 : FVec F S8192x1024 .f32) (main_arg2 : FVec F S256x1024 .bf16) (main_arg3 : FVec F S256x1024 .bf16) (main_arg4 : FVec F S1024x1024 .bf16) (main_arg5 : FVec F S1024x1024 .bf16) (main_arg6 : FVec F S1024x1024 .bf16) (main_arg7 : FVec F S1x1024 .f32) : IVec S8192x1024 1 × IVec S8192x1024 1 × IVec S256x1024 1 × IVec S256x1024 1 × IVec S1024x1024 1 × IVec S1024x1024 1 × IVec S1024x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S256x1024 .f32 := (extf .f32 · bitsLt_bf16_f32) main_arg2
  let main_v7 : FVec F S256x1024 .f32 := Host.absf main_v6
  let main_cst_1 : FVec F S_ .f32 := constant S_ .f32 0x7F800000#32
  let main_v8 : FVec F S256x1024 .f32 := broadcastInDim S256x1024 ![] bcast_S_S256x1024 main_cst_1
  let main_v9 : IVec S256x1024 1 := cmpf .olt main_v7 main_v8
  let main_v10 : FVec F S256x1024 .f32 := (extf .f32 · bitsLt_bf16_f32) main_arg3
  let main_v11 : FVec F S256x1024 .f32 := Host.absf main_v10
  let main_cst_2 : FVec F S_ .f32 := constant S_ .f32 0x7F800000#32
  let main_v12 : FVec F S256x1024 .f32 := broadcastInDim S256x1024 ![] bcast_S_S256x1024 main_cst_2
  let main_v13 : IVec S256x1024 1 := cmpf .olt main_v11 main_v12
  let main_v14 : FVec F S1024x1024 .f32 := (extf .f32 · bitsLt_bf16_f32) main_arg4
  let main_v15 : FVec F S1024x1024 .f32 := Host.absf main_v14
  let main_cst_3 : FVec F S_ .f32 := constant S_ .f32 0x7F800000#32
  let main_v16 : FVec F S1024x1024 .f32 := broadcastInDim S1024x1024 ![] bcast_S_S1024x1024 main_cst_3
  let main_v17 : IVec S1024x1024 1 := cmpf .olt main_v15 main_v16
  let main_v18 : FVec F S1024x1024 .f32 := (extf .f32 · bitsLt_bf16_f32) main_arg5
  fn_part1 (F := F) main_arg6 main_arg7 main_v2 main_v5 main_v9 main_v13 main_v17 main_v18
-- ==== Kernel.lean ====
abbrev S8192x1024 : Shape := ⟨2, ![8192, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x2048 : Shape := ⟨2, ![256, 2048]⟩
abbrev S8x1024 : Shape := ⟨2, ![8, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S1024 : Shape := ⟨1, ![1024]⟩

abbrev nBuf : Space → Nat
  | .hbm => 33
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S256x1024, .bf16⟩
  | .hbm, ⟨3, _⟩ => ⟨S256x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1024x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .bf16⟩
  | .hbm, ⟨27, _⟩ => ⟨S8192x1024, .f32⟩
  | .hbm, ⟨28, _⟩ => ⟨S8192x1024, .bf16⟩
  | .hbm, ⟨29, _⟩ => ⟨S8192x1024, .f32⟩
  | .hbm, ⟨30, _⟩ => ⟨S8192x1024, .bf16⟩
  | .hbm, ⟨31, _⟩ => ⟨S256x2048, .f32⟩
  | .hbm, ⟨32, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S256x2048, .f32⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S256x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x1024 : Shape := ⟨2, ![8192, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S1024 : Shape := ⟨1, ![1024]⟩
abbrev S256x2048 : Shape := ⟨2, ![256, 2048]⟩
abbrev S8x1024 : Shape := ⟨2, ![8, 1024]⟩

abbrev nBuf : Space → Nat
  | .hbm => 143
  | .vmem => 0
  | .smem => 0
  | _ => 0

abbrev hbmTy0_0 (i : Nat) : BufTy := match i % 128 with
  | 0 => ⟨S8192x1024, .f32⟩
  | 1 => ⟨S8192x1024, .f32⟩
  | 2 => ⟨S256x1024, .bf16⟩
  | 3 => ⟨S256x1024, .bf16⟩
  | 4 => ⟨S1024x1024, .bf16⟩
  | 5 => ⟨S1024x1024, .bf16⟩
  | 6 => ⟨S1024x1024, .bf16⟩
  | 7 => ⟨S1x1024, .f32⟩
  | 8 => ⟨S256x1024, .f32⟩
  | 9 => ⟨S256x1024, .f32⟩
  | 10 => ⟨S1024x1024, .f32⟩
  | 11 => ⟨S1024x1024, .f32⟩
  | 12 => ⟨S1024x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x4x256, .f32⟩
  | 34 => ⟨S256x4x256, .f32⟩
  | 35 => ⟨S256x4x256, .f32⟩
  | 36 => ⟨S4x8192x256, .f32⟩
  | 37 => ⟨S_, .f32⟩
  | 38 => ⟨S4x8192x256, .f32⟩
  | 39 => ⟨S4x8192x256, .f32⟩
  | 40 => ⟨S_, .f32⟩
  | 41 => ⟨S4x8192, .f32⟩
  | 42 => ⟨S4x8192x1, .f32⟩
  | 43 => ⟨S4x8192x256, .f32⟩
  | 44 => ⟨S4x8192x256, .i1⟩
  | 45 => ⟨S4x8192x256, .f32⟩
  | 46 => ⟨S_, .f32⟩
  | 47 => ⟨S4x8192, .f32⟩
  | 48 => ⟨S_, .f32⟩
  | 49 => ⟨S4x8192, .f32⟩
  | 50 => ⟨S4x8192, .f32⟩
  | 51 => ⟨S_, .f32⟩
  | 52 => ⟨S4x8192, .f32⟩
  | 53 => ⟨S4x8192, .i1⟩
  | 54 => ⟨S_, .f32⟩
  | 55 => ⟨S4x8192, .f32⟩
  | 56 => ⟨S4x8192, .i1⟩
  | 57 => ⟨S_, .f32⟩
  | 58 => ⟨S4x8192, .f32⟩
  | 59 => ⟨S_, .f32⟩
  | 60 => ⟨S4x8192, .f32⟩
  | 61 => ⟨S_, .f32⟩
  | 62 => ⟨S4x8192, .f32⟩
  | 63 => ⟨S4x8192, .f32⟩
  | 64 => ⟨S4x8192, .f32⟩
  | 65 => ⟨S4x8192x1, .f32⟩
  | 66 => ⟨S4x8192x256, .f32⟩
  | 67 => ⟨S4x8192x256, .f32⟩
  | 68 => ⟨S4x8192x256, .f32⟩
  | 69 => ⟨S_, .f32⟩
  | 70 => ⟨S4x8192, .f32⟩
  | 71 => ⟨S4x8192x1, .f32⟩
  | 72 => ⟨S4x8192x256, .f32⟩
  | 73 => ⟨S4x8192x256, .f32⟩
  | 74 => ⟨S4x8192x1, .f32⟩
  | 75 => ⟨S_, .f32⟩
  | 76 => ⟨S4x8192x1, .f32⟩
  | 77 => ⟨S4x8192x1, .f32⟩
  | 78 => ⟨S4x256x8192, .f32⟩
  | 79 => ⟨S8192x4x256, .f32⟩
  | 80 => ⟨S8192x1024, .f32⟩
  | 81 => ⟨S8192x1024, .f32⟩
  | 82 => ⟨S8192x1024, .f32⟩
  | 83 => ⟨S8192x4x256, .f32⟩
  | 84 => ⟨S4x256x8192, .f32⟩
  | 85 => ⟨S4x8192x256, .f32⟩
  | 86 => ⟨S4x256x256, .f32⟩
  | 87 => ⟨S256x4x256, .f32⟩
  | 88 => ⟨S4x8192x256, .f32⟩
  | 89 => ⟨S4x8192x256, .f32⟩
  | 90 => ⟨S4x8192x256, .f32⟩
  | 91 => ⟨S_, .f32⟩
  | 92 => ⟨S4x8192, .f32⟩
  | 93 => ⟨S4x8192x1, .f32⟩
  | 94 => ⟨S4x8192x1, .f32⟩
  | 95 => ⟨S4x8192x256, .f32⟩
  | 96 => ⟨S4x8192x256, .f32⟩
  | 97 => ⟨S_, .f32⟩
  | 98 => ⟨S4x8192, .f32⟩
  | 99 => ⟨S4x8192x256, .f32⟩
  | 100 => ⟨S4x8192x256, .f32⟩
  | 101 => ⟨S4x8192x256, .f32⟩
  | 102 => ⟨S_, .f32⟩
  | 103 => ⟨S4x8192x256, .f32⟩
  | 104 => ⟨S4x8192x256, .f32⟩
  | 105 => ⟨S4x256x256, .f32⟩
  | 106 => ⟨S256x4x256, .f32⟩
  | 107 => ⟨S4x8192x256, .f32⟩
  | 108 => ⟨S8192x4x256, .f32⟩
  | 109 => ⟨S256x1024, .f32⟩
  | 110 => ⟨S256x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .bf16⟩
  | 10 => ⟨S1024x1024, .f32⟩
  | 11 => ⟨S8192x1024, .f32⟩
  | 12 => ⟨S8192x1024, .bf16⟩
  | 13 => ⟨S256x2048, .f32⟩
  | 14 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_16 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_17 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_18 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_19 : Ref sig .tc := ⟨.hbm, 126, rfl⟩
abbrev main_v98 : Ref sig .tc := ⟨.hbm, 127, rfl⟩
abbrev main_v99 : Ref sig .tc := ⟨.hbm, 128, rfl⟩
abbrev main_cst_20 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩

abbrev nD : Nat := 1
abbrev τ : Topo := Topo.v7x

variable {F : FTy → Type} [FloatOps F]
-- ==== Mlp.lean ====
abbrev S8192x1024 : Shape := ⟨2, ![8192, 1024]⟩
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8x1024 : Shape := ⟨2, ![8, 1024]⟩
abbrev S256x1024 : Shape := ⟨2, ![256, 1024]⟩
abbrev S256x4096 : Shape := ⟨2, ![256, 4096]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024 : Shape := ⟨1, ![1024]⟩

abbrev nBuf : Space → Nat
  | .hbm => 30
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S4096x1024, .bf16⟩
  | .hbm, ⟨3, _⟩ => ⟨S8192x1024, .f32⟩
  | .hbm, ⟨4, _⟩ => ⟨S1x1024, .f32⟩
  | .hbm, ⟨5, _⟩ => ⟨S4096x1024, .f32⟩
  | .hbm, ⟨6, _⟩ => ⟨S1024x4096, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S8192x4096, .bf16⟩
  | .hbm, ⟨24, _⟩ => ⟨S8192x1024, .bf16⟩
  | .hbm, ⟨25, _⟩ => ⟨S8192x4096, .bf16⟩
  | .hbm, ⟨26, _⟩ => ⟨S8192x4096, .bf16⟩
  | .hbm, ⟨27, _⟩ => ⟨S8192x1024, .f32⟩
  | .hbm, ⟨28, _⟩ => ⟨S8192x1024, .bf16⟩
  | .hbm, ⟨29, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S4096x1024, .bf16⟩
  | .local _ .vmem, ⟨7, _⟩ => ⟨S4096x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpReferenceIdeal.lean ====
abbrev S8192x1024 : Shape := ⟨2, ![8192, 1024]⟩
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S8x1024 : Shape := ⟨2, ![8, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S4096x1024, .bf16⟩
  | .hbm, ⟨3, _⟩ => ⟨S8192x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .i1⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x1024, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x4096, .bf16⟩
  | .hbm, ⟨72, _⟩ => ⟨S8192x4096, .bf16⟩
  | .hbm, ⟨73, _⟩ => ⟨S8192x1024, .bf16⟩
  | .hbm, ⟨74, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Wide.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WideReferenceIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Square.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Input.lean ====
abbrev S8192x3200 : Shape := ⟨2, ![8192, 3200]⟩
abbrev S3104x1024 : Shape := ⟨2, ![3104, 1024]⟩
abbrev S8192x1024 : Shape := ⟨2, ![8192, 1024]⟩
abbrev S1x1024 : Shape := ⟨2, ![1, 1024]⟩
abbrev S8x1024 : Shape := ⟨2, ![8, 1024]⟩
abbrev S512x3200 : Shape := ⟨2, ![512, 3200]⟩
abbrev S512x1024 : Shape := ⟨2, ![512, 1024]⟩
abbrev S512x3072 : Shape := ⟨2, ![512, 3072]⟩
abbrev S3072x1024 : Shape := ⟨2, ![3072, 1024]⟩
abbrev S512x128 : Shape := ⟨2, ![512, 128]⟩
abbrev S32x1024 : Shape := ⟨2, ![32, 1024]⟩
abbrev S96x1024 : Shape := ⟨2, ![96, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x3200, .bf16⟩
  | .hbm, ⟨1, _⟩ => ⟨S3104x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S512x3200, .bf16⟩
  | .local _ .vmem, ⟨1, _⟩ => ⟨S512x3200, .bf16⟩
  | .local _ .vmem, ⟨2, _⟩ => ⟨S3104x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3104x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InputReferenceIdeal.lean ====
abbrev S8192x3200 : Shape := ⟨2, ![8192, 3200]⟩
abbrev S3104x1024 : Shape := ⟨2, ![3104, 1024]⟩
abbrev S8192x1024 : Shape := ⟨2, ![8192, 1024]⟩
abbrev S1x1024 : Shape := ⟨2, ![1, 1024]⟩
abbrev S1024x3104 : Shape := ⟨2, ![1024, 3104]⟩
abbrev S_ : Shape := ⟨0, ![]⟩
abbrev S8192 : Shape := ⟨1, ![8192]⟩
abbrev S8192x1 : Shape := ⟨2, ![8192, 1]⟩
abbrev S8192x3104 : Shape := ⟨2, ![8192, 3104]⟩
abbrev S1024 : Shape := ⟨1, ![1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S3104x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S3104x1024, .f32⟩
  | .hbm, ⟨6, _⟩ => ⟨S1024x3104, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x3104, .f32⟩
  | .hbm, ⟨27, _⟩ => ⟨S8192x3104, .bf16⟩
  | .hbm, ⟨28, _⟩ => ⟨S8192x3104, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S4096x1024 : Shape := ⟨2, ![4096, 1024]⟩
abbrev S8192x4096 : Shape := ⟨2, ![8192, 4096]⟩
abbrev S8x128 : Shape := ⟨2, ![8, 128]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S512x512 : Shape := ⟨2, ![512, 512]⟩
abbrev S1 : Shape := ⟨1, ![1]⟩
abbrev S1x1 : Shape := ⟨2, ![1, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4096x1024, .bf16⟩
  | .hbm, ⟨3, _⟩ => ⟨S4096x1024, .bf16⟩
  | .hbm, ⟨4, _⟩ => ⟨S1x1024, .f32⟩
  | .hbm, ⟨5, _⟩ => ⟨S8192x1024, .f32⟩
  | .hbm, ⟨6, _⟩ => ⟨S8192x4096, .bf16⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S8x128, .f32⟩
  | .hbm, ⟨11, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4096x1024, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x128, .f32⟩
  | .local _ .vmem, ⟨17, _⟩ => ⟨S8x1024, .f32⟩
  | .local _ .vmem, ⟨18, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossReferenceIdeal.lean ====
abbrev S8192x1024 : Shape := ⟨2, ![8192, 1024]⟩
abbrev S1x1024 : Shape := ⟨2, ![1, 1024]⟩
abbrev S4096x1024 : Shape := ⟨2, ![4096, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S8x128 : Shape := ⟨2, ![8, 128]⟩
abbrev S8x1024 : Shape := ⟨2, ![8, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4096x1024, .bf16⟩
  | .hbm, ⟨3, _⟩ => ⟨S4096x1024, .bf16⟩
  | .hbm, ⟨4, _⟩ => ⟨S1x1024, .f32⟩
  | .hbm, ⟨5, _⟩ => ⟨S8192x1024, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x4096, .bf16⟩
  | .hbm, ⟨97, _⟩ => ⟨S8192x1024, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S8192x1, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .bf16⟩
  | .hbm, ⟨113, _⟩ => ⟨S8192x1024, .bf16⟩
  | .hbm, ⟨114, _⟩ => ⟨S8x128, .f32⟩
  | .hbm, ⟨115, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_cst_11 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_cst_20 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]
-- ==== Memory.lean ====
abbrev S256x2048 : Shape := ⟨2, ![256, 2048]⟩
abbrev S256x1024 : Shape := ⟨2, ![256, 1024]⟩
abbrev S1x1024 : Shape := ⟨2, ![1, 1024]⟩
abbrev S8x1024x256 : Shape := ⟨3, ![8, 1024, 256]⟩
abbrev S_ : Shape := ⟨0, ![]⟩
abbrev S256 : Shape := ⟨1, ![256]⟩
abbrev S256x1 : Shape := ⟨2, ![256, 1]⟩
abbrev S8x1024 : Shape := ⟨2, ![8, 1024]⟩
abbrev S256x256 : Shape := ⟨2, ![256, 256]⟩
abbrev S1024x256 : Shape := ⟨2, ![1024, 256]⟩
abbrev S1x1024x256 : Shape := ⟨3, ![1, 1024, 256]⟩
abbrev S1024 : Shape := ⟨1, ![1024]⟩

abbrev nBuf : Space → Nat
  | .hbm => 22
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S1x1024, .f32⟩
  | .hbm, ⟨3, _⟩ => ⟨S8x1024x256, .bf16⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S8x1024x256, .f32⟩
  | .hbm, ⟨21, _⟩ => ⟨S8x1024, .f32⟩
  | .local _ .vmem, ⟨0, _⟩ => ⟨S256x2048, .f32⟩
  | .local _ .vmem, ⟨1, _⟩ => ⟨S256x1024, .bf16⟩
  | .local _ .vmem, ⟨2, _⟩ => ⟨S256x1024, .f32⟩
  | .local _ .vmem, ⟨3, _⟩ => ⟨S1x1024, .f32⟩
  | .local _ .vmem, ⟨4, _⟩ => ⟨S8x1024x256, .bf16⟩
  | .local _ .vmem, ⟨5, _⟩ => ⟨S8x1024x256, .f32⟩
  | .local _ .vmem, ⟨6, _⟩ => ⟨S8x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MemoryReferenceIdeal.lean ====
abbrev S256x2048 : Shape := ⟨2, ![256, 2048]⟩
abbrev S256x1024 : Shape := ⟨2, ![256, 1024]⟩
abbrev S1x1024 : Shape := ⟨2, ![1, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S1024 : Shape := ⟨1, ![1024]⟩
abbrev S8x1024 : Shape := ⟨2, ![8, 1024]⟩

abbrev nBuf : Space → Nat
  | .hbm => 33
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S1x1024, .f32⟩
  | .hbm, ⟨3, _⟩ => ⟨S8x1024x256, .bf16⟩
  | .hbm, ⟨4, _⟩ => ⟨S8x1024x256, .f32⟩
  | .hbm, ⟨5, _⟩ => ⟨S1024x8x256, .f32⟩
  | .hbm, ⟨6, _⟩ => ⟨S1024x2048, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x2048, .f32⟩
  | .hbm, ⟨23, _⟩ => ⟨S2048x1024, .f32⟩
  | .hbm, ⟨24, _⟩ => ⟨S1024x2048, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S1024x8x256, .f32⟩
  | .hbm, ⟨31, _⟩ => ⟨S8x1024x256, .f32⟩
  | .hbm, ⟨32, _⟩ => ⟨S8x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Inproj.lean ====
abbrev S8192x1024 : Shape := ⟨2, ![8192, 1024]⟩
abbrev S1x1024 : Shape := ⟨2, ![1, 1024]⟩
abbrev S3104x1024 : Shape := ⟨2, ![3104, 1024]⟩
abbrev S8192x3200 : Shape := ⟨2, ![8192, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S3072x1024 : Shape := ⟨2, ![3072, 1024]⟩
abbrev S512x3072 : Shape := ⟨2, ![512, 3072]⟩
abbrev S32x1024 : Shape := ⟨2, ![32, 1024]⟩
abbrev S96x1024 : Shape := ⟨2, ![96, 1024]⟩
abbrev S128x1024 : Shape := ⟨2, ![128, 1024]⟩
abbrev S512x128 : Shape := ⟨2, ![512, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3104x1024, .bf16⟩
  | .hbm, ⟨3, _⟩ => ⟨S8192x3200, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3104x1024, .bf16⟩
  | .local _ .vmem, ⟨4, _⟩ => ⟨S512x3200, .f32⟩
  | .local _ .vmem, ⟨5, _⟩ => ⟨S512x3200, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3104x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojReferenceIdeal.lean ====
abbrev S8192x1024 : Shape := ⟨2, ![8192, 1024]⟩
abbrev S1x1024 : Shape := ⟨2, ![1, 1024]⟩
abbrev S3104x1024 : Shape := ⟨2, ![3104, 1024]⟩
abbrev S_ : Shape := ⟨0, ![]⟩
abbrev S8192 : Shape := ⟨1, ![8192]⟩
abbrev S8192x1 : Shape := ⟨2, ![8192, 1]⟩
abbrev S1024x3104 : Shape := ⟨2, ![1024, 3104]⟩
abbrev S8192x3104 : Shape := ⟨2, ![8192, 3104]⟩
abbrev S8192x3200 : Shape := ⟨2, ![8192, 3200]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3104x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S3104x1024, .f32⟩
  | .hbm, ⟨19, _⟩ => ⟨S1024x3104, .f32⟩
  | .hbm, ⟨20, _⟩ => ⟨S8192x3104, .f32⟩
  | .hbm, ⟨21, _⟩ => ⟨S_, .i32⟩
  | .hbm, ⟨22, _⟩ => ⟨S_, .f32⟩
  | .hbm, ⟨23, _⟩ => ⟨S8192x3200, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kvproj.lean ====
abbrev S256x1024 : Shape := ⟨2, ![256, 1024]⟩
abbrev S1x1024 : Shape := ⟨2, ![1, 1024]⟩
abbrev S8x1024x256 : Shape := ⟨3, ![8, 1024, 256]⟩
abbrev S256x2048 : Shape := ⟨2, ![256, 2048]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S8x1024x256, .bf16⟩
  | .hbm, ⟨3, _⟩ => ⟨S256x2048, .f32⟩
  | .hbm, ⟨4, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S8x1024x256, .bf16⟩
  | .local _ .vmem, ⟨3, _⟩ => ⟨S256x2048, .f32⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KvprojReferenceIdeal.lean ====
abbrev S256x1024 : Shape := ⟨2, ![256, 1024]⟩
abbrev S1x1024 : Shape := ⟨2, ![1, 1024]⟩
abbrev S8x1024x256 : Shape := ⟨3, ![8, 1024, 256]⟩
abbrev S_ : Shape := ⟨0, ![]⟩
abbrev S256 : Shape := ⟨1, ![256]⟩
abbrev S256x1 : Shape := ⟨2, ![256, 1]⟩
abbrev S1024x8x256 : Shape := ⟨3, ![1024, 8, 256]⟩
abbrev S1024x2048 : Shape := ⟨2, ![1024, 2048]⟩
abbrev S256x2048 : Shape := ⟨2, ![256, 2048]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S8x1024x256, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S8x1024x256, .f32⟩
  | .hbm, ⟨19, _⟩ => ⟨S1024x8x256, .f32⟩
  | .hbm, ⟨20, _⟩ => ⟨S1024x2048, .f32⟩
  | .hbm, ⟨21, _⟩ => ⟨S256x2048, .f32⟩
  | .hbm, ⟨22, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== AdamDown.lean ====
abbrev S1x512x1024 : Shape := ⟨3, ![1, 512, 1024]⟩
abbrev S512x1024 : Shape := ⟨2, ![512, 1024]⟩
abbrev S3x512x1024 : Shape := ⟨3, ![3, 512, 1024]⟩
abbrev S1x256x1024 : Shape := ⟨3, ![1, 256, 1024]⟩
abbrev S256x1024 : Shape := ⟨2, ![256, 1024]⟩
abbrev S3x256x1024 : Shape := ⟨3, ![3, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S512x1024, .f32⟩
  | .hbm, ⟨4, _⟩ => ⟨S3x512x1024, .bf16⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S3x256x1024, .bf16⟩
  | .local _ .vmem, ⟨9, _⟩ => ⟨S3x256x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownReferenceIdeal.lean ====
abbrev S1x512x1024 : Shape := ⟨3, ![1, 512, 1024]⟩
abbrev S512x1024 : Shape := ⟨2, ![512, 1024]⟩
abbrev S3x512x1024 : Shape := ⟨3, ![3, 512, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S512x1024, .f32⟩
  | .hbm, ⟨4, _⟩ => ⟨S3x512x1024, .bf16⟩
  | .hbm, ⟨5, _⟩ => ⟨S3x512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S1x512x1024, .f32⟩
  | .hbm, ⟨10, _⟩ => ⟨S_, .f32⟩
  | .hbm, ⟨11, _⟩ => ⟨S1x512x1024, .f32⟩
  | .hbm, ⟨12, _⟩ => ⟨S1x512x1024, .f32⟩
  | .hbm, ⟨13, _⟩ => ⟨S_, .f32⟩
  | .hbm, ⟨14, _⟩ => ⟨S1x512x1024, .f32⟩
  | .hbm, ⟨15, _⟩ => ⟨S1x512x1024, .f32⟩
  | .hbm, ⟨16, _⟩ => ⟨S1x512x1024, .f32⟩
  | .hbm, ⟨17, _⟩ => ⟨S_, .f32⟩
  | .hbm, ⟨18, _⟩ => ⟨S1x512x1024, .f32⟩
  | .hbm, ⟨19, _⟩ => ⟨S1x512x1024, .f32⟩
  | .hbm, ⟨20, _⟩ => ⟨S1x512x1024, .f32⟩
  | .hbm, ⟨21, _⟩ => ⟨S_, .f32⟩
  | .hbm, ⟨22, _⟩ => ⟨S1x512x1024, .f32⟩
  | .hbm, ⟨23, _⟩ => ⟨S1x512x1024, .f32⟩
  | .hbm, ⟨24, _⟩ => ⟨S1x512x1024, .f32⟩
  | .hbm, ⟨25, _⟩ => ⟨S_, .f32⟩
  | .hbm, ⟨26, _⟩ => ⟨S1x512x1024, .f32⟩
  | .hbm, ⟨27, _⟩ => ⟨S1x512x1024, .f32⟩
  | .hbm, ⟨28, _⟩ => ⟨S_, .f32⟩
  | .hbm, ⟨29, _⟩ => ⟨S1x512x1024, .f32⟩
  | .hbm, ⟨30, _⟩ => ⟨S1x512x1024, .f32⟩
  | .hbm, ⟨31, _⟩ => ⟨S1x512x1024, .f32⟩
  | .hbm, ⟨32, _⟩ => ⟨S_, .f32⟩
  | .hbm, ⟨33, _⟩ => ⟨S1x512x1024, .f32⟩
  | .hbm, ⟨34, _⟩ => ⟨S1x512x1024, .f32⟩
  | .hbm, ⟨35, _⟩ => ⟨S1x512x1024, .f32⟩
  | .hbm, ⟨36, _⟩ => ⟨S_, .f32⟩
  | .hbm, ⟨37, _⟩ => ⟨S1x512x1024, .f32⟩
  | .hbm, ⟨38, _⟩ => ⟨S1x512x1024, .f32⟩
  | .hbm, ⟨39, _⟩ => ⟨S1x512x1024, .f32⟩
  | .hbm, ⟨40, _⟩ => ⟨S_, .f32⟩
  | .hbm, ⟨41, _⟩ => ⟨S1x512x1024, .f32⟩
  | .hbm, ⟨42, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamUp.lean ====
abbrev S1x1024x512 : Shape := ⟨3, ![1, 1024, 512]⟩
abbrev S512x1024 : Shape := ⟨2, ![512, 1024]⟩
abbrev S3x512x1024 : Shape := ⟨3, ![3, 512, 1024]⟩
abbrev S1x256x512 : Shape := ⟨3, ![1, 256, 512]⟩
abbrev S512x256 : Shape := ⟨2, ![512, 256]⟩
abbrev S3x512x256 : Shape := ⟨3, ![3, 512, 256]⟩
abbrev S1x512x256 : Shape := ⟨3, ![1, 512, 256]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S512x1024, .f32⟩
  | .hbm, ⟨4, _⟩ => ⟨S3x512x1024, .bf16⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S512x256, .f32⟩
  | .local _ .vmem, ⟨7, _⟩ => ⟨S512x256, .f32⟩
  | .local _ .vmem, ⟨8, _⟩ => ⟨S3x512x256, .bf16⟩
  | .local _ .vmem, ⟨9, _⟩ => ⟨S3x512x256, .bf16⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpReferenceIdeal.lean ====
abbrev S1x1024x512 : Shape := ⟨3, ![1, 1024, 512]⟩
abbrev S512x1024 : Shape := ⟨2, ![512, 1024]⟩
abbrev S3x512x1024 : Shape := ⟨3, ![3, 512, 1024]⟩
abbrev S_ : Shape := ⟨0, ![]⟩
abbrev S1x512x1024 : Shape := ⟨3, ![1, 512, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S512x1024, .f32⟩
  | .hbm, ⟨4, _⟩ => ⟨S3x512x1024, .bf16⟩
  | .hbm, ⟨5, _⟩ => ⟨S3x512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S1x512x1024, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S_, .f32⟩
  | .hbm, ⟨15, _⟩ => ⟨S1x1024x512, .f32⟩
  | .hbm, ⟨16, _⟩ => ⟨S1x1024x512, .f32⟩
  | .hbm, ⟨17, _⟩ => ⟨S1x1024x512, .f32⟩
  | .hbm, ⟨18, _⟩ => ⟨S_, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S_, .f32⟩
  | .hbm, ⟨30, _⟩ => ⟨S1x1024x512, .f32⟩
  | .hbm, ⟨31, _⟩ => ⟨S1x1024x512, .f32⟩
  | .hbm, ⟨32, _⟩ => ⟨S1x1024x512, .f32⟩
  | .hbm, ⟨33, _⟩ => ⟨S_, .f32⟩
  | .hbm, ⟨34, _⟩ => ⟨S1x1024x512, .f32⟩
  | .hbm, ⟨35, _⟩ => ⟨S1x1024x512, .f32⟩
  | .hbm, ⟨36, _⟩ => ⟨S1x1024x512, .f32⟩
  | .hbm, ⟨37, _⟩ => ⟨S_, .f32⟩
  | .hbm, ⟨38, _⟩ => ⟨S1x1024x512, .f32⟩
  | .hbm, ⟨39, _⟩ => ⟨S1x1024x512, .f32⟩
  | .hbm, ⟨40, _⟩ => ⟨S1x1024x512, .f32⟩
  | .hbm, ⟨41, _⟩ => ⟨S_, .f32⟩
  | .hbm, ⟨42, _⟩ => ⟨S1x1024x512, .f32⟩
  | .hbm, ⟨43, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamMemory.lean ====
abbrev S1x1024x256 : Shape := ⟨3, ![1, 1024, 256]⟩
abbrev S1024x256 : Shape := ⟨2, ![1024, 256]⟩
abbrev S3x1024x256 : Shape := ⟨3, ![3, 1024, 256]⟩
abbrev S1x256x256 : Shape := ⟨3, ![1, 256, 256]⟩
abbrev S256x256 : Shape := ⟨2, ![256, 256]⟩
abbrev S3x256x256 : Shape := ⟨3, ![3, 256, 256]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S1024x256, .f32⟩
  | .hbm, ⟨4, _⟩ => ⟨S3x1024x256, .bf16⟩
  | .hbm, ⟨5, _⟩ => ⟨S1x1024x256, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S3x256x256, .bf16⟩
  | .local _ .vmem, ⟨9, _⟩ => ⟨S3x256x256, .bf16⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamMemoryReferenceIdeal.lean ====
abbrev S1x1024x256 : Shape := ⟨3, ![1, 1024, 256]⟩
abbrev S1024x256 : Shape := ⟨2, ![1024, 256]⟩
abbrev S3x1024x256 : Shape := ⟨3, ![3, 1024, 256]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S1024x256, .f32⟩
  | .hbm, ⟨4, _⟩ => ⟨S3x1024x256, .bf16⟩
  | .hbm, ⟨5, _⟩ => ⟨S3x1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S1x1024x256, .f32⟩
  | .hbm, ⟨10, _⟩ => ⟨S_, .f32⟩
  | .hbm, ⟨11, _⟩ => ⟨S1x1024x256, .f32⟩
  | .hbm, ⟨12, _⟩ => ⟨S1x1024x256, .f32⟩
  | .hbm, ⟨13, _⟩ => ⟨S_, .f32⟩
  | .hbm, ⟨14, _⟩ => ⟨S1x1024x256, .f32⟩
  | .hbm, ⟨15, _⟩ => ⟨S1x1024x256, .f32⟩
  | .hbm, ⟨16, _⟩ => ⟨S1x1024x256, .f32⟩
  | .hbm, ⟨17, _⟩ => ⟨S_, .f32⟩
  | .hbm, ⟨18, _⟩ => ⟨S1x1024x256, .f32⟩
  | .hbm, ⟨19, _⟩ => ⟨S1x1024x256, .f32⟩
  | .hbm, ⟨20, _⟩ => ⟨S1x1024x256, .f32⟩
  | .hbm, ⟨21, _⟩ => ⟨S_, .f32⟩
  | .hbm, ⟨22, _⟩ => ⟨S1x1024x256, .f32⟩
  | .hbm, ⟨23, _⟩ => ⟨S1x1024x256, .f32⟩
  | .hbm, ⟨24, _⟩ => ⟨S1x1024x256, .f32⟩
  | .hbm, ⟨25, _⟩ => ⟨S_, .f32⟩
  | .hbm, ⟨26, _⟩ => ⟨S1x1024x256, .f32⟩
  | .hbm, ⟨27, _⟩ => ⟨S1x1024x256, .f32⟩
  | .hbm, ⟨28, _⟩ => ⟨S_, .f32⟩
  | .hbm, ⟨29, _⟩ => ⟨S1x1024x256, .f32⟩
  | .hbm, ⟨30, _⟩ => ⟨S1x1024x256, .f32⟩
  | .hbm, ⟨31, _⟩ => ⟨S1x1024x256, .f32⟩
  | .hbm, ⟨32, _⟩ => ⟨S_, .f32⟩
  | .hbm, ⟨33, _⟩ => ⟨S1x1024x256, .f32⟩
  | .hbm, ⟨34, _⟩ => ⟨S1x1024x256, .f32⟩
  | .hbm, ⟨35, _⟩ => ⟨S1x1024x256, .f32⟩
  | .hbm, ⟨36, _⟩ => ⟨S_, .f32⟩
  | .hbm, ⟨37, _⟩ => ⟨S1x1024x256, .f32⟩
  | .hbm, ⟨38, _⟩ => ⟨S1x1024x256, .f32⟩
  | .hbm, ⟨39, _⟩ => ⟨S1x1024x256, .f32⟩
  | .hbm, ⟨40, _⟩ => ⟨S_, .f32⟩
  | .hbm, ⟨41, _⟩ => ⟨S1x1024x256, .f32⟩
  | .hbm, ⟨42, _⟩ => ⟨S1x1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamIn.lean ====
abbrev S1x1024x388 : Shape := ⟨3, ![1, 1024, 388]⟩
abbrev S388x1024 : Shape := ⟨2, ![388, 1024]⟩
abbrev S3x388x1024 : Shape := ⟨3, ![3, 388, 1024]⟩
abbrev S1x388x1024 : Shape := ⟨3, ![1, 388, 1024]⟩

abbrev nBuf : Space → Nat
  | .hbm => 12
  | .vmem => 9
  | .smem => 0
  | _ => 0

abbrev bufTy : (tb : Table) → Fin (tcTables nBuf tb) → BufTy
  | .hbm, ⟨0, _⟩ => ⟨S1x1024x388, .f32⟩
  | .hbm, ⟨1, _⟩ => ⟨S1x1024x388, .f32⟩
  | .hbm, ⟨2, _⟩ => ⟨S1x1024x388, .f32⟩
  | .hbm, ⟨3, _⟩ => ⟨S388x1024, .f32⟩
  | .hbm, ⟨4, _⟩ => ⟨S3x388x1024, .bf16⟩
  | .hbm, ⟨5, _⟩ => ⟨S1x388x1024, .f32⟩
  | .hbm, ⟨6, _⟩ => ⟨S1x388x1024, .f32⟩
  | .hbm, ⟨7, _⟩ => ⟨S1x388x1024, .f32⟩
  | .hbm, ⟨8, _⟩ => ⟨S1x388x1024, .f32⟩
  | .hbm, ⟨9, _⟩ => ⟨S1x388x1024, .f32⟩
  | .hbm, ⟨10, _⟩ => ⟨S1x388x1024, .f32⟩
  | .hbm, ⟨11, _⟩ => ⟨S1x388x1024, .f32⟩
  | .local _ .vmem, ⟨0, _⟩ => ⟨S1x388x1024, .f32⟩
  | .local _ .vmem, ⟨1, _⟩ => ⟨S1x388x1024, .f32⟩
  | .local _ .vmem, ⟨2, _⟩ => ⟨S1x388x1024, .f32⟩
  | .local _ .vmem, ⟨3, _⟩ => ⟨S388x1024, .f32⟩
  | .local _ .vmem, ⟨4, _⟩ => ⟨S3x388x1024, .bf16⟩
  | .local _ .vmem, ⟨5, _⟩ => ⟨S1x388x1024, .f32⟩
  | .local _ .vmem, ⟨6, _⟩ => ⟨S1x388x1024, .f32⟩
  | .local _ .vmem, ⟨7, _⟩ => ⟨S1x388x1024, .f32⟩
  | .local _ .vmem, ⟨8, _⟩ => ⟨S1x388x1024, .f32⟩
  | _, _ => ⟨S1x1024x388, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x388x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x388x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x388x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S388x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x388x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x388x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x388x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x388x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x388x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamInReferenceIdeal.lean ====
abbrev S1x1024x388 : Shape := ⟨3, ![1, 1024, 388]⟩
abbrev S388x1024 : Shape := ⟨2, ![388, 1024]⟩
abbrev S3x388x1024 : Shape := ⟨3, ![3, 388, 1024]⟩
abbrev S_ : Shape := ⟨0, ![]⟩
abbrev S1x388x1024 : Shape := ⟨3, ![1, 388, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1x1024x388, .f32⟩
  | .hbm, ⟨1, _⟩ => ⟨S1x1024x388, .f32⟩
  | .hbm, ⟨2, _⟩ => ⟨S1x1024x388, .f32⟩
  | .hbm, ⟨3, _⟩ => ⟨S388x1024, .f32⟩
  | .hbm, ⟨4, _⟩ => ⟨S3x388x1024, .bf16⟩
  | .hbm, ⟨5, _⟩ => ⟨S3x388x1024, .f32⟩
  | .hbm, ⟨6, _⟩ => ⟨S_, .f32⟩
  | .hbm, ⟨7, _⟩ => ⟨S388x1024, .f32⟩
  | .hbm, ⟨8, _⟩ => ⟨S388x1024, .f32⟩
  | .hbm, ⟨9, _⟩ => ⟨S1x388x1024, .f32⟩
  | .hbm, ⟨10, _⟩ => ⟨S1x388x1024, .f32⟩
  | .hbm, ⟨11, _⟩ => ⟨S1x388x1024, .f32⟩
  | .hbm, ⟨12, _⟩ => ⟨S1x388x1024, .f32⟩
  | .hbm, ⟨13, _⟩ => ⟨S_, .f32⟩
  | .hbm, ⟨14, _⟩ => ⟨S1x388x1024, .f32⟩
  | .hbm, ⟨15, _⟩ => ⟨S1x388x1024, .f32⟩
  | .hbm, ⟨16, _⟩ => ⟨S_, .f32⟩
  | .hbm, ⟨17, _⟩ => ⟨S1x388x1024, .f32⟩
  | .hbm, ⟨18, _⟩ => ⟨S1x388x1024, .f32⟩
  | .hbm, ⟨19, _⟩ => ⟨S1x388x1024, .f32⟩
  | .hbm, ⟨20, _⟩ => ⟨S_, .f32⟩
  | .hbm, ⟨21, _⟩ => ⟨S1x388x1024, .f32⟩
  | .hbm, ⟨22, _⟩ => ⟨S1x388x1024, .f32⟩
  | .hbm, ⟨23, _⟩ => ⟨S1x388x1024, .f32⟩
  | .hbm, ⟨24, _⟩ => ⟨S_, .f32⟩
  | .hbm, ⟨25, _⟩ => ⟨S1x388x1024, .f32⟩
  | .hbm, ⟨26, _⟩ => ⟨S1x388x1024, .f32⟩
  | .hbm, ⟨27, _⟩ => ⟨S1x388x1024, .f32⟩
  | .hbm, ⟨28, _⟩ => ⟨S_, .f32⟩
  | .hbm, ⟨29, _⟩ => ⟨S1x388x1024, .f32⟩
  | .hbm, ⟨30, _⟩ => ⟨S1x388x1024, .f32⟩
  | .hbm, ⟨31, _⟩ => ⟨S_, .f32⟩
  | .hbm, ⟨32, _⟩ => ⟨S1x388x1024, .f32⟩
  | .hbm, ⟨33, _⟩ => ⟨S1x388x1024, .f32⟩
  | .hbm, ⟨34, _⟩ => ⟨S1x388x1024, .f32⟩
  | .hbm, ⟨35, _⟩ => ⟨S_, .f32⟩
  | .hbm, ⟨36, _⟩ => ⟨S1x388x1024, .f32⟩
  | .hbm, ⟨37, _⟩ => ⟨S1x388x1024, .f32⟩
  | .hbm, ⟨38, _⟩ => ⟨S1x388x1024, .f32⟩
  | .hbm, ⟨39, _⟩ => ⟨S_, .f32⟩
  | .hbm, ⟨40, _⟩ => ⟨S1x388x1024, .f32⟩
  | .hbm, ⟨41, _⟩ => ⟨S1x388x1024, .f32⟩
  | .hbm, ⟨42, _⟩ => ⟨S1x388x1024, .f32⟩
  | .hbm, ⟨43, _⟩ => ⟨S_, .f32⟩
  | .hbm, ⟨44, _⟩ => ⟨S1x388x1024, .f32⟩
  | .hbm, ⟨45, _⟩ => ⟨S1x388x1024, .f32⟩
  | _, _ => ⟨S1x1024x388, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== AdamSquare.lean ====
abbrev S1x128x1024 : Shape := ⟨3, ![1, 128, 1024]⟩
abbrev S128x1024 : Shape := ⟨2, ![128, 1024]⟩
abbrev S3x128x1024 : Shape := ⟨3, ![3, 128, 1024]⟩

abbrev nBuf : Space → Nat
  | .hbm => 27
  | .vmem => 27
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S3x128x1024, .bf16⟩
  | .hbm, ⟨13, _⟩ => ⟨S3x128x1024, .bf16⟩
  | .hbm, ⟨14, _⟩ => ⟨S3x128x1024, .bf16⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S3x128x1024, .bf16⟩
  | .local _ .vmem, ⟨13, _⟩ => ⟨S3x128x1024, .bf16⟩
  | .local _ .vmem, ⟨14, _⟩ => ⟨S3x128x1024, .bf16⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x128x1024, .f32⟩
  | .local _ .vmem, ⟨24, _⟩ => ⟨S1x128x1024, .f32⟩
  | .local _ .vmem, ⟨25, _⟩ => ⟨S1x128x1024, .f32⟩
  | .local _ .vmem, ⟨26, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev main_v0_11 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S3x128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S3x128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S3x128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S1x128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S1x128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S1x128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S1x128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S1x128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S1x128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S1x128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S1x128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S1x128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S1x128x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S1x128x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S1x128x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]
-- ==== AdamSquareReferenceIdeal.lean ====
abbrev S1x128x1024 : Shape := ⟨3, ![1, 128, 1024]⟩
abbrev S128x1024 : Shape := ⟨2, ![128, 1024]⟩
abbrev S3x128x1024 : Shape := ⟨3, ![3, 128, 1024]⟩
abbrev S_ : Shape := ⟨0, ![]⟩

abbrev nBuf : Space → Nat
  | .hbm => 129
  | .vmem => 0
  | .smem => 0
  | _ => 0

abbrev hbmTy0_0 (i : Nat) : BufTy := match i % 128 with
  | 0 => ⟨S1x128x1024, .f32⟩
  | 1 => ⟨S1x128x1024, .f32⟩
  | 2 => ⟨S1x128x1024, .f32⟩
  | 3 => ⟨S1x128x1024, .f32⟩
  | 4 => ⟨S1x128x1024, .f32⟩
  | 5 => ⟨S1x128x1024, .f32⟩
  | 6 => ⟨S1x128x1024, .f32⟩
  | 7 => ⟨S1x128x1024, .f32⟩
  | 8 => ⟨S1x128x1024, .f32⟩
  | 9 => ⟨S128x1024, .f32⟩
  | 10 => ⟨S128x1024, .f32⟩
  | 11 => ⟨S128x1024, .f32⟩
  | 12 => ⟨S3x128x1024, .bf16⟩
  | 13 => ⟨S3x128x1024, .bf16⟩
  | 14 => ⟨S3x128x1024, .bf16⟩
  | 15 => ⟨S3x128x1024, .f32⟩
  | 16 => ⟨S_, .f32⟩
  | 17 => ⟨S128x1024, .f32⟩
  | 18 => ⟨S128x1024, .f32⟩
  | 19 => ⟨S1x128x1024, .f32⟩
  | 20 => ⟨S3x128x1024, .f32⟩
  | 21 => ⟨S_, .f32⟩
  | 22 => ⟨S128x1024, .f32⟩
  | 23 => ⟨S128x1024, .f32⟩
  | 24 => ⟨S1x128x1024, .f32⟩
  | 25 => ⟨S3x128x1024, .f32⟩
  | 26 => ⟨S_, .f32⟩
  | 27 => ⟨S128x1024, .f32⟩
  | 28 => ⟨S128x1024, .f32⟩
  | 29 => ⟨S1x128x1024, .f32⟩
  | 30 => ⟨S_, .f32⟩
  | 31 => ⟨S1x128x1024, .f32⟩
  | 32 => ⟨S1x128x1024, .f32⟩
  | 33 => ⟨S_, .f32⟩
  | 34 => ⟨S1x128x1024, .f32⟩
  | 35 => ⟨S1x128x1024, .f32⟩
  | 36 => ⟨S1x128x1024, .f32⟩
  | 37 => ⟨S_, .f32⟩
  | 38 => ⟨S1x128x1024, .f32⟩
  | 39 => ⟨S1x128x1024, .f32⟩
  | 40 => ⟨S1x128x1024, .f32⟩
  | 41 => ⟨S_, .f32⟩
  | 42 => ⟨S1x128x1024, .f32⟩
  | 43 => ⟨S1x128x1024, .f32⟩
  | 44 => ⟨S1x128x1024, .f32⟩
  | 45 => ⟨S_, .f32⟩
  | 46 => ⟨S1x128x1024, .f32⟩
  | 47 => ⟨S1x128x1024, .f32⟩
  | 48 => ⟨S_, .f32⟩
  | 49 => ⟨S1x128x1024, .f32⟩
  | 50 => ⟨S1x128x1024, .f32⟩
  | 51 => ⟨S1x128x1024, .f32⟩
  | 52 => ⟨S_, .f32⟩
  | 53 => ⟨S1x128x1024, .f32⟩
  | 54 => ⟨S1x128x1024, .f32⟩
  | 55 => ⟨S1x128x1024, .f32⟩
  | 56 => ⟨S_, .f32⟩
  | 57 => ⟨S1x128x1024, .f32⟩
  | 58 => ⟨S1x128x1024, .f32⟩
  | 59 => ⟨S1x128x1024, .f32⟩
  | 60 => ⟨S_, .f32⟩
  | 61 => ⟨S1x128x1024, .f32⟩
  | 62 => ⟨S1x128x1024, .f32⟩
  | 63 => ⟨S_, .f32⟩
  | 64 => ⟨S1x128x1024, .f32⟩
  | 65 => ⟨S1x128x1024, .f32⟩
  | 66 => ⟨S_, .f32⟩
  | 67 => ⟨S1x128x1024, .f32⟩
  | 68 => ⟨S1x128x1024, .f32⟩
  | 69 => ⟨S1x128x1024, .f32⟩
  | 70 => ⟨S_, .f32⟩
  | 71 => ⟨S1x128x1024, .f32⟩
  | 72 => ⟨S1x128x1024, .f32⟩
  | 73 => ⟨S1x128x1024, .f32⟩
  | 74 => ⟨S_, .f32⟩
  | 75 => ⟨S1x128x1024, .f32⟩
  | 76 => ⟨S1x128x1024, .f32⟩
  | 77 => ⟨S1x128x1024, .f32⟩
  | 78 => ⟨S_, .f32⟩
  | 79 => ⟨S1x128x1024, .f32⟩
  | 80 => ⟨S1x128x1024, .f32⟩
  | 81 => ⟨S_, .f32⟩
  | 82 => ⟨S1x128x1024, .f32⟩
  | 83 => ⟨S1x128x1024, .f32⟩
  | 84 => ⟨S1x128x1024, .f32⟩
  | 85 => ⟨S_, .f32⟩
  | 86 => ⟨S1x128x1024, .f32⟩
  | 87 => ⟨S1x128x1024, .f32⟩
  | 88 => ⟨S1x128x1024, .f32⟩
  | 89 => ⟨S_, .f32⟩
  | 90 => ⟨S1x128x1024, .f32⟩
  | 91 => ⟨S1x128x1024, .f32⟩
  | 92 => ⟨S1x128x1024, .f32⟩
  | 93 => ⟨S_, .f32⟩
  | 94 => ⟨S1x128x1024, .f32⟩
  | 95 => ⟨S1x128x1024, .f32⟩
  | 96 => ⟨S_, .f32⟩
  | 97 => ⟨S1x128x1024, .f32⟩
  | 98 => ⟨S1x128x1024, .f32⟩
  | 99 => ⟨S_, .f32⟩
  | 100 => ⟨S1x128x1024, .f32⟩
  | 101 => ⟨S1x128x1024, .f32⟩
  | 102 => ⟨S1x128x1024, .f32⟩
  | 103 => ⟨S_, .f32⟩
  | 104 => ⟨S1x128x1024, .f32⟩
  | 105 => ⟨S1x128x1024, .f32⟩
  | 106 => ⟨S1x128x1024, .f32⟩
  | 107 => ⟨S_, .f32⟩
  | 108 => ⟨S1x128x1024, .f32⟩
  | 109 => ⟨S1x128x1024, .f32⟩
  | 110 => ⟨S1x128x1024, .f32⟩
  | 111 => ⟨S_, .f32⟩
  | 112 => ⟨S1x128x1024, .f32⟩
  | 113 => ⟨S1x128x1024, .f32⟩
  | 114 => ⟨S_, .f32⟩
  | 115 => ⟨S1x128x1024, .f32⟩
  | 116 => ⟨S1x128x1024, .f32⟩
  | 117 => ⟨S1x128x1024, .f32⟩
  | 118 => ⟨S_, .f32⟩
  | 119 => ⟨S1x128x1024, .f32⟩
  | 120 => ⟨S1x128x1024, .f32⟩
  | 121 => ⟨S1x128x1024, .f32⟩
  | 122 => ⟨S_, .f32⟩
  | 123 => ⟨S1x128x1024, .f32⟩
  | 124 => ⟨S1x128x1024, .f32⟩
  | 125 => ⟨S1x128x1024, .f32⟩
  | 126 => ⟨S_, .f32⟩
  | 127 => ⟨S1x128x1024, .f32⟩
  | _ => ⟨S1x128x1024, .f32⟩

abbrev hbmTy0_1 (i : Nat) : BufTy := match i % 128 with
  | 0 => ⟨S1x128x1024, .f32⟩
  | _ => ⟨S1x128x1024, .f32⟩

abbrev hbmTy (i : Nat) : BufTy := match i / 128 with
  | 0 => hbmTy0_0 i
  | 1 => hbmTy0_1 i
  | _ => ⟨S1x128x1024, .f32⟩

abbrev bufTy : (tb : Table) → Fin (tcTables nBuf tb) → BufTy
  | .hbm, ⟨i, _⟩ => hbmTy i
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_6 : Ref sig .tc := ⟨.hbm, 45, rfl⟩
abbrev main_v23 : Ref sig .tc := ⟨.hbm, 46, rfl⟩
abbrev main_v24 : Ref sig .tc := ⟨.hbm, 47, rfl⟩
abbrev main_cst_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_10 : Ref sig .tc := ⟨.hbm, 60, rfl⟩
abbrev main_v34 : Ref sig .tc := ⟨.hbm, 61, rfl⟩
abbrev main_v35 : Ref sig .tc := ⟨.hbm, 62, rfl⟩
abbrev main_cst_11 : Ref sig .tc := ⟨.hbm, 63, rfl⟩
abbrev main_v36 : Ref sig .tc := ⟨.hbm, 64, rfl⟩
abbrev main_v37 : Ref sig .tc := ⟨.hbm, 65, rfl⟩
abbrev main_cst_12 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_13 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_14 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_15 : Ref sig .tc := ⟨.hbm, 78, rfl⟩
abbrev main_v47 : Ref sig .tc := ⟨.hbm, 79, rfl⟩
abbrev main_v48 : Ref sig .tc := ⟨.hbm, 80, rfl⟩
abbrev main_cst_16 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_17 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_18 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_19 : Ref sig .tc := ⟨.hbm, 93, rfl⟩
abbrev main_v58 : Ref sig .tc := ⟨.hbm, 94, rfl⟩
abbrev main_v59 : Ref sig .tc := ⟨.hbm, 95, rfl⟩
abbrev main_cst_20 : Ref sig .tc := ⟨.hbm, 96, rfl⟩
abbrev main_v60 : Ref sig .tc := ⟨.hbm, 97, rfl⟩
abbrev main_v61 : Ref sig .tc := ⟨.hbm, 98, rfl⟩
abbrev main_cst_21 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_22 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_23 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_24 : Ref sig .tc := ⟨.hbm, 111, rfl⟩
abbrev main_v71 : Ref sig .tc := ⟨.hbm, 112, rfl⟩
abbrev main_v72 : Ref sig .tc := ⟨.hbm, 113, rfl⟩
abbrev main_cst_25 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_26 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_27 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_28 : Ref sig .tc := ⟨.hbm, 126, rfl⟩
abbrev main_v82 : Ref sig .tc := ⟨.hbm, 127, rfl⟩
abbrev main_v83 : Ref sig .tc := ⟨.hbm, 128, rfl⟩

abbrev nD : Nat := 1
abbrev τ : Topo := Topo.v7x

variable {F : FTy → Type} [FloatOps F]
-- ==== Proof.Real.lean ====
module

public import Idealize.ShloMosaic.Lib.Pointwise

@[expose] public section

set_option maxRecDepth 16384

noncomputable section

/-! # The backward of the cross-attention to the memory, over the real numbers

One row `x` of the residual stream is normalised (`unit`, `scale`), projected to a query row `q` and attends, head by
head, to the 256 memory rows `k`, `v`. Everything below is a function of one row, so that the program which walks the
rows in blocks and the one which takes them all at once are compared with the same functions. -/

namespace Cert.Attn

open Idealize.ShloMosaic

/-- The column of lane `d` of head `h`: four heads of 256 lanes lie side by side. -/
def col (h : Fin 4) (d : Fin 256) : Fin 1024 := ⟨256 * h.val + d.val, by omega⟩

/-- The head a column belongs to. -/
def headOf (j : Fin 1024) : Fin 4 := ⟨j.val / 256, by omega⟩

theorem headOf_col (h : Fin 4) (d : Fin 256) : headOf (col h d) = h := by
  apply Fin.ext; simp only [headOf, col]; omega

/-- The number added to the mean square, as the programs hold it (about `1e-6`). -/
def tiny : ℝ := 8796093 / 8796093022208

/-- The reciprocal root mean square of a row. -/
def scale (x : Fin 1024 → ℝ) : ℝ := (√((∑ k, x k * x k) / 1024 + tiny))⁻¹

/-- The row scaled by it. -/
def unit (x : Fin 1024 → ℝ) (j : Fin 1024) : ℝ := x j * scale x

/-- The query row: the normalised row times its gain, through the query matrix. -/
def query (g : Fin 1024 → ℝ) (wq : Fin 1024 → Fin 1024 → ℝ) (x : Fin 1024 → ℝ) (j : Fin 1024) : ℝ :=
  ∑ i, unit x i * g i * wq i j

/-- The largest score of a row. -/
def top (s : Fin 256 → ℝ) : ℝ := Finset.univ.sup' ⟨0, Finset.mem_univ _⟩ s

/-- The sum of the exponentials of a row, its largest score taken off. -/
def total (s : Fin 256 → ℝ) : ℝ := ∑ n, Real.exp (s n - top s)

theorem total_pos (s : Fin 256 → ℝ) : 0 < total s :=
  Finset.sum_pos (fun n _ => Real.exp_pos _) ⟨0, Finset.mem_univ _⟩

/-- The softmax of a row of scores. -/
def weight (s : Fin 256 → ℝ) (m : Fin 256) : ℝ := Real.exp (s m - top s) / total s

/-- The softmax's backward on a row, with the scores' factor 1/16. -/
def dscore (p dp : Fin 256 → ℝ) (m : Fin 256) : ℝ := p m * (dp m - ∑ n, dp n * p n) * (1 / 16)

/-- The attention weights of head `h` of the query row `q`. -/
def prob (k : Fin 256 → Fin 1024 → ℝ) (q : Fin 1024 → ℝ) (h : Fin 4) : Fin 256 → ℝ :=
  weight fun m => (∑ d, q (col h d) * k m (col h d)) * (1 / 16)

/-- The gradient of the heads' outputs: the incoming row through the output matrix, transposed. -/
def dout (wo : Fin 1024 → Fin 1024 → ℝ) (y : Fin 1024 → ℝ) (j : Fin 1024) : ℝ := ∑ i, y i * wo j i

/-- The gradient of the weights of head `h`. -/
def dprob (v : Fin 256 → Fin 1024 → ℝ) (a : Fin 1024 → ℝ) (h : Fin 4) (m : Fin 256) : ℝ :=
  ∑ d, a (col h d) * v m (col h d)

/-- The gradient of the scores of head `h`. -/
def dscr (k v : Fin 256 → Fin 1024 → ℝ) (q a : Fin 1024 → ℝ) (h : Fin 4) : Fin 256 → ℝ :=
  dscore (prob k q h) (dprob v a h)

/-- The gradient of the query row. -/
def dqry (k v : Fin 256 → Fin 1024 → ℝ) (q a : Fin 1024 → ℝ) (j : Fin 1024) : ℝ :=
  ∑ m, dscr k v q a (headOf j) m * k m j

/-- What the query row `q` adds to the gradients of the keys (columns below 1024) and of the values (the columns from 1024 on). -/
def dkvRow (k v : Fin 256 → Fin 1024 → ℝ) (q a : Fin 1024 → ℝ) (m : Fin 256) (j : Fin 2048) : ℝ :=
  if h : j.val < 1024 then dscr k v q a (headOf ⟨j.val, h⟩) m * q ⟨j.val, h⟩
  else prob k q (headOf ⟨j.val - 1024, by omega⟩) m * a ⟨j.val - 1024, by omega⟩

/-- What a row adds to the gradient of the normalisation's gain. -/
def dgainRow (dn x : Fin 1024 → ℝ) (j : Fin 1024) : ℝ := dn j * unit x j

/-- The gradient of the normalised row: the query row's through the query matrix, transposed. -/
def dnorm (wq : Fin 1024 → Fin 1024 → ℝ) (dq : Fin 1024 → ℝ) (j : Fin 1024) : ℝ := ∑ i, dq i * wq j i

/-- The gradient of the residual row: the incoming row plus the normalisation's backward. -/
def dres (g x y dn : Fin 1024 → ℝ) (j : Fin 1024) : ℝ :=
  y j + scale x * (dn j * g j - unit x j * ((∑ l, dn l * g l * unit x l) / 1024))

/-- Row `i` of the gradient of the queries. -/
def rowQ (k v : Fin 256 → Fin 1024 → ℝ) (wo wq : Fin 1024 → Fin 1024 → ℝ) (g x y : Fin 1024 → ℝ) : Fin 1024 → ℝ :=
  dqry k v (query g wq x) (dout wo y)

/-- Row `i` of the gradient of the residual stream. -/
def rowX (k v : Fin 256 → Fin 1024 → ℝ) (wo wq : Fin 1024 → Fin 1024 → ℝ) (g x y : Fin 1024 → ℝ) : Fin 1024 → ℝ :=
  dres g x y (dnorm wq (rowQ k v wo wq g x y))

/-! ## The two writings of the same numbers -/

theorem tiny_pos : 0 < tiny := by unfold tiny; norm_num

theorem meansq_pos (x : Fin 1024 → ℝ) : 0 < (∑ k, x k * x k) / 1024 + tiny :=
  add_pos_of_nonneg_of_pos (div_nonneg (Finset.sum_nonneg fun k _ => mul_self_nonneg _) (by norm_num)) tiny_pos

/-- The square of the scale is one over the mean square. -/
theorem scale_sq (x : Fin 1024 → ℝ) : scale x * scale x = 1 / ((∑ k, x k * x k) / 1024 + tiny) := by
  have h := meansq_pos x
  unfold scale
  rw [← mul_inv, Real.mul_self_sqrt h.le, one_div]

/-- The softmax's backward written with the exponentials `e` and their sum `z` is the one written with the weights. -/
theorem dscore_eq (e dp : Fin 256 → ℝ) (z : ℝ) (hz : z ≠ 0) (m : Fin 256) :
    (dp m / z + -(∑ n, dp n * (1 / (z * z)) * e n)) * e m / 16 = dscore (fun n => e n / z) dp m := by
  have h : ∑ n, dp n * (1 / (z * z)) * e n = (∑ n, dp n * (e n / z)) / z := by
    rw [Finset.sum_div]; refine Finset.sum_congr rfl fun n _ => ?_; field_simp
  rw [h]; unfold dscore; field_simp; ring

/-- The normalisation's backward as the chain rule writes it, against the projected form. -/
theorem dres_eq (x y u : Fin 1024 → ℝ) (j : Fin 1024) (r s : ℝ) (hr : r * r = 1 / s) :
    y j + ((u j * r + x j * ((∑ l, x l * u l) * (-(1 / 2) * (r / s)) / 1024))
        + x j * ((∑ l, x l * u l) * (-(1 / 2) * (r / s)) / 1024))
      = y j + r * (u j - x j * r * ((∑ l, u l * (x l * r)) / 1024)) := by
  have h : ∑ l, u l * (x l * r) = (∑ l, x l * u l) * r := by
    rw [Finset.sum_mul]; exact Finset.sum_congr rfl fun l _ => by ring
  have h3 : r / s = r * (r * r) := by rw [hr]; ring
  rw [h, h3]; ring

/-- Columns of head `h` among the keys' gradient. -/
theorem dkvRow_key (k v : Fin 256 → Fin 1024 → ℝ) (q a : Fin 1024 → ℝ) (m : Fin 256) (h : Fin 4) (d : Fin 256) (j : Fin 2048)
    (e : j.val = 256 * h.val + d.val) : dkvRow k v q a m j = dscr k v q a h m * q (col h d) := by
  have hj : j.val < 1024 := by omega
  have hc : (⟨j.val, hj⟩ : Fin 1024) = col h d := Fin.ext e
  rw [dkvRow, dif_pos hj, hc, headOf_col]

/-- Columns of head `h` among the values' gradient. -/
theorem dkvRow_value (k v : Fin 256 → Fin 1024 → ℝ) (q a : Fin 1024 → ℝ) (m : Fin 256) (h : Fin 4) (d : Fin 256) (j : Fin 2048)
    (e : j.val = 1024 + 256 * h.val + d.val) : dkvRow k v q a m j = prob k q h m * a (col h d) := by
  have hj : ¬ j.val < 1024 := by omega
  have hc : (⟨j.val - 1024, by omega⟩ : Fin 1024) = col h d := Fin.ext (by simp only [col]; omega)
  rw [dkvRow, dif_neg hj, hc, headOf_col]

/-! ## Real arrays among the extended reals -/

theorem coe_sum {n : ℕ} (f : Fin n → ℝ) : ((∑ i, f i : ℝ) : EReal) = ∑ i, ((f i : ℝ) : EReal) :=
  map_sum (⟨⟨Real.toEReal, rfl⟩, fun a b => EReal.coe_add a b⟩ : ℝ →+ EReal) f Finset.univ

/-- A real matrix as an array of the programs. -/
def R2 {a b : ℕ} (f : Fin a → Fin b → ℝ) : Shape.Idx ⟨2, ![a, b]⟩ → EReal := fun i => ((f (i 0) (i 1) : ℝ) : EReal)

/-- A real tensor of three axes as an array of the programs. -/
def R3 {a b c : ℕ} (f : Fin a → Fin b → Fin c → ℝ) : Shape.Idx ⟨3, ![a, b, c]⟩ → EReal :=
  fun i => ((f (i 0) (i 1) (i 2) : ℝ) : EReal)

/-- A real vector as an array of the programs. -/
def R1 {a : ℕ} (f : Fin a → ℝ) : Shape.Idx ⟨1, ![a]⟩ → EReal := fun i => ((f (i 0) : ℝ) : EReal)

/-- The greatest of a row of reals, folded from minus infinity. -/
theorem fold_top (s : Fin 256 → ℝ) :
    Finset.univ.fold max (⊥ : EReal) (fun k => ((s k : ℝ) : EReal)) = ((top s : ℝ) : EReal) := by
  have h : Finset.univ.fold max (⊥ : EReal) (fun k => ((s k : ℝ) : EReal))
      = Finset.univ.sup fun k => ((s k : ℝ) : EReal) := rfl
  rw [h, ← Finset.sup'_eq_sup ⟨0, Finset.mem_univ _⟩]
  refine (Finset.comp_sup'_eq_sup'_comp (H := ⟨0, Finset.mem_univ _⟩) (g := Real.toEReal) (f := s) ?_).symm
  intro a b
  exact (EReal.coe_strictMono.monotone.map_sup a b)

theorem div_real (a b : ℝ) (h : b ≠ 0) : Ideal.div (a : EReal) (b : EReal) = ((a / b : ℝ) : EReal) := by
  rw [Ideal.div_coe h, ← EReal.coe_mul]; congr 1; ring

theorem rsqrt_real (a : ℝ) (h : 0 < a) : Ideal.rsqrt (a : EReal) = (((√a)⁻¹ : ℝ) : EReal) := by
  rw [Ideal.rsqrt_coe, if_neg (not_lt.mpr h.le), if_neg h.ne']

theorem bits_sixteenth : Ideal.ofBits .f32 0x3D800000#32 = ((1 / 16 : ℝ) : EReal) := by
  simp [Ideal.ofBits, Ideal.ieee, -EReal.coe_mul]; norm_num

theorem bits_sixteen : Ideal.ofBits .f32 0x41800000#32 = ((16 : ℝ) : EReal) := by
  simp [Ideal.ofBits, Ideal.ieee, -EReal.coe_mul]; norm_num

theorem bits_thousand : Ideal.ofBits .f32 0x44800000#32 = ((1024 : ℝ) : EReal) := by
  simp [Ideal.ofBits, Ideal.ieee, -EReal.coe_mul]; norm_num

theorem bits_tiny : Ideal.ofBits .f32 0x358637BD#32 = ((tiny : ℝ) : EReal) := by
  simp [Ideal.ofBits, Ideal.ieee, tiny, -EReal.coe_mul]; norm_num

theorem bits_minus_half : Ideal.ofBits .f32 0xBF000000#32 = ((-(1 / 2) : ℝ) : EReal) := by
  simp [Ideal.ofBits, Ideal.ieee, -EReal.coe_mul]; norm_num

theorem bits_bottom : Ideal.ofBits .f32 0xFF800000#32 = (⊥ : EReal) := by
  simp [Ideal.ofBits, Ideal.ieee]

/-- The programs' reciprocal root mean square of a real row. -/
theorem scale_real (x : Fin 1024 → ℝ) :
    Ideal.rsqrt (Ideal.div (∑ k, (x k : EReal) * (x k : EReal)) (Ideal.ofBits .f32 0x44800000#32)
      + Ideal.ofBits .f32 0x358637BD#32) = (scale x : EReal) := by
  simp only [bits_thousand, bits_tiny, ← EReal.coe_mul, ← coe_sum]
  rw [div_real _ _ (by norm_num), ← EReal.coe_add, rsqrt_real _ (meansq_pos _)]
  rfl

end Cert.Attn

end
-- ==== Proof.Lift.lean ====
module

public import proofs.«01_k».proof.Proof.Gen.KernelIdeal.Skeleton
public import proofs.«01_k».proof.Proof.Real
public import Idealize.ShloMosaic.Lib.Pipeline.ValueKit

@[expose] public section

set_option maxRecDepth 16384

noncomputable section

/-! # The kernel's stages on real blocks

Each stage of the body, applied to blocks of real numbers, is a block of real numbers: the row function of
`Proof/Real.lean` it computes. -/

namespace Cert.Attn

open Idealize.ShloMosaic Idealize.ShloMosaic.TcCoe Cert.KernelIdeal Cert.KernelIdeal.Gen

/-! ## Parts of a block -/

/-- Head 0's columns of a block of 512 rows. -/
theorem ld_q0 (f : Fin 512 → Fin 1024 → ℝ) (hb) :
    View.ld (Val := Elt Ideal) (e' := .bf16) (R2 f) (Rect.unit (s := S512x1024) ![0, 0] ![512, 256] hb)
      = R2 fun i d => f i (col 0 d) := by
  funext j; idx_vars j; pointwise [R2]
  exact congrArg (fun c : Fin 1024 => ((f j0 c : ℝ) : EReal)) (Fin.ext (by simp only [col]; simp))

/-- Head 0's columns of a block of 256 rows. -/
theorem ld_k0 (f : Fin 256 → Fin 1024 → ℝ) (hb) :
    View.ld (Val := Elt Ideal) (e' := .bf16) (R2 f) (Rect.unit (s := S256x1024) ![0, 0] ![256, 256] hb)
      = R2 fun i d => f i (col 0 d) := by
  funext j; idx_vars j; pointwise [R2]
  exact congrArg (fun c : Fin 1024 => ((f j0 c : ℝ) : EReal)) (Fin.ext (by simp only [col]; simp))

/-- Head 1's columns of a block of 512 rows. -/
theorem ld_q1 (f : Fin 512 → Fin 1024 → ℝ) (hb) :
    View.ld (Val := Elt Ideal) (e' := .bf16) (R2 f) (Rect.unit (s := S512x1024) ![0, 256] ![512, 256] hb)
      = R2 fun i d => f i (col 1 d) := by
  funext j; idx_vars j; pointwise [R2]
  rfl

/-- Head 1's columns of a block of 256 rows. -/
theorem ld_k1 (f : Fin 256 → Fin 1024 → ℝ) (hb) :
    View.ld (Val := Elt Ideal) (e' := .bf16) (R2 f) (Rect.unit (s := S256x1024) ![0, 256] ![256, 256] hb)
      = R2 fun i d => f i (col 1 d) := by
  funext j; idx_vars j; pointwise [R2]
  rfl

/-- Head 2's columns of a block of 512 rows. -/
theorem ld_q2 (f : Fin 512 → Fin 1024 → ℝ) (hb) :
    View.ld (Val := Elt Ideal) (e' := .bf16) (R2 f) (Rect.unit (s := S512x1024) ![0, 512] ![512, 256] hb)
      = R2 fun i d => f i (col 2 d) := by
  funext j; idx_vars j; pointwise [R2]
  rfl

/-- Head 2's columns of a block of 256 rows. -/
theorem ld_k2 (f : Fin 256 → Fin 1024 → ℝ) (hb) :
    View.ld (Val := Elt Ideal) (e' := .bf16) (R2 f) (Rect.unit (s := S256x1024) ![0, 512] ![256, 256] hb)
      = R2 fun i d => f i (col 2 d) := by
  funext j; idx_vars j; pointwise [R2]
  rfl

/-- Head 3's columns of a block of 512 rows. -/
theorem ld_q3 (f : Fin 512 → Fin 1024 → ℝ) (hb) :
    View.ld (Val := Elt Ideal) (e' := .bf16) (R2 f) (Rect.unit (s := S512x1024) ![0, 768] ![512, 256] hb)
      = R2 fun i d => f i (col 3 d) := by
  funext j; idx_vars j; pointwise [R2]
  rfl

/-- Head 3's columns of a block of 256 rows. -/
theorem ld_k3 (f : Fin 256 → Fin 1024 → ℝ) (hb) :
    View.ld (Val := Elt Ideal) (e' := .bf16) (R2 f) (Rect.unit (s := S256x1024) ![0, 768] ![256, 256] hb)
      = R2 fun i d => f i (col 3 d) := by
  funext j; idx_vars j; pointwise [R2]
  rfl

/-! ## One head -/

/-- A head's attention weights. -/
theorem pay8_real (q : Fin 512 → Fin 256 → ℝ) (k : Fin 256 → Fin 256 → ℝ) :
    k0_pay8 (F := Ideal) (R2 q) (R2 k) = R2 fun i => weight fun m => (∑ d, q i d * k m d) * (1 / 16) := by
  funext j; idx_vars j; pointwise [k0_pay8, R2]
  simp only [bits_sixteenth, bits_bottom, ← EReal.coe_mul, ← coe_sum, fold_top, ← EReal.coe_sub, Ideal.exp_coe]
  exact div_real _ _ (total_pos _).ne'

/-- The second head's weights, stored in two stages. -/
theorem pay11_eq (q : FVec Ideal S512x256 .bf16) (k : FVec Ideal S256x256 .bf16) :
    k0_pay11 (F := Ideal) (k0_pay9 q k) (k0_pay10 q k) = k0_pay8 q k := rfl

theorem pay12_eq (q : FVec Ideal S512x256 .bf16) (k : FVec Ideal S256x256 .bf16) :
    k0_pay12 (F := Ideal) q k = k0_pay8 q k := rfl

theorem pay13_eq (q : FVec Ideal S512x256 .bf16) (k : FVec Ideal S256x256 .bf16) :
    k0_pay13 (F := Ideal) q k = k0_pay8 q k := rfl

/-- The gradient of the heads' outputs. -/
theorem pay7_real (a : Fin 512 → Fin 1024 → ℝ) (w : Fin 1024 → Fin 1024 → ℝ) :
    k0_pay7 (F := Ideal) (R2 a) (R2 w) = R2 fun i => dout w (a i) := by
  funext j; idx_vars j; pointwise [k0_pay7, R2]
  simp only [dout, coe_sum, EReal.coe_mul]

/-- The gradient of the weights: a head's columns of the outputs' gradient against its values. -/
theorem pay14_real (a : Fin 512 → Fin 1024 → ℝ) (v : Fin 256 → Fin 256 → ℝ) :
    k0_pay14 (F := Ideal) (R2 a) (R2 v) = R2 fun i m => ∑ d, a i (col 0 d) * v m d := by
  funext j; idx_vars j; pointwise [k0_pay14, R2]
  simp only [← EReal.coe_mul, ← coe_sum]
  refine congrArg _ (Finset.sum_congr rfl fun d _ => congrArg (fun c => a j0 c * v j1 d) (Fin.ext ?_))
  simp only [col]; simp

/-- The gradient of the scores. -/
theorem pay16_real (p dp : Fin 512 → Fin 256 → ℝ) :
    k0_pay16 (F := Ideal) (R2 p) (R2 dp) = R2 fun i => dscore (p i) (dp i) := by
  funext j; idx_vars j; pointwise [k0_pay16, R2]
  simp only [bits_sixteenth, ← EReal.coe_mul, ← coe_sum, ← EReal.coe_sub, dscore]

theorem pay17_real (p : Fin 512 → Fin 256 → ℝ) (a : Fin 512 → Fin 1024 → ℝ) (v : Fin 256 → Fin 256 → ℝ) :
    k0_pay17 (F := Ideal) (R2 p) (k0_pay15 (F := Ideal) (R2 a)) (R2 v) (constant S512x256 .f32 0x00000000#32)
      = R2 fun i => dscore (p i) fun m => ∑ d, a i (col 1 d) * v m d := by
  funext j; idx_vars j; pointwise [k0_pay17, k0_pay15, R2]
  simp only [bits_sixteenth, ← EReal.coe_mul, ← coe_sum, ← EReal.coe_sub, dscore]
  rfl

theorem pay18_real (p : Fin 512 → Fin 256 → ℝ) (a : Fin 512 → Fin 1024 → ℝ) (v : Fin 256 → Fin 256 → ℝ) :
    k0_pay18 (F := Ideal) (R2 a) (R2 p) (R2 v) = R2 fun i => dscore (p i) fun m => ∑ d, a i (col 2 d) * v m d := by
  funext j; idx_vars j; pointwise [k0_pay18, R2]
  simp only [bits_sixteenth, ← EReal.coe_mul, ← coe_sum, ← EReal.coe_sub, dscore]
  rfl

theorem pay19_real (p : Fin 512 → Fin 256 → ℝ) (a : Fin 512 → Fin 1024 → ℝ) (v : Fin 256 → Fin 256 → ℝ) :
    k0_pay19 (F := Ideal) (R2 a) (R2 p) (R2 v) = R2 fun i => dscore (p i) fun m => ∑ d, a i (col 3 d) * v m d := by
  funext j; idx_vars j; pointwise [k0_pay19, R2]
  simp only [bits_sixteenth, ← EReal.coe_mul, ← coe_sum, ← EReal.coe_sub, dscore]
  rfl

/-- The gradient of the queries of one head. -/
theorem pay20_real (s : Fin 512 → Fin 256 → ℝ) (k : Fin 256 → Fin 256 → ℝ) :
    k0_pay20 (F := Ideal) (R2 s) (R2 k) = R2 fun i d => ∑ m, s i m * k m d := by
  funext j; idx_vars j; pointwise [k0_pay20, R2]
  simp only [coe_sum, EReal.coe_mul]

theorem pay23_eq : @k0_pay23 Ideal _ = k0_pay20 := rfl
theorem pay26_eq : @k0_pay26 Ideal _ = k0_pay20 := rfl
theorem pay29_eq : @k0_pay29 Ideal _ = k0_pay20 := rfl

/-- The gradient of the keys of one head: what was there plus this block's rows. -/
theorem pay21_real (s q : Fin 512 → Fin 256 → ℝ) (o : Fin 256 → Fin 256 → ℝ) :
    k0_pay21 (F := Ideal) (R2 s) (R2 o) (R2 q) = R2 fun m d => o m d + ∑ i, s i m * q i d := by
  funext j; idx_vars j; pointwise [k0_pay21, R2]
  simp only [coe_sum, EReal.coe_mul, EReal.coe_add]

theorem pay24_eq : @k0_pay24 Ideal _ = k0_pay21 := rfl
theorem pay27_eq : @k0_pay27 Ideal _ = k0_pay21 := rfl
theorem pay30_eq : @k0_pay30 Ideal _ = k0_pay21 := rfl

/-- The gradient of the values of head 0: what was there plus this block's rows. -/
theorem pay22_real (a : Fin 512 → Fin 1024 → ℝ) (p : Fin 512 → Fin 256 → ℝ) (o : Fin 256 → Fin 256 → ℝ) :
    k0_pay22 (F := Ideal) (R2 a) (R2 p) (R2 o) = R2 fun m d => o m d + ∑ i, p i m * a i (col 0 d) := by
  funext j; idx_vars j; pointwise [k0_pay22, R2]
  simp only [← coe_sum, ← EReal.coe_mul, ← EReal.coe_add]
  refine congrArg _ (congrArg (o j0 j1 + ·) (Finset.sum_congr rfl fun i _ => congrArg (fun c => p i j0 * a i c) (Fin.ext ?_)))
  simp only [col]; simp

/-- The gradient of the values of head 1: what was there plus this block's rows. -/
theorem pay25_real (a : Fin 512 → Fin 1024 → ℝ) (p : Fin 512 → Fin 256 → ℝ) (o : Fin 256 → Fin 256 → ℝ) :
    k0_pay25 (F := Ideal) (R2 a) (R2 p) (R2 o) = R2 fun m d => o m d + ∑ i, p i m * a i (col 1 d) := by
  funext j; idx_vars j; pointwise [k0_pay25, R2]
  simp only [← coe_sum, ← EReal.coe_mul, ← EReal.coe_add]
  rfl

/-- The gradient of the values of head 2: what was there plus this block's rows. -/
theorem pay28_real (a : Fin 512 → Fin 1024 → ℝ) (p : Fin 512 → Fin 256 → ℝ) (o : Fin 256 → Fin 256 → ℝ) :
    k0_pay28 (F := Ideal) (R2 a) (R2 p) (R2 o) = R2 fun m d => o m d + ∑ i, p i m * a i (col 2 d) := by
  funext j; idx_vars j; pointwise [k0_pay28, R2]
  simp only [← coe_sum, ← EReal.coe_mul, ← EReal.coe_add]
  rfl

/-- The gradient of the values of head 3: what was there plus this block's rows. -/
theorem pay31_real (a : Fin 512 → Fin 1024 → ℝ) (p : Fin 512 → Fin 256 → ℝ) (o : Fin 256 → Fin 256 → ℝ) :
    k0_pay31 (F := Ideal) (R2 a) (R2 p) (R2 o) = R2 fun m d => o m d + ∑ i, p i m * a i (col 3 d) := by
  funext j; idx_vars j; pointwise [k0_pay31, R2]
  simp only [← coe_sum, ← EReal.coe_mul, ← EReal.coe_add]
  rfl

/-! ## The normalisation -/

/-- The gradient of the normalised rows. -/
theorem pay32_real (q : Fin 512 → Fin 1024 → ℝ) (w : Fin 1024 → Fin 1024 → ℝ) :
    k0_pay32 (F := Ideal) (R2 q) (R2 w) = R2 fun i => dnorm w (q i) := by
  funext j; idx_vars j; pointwise [k0_pay32, R2]
  simp only [dnorm, coe_sum, EReal.coe_mul]

/-- The scales of the rows. -/
theorem pay33_real (x : Fin 512 → Fin 1024 → ℝ) :
    k0_pay33 (F := Ideal) (R2 x) = R2 fun i (_ : Fin 1) => scale (x i) := by
  funext j; idx_vars j; pointwise [k0_pay33, R2]
  simp only [bits_thousand, bits_tiny, ← EReal.coe_mul, ← coe_sum]
  rw [div_real _ _ (by norm_num), ← EReal.coe_add, rsqrt_real _ (meansq_pos _)]
  rfl

theorem pay34_real (x : Fin 512 → Fin 1024 → ℝ) : k0_pay34 (F := Ideal) (R2 x) = R2 fun i => unit (x i) := by
  funext j; idx_vars j; unfold k0_pay34; rw [pay33_real]; pointwise [R2]
  simp only [unit, EReal.coe_mul]

theorem pay35_real (q : Fin 512 → Fin 1024 → ℝ) (w : Fin 1024 → Fin 1024 → ℝ) (g : Fin 1 → Fin 1024 → ℝ) :
    k0_pay35 (F := Ideal) (R2 q) (R2 w) (R2 g) = R2 fun i j => dnorm w (q i) j * g 0 j := by
  funext j; idx_vars j; unfold k0_pay35; rw [pay32_real]; pointwise [R2]
  simp only [EReal.coe_mul]

theorem pay36_real (q x : Fin 512 → Fin 1024 → ℝ) (w : Fin 1024 → Fin 1024 → ℝ) (g : Fin 1 → Fin 1024 → ℝ) :
    k0_pay36 (F := Ideal) (R2 q) (R2 w) (R2 x) (R2 g) = R2 fun i j => dnorm w (q i) j * g 0 j * unit (x i) j := by
  funext j; idx_vars j; unfold k0_pay36; rw [pay35_real, pay34_real]; pointwise [R2]
  simp only [EReal.coe_mul]

/-- The gradient of the residual rows. -/
theorem pay1_real (x y : Fin 512 → Fin 1024 → ℝ) (dn : Fin 512 → Fin 1024 → ℝ) (g : Fin 1024 → ℝ) :
    k0_pay1 (F := Ideal) (R2 fun i (_ : Fin 1) => scale (x i)) (R2 fun i => unit (x i)) (R2 fun i j => dn i j * g j)
      (R2 fun i j => dn i j * g j * unit (x i) j) (R2 y) = R2 fun i => dres g (x i) (y i) (dn i) := by
  funext j; idx_vars j; pointwise [k0_pay1, R2]
  simp only [bits_thousand, ← EReal.coe_mul, ← coe_sum]
  rw [div_real _ _ (by norm_num)]
  simp only [← EReal.coe_mul, ← EReal.coe_add, ← EReal.coe_sub]
  rfl

theorem pay2_eq (a : FVec Ideal S512x1 .f32) (b c d e : FVec Ideal S512x1024 .f32) :
    k0_pay2 (F := Ideal) a b c d e = k0_pay1 a b c d e := rfl

/-- The residual rows' gradient through the matrix `w`, transposed. -/
theorem pay3_real (a : FVec Ideal S512x1 .f32) (b c d e : FVec Ideal S512x1024 .f32) (f : Fin 512 → Fin 1024 → ℝ)
    (w : Fin 1024 → Fin 1024 → ℝ) (h : k0_pay1 (F := Ideal) a b c d e = R2 f) :
    k0_pay3 (F := Ideal) a b c d e (R2 w) = R2 fun i => dnorm w (f i) := by
  funext j; idx_vars j; unfold k0_pay3; rw [pay2_eq, h]; pointwise [R2]
  simp only [dnorm, coe_sum, EReal.coe_mul]

/-- The gain's gradient: what was there plus this block's rows, in each of eight rows. -/
theorem pay4_real (dn u : Fin 512 → Fin 1024 → ℝ) (o : Fin 8 → Fin 1024 → ℝ) :
    k0_pay4 (F := Ideal) (R2 dn) (R2 u) (R2 o) = R2 fun r j => o r j + ∑ i, dn i j * u i j := by
  funext j; idx_vars j; pointwise [k0_pay4, R2]
  simp only [coe_sum, EReal.coe_mul, EReal.coe_add]

end Cert.Attn

end
-- ==== Proof.Point.lean ====
module

public import proofs.«01_k».proof.Proof.Gen.KernelIdeal.Value
public import proofs.«01_k».proof.Proof.Lift
public import Idealize.ShloMosaic.Lib.Pipeline.ReadBack

@[expose] public section

set_option maxRecDepth 16384

noncomputable section

/-! # What one grid point leaves in each output's buffer, on real blocks -/

namespace Cert.Attn

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The ten input blocks of a grid point are these real blocks. -/
structure Blocks (c : Dev nD) (t : Fin cfg0.N) (x y q : Fin 512 → Fin 1024 → ℝ) (k v : Fin 256 → Fin 1024 → ℝ)
    (wo wq wu : Fin 1024 → Fin 1024 → ℝ) (g : Fin 1 → Fin 1024 → ℝ) : Prop where
  hx : iblk m c 0 t = R2 x
  hy : iblk m c 1 t = R2 y
  hyb : iblk m c 2 t = R2 y
  hq : iblk m c 3 t = R2 q
  hk : iblk m c 4 t = R2 k
  hv : iblk m c 5 t = R2 v
  hwo : iblk m c 6 t = R2 wo
  hwq : iblk m c 7 t = R2 wq
  hwu : iblk m c 8 t = R2 wu
  hg : iblk m c 9 t = R2 g

variable {m} {c : Dev nD} {t : Fin cfg0.N} {x y q : Fin 512 → Fin 1024 → ℝ} {k v : Fin 256 → Fin 1024 → ℝ}
  {wo wq wu : Fin 1024 → Fin 1024 → ℝ} {g : Fin 1 → Fin 1024 → ℝ}

/-- A piece of a real block: its elements are those of the whole at the piece's offset. -/
theorem R2_piece {a b a' b' o0 o1 : ℕ} (f : Fin a → Fin b → ℝ) (g : Fin a' → Fin b' → ℝ) (hb)
    (h : ∀ i d (i' : Fin a) (d' : Fin b), i'.val = o0 + i.val → d'.val = o1 + d.val → g i d = f i' d')
    (x : Shape.Idx ⟨2, ![a', b']⟩) :
    R2 g x = R2 f ((Rect.unit (s := ⟨2, ![a, b]⟩) ![o0, o1] ![a', b'] hb).emb x) :=
  congrArg _ (h _ _ _ _ (by simp [Rect.emb_apply]) (by simp [Rect.emb_apply]))

/-- Four heads' columns stored side by side are the whole block. -/
theorem canon_heads (f : Fin 512 → Fin 1024 → ℝ) (g0 g1 g2 g3 : Fin 512 → Fin 256 → ℝ) (hb0 hb1 hb2 hb3)
    (h0 : ∀ i d, g0 i d = f i (col 0 d)) (h1 : ∀ i d, g1 i d = f i (col 1 d)) (h2 : ∀ i d, g2 i d = f i (col 2 d))
    (h3 : ∀ i d, g3 i d = f i (col 3 d)) :
    View.canon (Val := Elt Ideal) (s := S512x1024) (e := .bf16)
      [⟨Rect.unit ![0, 768] ![512, 256] hb3, R2 g3⟩, ⟨Rect.unit ![0, 512] ![512, 256] hb2, R2 g2⟩,
        ⟨Rect.unit ![0, 256] ![512, 256] hb1, R2 g1⟩, ⟨Rect.unit ![0, 0] ![512, 256] hb0, R2 g0⟩] = R2 f := by
  funext j
  refine View.canon_apply_of_pieces (Val := Elt Ideal) (S := S512x1024) (e := .bf16) (R2 f) _ ?_ j ?_
  · intro p hp x
    simp only [List.mem_cons, List.not_mem_nil, or_false] at hp
    rcases hp with rfl | rfl | rfl | rfl
    · exact R2_piece f g3 hb3 (fun i d i' d' e e' => (h3 i d).trans (congrArg₂ f (Fin.ext (by omega)) (Fin.ext (by simp [col]; omega)))) x
    · exact R2_piece f g2 hb2 (fun i d i' d' e e' => (h2 i d).trans (congrArg₂ f (Fin.ext (by omega)) (Fin.ext (by simp [col]; omega)))) x
    · exact R2_piece f g1 hb1 (fun i d i' d' e e' => (h1 i d).trans (congrArg₂ f (Fin.ext (by omega)) (Fin.ext (by simp [col]; omega)))) x
    · exact R2_piece f g0 hb0 (fun i d i' d' e e' => (h0 i d).trans (congrArg₂ f (Fin.ext (by omega)) (Fin.ext (by simp [col]; omega)))) x
  · exact View.cover_of_tiledL _ ![512, 256] (by rfl) j

/-- The queries' gradient. -/
theorem after13 (b : Blocks m c t x y q k v wo wq wu g) :
    (dats m 0 c).after 13 t = R2 fun i => dqry k v (q i) (dout wo (y i)) := by
  by_cases h : t.val % 16 = 0
  · rw [after0_13, outsAt0_A m c t h]; frame_out
    simp only [b.hx, b.hy, b.hyb, b.hq, b.hk, b.hv, b.hwo, pay7_real, pay11_eq, pay12_eq, pay13_eq, ld_q0, ld_q1, ld_q2, ld_q3, ld_k0, ld_k1, ld_k2, ld_k3, pay8_real,
      pay14_real, pay16_real, pay17_real, pay18_real, pay19_real, pay20_real, pay23_eq, pay26_eq, pay29_eq]
    exact canon_heads _ _ _ _ _ _ _ _ _ (fun i d => by simp only [dqry, headOf_col]; rfl) (fun i d => by simp only [dqry, headOf_col]; rfl)
      (fun i d => by simp only [dqry, headOf_col]; rfl) (fun i d => by simp only [dqry, headOf_col]; rfl)
  · rw [after0_13, outsAt0_B m c t h]; frame_out
    simp only [b.hx, b.hy, b.hyb, b.hq, b.hk, b.hv, b.hwo, pay7_real, pay11_eq, pay12_eq, pay13_eq, ld_q0, ld_q1, ld_q2, ld_q3, ld_k0, ld_k1, ld_k2, ld_k3, pay8_real,
      pay14_real, pay16_real, pay17_real, pay18_real, pay19_real, pay20_real, pay23_eq, pay26_eq, pay29_eq]
    exact canon_heads _ _ _ _ _ _ _ _ _ (fun i d => by simp only [dqry, headOf_col]; rfl) (fun i d => by simp only [dqry, headOf_col]; rfl)
      (fun i d => by simp only [dqry, headOf_col]; rfl) (fun i d => by simp only [dqry, headOf_col]; rfl)

/-- Columns 0 to 255 of the keys' and values' gradient. -/
theorem ld_a0 (f : Fin 256 → Fin 2048 → ℝ) (hb) :
    View.ld (Val := Elt Ideal) (e' := .f32) (R2 f) (Rect.unit (s := S256x2048) ![0, 0] ![256, 256] hb)
      = R2 fun i d => f i ⟨0 + d.val, by omega⟩ := by
  funext j; idx_vars j; pointwise [R2]

/-- Columns 256 to 511 of the keys' and values' gradient. -/
theorem ld_a1 (f : Fin 256 → Fin 2048 → ℝ) (hb) :
    View.ld (Val := Elt Ideal) (e' := .f32) (R2 f) (Rect.unit (s := S256x2048) ![0, 256] ![256, 256] hb)
      = R2 fun i d => f i ⟨256 + d.val, by omega⟩ := by
  funext j; idx_vars j; pointwise [R2]

/-- Columns 512 to 767 of the keys' and values' gradient. -/
theorem ld_a2 (f : Fin 256 → Fin 2048 → ℝ) (hb) :
    View.ld (Val := Elt Ideal) (e' := .f32) (R2 f) (Rect.unit (s := S256x2048) ![0, 512] ![256, 256] hb)
      = R2 fun i d => f i ⟨512 + d.val, by omega⟩ := by
  funext j; idx_vars j; pointwise [R2]

/-- Columns 768 to 1023 of the keys' and values' gradient. -/
theorem ld_a3 (f : Fin 256 → Fin 2048 → ℝ) (hb) :
    View.ld (Val := Elt Ideal) (e' := .f32) (R2 f) (Rect.unit (s := S256x2048) ![0, 768] ![256, 256] hb)
      = R2 fun i d => f i ⟨768 + d.val, by omega⟩ := by
  funext j; idx_vars j; pointwise [R2]

/-- Columns 1024 to 1279 of the keys' and values' gradient. -/
theorem ld_a4 (f : Fin 256 → Fin 2048 → ℝ) (hb) :
    View.ld (Val := Elt Ideal) (e' := .f32) (R2 f) (Rect.unit (s := S256x2048) ![0, 1024] ![256, 256] hb)
      = R2 fun i d => f i ⟨1024 + d.val, by omega⟩ := by
  funext j; idx_vars j; pointwise [R2]

/-- Columns 1280 to 1535 of the keys' and values' gradient. -/
theorem ld_a5 (f : Fin 256 → Fin 2048 → ℝ) (hb) :
    View.ld (Val := Elt Ideal) (e' := .f32) (R2 f) (Rect.unit (s := S256x2048) ![0, 1280] ![256, 256] hb)
      = R2 fun i d => f i ⟨1280 + d.val, by omega⟩ := by
  funext j; idx_vars j; pointwise [R2]

/-- Columns 1536 to 1791 of the keys' and values' gradient. -/
theorem ld_a6 (f : Fin 256 → Fin 2048 → ℝ) (hb) :
    View.ld (Val := Elt Ideal) (e' := .f32) (R2 f) (Rect.unit (s := S256x2048) ![0, 1536] ![256, 256] hb)
      = R2 fun i d => f i ⟨1536 + d.val, by omega⟩ := by
  funext j; idx_vars j; pointwise [R2]

/-- Columns 1792 to 2047 of the keys' and values' gradient. -/
theorem ld_a7 (f : Fin 256 → Fin 2048 → ℝ) (hb) :
    View.ld (Val := Elt Ideal) (e' := .f32) (R2 f) (Rect.unit (s := S256x2048) ![0, 1792] ![256, 256] hb)
      = R2 fun i d => f i ⟨1792 + d.val, by omega⟩ := by
  funext j; idx_vars j; pointwise [R2]

/-- The whole block read back once the four heads' columns are stored. -/
theorem readCov_heads {sig κ sp} (w : View sig κ sp S512x1024 .bf16) (f : Fin 512 → Fin 1024 → ℝ)
    (g0 g1 g2 g3 : Fin 512 → Fin 256 → ℝ) (hb0 hb1 hb2 hb3 hw)
    (h0 : ∀ i d, g0 i d = f i (col 0 d)) (h1 : ∀ i d, g1 i d = f i (col 1 d)) (h2 : ∀ i d, g2 i d = f i (col 2 d))
    (h3 : ∀ i d, g3 i d = f i (col 3 d)) :
    w.readCov (Val := Elt Ideal)
      [⟨Rect.unit ![0, 768] ![512, 256] hb3, R2 g3⟩, ⟨Rect.unit ![0, 512] ![512, 256] hb2, R2 g2⟩,
        ⟨Rect.unit ![0, 256] ![512, 256] hb1, R2 g1⟩, ⟨Rect.unit ![0, 0] ![512, 256] hb0, R2 g0⟩]
      (Rect.unit (s := S512x1024) ![0, 0] ![512, 1024] hw).toLoadRect = R2 f := by
  rw [View.readCov_eq_canon', canon_heads f g0 g1 g2 g3 hb0 hb1 hb2 hb3 h0 h1 h2 h3]
  funext j
  exact congrArg₂ (fun a b => ((f a b : ℝ) : EReal)) (Fin.ext (by simp [LoadRect.idx])) (Fin.ext (by simp [LoadRect.idx]))

/-- The gradients of four heads' keys and values, stored side by side over whatever was there, are the whole block. -/
theorem canon_dkv (f : Fin 256 → Fin 2048 → ℝ) (g0 g1 g2 g3 g4 g5 g6 g7 : Fin 256 → Fin 256 → ℝ) (hb0 hb1 hb2 hb3 hb4 hb5 hb6 hb7)
    (L : List (View.Piece (Elt Ideal) S256x2048 .f32))
    (h0 : ∀ i d, g0 i d = f i ⟨0 + d.val, by omega⟩)
    (h1 : ∀ i d, g1 i d = f i ⟨256 + d.val, by omega⟩)
    (h2 : ∀ i d, g2 i d = f i ⟨512 + d.val, by omega⟩)
    (h3 : ∀ i d, g3 i d = f i ⟨768 + d.val, by omega⟩)
    (h4 : ∀ i d, g4 i d = f i ⟨1024 + d.val, by omega⟩)
    (h5 : ∀ i d, g5 i d = f i ⟨1280 + d.val, by omega⟩)
    (h6 : ∀ i d, g6 i d = f i ⟨1536 + d.val, by omega⟩)
    (h7 : ∀ i d, g7 i d = f i ⟨1792 + d.val, by omega⟩) :
    View.canon (Val := Elt Ideal) (s := S256x2048) (e := .f32)
      (⟨Rect.unit ![0, 1792] ![256, 256] hb7, R2 g7⟩ ::
        ⟨Rect.unit ![0, 768] ![256, 256] hb3, R2 g3⟩ ::
        ⟨Rect.unit ![0, 1536] ![256, 256] hb6, R2 g6⟩ ::
        ⟨Rect.unit ![0, 512] ![256, 256] hb2, R2 g2⟩ ::
        ⟨Rect.unit ![0, 1280] ![256, 256] hb5, R2 g5⟩ ::
        ⟨Rect.unit ![0, 256] ![256, 256] hb1, R2 g1⟩ ::
        ⟨Rect.unit ![0, 1024] ![256, 256] hb4, R2 g4⟩ ::
        ⟨Rect.unit ![0, 0] ![256, 256] hb0, R2 g0⟩ :: L) = R2 f := by
  funext j
  exact View.canon_append_of_piecesOf (Val := Elt Ideal) (s := S256x2048) (e := .f32) (R2 f) L
    [⟨Rect.unit ![0, 1792] ![256, 256] hb7, R2 g7⟩,
        ⟨Rect.unit ![0, 768] ![256, 256] hb3, R2 g3⟩,
        ⟨Rect.unit ![0, 1536] ![256, 256] hb6, R2 g6⟩,
        ⟨Rect.unit ![0, 512] ![256, 256] hb2, R2 g2⟩,
        ⟨Rect.unit ![0, 1280] ![256, 256] hb5, R2 g5⟩,
        ⟨Rect.unit ![0, 256] ![256, 256] hb1, R2 g1⟩,
        ⟨Rect.unit ![0, 1024] ![256, 256] hb4, R2 g4⟩,
        ⟨Rect.unit ![0, 0] ![256, 256] hb0, R2 g0⟩]
    ⟨R2_piece f g7 hb7 fun i d i' d' e e' => (h7 i d).trans (congrArg₂ f (Fin.ext (by omega)) (Fin.ext (by simp; omega))),
    R2_piece f g3 hb3 fun i d i' d' e e' => (h3 i d).trans (congrArg₂ f (Fin.ext (by omega)) (Fin.ext (by simp; omega))),
    R2_piece f g6 hb6 fun i d i' d' e e' => (h6 i d).trans (congrArg₂ f (Fin.ext (by omega)) (Fin.ext (by simp; omega))),
    R2_piece f g2 hb2 fun i d i' d' e e' => (h2 i d).trans (congrArg₂ f (Fin.ext (by omega)) (Fin.ext (by simp; omega))),
    R2_piece f g5 hb5 fun i d i' d' e e' => (h5 i d).trans (congrArg₂ f (Fin.ext (by omega)) (Fin.ext (by simp; omega))),
    R2_piece f g1 hb1 fun i d i' d' e e' => (h1 i d).trans (congrArg₂ f (Fin.ext (by omega)) (Fin.ext (by simp; omega))),
    R2_piece f g4 hb4 fun i d i' d' e e' => (h4 i d).trans (congrArg₂ f (Fin.ext (by omega)) (Fin.ext (by simp; omega))),
    R2_piece f g0 hb0 fun i d i' d' e e' => (h0 i d).trans (congrArg₂ f (Fin.ext (by omega)) (Fin.ext (by simp; omega))), trivial⟩
    j (View.cover_of_tiledL _ ![256, 256] (by rfl) j)

/-- The accumulators' fills. -/
theorem zeros5 : k0_pay5 (F := Ideal) = R2 fun _ _ => 0 := by
  funext j; idx_vars j; pointwise [k0_pay5, R2]
  exact EReal.coe_zero.symm

theorem zeros6 : k0_pay6 (F := Ideal) = R2 fun _ _ => 0 := by
  funext j; idx_vars j; pointwise [k0_pay6, R2]
  exact EReal.coe_zero.symm

section point

variable {m : (ℓ : Loc nD τ sig) → Buf (Elt Ideal) ℓ} {c : Dev nD} {t : Fin cfg0.N} {x y q : Fin 512 → Fin 1024 → ℝ}
  {k v : Fin 256 → Fin 1024 → ℝ} {wo wq wu : Fin 1024 → Fin 1024 → ℝ} {g : Fin 1 → Fin 1024 → ℝ}

/-- The gradient of the residual rows. -/
theorem after10 (b : Blocks m c t x y q k v wo wq wu g) :
    (dats m 0 c).after 10 t = R2 fun i => dres (g 0) (x i) (y i) (dnorm wq (dqry k v (q i) (dout wo (y i)))) := by
  by_cases h : t.val % 16 = 0
  · rw [after0_10, outsAt0_A m c t h]; frame_out
    simp only [b.hx, b.hy, b.hyb, b.hq, b.hk, b.hv, b.hwo, b.hwq, b.hwu, b.hg, pay7_real, pay11_eq, pay12_eq, pay13_eq, ld_q0, ld_q1,
      ld_q2, ld_q3, ld_k0, ld_k1, ld_k2, ld_k3, pay8_real, pay14_real, pay16_real, pay17_real, pay18_real, pay19_real, pay20_real, pay23_eq,
      pay26_eq, pay29_eq]
    rw [readCov_heads _ fun i => dqry k v (q i) (dout wo (y i))]
    simp only [pay33_real, pay34_real, pay35_real, pay36_real]
    exact pay1_real _ _ _ _
    all_goals exact fun i d => by simp only [dqry, headOf_col]; rfl
  · rw [after0_10, outsAt0_B m c t h]; frame_out
    simp only [b.hx, b.hy, b.hyb, b.hq, b.hk, b.hv, b.hwo, b.hwq, b.hwu, b.hg, pay7_real, pay11_eq, pay12_eq, pay13_eq, ld_q0, ld_q1,
      ld_q2, ld_q3, ld_k0, ld_k1, ld_k2, ld_k3, pay8_real, pay14_real, pay16_real, pay17_real, pay18_real, pay19_real, pay20_real, pay23_eq,
      pay26_eq, pay29_eq]
    rw [readCov_heads _ fun i => dqry k v (q i) (dout wo (y i))]
    simp only [pay33_real, pay34_real, pay35_real, pay36_real]
    exact pay1_real _ _ _ _
    all_goals exact fun i d => by simp only [dqry, headOf_col]; rfl

/-- The same, stored in the narrow format. -/
theorem after11 (b : Blocks m c t x y q k v wo wq wu g) :
    (dats m 0 c).after 11 t = R2 fun i => dres (g 0) (x i) (y i) (dnorm wq (dqry k v (q i) (dout wo (y i)))) := by
  by_cases h : t.val % 16 = 0
  · rw [after0_11, outsAt0_A m c t h]; frame_out
    simp only [b.hx, b.hy, b.hyb, b.hq, b.hk, b.hv, b.hwo, b.hwq, b.hwu, b.hg, pay7_real, pay11_eq, pay12_eq, pay13_eq, ld_q0, ld_q1,
      ld_q2, ld_q3, ld_k0, ld_k1, ld_k2, ld_k3, pay8_real, pay14_real, pay16_real, pay17_real, pay18_real, pay19_real, pay20_real, pay23_eq,
      pay26_eq, pay29_eq]
    rw [readCov_heads _ fun i => dqry k v (q i) (dout wo (y i))]
    simp only [pay2_eq, pay33_real, pay34_real, pay35_real, pay36_real]
    exact pay1_real _ _ _ _
    all_goals exact fun i d => by simp only [dqry, headOf_col]; rfl
  · rw [after0_11, outsAt0_B m c t h]; frame_out
    simp only [b.hx, b.hy, b.hyb, b.hq, b.hk, b.hv, b.hwo, b.hwq, b.hwu, b.hg, pay7_real, pay11_eq, pay12_eq, pay13_eq, ld_q0, ld_q1,
      ld_q2, ld_q3, ld_k0, ld_k1, ld_k2, ld_k3, pay8_real, pay14_real, pay16_real, pay17_real, pay18_real, pay19_real, pay20_real, pay23_eq,
      pay26_eq, pay29_eq]
    rw [readCov_heads _ fun i => dqry k v (q i) (dout wo (y i))]
    simp only [pay2_eq, pay33_real, pay34_real, pay35_real, pay36_real]
    exact pay1_real _ _ _ _
    all_goals exact fun i d => by simp only [dqry, headOf_col]; rfl

/-- That gradient through the next matrix, transposed. -/
theorem after12 (b : Blocks m c t x y q k v wo wq wu g) :
    (dats m 0 c).after 12 t
      = R2 fun i => dnorm wu (dres (g 0) (x i) (y i) (dnorm wq (dqry k v (q i) (dout wo (y i))))) := by
  by_cases h : t.val % 16 = 0
  · rw [after0_12, outsAt0_A m c t h]; frame_out
    simp only [b.hx, b.hy, b.hyb, b.hq, b.hk, b.hv, b.hwo, b.hwq, b.hwu, b.hg, pay7_real, pay11_eq, pay12_eq, pay13_eq, ld_q0, ld_q1,
      ld_q2, ld_q3, ld_k0, ld_k1, ld_k2, ld_k3, pay8_real, pay14_real, pay16_real, pay17_real, pay18_real, pay19_real, pay20_real, pay23_eq,
      pay26_eq, pay29_eq]
    rw [readCov_heads _ fun i => dqry k v (q i) (dout wo (y i))]
    simp only [pay33_real, pay34_real, pay35_real, pay36_real]
    exact pay3_real _ _ _ _ _ _ _ (pay1_real _ _ _ _)
    all_goals exact fun i d => by simp only [dqry, headOf_col]; rfl
  · rw [after0_12, outsAt0_B m c t h]; frame_out
    simp only [b.hx, b.hy, b.hyb, b.hq, b.hk, b.hv, b.hwo, b.hwq, b.hwu, b.hg, pay7_real, pay11_eq, pay12_eq, pay13_eq, ld_q0, ld_q1,
      ld_q2, ld_q3, ld_k0, ld_k1, ld_k2, ld_k3, pay8_real, pay14_real, pay16_real, pay17_real, pay18_real, pay19_real, pay20_real, pay23_eq,
      pay26_eq, pay29_eq]
    rw [readCov_heads _ fun i => dqry k v (q i) (dout wo (y i))]
    simp only [pay33_real, pay34_real, pay35_real, pay36_real]
    exact pay3_real _ _ _ _ _ _ _ (pay1_real _ _ _ _)
    all_goals exact fun i d => by simp only [dqry, headOf_col]; rfl

/-- The gain's gradient after the first point of a run of sixteen: its own rows' sum. -/
theorem after15_first (b : Blocks m c t x y q k v wo wq wu g) (h : t.val % 16 = 0) :
    (dats m 0 c).after 15 t = R2 fun _ j => ∑ i, dgainRow (dnorm wq (dqry k v (q i) (dout wo (y i)))) (x i) j := by
  rw [after0_15, outsAt0_A m c t h]; frame_out
  simp only [b.hx, b.hy, b.hyb, b.hq, b.hk, b.hv, b.hwo, b.hwq, b.hwu, b.hg, pay7_real, pay11_eq, pay12_eq, pay13_eq, ld_q0, ld_q1,
    ld_q2, ld_q3, ld_k0, ld_k1, ld_k2, ld_k3, pay8_real, pay14_real, pay16_real, pay17_real, pay18_real, pay19_real, pay20_real, pay23_eq,
    pay26_eq, pay29_eq]
  rw [readCov_heads _ fun i => dqry k v (q i) (dout wo (y i))]
  simp only [pay32_real, pay34_real, zeros6, pay4_real, zero_add]
  · rfl
  all_goals exact fun i d => by simp only [dqry, headOf_col]; rfl

/-- The gain's gradient after any other point: what the point before left plus its own rows' sum. -/
theorem after15_next (b : Blocks m c t x y q k v wo wq wu g) (h : ¬ t.val % 16 = 0) (o : Fin 8 → Fin 1024 → ℝ)
    (ho : (outsAt0 m c (t.val - 1) (by omega)).2.2.2.2.2 = R2 o) :
    (dats m 0 c).after 15 t = R2 fun r j => o r j + ∑ i, dgainRow (dnorm wq (dqry k v (q i) (dout wo (y i)))) (x i) j := by
  rw [after0_15, outsAt0_B m c t h]; frame_out
  simp only [b.hx, b.hy, b.hyb, b.hq, b.hk, b.hv, b.hwo, b.hwq, b.hwu, b.hg, pay7_real, pay11_eq, pay12_eq, pay13_eq, ld_q0, ld_q1,
    ld_q2, ld_q3, ld_k0, ld_k1, ld_k2, ld_k3, pay8_real, pay14_real, pay16_real, pay17_real, pay18_real, pay19_real, pay20_real, pay23_eq,
    pay26_eq, pay29_eq]
  rw [readCov_heads _ fun i => dqry k v (q i) (dout wo (y i))]
  rw [ho]
  simp only [pay32_real, pay34_real, pay4_real]
  · rfl
  all_goals exact fun i d => by simp only [dqry, headOf_col]; rfl

/-- The keys' and values' gradient after the first point of a run of sixteen. -/
theorem after14_first (b : Blocks m c t x y q k v wo wq wu g) (h : t.val % 16 = 0) :
    (dats m 0 c).after 14 t = R2 fun r j => ∑ i, dkvRow k v (q i) (dout wo (y i)) r j := by
  rw [after0_14, outsAt0_A m c t h]; frame_out
  simp (disch := decide) only [↓View.readCov_skip, ↓View.readCov_fill]
  simp only [b.hx, b.hy, b.hyb, b.hq, b.hk, b.hv, b.hwo, b.hwq, b.hwu, b.hg, pay7_real, pay11_eq, pay12_eq, pay13_eq, ld_q0, ld_q1,
    ld_q2, ld_q3, ld_k0, ld_k1, ld_k2, ld_k3, pay8_real, pay14_real, pay16_real, pay17_real, pay18_real, pay19_real, pay24_eq, pay27_eq,
    pay30_eq, zeros5, pay21_real, pay22_real, pay25_real, pay28_real, pay31_real, ld_a0, ld_a1, ld_a2, ld_a3, ld_a4, ld_a5,
    ld_a6, ld_a7]
  refine canon_dkv _ _ _ _ _ _ _ _ _ _ _ _ _ _ _ _ _ [_] ?_ ?_ ?_ ?_ ?_ ?_ ?_ ?_
  all_goals refine fun r d => (zero_add _).trans (Finset.sum_congr rfl fun i _ => ?_)
  · exact (dkvRow_key k v _ _ r 0 d _ rfl).symm
  · exact (dkvRow_key k v _ _ r 1 d _ rfl).symm
  · exact (dkvRow_key k v _ _ r 2 d _ rfl).symm
  · exact (dkvRow_key k v _ _ r 3 d _ rfl).symm
  · exact (dkvRow_value k v _ _ r 0 d _ rfl).symm
  · exact (dkvRow_value k v _ _ r 1 d _ rfl).symm
  · exact (dkvRow_value k v _ _ r 2 d _ rfl).symm
  · exact (dkvRow_value k v _ _ r 3 d _ rfl).symm

/-- The keys' and values' gradient after any other point. -/
theorem after14_next (b : Blocks m c t x y q k v wo wq wu g) (h : ¬ t.val % 16 = 0) (o : Fin 256 → Fin 2048 → ℝ)
    (ho : (outsAt0 m c (t.val - 1) (by omega)).2.2.2.2.1 = R2 o) :
    (dats m 0 c).after 14 t = R2 fun r j => o r j + ∑ i, dkvRow k v (q i) (dout wo (y i)) r j := by
  rw [after0_14, outsAt0_B m c t h]; frame_out
  rw [ho]
  simp only [b.hx, b.hy, b.hyb, b.hq, b.hk, b.hv, b.hwo, b.hwq, b.hwu, b.hg, pay7_real, pay11_eq, pay12_eq, pay13_eq, ld_q0, ld_q1,
    ld_q2, ld_q3, ld_k0, ld_k1, ld_k2, ld_k3, pay8_real, pay14_real, pay16_real, pay17_real, pay18_real, pay19_real, pay24_eq, pay27_eq,
    pay30_eq, zeros5, pay21_real, pay22_real, pay25_real, pay28_real, pay31_real, ld_a0, ld_a1, ld_a2, ld_a3, ld_a4, ld_a5,
    ld_a6, ld_a7]
  refine canon_dkv _ _ _ _ _ _ _ _ _ _ _ _ _ _ _ _ _ [] ?_ ?_ ?_ ?_ ?_ ?_ ?_ ?_
  all_goals refine fun r d => congrArg _ (Finset.sum_congr rfl fun i _ => ?_)
  · exact (dkvRow_key k v _ _ r 0 d _ rfl).symm
  · exact (dkvRow_key k v _ _ r 1 d _ rfl).symm
  · exact (dkvRow_key k v _ _ r 2 d _ rfl).symm
  · exact (dkvRow_key k v _ _ r 3 d _ rfl).symm
  · exact (dkvRow_value k v _ _ r 0 d _ rfl).symm
  · exact (dkvRow_value k v _ _ r 1 d _ rfl).symm
  · exact (dkvRow_value k v _ _ r 2 d _ rfl).symm
  · exact (dkvRow_value k v _ _ r 3 d _ rfl).symm

end point

end Cert.Attn

end
-- ==== Proof.Blocks.lean ====
module

public import proofs.«01_k».proof.Proof.Point

@[expose] public section

set_option maxRecDepth 16384

noncomputable section

/-! # The blocks a grid point reads, from the arguments -/

namespace Cert.Attn

open Idealize.ShloMosaic Idealize.ShloMosaic.TcCoe Idealize.SL.Sem Cert.KernelIdeal Cert.KernelIdeal.Gen
open Idealize.ShloMosaic.Pipeline (Dat)

/-- The eight arguments of a device are these real arrays. -/
structure Args (m : (ℓ : Loc nD τ sig) → Buf (Elt Ideal) ℓ) (c : Dev nD) (x y : Fin 8192 → Fin 1024 → ℝ) (k v : Fin 256 → Fin 1024 → ℝ)
    (wo wq wu : Fin 1024 → Fin 1024 → ℝ) (g : Fin 1 → Fin 1024 → ℝ) : Prop where
  hx : m ((c.tc : Thread nD τ).loc main_arg0) = R2 x
  hy : m ((c.tc : Thread nD τ).loc main_arg1) = R2 y
  hk : m ((c.tc : Thread nD τ).loc main_arg2) = R2 k
  hv : m ((c.tc : Thread nD τ).loc main_arg3) = R2 v
  hwo : m ((c.tc : Thread nD τ).loc main_arg4) = R2 wo
  hwq : m ((c.tc : Thread nD τ).loc main_arg5) = R2 wq
  hwu : m ((c.tc : Thread nD τ).loc main_arg6) = R2 wu
  hg : m ((c.tc : Thread nD τ).loc main_arg7) = R2 g

/-- Row `i` of the block of point `t`. -/
def rowOf (t : Fin cfg0.N) (i : Fin 512) : Fin 8192 := ⟨512 * t.val + i.val, by have := lt_of_lt_of_eq t.isLt (show cfg0.N = 16 from N_0); omega⟩

/-- Where each window's block lies. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![0, 0]
    ∧ win0_15.index t = ![0, 0] :=
  (by decide +kernel : ∀ t : Fin grid0.N, _)

/-- The sum of a number over the rows of the blocks up to point `n`. -/
def upTo (f : Fin 8192 → ℝ) (n : ℕ) (h : n < cfg0.N) : ℝ := ∑ s : Fin (n + 1), ∑ i : Fin 512, f (rowOf ⟨s.val, by omega⟩ i)

theorem upTo_zero (f : Fin 8192 → ℝ) (h : 0 < cfg0.N) : upTo f 0 h = ∑ i, f (rowOf ⟨0, h⟩ i) := Fin.sum_univ_one _

theorem upTo_succ (f : Fin 8192 → ℝ) (n : ℕ) (h : n + 1 < cfg0.N) :
    upTo f (n + 1) h = upTo f n (by omega) + ∑ i, f (rowOf ⟨n + 1, h⟩ i) := Fin.sum_univ_castSucc (n := n + 1) _

theorem upTo_last (f : Fin 8192 → ℝ) (h : 15 < cfg0.N) : upTo f 15 h = ∑ i, f i := by
  rw [upTo, ← Fin.sum_mul_add_fin 16 512 f]
  refine Finset.sum_congr rfl fun s _ => Finset.sum_congr rfl fun i _ => congrArg f (Fin.ext ?_)
  show 512 * s.val + i.val = s.val * 512 + i.val
  omega

section

variable {m : (ℓ : Loc nD τ sig) → Buf (Elt Ideal) ℓ} {c : Dev nD} {x y : Fin 8192 → Fin 1024 → ℝ} {k v : Fin 256 → Fin 1024 → ℝ}
  {wo wq wu : Fin 1024 → Fin 1024 → ℝ} {g : Fin 1 → Fin 1024 → ℝ}

/-- The host's query rows. -/
theorem host_query (a : Args m c x y k v wo wq wu g) : V m c main_v14 = R2 fun i => query (g 0) wq (x i) := by
  have hx := a.hx
  have hq := a.hwq
  have hg := a.hg
  dsimp only [Thread.loc] at hx hq hg
  funext j; idx_vars j
  entry_read
  rw [hx, hq, hg]
  pointwise [R2]
  simp only [scale_real]
  simp only [← EReal.coe_mul, ← coe_sum]
  rfl

/-- The host's narrow copy of the incoming rows. -/
theorem host_in (a : Args m c x y k v wo wq wu g) : V m c main_v15 = R2 y := by
  funext j; idx_vars j
  entry_read
  exact congrFun a.hy _

/-! Each window's block. -/

theorem blk0 (a : Args m c x y k v wo wq wu g) (t : Fin cfg0.N) : iblk m c 0 t = R2 fun i => x (rowOf t i) := by
  funext j; idx_vars j
  refine Eq.trans ?_ (congrFun a.hx (ix2 (rowOf t j0) j1))
  blk_ext [iblk, V, idx t, rowOf]

theorem blk1 (a : Args m c x y k v wo wq wu g) (t : Fin cfg0.N) : iblk m c 1 t = R2 fun i => y (rowOf t i) := by
  funext j; idx_vars j
  refine Eq.trans ?_ (congrFun a.hy (ix2 (rowOf t j0) j1))
  blk_ext [iblk, V, idx t, rowOf]

theorem blk2 (a : Args m c x y k v wo wq wu g) (t : Fin cfg0.N) : iblk m c 2 t = R2 fun i => y (rowOf t i) := by
  funext j; idx_vars j
  refine Eq.trans ?_ (congrFun (host_in a) (ix2 (rowOf t j0) j1))
  blk_ext [iblk, idx t, rowOf]

theorem blk3 (a : Args m c x y k v wo wq wu g) (t : Fin cfg0.N) : iblk m c 3 t = R2 fun i => query (g 0) wq (x (rowOf t i)) := by
  funext j; idx_vars j
  refine Eq.trans ?_ (congrFun (host_query a) (ix2 (rowOf t j0) j1))
  blk_ext [iblk, idx t, rowOf]

theorem blk4 (a : Args m c x y k v wo wq wu g) (t : Fin cfg0.N) : iblk m c 4 t = R2 k := by
  funext j; idx_vars j
  refine Eq.trans ?_ (congrFun a.hk (ix2 j0 j1))
  blk_ext [iblk, V, idx t]

theorem blk5 (a : Args m c x y k v wo wq wu g) (t : Fin cfg0.N) : iblk m c 5 t = R2 v := by
  funext j; idx_vars j
  refine Eq.trans ?_ (congrFun a.hv (ix2 j0 j1))
  blk_ext [iblk, V, idx t]

theorem blk6 (a : Args m c x y k v wo wq wu g) (t : Fin cfg0.N) : iblk m c 6 t = R2 wo := by
  funext j; idx_vars j
  refine Eq.trans ?_ (congrFun a.hwo (ix2 j0 j1))
  blk_ext [iblk, V, idx t]

theorem blk7 (a : Args m c x y k v wo wq wu g) (t : Fin cfg0.N) : iblk m c 7 t = R2 wq := by
  funext j; idx_vars j
  refine Eq.trans ?_ (congrFun a.hwq (ix2 j0 j1))
  blk_ext [iblk, V, idx t]

theorem blk8 (a : Args m c x y k v wo wq wu g) (t : Fin cfg0.N) : iblk m c 8 t = R2 wu := by
  funext j; idx_vars j
  refine Eq.trans ?_ (congrFun a.hwu (ix2 j0 j1))
  blk_ext [iblk, V, idx t]

theorem blk9 (a : Args m c x y k v wo wq wu g) (t : Fin cfg0.N) : iblk m c 9 t = R2 g := by
  funext j; idx_vars j
  refine Eq.trans ?_ (congrFun a.hg (ix2 j0 j1))
  blk_ext [iblk, V, idx t]

/-- Every point's blocks. -/
theorem Args.blocks (a : Args m c x y k v wo wq wu g) (t : Fin cfg0.N) :
    Blocks m c t (fun i => x (rowOf t i)) (fun i => y (rowOf t i)) (fun i => query (g 0) wq (x (rowOf t i))) k v wo wq wu g :=
  ⟨blk0 a t, blk1 a t, blk2 a t, blk3 a t, blk4 a t, blk5 a t, blk6 a t, blk7 a t, blk8 a t, blk9 a t⟩

theorem emb10 (t : Fin cfg0.N) (j : S512x1024.Idx) : (win0_10.blk t).view.emb j = ix2 (rowOf t (j 0)) (j 1) := by
  idx_vars j; blk_ext [idx t, rowOf]

theorem emb11 (t : Fin cfg0.N) (j : S512x1024.Idx) : (win0_11.blk t).view.emb j = ix2 (rowOf t (j 0)) (j 1) := by
  idx_vars j; blk_ext [idx t, rowOf]

theorem emb12 (t : Fin cfg0.N) (j : S512x1024.Idx) : (win0_12.blk t).view.emb j = ix2 (rowOf t (j 0)) (j 1) := by
  idx_vars j; blk_ext [idx t, rowOf]

theorem emb13 (t : Fin cfg0.N) (j : S512x1024.Idx) : (win0_13.blk t).view.emb j = ix2 (rowOf t (j 0)) (j 1) := by
  idx_vars j; blk_ext [idx t, rowOf]

theorem emb14 (j : S256x2048.Idx) : (win0_14.blk t0_15).view.emb j = j := by
  idx_vars j; blk_ext [idx t0_15]

theorem emb15 (j : S8x1024.Idx) : (win0_15.blk t0_15).view.emb j = j := by
  idx_vars j; blk_ext [idx t0_15]

/-! The arrays the kernel leaves. -/

theorem arr10 (a : Args m c x y k v wo wq wu g) : (dats m 0 c).arrAt 10 cfg0.N = R2 fun i => rowX k v wo wq (g 0) (x i) (y i) := by
  refine (dats m 0 c).arrAt_eq_of_covers 10 _ (by decide +kernel) fun t hf j => ?_
  blk_simp
  rw [after10 (a.blocks t)]
  exact Eq.trans rfl (congrArg (R2 fun i => rowX k v wo wq (g 0) (x i) (y i)) (emb10 t j).symm)

theorem arr11 (a : Args m c x y k v wo wq wu g) : (dats m 0 c).arrAt 11 cfg0.N = R2 fun i => rowX k v wo wq (g 0) (x i) (y i) := by
  refine (dats m 0 c).arrAt_eq_of_covers 11 _ (by decide +kernel) fun t hf j => ?_
  blk_simp
  rw [after11 (a.blocks t)]
  exact Eq.trans rfl (congrArg (R2 fun i => rowX k v wo wq (g 0) (x i) (y i)) (emb11 t j).symm)

theorem arr12 (a : Args m c x y k v wo wq wu g) : (dats m 0 c).arrAt 12 cfg0.N = R2 fun i => dnorm wu (rowX k v wo wq (g 0) (x i) (y i)) := by
  refine (dats m 0 c).arrAt_eq_of_covers 12 _ (by decide +kernel) fun t hf j => ?_
  blk_simp
  rw [after12 (a.blocks t)]
  exact Eq.trans rfl (congrArg (R2 fun i => dnorm wu (rowX k v wo wq (g 0) (x i) (y i))) (emb12 t j).symm)

theorem arr13 (a : Args m c x y k v wo wq wu g) : (dats m 0 c).arrAt 13 cfg0.N = R2 fun i => rowQ k v wo wq (g 0) (x i) (y i) := by
  refine (dats m 0 c).arrAt_eq_of_covers 13 _ (by decide +kernel) fun t hf j => ?_
  blk_simp
  rw [after13 (a.blocks t), emb13 t j]
  rfl

/-- The gain's gradient after point `n`: the rows of the blocks up to it. -/
theorem acc15 (a : Args m c x y k v wo wq wu g) (n : ℕ) (h : n < cfg0.N) :
    (outsAt0 m c n h).2.2.2.2.2
      = R2 fun _ j => upTo (fun r => dgainRow (dnorm wq (rowQ k v wo wq (g 0) (x r) (y r))) (x r) j) n h := by
  have hN : cfg0.N = 16 := N_0
  induction n with
  | zero =>
    rw [← after0_15 m c ⟨0, h⟩, after15_first (a.blocks ⟨0, h⟩) rfl]
    simp only [upTo_zero]
    rfl
  | succ n ih =>
    rw [← after0_15 m c ⟨n + 1, h⟩, after15_next (a.blocks ⟨n + 1, h⟩) (by simp only; omega) _ (ih (by omega))]
    simp only [upTo_succ]
    rfl

/-- The keys' and values' gradient after point `n`. -/
theorem acc14 (a : Args m c x y k v wo wq wu g) (n : ℕ) (h : n < cfg0.N) :
    (outsAt0 m c n h).2.2.2.2.1
      = R2 fun e j => upTo (fun r => dkvRow k v (query (g 0) wq (x r)) (dout wo (y r)) e j) n h := by
  have hN : cfg0.N = 16 := N_0
  induction n with
  | zero =>
    rw [← after0_14 m c ⟨0, h⟩, after14_first (a.blocks ⟨0, h⟩) rfl]
    simp only [upTo_zero]
  | succ n ih =>
    rw [← after0_14 m c ⟨n + 1, h⟩, after14_next (a.blocks ⟨n + 1, h⟩) (by simp only; omega) _ (ih (by omega))]
    simp only [upTo_succ]

theorem arr15 (a : Args m c x y k v wo wq wu g) :
    (dats m 0 c).arrAt 15 cfg0.N = R2 fun _ j => ∑ i, dgainRow (dnorm wq (rowQ k v wo wq (g 0) (x i) (y i))) (x i) j := by
  refine (dats m 0 c).arrAt_eq_of_after_last 15 t0_15 (by decide +kernel) _ fun j => ?_
  blk_simp
  rw [after0_15, acc15 a]
  exact congrArg Real.toEReal (upTo_last _ _)

theorem arr14 (a : Args m c x y k v wo wq wu g) :
    (dats m 0 c).arrAt 14 cfg0.N = R2 fun e j => ∑ i, dkvRow k v (query (g 0) wq (x i)) (dout wo (y i)) e j := by
  refine (dats m 0 c).arrAt_eq_of_after_last 14 t0_15 (by decide +kernel) _ fun j => ?_
  blk_simp
  rw [after0_14, acc14 a]
  exact congrArg Real.toEReal (upTo_last _ _)

end

end Cert.Attn

end
-- ==== Proof.Finite.lean ====
module

public import proofs.«01_k».proof.Defs
public import proofs.«01_k».proof.Proof.Gen.Pre_finite
public import proofs.«01_k».proof.Proof.Blocks

@[expose] public section

set_option maxRecDepth 16384

noncomputable section

/-! # Finite arguments are real arguments -/

namespace Cert.Attn

open Idealize.ShloMosaic Idealize.ShloMosaic.TcCoe Idealize.SL.Sem Cert.KernelIdeal

/-- An extended real whose absolute value is less than infinity is a real number. -/
theorem real_of_abs_lt (a : EReal) (h : Ideal.cmp .olt (max a (-a)) (Ideal.ofBits .f32 0x7F800000#32) = 1#1) : a = ((a.toReal : ℝ) : EReal) := by
  have htop : Ideal.ofBits .f32 0x7F800000#32 = ⊤ := by simp [Ideal.ofBits, Ideal.ieee]
  have hlt : max a (-a) < ⊤ := by
    rw [htop] at h
    by_contra hn
    simp [Ideal.cmp, hn] at h
  refine (EReal.coe_toReal ?_ ?_).symm
  · rintro rfl; simp at hlt
  · rintro rfl; simp at hlt

/-- An array of such numbers is a real array. -/
theorem real_array {a b : ℕ} (z : Shape.Idx ⟨2, ![a, b]⟩ → EReal)
    (h : ∀ j, Ideal.cmp .olt (max (z j) (-z j)) (Ideal.ofBits .f32 0x7F800000#32) = 1#1) : z = R2 fun i l => (z (ix2 i l)).toReal := by
  funext j
  exact (real_of_abs_lt _ (h j)).trans (congrArg (fun l => (((z l).toReal : ℝ) : EReal)) (eq_ix2 j))

/-- Under the precondition the arguments on a device are real arrays. -/
theorem exists_args (m : (ℓ : Loc nD τ sig) → Buf (Elt Ideal) ℓ) (hp : Cert.Pre_KernelIdeal_finite m) (c : Dev nD) :
    ∃ x y k v wo wq wu g, Args m c x y k v wo wq wu g := by
  obtain ⟨h0, h1, h2, h3, h4, h5, h6, h7⟩ := hp c
  exact ⟨_, _, _, _, _, _, _, _, real_array _ fun j => congrFun h0 j, real_array _ fun j => congrFun h1 j, real_array _ fun j => congrFun h2 j,
    real_array _ fun j => congrFun h3 j, real_array _ fun j => congrFun h4 j, real_array _ fun j => congrFun h5 j,
    real_array _ fun j => congrFun h6 j, real_array _ fun j => congrFun h7 j⟩

end Cert.Attn

end
-- ==== Proof.Ref.lean ====
module

public import proofs.«01_k».proof.Proof.Gen.ReferenceIdeal.Read
public import proofs.«01_k».proof.Proof.Real
public import Idealize.ShloMosaic.Lib.Pointwise

@[expose] public section

set_option maxRecDepth 16384

noncomputable section

/-! # The reference's values on real arguments, stage by stage -/

namespace Cert.Attn

open Idealize.ShloMosaic Idealize.ShloMosaic.TcCoe Idealize.SL.Sem Cert.ReferenceIdeal Cert.ReferenceIdeal.Read

/-- A row's greatest element on the host. -/
theorem host_max (z : FVec Ideal S4x8192x256 .f32) (b : FVec Ideal S_ .f32) (h' : S4x8192x256.ReducesTo [2] S4x8192) (h : 0 < S_.numel) (i : Fin 4) (j : Fin 8192) :
    Host.reduce FloatOps.maximumf z b h' h (ix2 i j : S4x8192.Idx) = Finset.univ.fold max (b (Shape.Idx.first h)) (fun k : Fin 256 => z (ix3 i j k)) := by
  have hr : S4x8192x256.Reduces [2] S4x8192 := by decide
  rw [Host.reduce_eq_fold_single (FloatOps.maximumf (F := Ideal) (φ := .f32)) z b h' hr h (ix2 i j)]
  refine Finset.fold_congr fun k _ => congrArg z ?_
  funext a
  apply Fin.ext
  show (hr.lift (ix2 i j) k a).val = _
  rw [Shape.Reduces.lift_val]
  fin_cases a <;> rfl

/-- The mean square of a row, and the number added. -/
def meansq (x : Fin 1024 → ℝ) : ℝ := (∑ k, x k * x k) / 1024 + tiny

/-- The scores of head `h` of a query row. -/
def score (k : Fin 256 → Fin 1024 → ℝ) (q : Fin 1024 → ℝ) (h : Fin 4) (m : Fin 256) : ℝ :=
  (∑ d, q (col h d) * k m (col h d)) * (1 / 16)

/-- A column is lane `j % 256` of its head. -/
theorem col_headOf (j : Fin 1024) : col (headOf j) ⟨j.val % 256, by omega⟩ = j :=
  Fin.ext (by simp only [col, headOf]; omega)

section

variable (x y : Fin 8192 → Fin 1024 → ℝ) (k v : Fin 256 → Fin 1024 → ℝ) (wo wq wu : Fin 1024 → Fin 1024 → ℝ) (g : Fin 1 → Fin 1024 → ℝ)

/-! ## The forward lines -/

theorem ref11 : val_main_v11 (F := Ideal) (R2 x) = R2 fun i (_ : Fin 1) => meansq (x i) := by
  funext j; idx_vars j
  pointwise [val_main_v11, val_main_v10, val_main_v9, val_main_v8, val_main_v7, val_main_v6, val_main_v5, val_main_cst, val_main_cst_0,
    val_main_cst_1, R2]
  simp only [bits_thousand, bits_tiny, ← EReal.coe_mul, ← coe_sum]
  rw [div_real _ _ (by norm_num), ← EReal.coe_add]
  rfl

theorem ref12 : val_main_v12 (F := Ideal) (R2 x) = R2 fun i (_ : Fin 1) => scale (x i) := by
  funext j; idx_vars j; unfold val_main_v12; rw [ref11]; pointwise [R2]
  exact rsqrt_real _ (meansq_pos _)

theorem ref17 : val_main_v17 (F := Ideal) (R2 x) = R2 fun i => unit (x i) := by
  funext j; idx_vars j; unfold val_main_v17 val_main_v16; rw [ref12]; pointwise [R2]
  rfl

theorem ref20 : val_main_v20 (F := Ideal) (R2 x) (R2 wq) (R2 g) = R2 fun i => query (g 0) wq (x i) := by
  funext j; idx_vars j; unfold val_main_v20 val_main_v19 val_main_v18 val_main_v3; rw [ref17]; pointwise [R2]
  simp only [← EReal.coe_mul, ← coe_sum]
  rfl

theorem ref21 : val_main_v21 (F := Ideal) (R2 x) (R2 wq) (R2 g) = R3 fun i h d => query (g 0) wq (x i) (col h d) := by
  funext j; idx_vars j; unfold val_main_v21; rw [ref20]; pointwise [R2, R3]
  exact congrArg (fun c => ((query (g 0) wq (x j0) c : ℝ) : EReal)) (Fin.ext (by simp only [col]; omega))

theorem ref22 : val_main_v22 (F := Ideal) (R2 k) = R3 fun m h d => k m (col h d) := by
  funext j; idx_vars j; unfold val_main_v22 val_main_v0; pointwise [R2, R3]
  exact congrArg (fun c => ((k j0 c : ℝ) : EReal)) (Fin.ext (by simp only [col]; omega))

theorem ref23 : val_main_v23 (F := Ideal) (R2 v) = R3 fun m h d => v m (col h d) := by
  funext j; idx_vars j; unfold val_main_v23 val_main_v1; pointwise [R2, R3]
  exact congrArg (fun c => ((v j0 c : ℝ) : EReal)) (Fin.ext (by simp only [col]; omega))

theorem ref26 : val_main_v26 (F := Ideal) (R2 x) (R2 k) (R2 wq) (R2 g)
    = R3 fun h i m => score k (query (g 0) wq (x i)) h m := by
  funext j; idx_vars j; unfold val_main_v26 val_main_v25 val_main_v24 val_main_cst_3; rw [ref21, ref22]; pointwise [R2, R3]
  simp only [bits_sixteen, ← EReal.coe_mul, ← coe_sum]
  rw [div_real _ _ (by norm_num), score, mul_one_div]

theorem ref27 : val_main_v27 (F := Ideal) (R2 x) (R2 k) (R2 wq) (R2 g)
    = R2 fun h i => top (score k (query (g 0) wq (x i)) h) := by
  funext j; idx_vars j; unfold val_main_v27; rw [ref26, host_max]
  pointwise [R3, R2, val_main_cst_4]
  rw [bits_bottom]
  exact fold_top _

theorem ref34 : val_main_v34 (F := Ideal) (R2 x) (R2 k) (R2 wq) (R2 g)
    = R2 fun h i => top (score k (query (g 0) wq (x i)) h) := by
  funext j; idx_vars j; unfold val_main_v34; rw [ref27]
  pointwise [R2, val_main_v33, val_main_cst_6]
  rw [bits_bottom]
  exact max_eq_right bot_le

theorem ref47 : val_main_v47 (F := Ideal) (R2 x) (R2 k) (R2 wq) (R2 g)
    = R3 fun h i m => Real.exp (score k (query (g 0) wq (x i)) h m - top (score k (query (g 0) wq (x i)) h)) := by
  funext j; idx_vars j; unfold val_main_v47 val_main_v46 val_main_v45 val_main_v44; rw [ref26, ref34]; pointwise [R2, R3]
  rw [← EReal.coe_sub]
  exact Ideal.exp_coe _

theorem ref49 : val_main_v49 (F := Ideal) (R2 x) (R2 k) (R2 wq) (R2 g)
    = R3 fun h i (_ : Fin 1) => total (score k (query (g 0) wq (x i)) h) := by
  funext j; idx_vars j; unfold val_main_v49 val_main_v48; rw [ref47]; pointwise [R3, val_main_cst_12]
  simp only [← coe_sum]
  rfl

theorem ref51 : val_main_v51 (F := Ideal) (R2 x) (R2 k) (R2 wq) (R2 g) = R3 fun h i => prob k (query (g 0) wq (x i)) h := by
  funext j; idx_vars j; unfold val_main_v51 val_main_v50; rw [ref47, ref49]; pointwise [R3]
  exact div_real _ _ (total_pos _).ne'

theorem ref54 : val_main_v54 (F := Ideal) (R2 x) (R2 k) (R2 wq) (R2 g)
    = R3 fun h i (_ : Fin 1) => 1 / (total (score k (query (g 0) wq (x i)) h) * total (score k (query (g 0) wq (x i)) h)) := by
  funext j; idx_vars j; unfold val_main_v54 val_main_v53 val_main_v52; rw [ref49]; pointwise [R3, val_main_cst_13]
  rw [← EReal.coe_mul, ← EReal.coe_one]
  exact div_real _ _ (mul_pos (total_pos _) (total_pos _)).ne'

/-! ## The attention's backward lines -/

theorem ref59 : val_main_v59 (F := Ideal) (R2 y) (R2 wo) = R2 fun i => dout wo (y i) := by
  funext j; idx_vars j; unfold val_main_v59 val_main_v2; pointwise [R2]
  simp only [← EReal.coe_mul, ← coe_sum]
  rfl

theorem ref61 : val_main_v61 (F := Ideal) (R2 y) (R2 wo) = R3 fun h d i => dout wo (y i) (col h d) := by
  funext j; idx_vars j; unfold val_main_v61 val_main_v60; rw [ref59]; pointwise [R2, R3]
  exact congrArg (fun c => ((dout wo (y j2) c : ℝ) : EReal)) (Fin.ext (by simp only [col]; omega))

theorem ref62 : val_main_v62 (F := Ideal) (R2 y) (R2 v) (R2 wo) = R3 fun h i m => dprob v (dout wo (y i)) h m := by
  funext j; idx_vars j; unfold val_main_v62; rw [ref61, ref23]; pointwise [R2, R3]
  simp only [← EReal.coe_mul, ← coe_sum]
  rfl

theorem ref83 : val_main_v83 (F := Ideal) (R2 x) (R2 y) (R2 k) (R2 wo) (R2 wq) (R2 g)
    = R2 fun m j => ∑ i, prob k (query (g 0) wq (x i)) (headOf j) m * dout wo (y i) j := by
  funext j; idx_vars j; unfold val_main_v83 val_main_v64 val_main_v63; rw [ref61, ref51]; pointwise [R2, R3]
  simp only [← EReal.coe_mul, ← coe_sum]
  refine congrArg _ (Finset.sum_congr rfl fun i _ => ?_)
  exact (congrArg (fun c => dout wo (y i) c * prob k (query (g 0) wq (x i)) (headOf j1) j0) (col_headOf j1)).trans (mul_comm _ _)

theorem ref78 : val_main_v78 (F := Ideal) (R2 x) (R2 y) (R2 k) (R2 v) (R2 wo) (R2 wq) (R2 g)
    = R3 fun h i => dscr k v (query (g 0) wq (x i)) (dout wo (y i)) h := by
  funext j; idx_vars j
  unfold val_main_v78 val_main_v77 val_main_v76 val_main_v75 val_main_v74 val_main_v73 val_main_v72 val_main_v71 val_main_v70 val_main_v69
    val_main_v68 val_main_v67 val_main_v66 val_main_v65
  rw [ref62, ref54, ref47, ref49]
  pointwise [R2, R3, val_main_cst_14, val_main_cst_15, val_main_cst_16]
  rw [Fin.sum_univ_one, bits_sixteen, div_real _ _ (total_pos _).ne']
  simp only [← EReal.coe_mul, ← coe_sum, ← EReal.coe_neg, ← EReal.coe_add]
  rw [div_real _ _ (by norm_num)]
  exact congrArg _ (dscore_eq (fun m => Real.exp (score k (query (g 0) wq (x j1)) j0 m - top (score k (query (g 0) wq (x j1)) j0)))
    (dprob v (dout wo (y j1)) j0) _ (total_pos (score k (query (g 0) wq (x j1)) j0)).ne' j2)

theorem ref84 : val_main_v84 (F := Ideal) (R2 x) (R2 y) (R2 k) (R2 v) (R2 wo) (R2 wq) (R2 g)
    = R2 fun m j => ∑ i, dscr k v (query (g 0) wq (x i)) (dout wo (y i)) (headOf j) m * query (g 0) wq (x i) j := by
  funext j; idx_vars j; unfold val_main_v84 val_main_v80 val_main_v79; rw [ref78, ref21]; pointwise [R2, R3]
  simp only [← EReal.coe_mul, ← coe_sum]
  refine congrArg _ (Finset.sum_congr rfl fun i _ => ?_)
  exact congrArg (fun c => dscr k v (query (g 0) wq (x i)) (dout wo (y i)) (headOf j1) j0 * query (g 0) wq (x i) c) (col_headOf j1)

theorem ref85 : val_main_v85 (F := Ideal) (R2 x) (R2 y) (R2 k) (R2 v) (R2 wo) (R2 wq) (R2 g)
    = R2 fun i => dqry k v (query (g 0) wq (x i)) (dout wo (y i)) := by
  funext j; idx_vars j; unfold val_main_v85 val_main_v82 val_main_v81; rw [ref78, ref22]; pointwise [R2, R3]
  simp only [← EReal.coe_mul, ← coe_sum]
  refine congrArg _ (Finset.sum_congr rfl fun i _ => ?_)
  exact congrArg (fun c => dscr k v (query (g 0) wq (x j0)) (dout wo (y j0)) (headOf j1) i * k i c) (col_headOf j1)

/-! ## The projection's and the normalisation's backward lines -/

section

theorem ref86 : val_main_v86 (F := Ideal) (R2 x) (R2 y) (R2 k) (R2 v) (R2 wo) (R2 wq) (R2 g)
    = R2 fun i => dnorm wq (rowQ k v wo wq (g 0) (x i) (y i)) := by
  funext j; idx_vars j; unfold val_main_v86 val_main_v3; rw [ref85]; pointwise [R2]
  simp only [← EReal.coe_mul, ← coe_sum]
  rfl

theorem ref15 : val_main_v15 (F := Ideal) (R2 x) = R2 fun i (_ : Fin 1) => -(1 / 2) * (scale (x i) / meansq (x i)) := by
  funext j; idx_vars j; unfold val_main_v15 val_main_v13; rw [ref11, ref12]; pointwise [R2, val_main_v14, val_main_cst_2]
  rw [bits_minus_half, div_real _ (meansq (x j0)) (meansq_pos (x j0)).ne', ← EReal.coe_mul]

theorem ref88 : val_main_v88 (F := Ideal) (R2 x) (R2 y) (R2 k) (R2 v) (R2 wo) (R2 wq) (R2 g)
    = R1 fun j => ∑ i, dgainRow (dnorm wq (rowQ k v wo wq (g 0) (x i) (y i))) (x i) j := by
  funext j; idx_vars j; unfold val_main_v88 val_main_v87; rw [ref17, ref86]; pointwise [R1, R2, val_main_cst_17]
  simp only [← EReal.coe_mul, ← coe_sum]
  exact congrArg _ (Finset.sum_congr rfl fun i _ => mul_comm _ _)

theorem ref112 : val_main_v112 (F := Ideal) (R2 x) (R2 y) (R2 k) (R2 v) (R2 wo) (R2 wq) (R2 g)
    = R2 fun (_ : Fin 8) j => ∑ i, dgainRow (dnorm wq (rowQ k v wo wq (g 0) (x i) (y i))) (x i) j := by
  funext j; idx_vars j; unfold val_main_v112 val_main_v89; rw [ref88]; pointwise [R1, R2]

theorem ref91 : val_main_v91 (F := Ideal) (R2 x) (R2 y) (R2 k) (R2 v) (R2 wo) (R2 wq) (R2 g)
    = R2 fun i j => dnorm wq (rowQ k v wo wq (g 0) (x i) (y i)) j * g 0 j := by
  funext j; idx_vars j; unfold val_main_v91 val_main_v90; rw [ref86]; pointwise [R2]
  exact (EReal.coe_mul _ _).symm

theorem ref106 : val_main_v106 (F := Ideal) (R2 x) (R2 y) (R2 k) (R2 v) (R2 wo) (R2 wq) (R2 g)
    = R2 fun i => rowX k v wo wq (g 0) (x i) (y i) := by
  funext j; idx_vars j
  unfold val_main_v106 val_main_v105 val_main_v104 val_main_v103 val_main_v102 val_main_v101 val_main_v100 val_main_v99 val_main_v97
    val_main_v96 val_main_v95 val_main_v94 val_main_v93 val_main_v92
  rw [ref91, ref12, ref15]
  pointwise [R2, val_main_v98, val_main_cst_18, val_main_cst_19, val_main_cst_20]
  simp only [Fin.sum_univ_one, bits_thousand, ← EReal.coe_mul, ← coe_sum]
  rw [div_real _ _ (by norm_num)]
  simp only [← EReal.coe_mul, ← EReal.coe_add]
  refine congrArg _ (Eq.trans ?_ (dres_eq (x j0) (y j0) (fun l => dnorm wq (rowQ k v wo wq (g 0) (x j0) (y j0)) l * g 0 l) j1
    (scale (x j0)) (meansq (x j0)) (scale_sq (x j0))))
  have e : ∀ a b c d : ℝ, a + (b + c * d) = a + (b + d * c) := fun a b c d => by rw [mul_comm d c]
  exact e _ _ _ _

theorem ref107 : val_main_v107 (F := Ideal) (R2 x) (R2 y) (R2 k) (R2 v) (R2 wo) (R2 wq) (R2 g)
    = R2 fun i => rowX k v wo wq (g 0) (x i) (y i) := by
  funext j; idx_vars j; unfold val_main_v107; rw [ref106]; pointwise [R2]

theorem ref109 : val_main_v109 (F := Ideal) (R2 x) (R2 y) (R2 k) (R2 v) (R2 wo) (R2 wq) (R2 wu) (R2 g)
    = R2 fun i => dnorm wu (rowX k v wo wq (g 0) (x i) (y i)) := by
  funext j; idx_vars j; unfold val_main_v109 val_main_v108 val_main_v4; rw [ref106]; pointwise [R2]
  simp only [← EReal.coe_mul, ← coe_sum]
  rfl

theorem ref110 : val_main_v110 (F := Ideal) (R2 x) (R2 y) (R2 k) (R2 v) (R2 wo) (R2 wq) (R2 g)
    = R2 fun i => rowQ k v wo wq (g 0) (x i) (y i) := by
  funext j; idx_vars j; unfold val_main_v110; rw [ref85]; pointwise [R2]
  rfl

theorem ref111 : val_main_v111 (F := Ideal) (R2 x) (R2 y) (R2 k) (R2 v) (R2 wo) (R2 wq) (R2 g)
    = R2 fun m j => ∑ i, dkvRow k v (query (g 0) wq (x i)) (dout wo (y i)) m j := by
  funext j; idx_vars j; unfold val_main_v111; rw [ref83, ref84]; pointwise [R2]
  split
  case isTrue h => exact congrArg _ (Finset.sum_congr rfl fun i _ => (dif_pos (t := fun h : j1.val < 1024 => dscr k v (query (g 0) wq (x i)) (dout wo (y i)) (headOf ⟨j1.val, h⟩) j0 * query (g 0) wq (x i) ⟨j1.val, h⟩) h).symm)
  case isFalse h => exact congrArg _ (Finset.sum_congr rfl fun i _ => (dif_neg (e := fun h : ¬ j1.val < 1024 => prob k (query (g 0) wq (x i)) (headOf ⟨j1.val - 1024, by omega⟩) j0 * dout wo (y i) ⟨j1.val - 1024, by omega⟩) h).symm)

end

end

end Cert.Attn

end
-- ==== Proof.Rows.lean ====
module

public import proofs.«01_k».proof.Proof.Real
public import Idealize.ShloMosaic.Lib.Pipeline.ValueKit

@[expose] public section

set_option maxRecDepth 16384

noncomputable section

/-! # The normalisation's backward on a row of extended reals

The kernels write the gradient of a normalised row with one mean; the derivative of the forward lines writes it with two equal
addends. The two agree for every row: where an entry of the row is infinite its scale is zero and both vanish, and where the
entries are real the scale is a positive real, so products distribute over it. -/

namespace Cert.Rows

open Idealize.ShloMosaic

/-- A matrix of extended reals as an array of the programs. -/
def E2 {a b : ℕ} (f : Fin a → Fin b → EReal) : Shape.Idx ⟨2, ![a, b]⟩ → EReal := fun i => f (i 0) (i 1)

/-- Every array of two axes is one. -/
theorem eq_E2 {a b : ℕ} (v : Shape.Idx ⟨2, ![a, b]⟩ → EReal) : v = E2 fun i j => v (ix2 i j) := by
  funext i
  exact congrArg v (eq_ix2 i)

/-- The mean square of a row, and the small number added. -/
def meanSq (x : Fin 1024 → EReal) : EReal :=
  Ideal.div (∑ k, x k * x k) (Ideal.ofBits .f32 0x44800000#32) + Ideal.ofBits .f32 0x358637BD#32

/-- The reciprocal root mean square. -/
def scale (x : Fin 1024 → EReal) : EReal := Ideal.rsqrt (meanSq x)

/-- The row scaled by it. -/
def unit (x : Fin 1024 → EReal) (j : Fin 1024) : EReal := x j * scale x

/-- The gradient of the row, from the gradient `w` of the scaled row: as the kernels write it. -/
def dunit (x w : Fin 1024 → EReal) (j : Fin 1024) : EReal :=
  scale x * (w j - unit x j * Ideal.div (∑ k, w k * unit x k) (Ideal.ofBits .f32 0x44800000#32))

/-- The gradient of the mean square, over the row's length: as the derivative of the forward lines writes it. -/
def slope (x w : Fin 1024 → EReal) : EReal :=
  Ideal.div ((∑ k, x k * w k) * (Ideal.ofBits .f32 0xBF000000#32 * Ideal.div (scale x) (meanSq x))) (Ideal.ofBits .f32 0x44800000#32)

/-- A nonnegative real goes into a sum. -/
theorem coe_mul_sum {n : ℕ} (r : ℝ) (hr : 0 ≤ r) (f : Fin n → EReal) : (r : EReal) * ∑ i, f i = ∑ i, (r : EReal) * f i := by
  have h : ∀ s : Finset (Fin n), (r : EReal) * ∑ i ∈ s, f i = ∑ i ∈ s, (r : EReal) * f i := by
    intro s
    induction s using Finset.induction_on with
    | empty => simp
    | insert i s hi ih =>
      rw [Finset.sum_insert hi, Finset.sum_insert hi,
        EReal.left_distrib_of_nonneg_of_ne_top (EReal.coe_nonneg.2 hr) (EReal.coe_ne_top r), ih]
  exact h _

/-- Twice a real multiple is the multiple by twice the real. -/
theorem coe_mul_add_self (a : ℝ) (s : EReal) : (a : EReal) * s + (a : EReal) * s = ((2 * a : ℝ) : EReal) * s := by
  induction s with
  | coe s => simp only [← EReal.coe_mul, ← EReal.coe_add]; congr 1; ring
  | top =>
    rcases lt_trichotomy a 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy a 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- Division by a real other than zero is the product by its inverse. -/
theorem div_coe' (s : EReal) (b : ℝ) (h : b ≠ 0) : Ideal.div s (b : EReal) = ((b⁻¹ : ℝ) : EReal) * s := by
  rw [Ideal.div_coe h, mul_comm]
  congr 2
  exact one_div b

theorem sq_nonneg' (a : EReal) : 0 ≤ a * a := by
  induction a with
  | coe a => rw [← EReal.coe_mul]; exact EReal.coe_nonneg.2 (mul_self_nonneg a)
  | top => simp
  | bot => simp

/-- A row with an infinite entry has scale zero and infinite mean square. -/
theorem meanSq_top (x : Fin 1024 → EReal) (k : Fin 1024) (h : x k = ⊤ ∨ x k = ⊥) : meanSq x = ⊤ := by
  have hk : x k * x k = ⊤ := by rcases h with h | h <;> rw [h] <;> simp
  have hs : ∑ k, x k * x k = ⊤ := by
    refine top_le_iff.1 (hk ▸ Finset.single_le_sum (f := fun k => x k * x k) (fun i _ => sq_nonneg' _) (Finset.mem_univ k))
  rw [meanSq, hs, Cert.Attn.bits_thousand, Cert.Attn.bits_tiny, div_coe' _ _ (by norm_num),
    EReal.coe_mul_top_of_pos (by norm_num), EReal.top_add_coe]

/-- The two writings agree. -/
theorem dunit_eq (x w : Fin 1024 → EReal) (j : Fin 1024) :
    w j * scale x + x j * slope x w + slope x w * x j = dunit x w j := by
  by_cases hx : ∃ k, x k = ⊤ ∨ x k = ⊥
  · obtain ⟨k, hk⟩ := hx
    have hm := meanSq_top x k hk
    have hr : scale x = 0 := by rw [scale, hm, Ideal.rsqrt_top]
    have h0 : slope x w = 0 := by
      rw [slope, hr, hm, Cert.Attn.bits_thousand, div_coe' _ _ (by norm_num)]
      simp [Ideal.div]
    rw [dunit, hr, h0]
    simp
  · have hreal : ∀ k, ∃ y : ℝ, x k = (y : EReal) := fun k => by
      rcases h : x k with _ | _ | y
      · exact absurd ⟨k, Or.inr h⟩ hx
      · exact absurd ⟨k, Or.inl h⟩ hx
      · exact ⟨y, rfl⟩
    choose y hy using hreal
    obtain rfl : x = fun k => (y k : EReal) := funext hy
    have hms : meanSq (fun k => (y k : EReal)) = (((∑ k, y k * y k) / 1024 + Cert.Attn.tiny : ℝ) : EReal) := by
      simp only [meanSq, Cert.Attn.bits_thousand, Cert.Attn.bits_tiny, ← EReal.coe_mul, ← Cert.Attn.coe_sum]
      rw [Cert.Attn.div_real _ _ (by norm_num), ← EReal.coe_add]
    have hsc : scale (fun k => (y k : EReal)) = ((Cert.Attn.scale y : ℝ) : EReal) := by
      rw [scale, hms, Cert.Attn.rsqrt_real _ (Cert.Attn.meansq_pos y)]; rfl
    have hsq := Cert.Attn.scale_sq y
    have hpos := Cert.Attn.meansq_pos y
    have hr : 0 ≤ Cert.Attn.scale y := inv_nonneg.2 (Real.sqrt_nonneg _)
    rw [dunit, slope, hsc, hms]
    simp only [unit, hsc]
    generalize Cert.Attn.scale y = r at hsq hr
    generalize (∑ k, y k * y k) / 1024 + Cert.Attn.tiny = s at hsq hpos
    have hS : ∑ k, w k * ((y k : EReal) * (r : EReal)) = (r : EReal) * ∑ k, (y k : EReal) * w k := by
      rw [coe_mul_sum r hr]
      refine Finset.sum_congr rfl fun k _ => ?_
      rw [mul_comm (w k), mul_comm (y k : EReal) (r : EReal), mul_assoc]
    rw [hS, Cert.Attn.bits_thousand, Cert.Attn.bits_minus_half, Cert.Attn.div_real _ _ hpos.ne', div_coe' _ _ (by norm_num),
      div_coe' _ _ (by norm_num)]
    generalize ∑ k, (y k : EReal) * w k = S
    rw [sub_eq_add_neg, EReal.left_distrib_of_nonneg_of_ne_top (EReal.coe_nonneg.2 hr) (EReal.coe_ne_top r), add_assoc,
      mul_comm (w j), mul_comm _ (y j : EReal)]
    congr 1
    have e1 : (y j : EReal) * (((1024 : ℝ)⁻¹ : ℝ) * (S * ((-(1 / 2) : ℝ) * ((r / s : ℝ) : EReal))))
        = ((y j * (1024⁻¹ * (-(1 / 2) * (r / s))) : ℝ) : EReal) * S := by
      rw [mul_comm S, ← mul_assoc, ← mul_assoc, ← mul_assoc]
      simp only [← EReal.coe_mul]
      congr 2; ring
    have e2 : (r : EReal) * -((y j : EReal) * r * (((1024 : ℝ)⁻¹ : ℝ) * ((r : EReal) * S)))
        = ((-(r * (y j * r * (1024⁻¹ * r))) : ℝ) : EReal) * S := by
      rw [EReal.coe_neg, mul_neg, neg_mul, ← mul_assoc, ← mul_assoc, ← mul_assoc]
      simp only [← EReal.coe_mul]
      congr 3; ring
    rw [e1, e2, coe_mul_add_self]
    congr 2
    have hrs : r / s = r * (r * r) := by rw [hsq]; ring
    rw [hrs]; ring

/-! ## Sums over blocks of rows -/

/-- Row `i` of block `n`, the blocks having `b` rows. -/
def rowAt {L : ℕ} (b n : ℕ) (h : b * (n + 1) ≤ L) (i : Fin b) : Fin L :=
  ⟨b * n + i.val, by have := i.isLt; rw [Nat.mul_add] at h; omega⟩

/-- The sum of a number over the rows of the blocks up to `n`. -/
def upTo {L : ℕ} (b : ℕ) (f : Fin L → EReal) (n : ℕ) (h : b * (n + 1) ≤ L) : EReal :=
  ∑ s : Fin (n + 1), ∑ i : Fin b, f (rowAt b s.val (le_trans (Nat.mul_le_mul_left b s.isLt) h) i)

theorem upTo_zero {L : ℕ} (b : ℕ) (f : Fin L → EReal) (h : b * (0 + 1) ≤ L) : upTo b f 0 h = ∑ i, f (rowAt b 0 h i) :=
  Fin.sum_univ_one _

theorem upTo_succ {L : ℕ} (b : ℕ) (f : Fin L → EReal) (n : ℕ) (h : b * (n + 1 + 1) ≤ L) :
    upTo b f (n + 1) h = upTo b f n (le_trans (Nat.mul_le_mul_left b (Nat.le_succ _)) h) + ∑ i, f (rowAt b (n + 1) h i) :=
  Fin.sum_univ_castSucc (n := n + 1) _

/-- All blocks: the sum over all rows. -/
theorem upTo_all {L : ℕ} (b : ℕ) (f : Fin L → EReal) (n : ℕ) (h : b * (n + 1) ≤ L) (e : L = (n + 1) * b) :
    upTo b f n h = ∑ i, f i := by
  rw [upTo, ← Fin.sum_mul_add_fin (n + 1) b f e]
  refine Finset.sum_congr rfl fun s _ => Finset.sum_congr rfl fun i _ => congrArg f (Fin.ext ?_)
  show b * s.val + i.val = s.val * b + i.val
  rw [mul_comm]

end Cert.Rows

end
-- ==== Proof.MlpPoint.lean ====
module

public import proofs.«01_k».proof.Proof.Gen.MlpIdeal.Value
public import proofs.«01_k».proof.Proof.Rows
public import Idealize.ShloMosaic.Lib.Pipeline.ValueKit
public import Idealize.ShloMosaic.Lib.Pipeline.ReadBack

@[expose] public section

set_option maxRecDepth 16384

noncomputable section

/-! # The squared-rectifier layer's backward: one grid point

A grid point takes 256 rows. It forms the activation and its gradient in eight slices of 512 columns, stores them side by
side, and reads the whole gradient back for the second product. -/

namespace Cert.MlpBack

open Idealize.ShloMosaic Idealize.ShloMosaic.TcCoe Idealize.SL.Sem Cert.MlpIdeal Cert.MlpIdeal.Gen Cert.MlpIdeal.Value Cert.Rows
open Idealize.ShloMosaic.Pipeline (Dat)

/-- The activation: the rectified entry squared. -/
def act (h : EReal) : EReal := max h 0 * max h 0

/-- The number two, as the programs write it. -/
def two : EReal := Ideal.ofBits .f32 0x40000000#32

/-- The gradient of the entry, from the gradient `d` of its activation: as the kernel writes it. -/
def dact (d h : EReal) : EReal := d * two * max h 0

/-- The gradient of the activations of a row. -/
def down (y : Fin 1024 → EReal) (w : Fin 4096 → Fin 1024 → EReal) (k : Fin 4096) : EReal := ∑ j, y j * w k j

/-- The gradient of the entries of a row. -/
def dpre (y : Fin 1024 → EReal) (w : Fin 4096 → Fin 1024 → EReal) (h : Fin 4096 → EReal) (k : Fin 4096) : EReal :=
  dact (down y w k) (h k)

/-- A row of entries taken back through the first product. -/
def back (d : Fin 4096 → EReal) (u : Fin 4096 → Fin 1024 → EReal) (j : Fin 1024) : EReal := ∑ k, d k * u k j

/-- Column `d` of the slice that starts at column `o`. -/
def colAt (o : ℕ) (h : o + 512 ≤ 4096) (d : Fin 512) : Fin 4096 := ⟨o + d.val, by omega⟩

/-! The activation of each slice. -/

theorem act6 (h : Fin 256 → Fin 512 → EReal) : k0_pay6 (F := Ideal) (E2 h) = E2 fun i d => act (h i d) := by
  funext j; idx_vars j
  pointwise [k0_pay6, k0_pay5, E2]
  rfl

theorem act10 (h : Fin 256 → Fin 512 → EReal) : k0_pay10 (F := Ideal) (E2 h) = E2 fun i d => act (h i d) := by
  funext j; idx_vars j
  pointwise [k0_pay10, k0_pay8, E2]
  rfl

theorem act13 (h : Fin 256 → Fin 512 → EReal) : k0_pay13 (F := Ideal) (E2 h) = E2 fun i d => act (h i d) := by
  funext j; idx_vars j
  pointwise [k0_pay13, k0_pay12, E2]
  rfl

theorem act17 (h : Fin 256 → Fin 512 → EReal) : k0_pay17 (F := Ideal) (k0_pay15 (E2 h)) = E2 fun i d => act (h i d) := by
  funext j; idx_vars j
  pointwise [k0_pay17, k0_pay15, E2]
  rfl

theorem act20 (h : Fin 256 → Fin 512 → EReal) : k0_pay20 (F := Ideal) (E2 h) = E2 fun i d => act (h i d) := by
  funext j; idx_vars j
  pointwise [k0_pay20, k0_pay19, E2]
  rfl

theorem act24 (h : Fin 256 → Fin 512 → EReal) : k0_pay24 (F := Ideal) (k0_pay22 (E2 h)) = E2 fun i d => act (h i d) := by
  funext j; idx_vars j
  pointwise [k0_pay24, k0_pay22, E2]
  rfl

theorem act27 (h : Fin 256 → Fin 512 → EReal) : k0_pay27 (F := Ideal) (E2 h) = E2 fun i d => act (h i d) := by
  funext j; idx_vars j
  pointwise [k0_pay27, k0_pay26, E2]
  rfl

theorem act30 (h : Fin 256 → Fin 512 → EReal) : k0_pay30 (F := Ideal) (k0_pay29 (E2 h)) = E2 fun i d => act (h i d) := by
  funext j; idx_vars j
  pointwise [k0_pay30, k0_pay29, E2]
  rfl

/-! The gradient of each slice. -/

theorem dact7 (h : Fin 256 → Fin 512 → EReal) (y : Fin 256 → Fin 1024 → EReal) (w : Fin 512 → Fin 1024 → EReal) :
    k0_pay7 (F := Ideal) (E2 h) (E2 y) (E2 w) = E2 fun i d => dact (∑ j, y i j * w d j) (h i d) := by
  funext j; idx_vars j
  pointwise [k0_pay7, k0_pay5, E2]
  rfl

theorem dact11 (h : Fin 256 → Fin 512 → EReal) (y : Fin 256 → Fin 1024 → EReal) (w : Fin 512 → Fin 1024 → EReal) :
    k0_pay11 (F := Ideal) (k0_pay8 (E2 h)) (k0_pay9 (E2 y) (E2 w)) = E2 fun i d => dact (∑ j, y i j * w d j) (h i d) := by
  funext j; idx_vars j
  pointwise [k0_pay11, k0_pay8, k0_pay9, E2]
  rfl

theorem dact14 (h : Fin 256 → Fin 512 → EReal) (y : Fin 256 → Fin 1024 → EReal) (w : Fin 512 → Fin 1024 → EReal) :
    k0_pay14 (F := Ideal) (E2 h) (E2 y) (E2 w) = E2 fun i d => dact (∑ j, y i j * w d j) (h i d) := by
  funext j; idx_vars j
  pointwise [k0_pay14, k0_pay12, E2]
  rfl

theorem dact18 (h : Fin 256 → Fin 512 → EReal) (y : Fin 256 → Fin 1024 → EReal) (w : Fin 512 → Fin 1024 → EReal) :
    k0_pay18 (F := Ideal) (k0_pay15 (E2 h)) (k0_pay16 (E2 y) (E2 w)) = E2 fun i d => dact (∑ j, y i j * w d j) (h i d) := by
  funext j; idx_vars j
  pointwise [k0_pay18, k0_pay15, k0_pay16, E2]
  rfl

theorem dact21 (h : Fin 256 → Fin 512 → EReal) (y : Fin 256 → Fin 1024 → EReal) (w : Fin 512 → Fin 1024 → EReal) :
    k0_pay21 (F := Ideal) (E2 h) (E2 y) (E2 w) = E2 fun i d => dact (∑ j, y i j * w d j) (h i d) := by
  funext j; idx_vars j
  pointwise [k0_pay21, k0_pay19, E2]
  rfl

theorem dact25 (h : Fin 256 → Fin 512 → EReal) (y : Fin 256 → Fin 1024 → EReal) (w : Fin 512 → Fin 1024 → EReal) :
    k0_pay25 (F := Ideal) (k0_pay22 (E2 h)) (k0_pay23 (E2 y)) (E2 w) = E2 fun i d => dact (∑ j, y i j * w d j) (h i d) := by
  funext j; idx_vars j
  pointwise [k0_pay25, k0_pay22, k0_pay23, E2]
  rfl

theorem dact28 (h : Fin 256 → Fin 512 → EReal) (y : Fin 256 → Fin 1024 → EReal) (w : Fin 512 → Fin 1024 → EReal) :
    k0_pay28 (F := Ideal) (E2 h) (E2 y) (E2 w) = E2 fun i d => dact (∑ j, y i j * w d j) (h i d) := by
  funext j; idx_vars j
  pointwise [k0_pay28, k0_pay26, E2]
  rfl

theorem dact31 (h : Fin 256 → Fin 512 → EReal) (y : Fin 256 → Fin 1024 → EReal) (w : Fin 512 → Fin 1024 → EReal) :
    k0_pay31 (F := Ideal) (k0_pay29 (E2 h)) (E2 y) (E2 w) = E2 fun i d => dact (∑ j, y i j * w d j) (h i d) := by
  funext j; idx_vars j
  pointwise [k0_pay31, k0_pay29, E2]
  rfl

/-! The rest of the point. -/

theorem pay32_eq (d : Fin 256 → Fin 4096 → EReal) (u : Fin 4096 → Fin 1024 → EReal) :
    k0_pay32 (F := Ideal) (E2 d) (E2 u) = E2 fun i => back (d i) u := by
  funext j; idx_vars j
  pointwise [k0_pay32, E2]
  rfl

theorem pay33_eq (x : Fin 256 → Fin 1024 → EReal) : k0_pay33 (F := Ideal) (E2 x) = E2 fun i (_ : Fin 1) => scale (x i) := by
  funext j; idx_vars j
  pointwise [k0_pay33, E2]
  rfl

theorem pay34_eq (x : Fin 256 → Fin 1024 → EReal) : k0_pay34 (F := Ideal) (E2 x) = E2 fun i => unit (x i) := by
  funext j; idx_vars j
  unfold k0_pay34
  rw [pay33_eq]
  pointwise [E2]
  rfl

theorem pay1_eq (d : Fin 256 → Fin 4096 → EReal) (u : Fin 4096 → Fin 1024 → EReal) (x y : Fin 256 → Fin 1024 → EReal)
    (g : Fin 1 → Fin 1024 → EReal) :
    k0_pay1 (F := Ideal) (k0_pay33 (E2 x)) (k0_pay34 (E2 x)) (k0_pay35 (E2 d) (E2 u) (E2 g)) (k0_pay36 (E2 d) (E2 u) (E2 x) (E2 g)) (E2 y)
      = E2 fun i j => y i j + dunit (x i) (fun j => back (d i) u j * g 0 j) j := by
  funext j; idx_vars j
  unfold k0_pay1 k0_pay36 k0_pay35
  rw [pay32_eq, pay33_eq, pay34_eq]
  pointwise [E2]
  rfl

theorem pay2_eq (d : Fin 256 → Fin 4096 → EReal) (u : Fin 4096 → Fin 1024 → EReal) (x y : Fin 256 → Fin 1024 → EReal)
    (g : Fin 1 → Fin 1024 → EReal) :
    k0_pay2 (F := Ideal) (k0_pay33 (E2 x)) (k0_pay34 (E2 x)) (k0_pay35 (E2 d) (E2 u) (E2 g)) (k0_pay36 (E2 d) (E2 u) (E2 x) (E2 g)) (E2 y)
      = E2 fun i j => y i j + dunit (x i) (fun j => back (d i) u j * g 0 j) j := by
  unfold k0_pay2
  rw [pay1_eq]
  funext j; idx_vars j
  pointwise [E2]

theorem pay3_eq (d : Fin 256 → Fin 4096 → EReal) (u : Fin 4096 → Fin 1024 → EReal) (x : Fin 256 → Fin 1024 → EReal)
    (o : Fin 8 → Fin 1024 → EReal) : k0_pay3 (F := Ideal) (k0_pay32 (E2 d) (E2 u)) (k0_pay34 (E2 x)) (E2 o)
      = E2 fun r j => o r j + ∑ i, back (d i) u j * unit (x i) j := by
  rw [pay32_eq, pay34_eq]
  funext j; idx_vars j
  pointwise [k0_pay3, E2]

theorem pay4_eq : k0_pay4 (F := Ideal) = E2 fun _ _ => 0 := by
  funext j; idx_vars j
  pointwise [k0_pay4, E2]

/-! ## Slices -/

theorem ld_cols (f : Fin 256 → Fin 4096 → EReal) (o : ℕ) (h : o + 512 ≤ 4096) (hb) :
    View.ld (Val := Elt Ideal) (e' := .bf16) (E2 f) (Rect.unit (s := S256x4096) ![0, o] ![256, 512] hb) = E2 fun i d => f i (colAt o h d) := by
  funext j; idx_vars j
  exact congrArg₂ f (Fin.ext (by simp [LoadRect.idx])) (Fin.ext (by simp [LoadRect.idx, colAt]))

theorem ld_rows (f : Fin 4096 → Fin 1024 → EReal) (o : ℕ) (h : o + 512 ≤ 4096) (hb) :
    View.ld (Val := Elt Ideal) (e' := .bf16) (E2 f) (Rect.unit (s := S4096x1024) ![o, 0] ![512, 1024] hb) = E2 fun d => f (colAt o h d) := by
  funext j; idx_vars j
  exact congrArg₂ f (Fin.ext (by simp [LoadRect.idx, colAt])) (Fin.ext (by simp [LoadRect.idx]))

/-- A slice of a block: its elements are those of the whole at the slice's columns. -/
theorem piece (f : Fin 256 → Fin 4096 → EReal) (o : ℕ) (h : o + 512 ≤ 4096) (hb) (x : S256x512.Idx) :
    E2 (fun i d => f i (colAt o h d)) x = E2 f ((Rect.unit (s := S256x4096) ![0, o] ![256, 512] hb).emb x) :=
  congrArg₂ f (Fin.ext (by simp [Rect.emb_apply])) (Fin.ext (by simp [Rect.emb_apply, colAt]))

/-- Eight slices stored side by side are the whole block. -/
theorem canon_cols (f : Fin 256 → Fin 4096 → EReal) (hb0 hb1 hb2 hb3 hb4 hb5 hb6 hb7) :
    View.canon (Val := Elt Ideal) (s := S256x4096) (e := .bf16)
      [⟨Rect.unit ![0, 3584] ![256, 512] hb7, E2 fun i d => f i (colAt 3584 (by decide) d)⟩,
        ⟨Rect.unit ![0, 3072] ![256, 512] hb6, E2 fun i d => f i (colAt 3072 (by decide) d)⟩,
        ⟨Rect.unit ![0, 2560] ![256, 512] hb5, E2 fun i d => f i (colAt 2560 (by decide) d)⟩,
        ⟨Rect.unit ![0, 2048] ![256, 512] hb4, E2 fun i d => f i (colAt 2048 (by decide) d)⟩,
        ⟨Rect.unit ![0, 1536] ![256, 512] hb3, E2 fun i d => f i (colAt 1536 (by decide) d)⟩,
        ⟨Rect.unit ![0, 1024] ![256, 512] hb2, E2 fun i d => f i (colAt 1024 (by decide) d)⟩,
        ⟨Rect.unit ![0, 512] ![256, 512] hb1, E2 fun i d => f i (colAt 512 (by decide) d)⟩,
        ⟨Rect.unit ![0, 0] ![256, 512] hb0, E2 fun i d => f i (colAt 0 (by decide) d)⟩] = E2 f := by
  funext j
  refine View.canon_apply_of_pieces (Val := Elt Ideal) (S := S256x4096) (e := .bf16) (E2 f) _ ?_ j ?_
  · intro p hp x
    simp only [List.mem_cons, List.not_mem_nil, or_false] at hp
    rcases hp with rfl | rfl | rfl | rfl | rfl | rfl | rfl | rfl
    · exact piece f 3584 (by decide) hb7 x
    · exact piece f 3072 (by decide) hb6 x
    · exact piece f 2560 (by decide) hb5 x
    · exact piece f 2048 (by decide) hb4 x
    · exact piece f 1536 (by decide) hb3 x
    · exact piece f 1024 (by decide) hb2 x
    · exact piece f 512 (by decide) hb1 x
    · exact piece f 0 (by decide) hb0 x
  · exact View.cover_of_tiledL _ ![256, 512] (by rfl) j

/-- The whole block read back once the eight slices are stored. -/
theorem readCov_cols {sig κ sp} (w : View sig κ sp S256x4096 .bf16) (f : Fin 256 → Fin 4096 → EReal) (hb0 hb1 hb2 hb3 hb4 hb5 hb6 hb7 hw) :
    w.readCov (Val := Elt Ideal)
      [⟨Rect.unit ![0, 3584] ![256, 512] hb7, E2 fun i d => f i (colAt 3584 (by decide) d)⟩,
        ⟨Rect.unit ![0, 3072] ![256, 512] hb6, E2 fun i d => f i (colAt 3072 (by decide) d)⟩,
        ⟨Rect.unit ![0, 2560] ![256, 512] hb5, E2 fun i d => f i (colAt 2560 (by decide) d)⟩,
        ⟨Rect.unit ![0, 2048] ![256, 512] hb4, E2 fun i d => f i (colAt 2048 (by decide) d)⟩,
        ⟨Rect.unit ![0, 1536] ![256, 512] hb3, E2 fun i d => f i (colAt 1536 (by decide) d)⟩,
        ⟨Rect.unit ![0, 1024] ![256, 512] hb2, E2 fun i d => f i (colAt 1024 (by decide) d)⟩,
        ⟨Rect.unit ![0, 512] ![256, 512] hb1, E2 fun i d => f i (colAt 512 (by decide) d)⟩,
        ⟨Rect.unit ![0, 0] ![256, 512] hb0, E2 fun i d => f i (colAt 0 (by decide) d)⟩]
      (Rect.unit (s := S256x4096) ![0, 0] ![256, 4096] hw).toLoadRect = E2 f := by
  rw [View.readCov_eq_canon', canon_cols f hb0 hb1 hb2 hb3 hb4 hb5 hb6 hb7]
  funext j
  exact congrArg₂ f (Fin.ext (by simp [LoadRect.idx])) (Fin.ext (by simp [LoadRect.idx]))

/-! The slices read. -/

theorem cols0 (f : Fin 256 → Fin 4096 → EReal) (hb) :
    View.ld (Val := Elt Ideal) (e' := .bf16) (E2 f) (Rect.unit (s := S256x4096) ![0, 0] ![256, 512] hb)
      = E2 fun i d => f i (colAt 0 (by decide) d) := ld_cols f _ _ hb

theorem rows0 (f : Fin 4096 → Fin 1024 → EReal) (hb) :
    View.ld (Val := Elt Ideal) (e' := .bf16) (E2 f) (Rect.unit (s := S4096x1024) ![0, 0] ![512, 1024] hb)
      = E2 fun d => f (colAt 0 (by decide) d) := ld_rows f _ _ hb

theorem cols1 (f : Fin 256 → Fin 4096 → EReal) (hb) :
    View.ld (Val := Elt Ideal) (e' := .bf16) (E2 f) (Rect.unit (s := S256x4096) ![0, 512] ![256, 512] hb)
      = E2 fun i d => f i (colAt 512 (by decide) d) := ld_cols f _ _ hb

theorem rows1 (f : Fin 4096 → Fin 1024 → EReal) (hb) :
    View.ld (Val := Elt Ideal) (e' := .bf16) (E2 f) (Rect.unit (s := S4096x1024) ![512, 0] ![512, 1024] hb)
      = E2 fun d => f (colAt 512 (by decide) d) := ld_rows f _ _ hb

theorem cols2 (f : Fin 256 → Fin 4096 → EReal) (hb) :
    View.ld (Val := Elt Ideal) (e' := .bf16) (E2 f) (Rect.unit (s := S256x4096) ![0, 1024] ![256, 512] hb)
      = E2 fun i d => f i (colAt 1024 (by decide) d) := ld_cols f _ _ hb

theorem rows2 (f : Fin 4096 → Fin 1024 → EReal) (hb) :
    View.ld (Val := Elt Ideal) (e' := .bf16) (E2 f) (Rect.unit (s := S4096x1024) ![1024, 0] ![512, 1024] hb)
      = E2 fun d => f (colAt 1024 (by decide) d) := ld_rows f _ _ hb

theorem cols3 (f : Fin 256 → Fin 4096 → EReal) (hb) :
    View.ld (Val := Elt Ideal) (e' := .bf16) (E2 f) (Rect.unit (s := S256x4096) ![0, 1536] ![256, 512] hb)
      = E2 fun i d => f i (colAt 1536 (by decide) d) := ld_cols f _ _ hb

theorem rows3 (f : Fin 4096 → Fin 1024 → EReal) (hb) :
    View.ld (Val := Elt Ideal) (e' := .bf16) (E2 f) (Rect.unit (s := S4096x1024) ![1536, 0] ![512, 1024] hb)
      = E2 fun d => f (colAt 1536 (by decide) d) := ld_rows f _ _ hb

theorem cols4 (f : Fin 256 → Fin 4096 → EReal) (hb) :
    View.ld (Val := Elt Ideal) (e' := .bf16) (E2 f) (Rect.unit (s := S256x4096) ![0, 2048] ![256, 512] hb)
      = E2 fun i d => f i (colAt 2048 (by decide) d) := ld_cols f _ _ hb

theorem rows4 (f : Fin 4096 → Fin 1024 → EReal) (hb) :
    View.ld (Val := Elt Ideal) (e' := .bf16) (E2 f) (Rect.unit (s := S4096x1024) ![2048, 0] ![512, 1024] hb)
      = E2 fun d => f (colAt 2048 (by decide) d) := ld_rows f _ _ hb

theorem cols5 (f : Fin 256 → Fin 4096 → EReal) (hb) :
    View.ld (Val := Elt Ideal) (e' := .bf16) (E2 f) (Rect.unit (s := S256x4096) ![0, 2560] ![256, 512] hb)
      = E2 fun i d => f i (colAt 2560 (by decide) d) := ld_cols f _ _ hb

theorem rows5 (f : Fin 4096 → Fin 1024 → EReal) (hb) :
    View.ld (Val := Elt Ideal) (e' := .bf16) (E2 f) (Rect.unit (s := S4096x1024) ![2560, 0] ![512, 1024] hb)
      = E2 fun d => f (colAt 2560 (by decide) d) := ld_rows f _ _ hb

theorem cols6 (f : Fin 256 → Fin 4096 → EReal) (hb) :
    View.ld (Val := Elt Ideal) (e' := .bf16) (E2 f) (Rect.unit (s := S256x4096) ![0, 3072] ![256, 512] hb)
      = E2 fun i d => f i (colAt 3072 (by decide) d) := ld_cols f _ _ hb

theorem rows6 (f : Fin 4096 → Fin 1024 → EReal) (hb) :
    View.ld (Val := Elt Ideal) (e' := .bf16) (E2 f) (Rect.unit (s := S4096x1024) ![3072, 0] ![512, 1024] hb)
      = E2 fun d => f (colAt 3072 (by decide) d) := ld_rows f _ _ hb

theorem cols7 (f : Fin 256 → Fin 4096 → EReal) (hb) :
    View.ld (Val := Elt Ideal) (e' := .bf16) (E2 f) (Rect.unit (s := S256x4096) ![0, 3584] ![256, 512] hb)
      = E2 fun i d => f i (colAt 3584 (by decide) d) := ld_cols f _ _ hb

theorem rows7 (f : Fin 4096 → Fin 1024 → EReal) (hb) :
    View.ld (Val := Elt Ideal) (e' := .bf16) (E2 f) (Rect.unit (s := S4096x1024) ![3584, 0] ![512, 1024] hb)
      = E2 fun d => f (colAt 3584 (by decide) d) := ld_rows f _ _ hb

/-- The gradient of the entries, its eight slices stored side by side. -/
theorem canon_dpre (y : Fin 256 → Fin 1024 → EReal) (w : Fin 4096 → Fin 1024 → EReal) (h : Fin 256 → Fin 4096 → EReal) (hb0 hb1 hb2 hb3 hb4 hb5 hb6 hb7) :
    View.canon (Val := Elt Ideal) (s := S256x4096) (e := .bf16)
      [⟨Rect.unit ![0, 3584] ![256, 512] hb7, E2 fun i d => dact (∑ j, y i j * w (colAt 3584 (by decide) d) j) (h i (colAt 3584 (by decide) d))⟩,
        ⟨Rect.unit ![0, 3072] ![256, 512] hb6, E2 fun i d => dact (∑ j, y i j * w (colAt 3072 (by decide) d) j) (h i (colAt 3072 (by decide) d))⟩,
        ⟨Rect.unit ![0, 2560] ![256, 512] hb5, E2 fun i d => dact (∑ j, y i j * w (colAt 2560 (by decide) d) j) (h i (colAt 2560 (by decide) d))⟩,
        ⟨Rect.unit ![0, 2048] ![256, 512] hb4, E2 fun i d => dact (∑ j, y i j * w (colAt 2048 (by decide) d) j) (h i (colAt 2048 (by decide) d))⟩,
        ⟨Rect.unit ![0, 1536] ![256, 512] hb3, E2 fun i d => dact (∑ j, y i j * w (colAt 1536 (by decide) d) j) (h i (colAt 1536 (by decide) d))⟩,
        ⟨Rect.unit ![0, 1024] ![256, 512] hb2, E2 fun i d => dact (∑ j, y i j * w (colAt 1024 (by decide) d) j) (h i (colAt 1024 (by decide) d))⟩,
        ⟨Rect.unit ![0, 512] ![256, 512] hb1, E2 fun i d => dact (∑ j, y i j * w (colAt 512 (by decide) d) j) (h i (colAt 512 (by decide) d))⟩,
        ⟨Rect.unit ![0, 0] ![256, 512] hb0, E2 fun i d => dact (∑ j, y i j * w (colAt 0 (by decide) d) j) (h i (colAt 0 (by decide) d))⟩] = E2 fun i => dpre (y i) w (h i) :=
  canon_cols (fun i => dpre (y i) w (h i)) hb0 hb1 hb2 hb3 hb4 hb5 hb6 hb7

/-- The same read back. -/
theorem readCov_dpre {sig κ sp} (v : View sig κ sp S256x4096 .bf16) (y : Fin 256 → Fin 1024 → EReal) (w : Fin 4096 → Fin 1024 → EReal)
    (h : Fin 256 → Fin 4096 → EReal) (hb0 hb1 hb2 hb3 hb4 hb5 hb6 hb7 hw) :
    v.readCov (Val := Elt Ideal)
      [⟨Rect.unit ![0, 3584] ![256, 512] hb7, E2 fun i d => dact (∑ j, y i j * w (colAt 3584 (by decide) d) j) (h i (colAt 3584 (by decide) d))⟩,
        ⟨Rect.unit ![0, 3072] ![256, 512] hb6, E2 fun i d => dact (∑ j, y i j * w (colAt 3072 (by decide) d) j) (h i (colAt 3072 (by decide) d))⟩,
        ⟨Rect.unit ![0, 2560] ![256, 512] hb5, E2 fun i d => dact (∑ j, y i j * w (colAt 2560 (by decide) d) j) (h i (colAt 2560 (by decide) d))⟩,
        ⟨Rect.unit ![0, 2048] ![256, 512] hb4, E2 fun i d => dact (∑ j, y i j * w (colAt 2048 (by decide) d) j) (h i (colAt 2048 (by decide) d))⟩,
        ⟨Rect.unit ![0, 1536] ![256, 512] hb3, E2 fun i d => dact (∑ j, y i j * w (colAt 1536 (by decide) d) j) (h i (colAt 1536 (by decide) d))⟩,
        ⟨Rect.unit ![0, 1024] ![256, 512] hb2, E2 fun i d => dact (∑ j, y i j * w (colAt 1024 (by decide) d) j) (h i (colAt 1024 (by decide) d))⟩,
        ⟨Rect.unit ![0, 512] ![256, 512] hb1, E2 fun i d => dact (∑ j, y i j * w (colAt 512 (by decide) d) j) (h i (colAt 512 (by decide) d))⟩,
        ⟨Rect.unit ![0, 0] ![256, 512] hb0, E2 fun i d => dact (∑ j, y i j * w (colAt 0 (by decide) d) j) (h i (colAt 0 (by decide) d))⟩]
      (Rect.unit (s := S256x4096) ![0, 0] ![256, 4096] hw).toLoadRect = E2 fun i => dpre (y i) w (h i) :=
  readCov_cols v (fun i => dpre (y i) w (h i)) hb0 hb1 hb2 hb3 hb4 hb5 hb6 hb7 hw

/-- The activation, its eight slices stored side by side. -/
theorem canon_act (h : Fin 256 → Fin 4096 → EReal) (hb0 hb1 hb2 hb3 hb4 hb5 hb6 hb7) :
    View.canon (Val := Elt Ideal) (s := S256x4096) (e := .bf16)
      [⟨Rect.unit ![0, 3584] ![256, 512] hb7, E2 fun i d => act (h i (colAt 3584 (by decide) d))⟩,
        ⟨Rect.unit ![0, 3072] ![256, 512] hb6, E2 fun i d => act (h i (colAt 3072 (by decide) d))⟩,
        ⟨Rect.unit ![0, 2560] ![256, 512] hb5, E2 fun i d => act (h i (colAt 2560 (by decide) d))⟩,
        ⟨Rect.unit ![0, 2048] ![256, 512] hb4, E2 fun i d => act (h i (colAt 2048 (by decide) d))⟩,
        ⟨Rect.unit ![0, 1536] ![256, 512] hb3, E2 fun i d => act (h i (colAt 1536 (by decide) d))⟩,
        ⟨Rect.unit ![0, 1024] ![256, 512] hb2, E2 fun i d => act (h i (colAt 1024 (by decide) d))⟩,
        ⟨Rect.unit ![0, 512] ![256, 512] hb1, E2 fun i d => act (h i (colAt 512 (by decide) d))⟩,
        ⟨Rect.unit ![0, 0] ![256, 512] hb0, E2 fun i d => act (h i (colAt 0 (by decide) d))⟩] = E2 fun i k => act (h i k) :=
  canon_cols (fun i k => act (h i k)) hb0 hb1 hb2 hb3 hb4 hb5 hb6 hb7

end Cert.MlpBack

end
-- ==== Proof.Mlp.lean ====
module

public import proofs.«01_k».proof.Proof.MlpPoint

@[expose] public section

set_option maxRecDepth 16384

noncomputable section

/-! # The squared-rectifier layer's backward: what the kernel leaves -/

namespace Cert.MlpBack

open Idealize.ShloMosaic Idealize.ShloMosaic.TcCoe Idealize.SL.Sem Cert.MlpIdeal Cert.MlpIdeal.Gen Cert.MlpIdeal.Value Cert.Rows
open Idealize.ShloMosaic.Pipeline (Dat)

variable (m : (ℓ : Loc nD τ sig) → Buf (Elt Ideal) ℓ) (c : Dev nD)

/-! The five arguments. -/

abbrev argY : Fin 8192 → Fin 1024 → EReal := fun i j => m ((c.tc : Thread nD τ).loc main_arg0) (ix2 i j)
abbrev argW : Fin 4096 → Fin 1024 → EReal := fun i j => m ((c.tc : Thread nD τ).loc main_arg1) (ix2 i j)
abbrev argU : Fin 4096 → Fin 1024 → EReal := fun i j => m ((c.tc : Thread nD τ).loc main_arg2) (ix2 i j)
abbrev argX : Fin 8192 → Fin 1024 → EReal := fun i j => m ((c.tc : Thread nD τ).loc main_arg3) (ix2 i j)
abbrev argG : Fin 1 → Fin 1024 → EReal := fun i j => m ((c.tc : Thread nD τ).loc main_arg4) (ix2 i j)

/-- A row of entries: the normalised row through the first product. -/
def pre (x : Fin 1024 → EReal) (g : Fin 1 → Fin 1024 → EReal) (u : Fin 4096 → Fin 1024 → EReal) (k : Fin 4096) : EReal :=
  ∑ j, unit x j * g 0 j * u k j

/-- The entries the host saves. -/
theorem host_pre : V m c main_v15 = E2 fun i => pre (argX m c i) (argG m c) (argU m c) := by
  funext j; idx_vars j
  entry_read
  pointwise [E2]
  rfl

/-- The host's narrow copy of the incoming rows. -/
theorem host_in : V m c main_v16 = E2 (argY m c) := by
  funext j; idx_vars j
  entry_read
  rfl

/-- Where each window's block lies. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] :=
  (by decide +kernel : ∀ t : Fin grid0.N, _)

theorem inside (n : ℕ) (h : n < cfg0.N) : 256 * (n + 1) ≤ 8192 := by
  have := lt_of_lt_of_eq h (show cfg0.N = 32 from N_0); omega

/-- Row `i` of the block of point `t`. -/
abbrev row (t : Fin cfg0.N) (i : Fin 256) : Fin 8192 := rowAt 256 t.val (inside t.val t.isLt) i

theorem blk0 (t : Fin cfg0.N) : iblk m c 0 t = E2 fun i => argY m c (row t i) := by
  funext j; idx_vars j
  blk_ext [iblk, V, idx t, row, rowAt, E2]

theorem blk1 (t : Fin cfg0.N) : iblk m c 1 t = E2 fun i => argY m c (row t i) := by
  funext j; idx_vars j
  refine Eq.trans ?_ (congrFun (host_in m c) (ix2 (row t j0) j1))
  blk_ext [iblk, idx t, row, rowAt]

theorem blk2 (t : Fin cfg0.N) : iblk m c 2 t = E2 fun i => pre (argX m c (row t i)) (argG m c) (argU m c) := by
  funext j; idx_vars j
  refine Eq.trans ?_ (congrFun (host_pre m c) (ix2 (row t j0) j1))
  blk_ext [iblk, idx t, row, rowAt]

theorem blk3 (t : Fin cfg0.N) : iblk m c 3 t = E2 (argW m c) := by
  funext j; idx_vars j
  blk_ext [iblk, V, idx t, E2]

theorem blk4 (t : Fin cfg0.N) : iblk m c 4 t = E2 (argU m c) := by
  funext j; idx_vars j
  blk_ext [iblk, V, idx t, E2]

theorem blk5 (t : Fin cfg0.N) : iblk m c 5 t = E2 fun i => argX m c (row t i) := by
  funext j; idx_vars j
  blk_ext [iblk, V, idx t, row, rowAt, E2]

theorem blk6 (t : Fin cfg0.N) : iblk m c 6 t = E2 (argG m c) := by
  funext j; idx_vars j
  blk_ext [iblk, V, idx t, E2]

/-- A row of the gradient of the entries. -/
abbrev rowH (y : Fin 1024 → EReal) (w u : Fin 4096 → Fin 1024 → EReal) (x : Fin 1024 → EReal) (g : Fin 1 → Fin 1024 → EReal) :
    Fin 4096 → EReal := dpre y w (pre x g u)

/-- A row of activations. -/
def rowA (u : Fin 4096 → Fin 1024 → EReal) (x : Fin 1024 → EReal) (g : Fin 1 → Fin 1024 → EReal) (k : Fin 4096) : EReal := act (pre x g u k)

/-- A row of the gradient of the input. -/
def rowX (y : Fin 1024 → EReal) (w u : Fin 4096 → Fin 1024 → EReal) (x : Fin 1024 → EReal) (g : Fin 1 → Fin 1024 → EReal) (j : Fin 1024) : EReal :=
  y j + dunit x (fun j => back (rowH y w u x g) u j * g 0 j) j

/-- What a row adds to the gradient of the gain. -/
def rowG (y : Fin 1024 → EReal) (w u : Fin 4096 → Fin 1024 → EReal) (x : Fin 1024 → EReal) (g : Fin 1 → Fin 1024 → EReal) (j : Fin 1024) : EReal :=
  back (rowH y w u x g) u j * unit x j

theorem after7 (t : Fin cfg0.N) : (dats m 0 c).after 7 t
    = E2 fun i => rowA (argU m c) (argX m c (row t i)) (argG m c) := by
  by_cases h : t.val % 32 = 0
  · rw [after0_7, outsAt0_A m c t h]; frame_out
    simp only [blk2, cols0, cols1, cols2, cols3, cols4, cols5, cols6, cols7, act6, act10, act13, act17, act20, act24, act27, act30]
    exact canon_act (fun i => pre (argX m c (row t i)) (argG m c) (argU m c)) _ _ _ _ _ _ _ _
  · rw [after0_7, outsAt0_B m c t h]; frame_out
    simp only [blk2, cols0, cols1, cols2, cols3, cols4, cols5, cols6, cols7, act6, act10, act13, act17, act20, act24, act27, act30]
    exact canon_act (fun i => pre (argX m c (row t i)) (argG m c) (argU m c)) _ _ _ _ _ _ _ _

theorem after8 (t : Fin cfg0.N) : (dats m 0 c).after 8 t
    = E2 fun i => rowH (argY m c (row t i)) (argW m c) (argU m c) (argX m c (row t i)) (argG m c) := by
  by_cases h : t.val % 32 = 0
  · rw [after0_8, outsAt0_A m c t h]; frame_out
    simp only [blk0, blk1, blk2, blk3, blk4, blk5, blk6, cols0, cols1, cols2, cols3, cols4, cols5, cols6, cols7, rows0, rows1, rows2, rows3, rows4, rows5, rows6, rows7,
      dact7, dact11, dact14, dact18, dact21, dact25, dact28, dact31]
    exact canon_dpre (fun i => argY m c (row t i)) (argW m c) (fun i => pre (argX m c (row t i)) (argG m c) (argU m c)) _ _ _ _ _ _ _ _
  · rw [after0_8, outsAt0_B m c t h]; frame_out
    simp only [blk0, blk1, blk2, blk3, blk4, blk5, blk6, cols0, cols1, cols2, cols3, cols4, cols5, cols6, cols7, rows0, rows1, rows2, rows3, rows4, rows5, rows6, rows7,
      dact7, dact11, dact14, dact18, dact21, dact25, dact28, dact31]
    exact canon_dpre (fun i => argY m c (row t i)) (argW m c) (fun i => pre (argX m c (row t i)) (argG m c) (argU m c)) _ _ _ _ _ _ _ _

theorem after9 (t : Fin cfg0.N) : (dats m 0 c).after 9 t
    = E2 fun i => rowX (argY m c (row t i)) (argW m c) (argU m c) (argX m c (row t i)) (argG m c) := by
  by_cases h : t.val % 32 = 0
  · rw [after0_9, outsAt0_A m c t h]; frame_out
    simp only [blk0, blk1, blk2, blk3, blk4, blk5, blk6, cols0, cols1, cols2, cols3, cols4, cols5, cols6, cols7, rows0, rows1, rows2, rows3, rows4, rows5, rows6, rows7,
      dact7, dact11, dact14, dact18, dact21, dact25, dact28, dact31]
    rw [readCov_dpre _ (fun i => argY m c (row t i)) (argW m c) (fun i => pre (argX m c (row t i)) (argG m c) (argU m c))]
    exact pay1_eq _ _ _ _ _
  · rw [after0_9, outsAt0_B m c t h]; frame_out
    simp only [blk0, blk1, blk2, blk3, blk4, blk5, blk6, cols0, cols1, cols2, cols3, cols4, cols5, cols6, cols7, rows0, rows1, rows2, rows3, rows4, rows5, rows6, rows7,
      dact7, dact11, dact14, dact18, dact21, dact25, dact28, dact31]
    rw [readCov_dpre _ (fun i => argY m c (row t i)) (argW m c) (fun i => pre (argX m c (row t i)) (argG m c) (argU m c))]
    exact pay1_eq _ _ _ _ _

theorem after10 (t : Fin cfg0.N) : (dats m 0 c).after 10 t
    = E2 fun i => rowX (argY m c (row t i)) (argW m c) (argU m c) (argX m c (row t i)) (argG m c) := by
  by_cases h : t.val % 32 = 0
  · rw [after0_10, outsAt0_A m c t h]; frame_out
    simp only [blk0, blk1, blk2, blk3, blk4, blk5, blk6, cols0, cols1, cols2, cols3, cols4, cols5, cols6, cols7, rows0, rows1, rows2, rows3, rows4, rows5, rows6, rows7,
      dact7, dact11, dact14, dact18, dact21, dact25, dact28, dact31]
    rw [readCov_dpre _ (fun i => argY m c (row t i)) (argW m c) (fun i => pre (argX m c (row t i)) (argG m c) (argU m c))]
    exact pay2_eq _ _ _ _ _
  · rw [after0_10, outsAt0_B m c t h]; frame_out
    simp only [blk0, blk1, blk2, blk3, blk4, blk5, blk6, cols0, cols1, cols2, cols3, cols4, cols5, cols6, cols7, rows0, rows1, rows2, rows3, rows4, rows5, rows6, rows7,
      dact7, dact11, dact14, dact18, dact21, dact25, dact28, dact31]
    rw [readCov_dpre _ (fun i => argY m c (row t i)) (argW m c) (fun i => pre (argX m c (row t i)) (argG m c) (argU m c))]
    exact pay2_eq _ _ _ _ _

theorem after11_first (t : Fin cfg0.N) (h : t.val % 32 = 0) : (dats m 0 c).after 11 t
    = E2 fun _ j => ∑ i, rowG (argY m c (row t i)) (argW m c) (argU m c) (argX m c (row t i)) (argG m c) j := by
  rw [after0_11, outsAt0_A m c t h]; frame_out
  simp only [blk0, blk1, blk2, blk3, blk4, blk5, blk6, cols0, cols1, cols2, cols3, cols4, cols5, cols6, cols7, rows0, rows1, rows2, rows3, rows4, rows5, rows6, rows7,
    dact7, dact11, dact14, dact18, dact21, dact25, dact28, dact31]
  rw [readCov_dpre _ (fun i => argY m c (row t i)) (argW m c) (fun i => pre (argX m c (row t i)) (argG m c) (argU m c))]
  simp only [pay4_eq, pay3_eq, zero_add]
  rfl

theorem after11_next (t : Fin cfg0.N) (h : ¬ t.val % 32 = 0) (o : Fin 8 → Fin 1024 → EReal)
    (ho : (outsAt0 m c (t.val - 1) (by omega)).2.2.2.2 = E2 o) : (dats m 0 c).after 11 t
    = E2 fun r j => o r j + ∑ i, rowG (argY m c (row t i)) (argW m c) (argU m c) (argX m c (row t i)) (argG m c) j := by
  rw [after0_11, outsAt0_B m c t h]; frame_out
  simp only [blk0, blk1, blk2, blk3, blk4, blk5, blk6, ho, cols0, cols1, cols2, cols3, cols4, cols5, cols6, cols7, rows0, rows1, rows2, rows3, rows4, rows5, rows6, rows7,
    dact7, dact11, dact14, dact18, dact21, dact25, dact28, dact31]
  rw [readCov_dpre _ (fun i => argY m c (row t i)) (argW m c) (fun i => pre (argX m c (row t i)) (argG m c) (argU m c))]
  simp only [pay3_eq]
  rfl

/-- The gain's gradient after point `n`: the rows of the blocks up to it. -/
theorem acc11 (n : ℕ) (h : n < cfg0.N) : (outsAt0 m c n h).2.2.2.2
    = E2 fun _ j => upTo 256 (fun r => rowG (argY m c r) (argW m c) (argU m c) (argX m c r) (argG m c) j) n (inside n h) := by
  have hN : cfg0.N = 32 := N_0
  induction n with
  | zero =>
    rw [← after0_11 m c ⟨0, h⟩, after11_first m c ⟨0, h⟩ rfl]
    simp only [upTo_zero]
  | succ n ih =>
    rw [← after0_11 m c ⟨n + 1, h⟩, after11_next m c ⟨n + 1, h⟩ (by simp only; omega) _ (ih (by omega))]
    simp only [upTo_succ]

/-- Rows taken out of a matrix, read at one index. -/
theorem E2_rows {a b n : ℕ} (f : Fin n → Fin b → EReal) (r : Fin a → Fin n) (j : Shape.Idx ⟨2, ![a, b]⟩) (k : Shape.Idx ⟨2, ![n, b]⟩)
    (h : k = ix2 (r (j 0)) (j 1)) : E2 (fun i => f (r i)) j = E2 f k := by subst h; rfl

/-- The last point. -/
def last : Fin cfg0.N := ⟨31, lt_of_lt_of_eq (by decide : 31 < 32) (show cfg0.N = 32 from N_0).symm⟩

theorem emb7 (t : Fin cfg0.N) (j : S256x4096.Idx) : (win0_7.blk t).view.emb j = ix2 (row t (j 0)) (j 1) := by
  idx_vars j; blk_ext [idx t, row, rowAt]

theorem emb8 (t : Fin cfg0.N) (j : S256x4096.Idx) : (win0_8.blk t).view.emb j = ix2 (row t (j 0)) (j 1) := by
  idx_vars j; blk_ext [idx t, row, rowAt]

theorem emb9 (t : Fin cfg0.N) (j : S256x1024.Idx) : (win0_9.blk t).view.emb j = ix2 (row t (j 0)) (j 1) := by
  idx_vars j; blk_ext [idx t, row, rowAt]

theorem emb10 (t : Fin cfg0.N) (j : S256x1024.Idx) : (win0_10.blk t).view.emb j = ix2 (row t (j 0)) (j 1) := by
  idx_vars j; blk_ext [idx t, row, rowAt]

/-- The activations, as the kernel leaves them. -/
theorem arr7 : (dats m 0 c).arrAt 7 cfg0.N = E2 fun i => rowA (argU m c) (argX m c i) (argG m c) := by
  refine (dats m 0 c).arrAt_eq_of_covers 7 _ (by decide +kernel) fun t hf j => ?_
  blk_simp
  rw [after7]
  exact E2_rows (fun i => rowA (argU m c) (argX m c i) (argG m c)) (row t) j _ (emb7 t j)

/-- The gradient of the entries, as the kernel leaves it. -/
theorem arr8 : (dats m 0 c).arrAt 8 cfg0.N
    = E2 fun i => rowH (argY m c i) (argW m c) (argU m c) (argX m c i) (argG m c) := by
  refine (dats m 0 c).arrAt_eq_of_covers 8 _ (by decide +kernel) fun t hf j => ?_
  blk_simp
  rw [after8]
  exact E2_rows (fun i => rowH (argY m c i) (argW m c) (argU m c) (argX m c i) (argG m c)) (row t) j _ (emb8 t j)

/-- The gradient of the input, as the kernel leaves it. -/
theorem arr9 : (dats m 0 c).arrAt 9 cfg0.N
    = E2 fun i => rowX (argY m c i) (argW m c) (argU m c) (argX m c i) (argG m c) := by
  refine (dats m 0 c).arrAt_eq_of_covers 9 _ (by decide +kernel) fun t hf j => ?_
  blk_simp
  rw [after9]
  exact E2_rows (fun i => rowX (argY m c i) (argW m c) (argU m c) (argX m c i) (argG m c)) (row t) j _ (emb9 t j)

/-- Its narrow copy. -/
theorem arr10 : (dats m 0 c).arrAt 10 cfg0.N
    = E2 fun i => rowX (argY m c i) (argW m c) (argU m c) (argX m c i) (argG m c) := by
  refine (dats m 0 c).arrAt_eq_of_covers 10 _ (by decide +kernel) fun t hf j => ?_
  blk_simp
  rw [after10]
  exact E2_rows (fun i => rowX (argY m c i) (argW m c) (argU m c) (argX m c i) (argG m c)) (row t) j _ (emb10 t j)

/-- The gradient of the gain, as the kernel leaves it. -/
theorem arr11 : (dats m 0 c).arrAt 11 cfg0.N
    = E2 fun _ j => ∑ i, rowG (argY m c i) (argW m c) (argU m c) (argX m c i) (argG m c) j := by
  refine (dats m 0 c).arrAt_eq_of_after_last 11 last (by decide +kernel) _ fun j => ?_
  blk_simp
  rw [after0_11, acc11]
  exact upTo_all 256 (fun r => rowG (argY m c r) (argW m c) (argU m c) (argX m c r) (argG m c) (j 1)) 31 (by decide) rfl

end Cert.MlpBack

end
-- ==== Proof.MlpRef.lean ====
module

public import proofs.«01_k».proof.Proof.Gen.MlpReferenceIdeal.Read
public import proofs.«01_k».proof.Proof.Mlp

@[expose] public section

set_option maxRecDepth 16384

noncomputable section

/-! # The squared-rectifier layer's backward: what the reference computes

The derivative of the rectifier is a selection on the sign of the entry, and the factor two stands with the rectified entry; the
kernel multiplies by the rectified entry, which is zero where the selection gives zero. -/

namespace Cert.MlpBack

open Idealize.ShloMosaic Idealize.ShloMosaic.TcCoe Idealize.SL.Sem Cert.MlpReferenceIdeal Cert.MlpReferenceIdeal.Read Cert.Rows

/-- The two writings of the gradient of an entry. -/
theorem dact_eq (d h : EReal) : (if 0 < h then d * (two * max h 0) else 0) = dact d h := by
  unfold dact
  split_ifs with k
  · exact (mul_assoc d two (max h 0)).symm
  · rw [max_eq_right (not_lt.mp k), mul_zero]

variable (y : Fin 8192 → Fin 1024 → EReal) (w u : Fin 4096 → Fin 1024 → EReal) (x : Fin 8192 → Fin 1024 → EReal)
  (g : Fin 1 → Fin 1024 → EReal)

theorem ref9 : val_main_v9 (F := Ideal) (E2 x) = E2 fun i (_ : Fin 1) => meanSq (x i) := by
  funext j; idx_vars j
  pointwise [val_main_v9, val_main_v8, val_main_v7, val_main_v6, val_main_v5, val_main_v4, val_main_v3, val_main_cst, val_main_cst_0,
    val_main_cst_1, E2]
  rfl

theorem ref10 : val_main_v10 (F := Ideal) (E2 x) = E2 fun i (_ : Fin 1) => scale (x i) := by
  funext j; idx_vars j; unfold val_main_v10; rw [ref9]; pointwise [E2]
  rfl

theorem ref15 : val_main_v15 (F := Ideal) (E2 x) = E2 fun i => unit (x i) := by
  funext j; idx_vars j; unfold val_main_v15 val_main_v14; rw [ref10]; pointwise [E2]
  rfl

/-- The entries. -/
theorem ref18 : val_main_v18 (F := Ideal) (E2 u) (E2 x) (E2 g) = E2 fun i => pre (x i) g u := by
  funext j; idx_vars j
  unfold val_main_v18 val_main_v17 val_main_v16 val_main_v2 val_main_v1
  rw [ref15]
  pointwise [E2]
  rfl

theorem ref19 : val_main_v19 (F := Ideal) (E2 u) (E2 x) (E2 g) = E2 fun i k => max (pre (x i) g u k) 0 := by
  funext j; idx_vars j
  unfold val_main_v19
  rw [ref18]
  pointwise [val_main_call0_v0, val_main_call0_cst, E2]

theorem ref27 : val_main_v27 (F := Ideal) (E2 y) (E2 w) = E2 fun i => down (y i) w := by
  funext j; idx_vars j
  pointwise [val_main_v27, val_main_v0, E2]
  rfl

/-- The gradient of the entries. -/
theorem ref30 : val_main_v30 (F := Ideal) (E2 y) (E2 w) (E2 u) (E2 x) (E2 g) = E2 fun i => rowH (y i) w u (x i) g := by
  funext j; idx_vars j
  unfold val_main_v30 val_main_v28 val_main_v25 val_main_v24 val_main_v21 val_main_v20 val_main_v29
  rw [ref27, ref19, ref18]
  pointwise [val_main_cst_3, val_main_cst_5, val_main_cst_6, E2]
  exact dact_eq (down (y j0) w j1) (pre (x j0) g u j1)

theorem ref31 : val_main_v31 (F := Ideal) (E2 y) (E2 w) (E2 u) (E2 x) (E2 g) = E2 fun i => back (rowH (y i) w u (x i) g) u := by
  funext j; idx_vars j
  unfold val_main_v31 val_main_v2 val_main_v1
  rw [ref30]
  pointwise [E2]
  rfl

theorem ref36 : val_main_v36 (F := Ideal) (E2 y) (E2 w) (E2 u) (E2 x) (E2 g) = E2 fun i j => back (rowH (y i) w u (x i) g) u j * g 0 j := by
  funext j; idx_vars j; unfold val_main_v36 val_main_v35; rw [ref31]; pointwise [E2]

theorem ref45 : val_main_v45 (F := Ideal) (E2 y) (E2 w) (E2 u) (E2 x) (E2 g)
    = fun i => slope (x (i 0)) fun j => back (rowH (y (i 0)) w u (x (i 0)) g) u j * g 0 j := by
  funext j; idx_vars j
  unfold val_main_v45 val_main_v44 val_main_v43 val_main_v42 val_main_v39 val_main_v38 val_main_v37 val_main_v13 val_main_v12 val_main_v11
  rw [ref36, ref10, ref9]
  pointwise [val_main_cst_2, val_main_cst_7, val_main_cst_8, val_main_cst_9, val_main_cst_10, E2]
  simp only [Fin.sum_univ_one, Finset.sum_const, Finset.card_univ, Fintype.card_fin, one_smul]
  rfl

/-- The gradient of the input. -/
theorem ref51 : val_main_v51 (F := Ideal) (E2 y) (E2 w) (E2 u) (E2 x) (E2 g) = E2 fun i => rowX (y i) w u (x i) g := by
  funext j; idx_vars j
  unfold val_main_v51 val_main_v50 val_main_v49 val_main_v48 val_main_v47 val_main_v46 val_main_v41 val_main_v40
  rw [ref45, ref36, ref10]
  pointwise [E2]
  exact congrArg (y j0 j1 + ·) (dunit_eq (x j0) (fun j => back (rowH (y j0) w u (x j0) g) u j * g 0 j) j1)

/-- The activations. -/
theorem ref52 : val_main_v52 (F := Ideal) (E2 u) (E2 x) (E2 g) = E2 fun i => rowA u (x i) g := by
  funext j; idx_vars j; unfold val_main_v52 val_main_v23; rw [ref19]; pointwise [E2]
  rfl

/-- The gradient of the entries, narrow. -/
theorem ref53 : val_main_v53 (F := Ideal) (E2 y) (E2 w) (E2 u) (E2 x) (E2 g) = E2 fun i => rowH (y i) w u (x i) g := by
  funext j; idx_vars j; unfold val_main_v53; rw [ref30]; pointwise [E2]

/-- The gradient of the input, narrow. -/
theorem ref54 : val_main_v54 (F := Ideal) (E2 y) (E2 w) (E2 u) (E2 x) (E2 g) = E2 fun i => rowX (y i) w u (x i) g := by
  funext j; idx_vars j; unfold val_main_v54; rw [ref51]; pointwise [E2]

/-- The gradient of the gain. -/
theorem ref55 : val_main_v55 (F := Ideal) (E2 y) (E2 w) (E2 u) (E2 x) (E2 g)
    = E2 fun (_ : Fin 8) j => ∑ i, rowG (y i) w u (x i) g j := by
  funext j; idx_vars j
  unfold val_main_v55 val_main_v34 val_main_v33 val_main_v32
  rw [ref31, ref15]
  pointwise [val_main_cst_7, E2]
  exact Finset.sum_congr rfl fun i _ => mul_comm (G := EReal) _ _

end Cert.MlpBack

end
-- ==== Proof.Wide.lean ====
module

public import proofs.«01_k».proof.Proof.Gen.WideIdeal.Value
public import proofs.«01_k».proof.Proof.Gen.WideReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! # The down projection's weight gradient: a product accumulated over four blocks of rows

The kernel adds, for each block of columns, the products of four blocks of 2048 rows; the reference contracts the 8192 rows at
once. Both are the sum over all rows of one entry times the other, on all extended reals. -/

namespace Cert.WideProduct

open Idealize.ShloMosaic Idealize.ShloMosaic.TcCoe Idealize.SL.Sem Cert.WideIdeal Cert.WideIdeal.Gen Cert.WideIdeal.Value

variable {m : (ℓ : Loc nD τ sig) → Buf (Elt Ideal) ℓ} {c : Dev nD}

/-- Where each window's block lies. -/
theorem idx : ∀ t : Fin cfg0.N, win0_0.index t = ![t.val % 4, t.val / 4] ∧ win0_1.index t = ![t.val % 4, 0] :=
  (by decide +kernel : ∀ t : Fin grid0.N, _)

/-- The entry of the first argument that row `i`, column `j` of point `t`'s block holds. -/
theorem blkA (t : Fin cfg0.N) (i : Fin 2048) (j : Fin 1024) (i' : Fin 8192) (j' : Fin 4096)
    (hi : i'.val = 2048 * (t.val % 4) + i.val) (hj : j'.val = 1024 * (t.val / 4) + j.val) :
    iblk m c 0 t (ix2 i j) = m ((c.tc : Thread nD τ).loc main_arg0) (ix2 i' j') := by
  blk_ext [iblk, V, idx t]

/-- The entry of the second argument that row `i`, column `j` of point `t`'s block holds. -/
theorem blkB (t : Fin cfg0.N) (i : Fin 2048) (j : Fin 1024) (i' : Fin 8192) (j' : Fin 1024)
    (hi : i'.val = 2048 * (t.val % 4) + i.val) (hj : j'.val = j.val) :
    iblk m c 1 t (ix2 i j) = m ((c.tc : Thread nD τ).loc main_arg1) (ix2 i' j') := by
  blk_ext [iblk, V, idx t]

/-- One block's product: the sum over its rows. -/
def tile (x y : Vec Ideal S2048x1024 .bf16) (i : S1024x1024.Idx) : EReal := ∑ k : Fin 2048, x (ix2 k (i 0)) * y (ix2 k (i 1))

/-- One point's addition. -/
theorem step_apply (acc : Vec Ideal S1024x1024 .f32) (x y : Vec Ideal S2048x1024 .bf16) (i : S1024x1024.Idx) :
    k0_pay2 acc x y i = acc i + tile x y i := by
  idx_vars i
  pointwise [k0_pay2, tile]

theorem zero_apply (i : S1024x1024.Idx) : k0_pay1 (F := Ideal) i = 0 := by
  idx_vars i
  pointwise [k0_pay1]

/-- What point `n` of a run adds at `i`. -/
def addend (m : (ℓ : Loc nD τ sig) → Buf (Elt Ideal) ℓ) (c : Dev nD) (n : ℕ) (i : S1024x1024.Idx) : EReal :=
  if h : n < cfg0.N then tile (iblk m c 0 ⟨n, h⟩) (iblk m c 1 ⟨n, h⟩) i else 0

/-- The sum over all rows of the first argument's entry times the second's. -/
def prod (a : Vec Ideal S8192x4096 .bf16) (b : Vec Ideal S8192x1024 .bf16) : Vec Ideal S4096x1024 .f32 :=
  fun i => ∑ k : Fin 8192, a (ix2 k (i 0)) * b (ix2 k (i 1))

/-- What the kernel leaves is the sum over all rows. -/
theorem kernel_prod :
    G2 m c = prod (m ((c.tc : Thread nD τ).loc main_arg0)) (m ((c.tc : Thread nD τ).loc main_arg1)) := by
  funext i
  have hN : cfg0.N = 16 := N_0
  have h0 : (i 0).val < 4096 := (i 0).isLt
  have h1 : (i 1).val < 1024 := (i 1).isLt
  have hr : 4 * run2Of i + 3 < cfg0.N := by simp only [run2Of]; omega
  unfold G2
  rw [dif_pos hr]
  refine (Pipeline.accAt_add_apply (β := EReal) (reset2 m c) (step2 m c) (fun _ => 0) (addend m c) (4 * run2Of i) 3
    (fun h j => by rw [reset2, step_apply, zero_apply, addend, dif_pos h])
    (fun n h acc j _ _ => by rw [step2, step_apply, addend, dif_pos h]) 3 le_rfl hr _).trans ?_
  rw [zero_add, Finset.sum_range]
  refine Eq.trans ?_ (Fin.sum_mul_add_fin (M := EReal) 4 2048 (fun k : Fin 8192 => _))
  refine Finset.sum_congr rfl fun s _ => ?_
  have hs := s.isLt
  have hrun : run2Of i = (i 0).val / 1024 := by simp only [run2Of]; omega
  have hlt : 4 * run2Of i + s.val < cfg0.N := by rw [hrun]; omega
  rw [addend, dif_pos hlt]
  refine Finset.sum_congr rfl fun k _ => ?_
  refine congrArg₂ (· * ·) (blkA _ _ _ _ _ ?_ ?_) (blkB _ _ _ _ _ ?_ ?_)
  · simp only [hrun]; omega
  · simp only [hrun, loc2Of]; omega
  · simp only [hrun]; omega
  · simp only [loc2Of]; omega

/-- What the reference leaves is the same sum. -/
theorem reference_prod (a : Vec Ideal S8192x4096 .bf16) (b : Vec Ideal S8192x1024 .bf16) :
    Cert.WideReferenceIdeal.Read.val_main_v5 a b = prod a b := by
  funext i; idx_vars i
  unfold Cert.WideReferenceIdeal.Read.val_main_v5 Cert.WideReferenceIdeal.Read.val_main_v4 Cert.WideReferenceIdeal.Read.val_main_v1
    Cert.WideReferenceIdeal.Read.val_main_v0
  pointwise [prod]
  exact Finset.sum_congr rfl fun k _ => mul_comm (G := EReal) _ _

end Cert.WideProduct

end
-- ==== Proof.Square.lean ====
module

public import proofs.«01_k».proof.Proof.Gen.SquareIdeal.Value
public import proofs.«01_k».proof.Proof.Gen.SquareReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! # The square weights' gradients: a product accumulated over four blocks of rows

The kernel adds the products of four blocks of 2048 rows; the reference contracts the 8192 rows at
once. Both are the sum over all rows of one entry times the other, on all extended reals. -/

namespace Cert.SquareProduct

open Idealize.ShloMosaic Idealize.ShloMosaic.TcCoe Idealize.SL.Sem Cert.SquareIdeal Cert.SquareIdeal.Gen Cert.SquareIdeal.Value

variable {m : (ℓ : Loc nD τ sig) → Buf (Elt Ideal) ℓ} {c : Dev nD}

/-- Where each window's block lies. -/
theorem idx : ∀ t : Fin cfg0.N, win0_0.index t = ![t.val % 4, t.val / 4] ∧ win0_1.index t = ![t.val % 4, 0] :=
  (by decide +kernel : ∀ t : Fin grid0.N, _)

/-- The entry of the first argument that row `i`, column `j` of point `t`'s block holds. -/
theorem blkA (t : Fin cfg0.N) (i : Fin 2048) (j : Fin 1024) (i' : Fin 8192) (j' : Fin 1024)
    (hi : i'.val = 2048 * (t.val % 4) + i.val) (hj : j'.val = 1024 * (t.val / 4) + j.val) :
    iblk m c 0 t (ix2 i j) = m ((c.tc : Thread nD τ).loc main_arg0) (ix2 i' j') := by
  blk_ext [iblk, V, idx t]

/-- The entry of the second argument that row `i`, column `j` of point `t`'s block holds. -/
theorem blkB (t : Fin cfg0.N) (i : Fin 2048) (j : Fin 1024) (i' : Fin 8192) (j' : Fin 1024)
    (hi : i'.val = 2048 * (t.val % 4) + i.val) (hj : j'.val = j.val) :
    iblk m c 1 t (ix2 i j) = m ((c.tc : Thread nD τ).loc main_arg1) (ix2 i' j') := by
  blk_ext [iblk, V, idx t]

/-- One block's product: the sum over its rows. -/
def tile (x y : Vec Ideal S2048x1024 .bf16) (i : S1024x1024.Idx) : EReal := ∑ k : Fin 2048, x (ix2 k (i 0)) * y (ix2 k (i 1))

/-- One point's addition. -/
theorem step_apply (acc : Vec Ideal S1024x1024 .f32) (x y : Vec Ideal S2048x1024 .bf16) (i : S1024x1024.Idx) :
    k0_pay2 acc x y i = acc i + tile x y i := by
  idx_vars i
  pointwise [k0_pay2, tile]

theorem zero_apply (i : S1024x1024.Idx) : k0_pay1 (F := Ideal) i = 0 := by
  idx_vars i
  pointwise [k0_pay1]

/-- What point `n` of a run adds at `i`. -/
def addend (m : (ℓ : Loc nD τ sig) → Buf (Elt Ideal) ℓ) (c : Dev nD) (n : ℕ) (i : S1024x1024.Idx) : EReal :=
  if h : n < cfg0.N then tile (iblk m c 0 ⟨n, h⟩) (iblk m c 1 ⟨n, h⟩) i else 0

/-- The sum over all rows of the first argument's entry times the second's. -/
def prod (a : Vec Ideal S8192x1024 .bf16) (b : Vec Ideal S8192x1024 .bf16) : Vec Ideal S1024x1024 .f32 :=
  fun i => ∑ k : Fin 8192, a (ix2 k (i 0)) * b (ix2 k (i 1))

/-- What the kernel leaves is the sum over all rows. -/
theorem kernel_prod :
    G2 m c = prod (m ((c.tc : Thread nD τ).loc main_arg0)) (m ((c.tc : Thread nD τ).loc main_arg1)) := by
  funext i
  have hN : cfg0.N = 4 := N_0
  have h0 : (i 0).val < 1024 := (i 0).isLt
  have h1 : (i 1).val < 1024 := (i 1).isLt
  have hr : 4 * run2Of i + 3 < cfg0.N := by simp only [run2Of]; omega
  unfold G2
  rw [dif_pos hr]
  refine (Pipeline.accAt_add_apply (β := EReal) (reset2 m c) (step2 m c) (fun _ => 0) (addend m c) (4 * run2Of i) 3
    (fun h j => by rw [reset2, step_apply, zero_apply, addend, dif_pos h])
    (fun n h acc j _ _ => by rw [step2, step_apply, addend, dif_pos h]) 3 le_rfl hr _).trans ?_
  rw [zero_add, Finset.sum_range]
  refine Eq.trans ?_ (Fin.sum_mul_add_fin (M := EReal) 4 2048 (fun k : Fin 8192 => _))
  refine Finset.sum_congr rfl fun s _ => ?_
  have hs := s.isLt
  have hrun : run2Of i = (i 0).val / 1024 := by simp only [run2Of]; omega
  have hlt : 4 * run2Of i + s.val < cfg0.N := by rw [hrun]; omega
  rw [addend, dif_pos hlt]
  refine Finset.sum_congr rfl fun k _ => ?_
  refine congrArg₂ (· * ·) (blkA _ _ _ _ _ ?_ ?_) (blkB _ _ _ _ _ ?_ ?_)
  · simp only [hrun]; omega
  · simp only [hrun, loc2Of]; omega
  · simp only [hrun]; omega
  · simp only [loc2Of]; omega

/-- What the reference leaves is the same sum. -/
theorem reference_prod (a : Vec Ideal S8192x1024 .bf16) (b : Vec Ideal S8192x1024 .bf16) :
    Cert.SquareReferenceIdeal.Read.val_main_v5 a b = prod a b := by
  funext i; idx_vars i
  unfold Cert.SquareReferenceIdeal.Read.val_main_v5 Cert.SquareReferenceIdeal.Read.val_main_v4 Cert.SquareReferenceIdeal.Read.val_main_v1
    Cert.SquareReferenceIdeal.Read.val_main_v0
  pointwise [prod]
  exact Finset.sum_congr rfl fun k _ => mul_comm (G := EReal) _ _

end Cert.SquareProduct

end
-- ==== Proof.Input.lean ====
module

public import proofs.«01_k».proof.Proof.Gen.InputIdeal.Value
public import proofs.«01_k».proof.Proof.Rows
public import Idealize.ShloMosaic.Lib.Pipeline.ValueKit
public import Idealize.ShloMosaic.Lib.Pipeline.ReadBack

@[expose] public section

set_option maxRecDepth 16384

noncomputable section

/-! # The input projection's backward: what the kernel leaves -/

namespace Cert.InputBack

open Idealize.ShloMosaic Idealize.ShloMosaic.TcCoe Idealize.SL.Sem Cert.InputIdeal Cert.InputIdeal.Gen Cert.InputIdeal.Value Cert.Rows
open Idealize.ShloMosaic.Pipeline (Dat)

/-- The gradient of the normalised row: the incoming row, its padding left out, through the projection. -/
def back (z : Fin 3200 → EReal) (w : Fin 3104 → Fin 1024 → EReal) (j : Fin 1024) : EReal :=
  ∑ k : Fin 3104, z ⟨k.val, by omega⟩ * w k j

theorem pay4_eq (z : Fin 512 → Fin 3200 → EReal) (w : Fin 3104 → Fin 1024 → EReal) (hb1 hb2 hb3 hb4) :
    k0_pay4 (F := Ideal) (View.ld (Val := Elt Ideal) (e' := .bf16) (E2 z) (Rect.unit (s := S512x3200) ![0, 0] ![512, 3072] hb1))
      (View.ld (Val := Elt Ideal) (e' := .bf16) (E2 w) (Rect.unit (s := S3104x1024) ![0, 0] ![3072, 1024] hb2))
      (View.ld (Val := Elt Ideal) (e' := .bf16) (E2 z) (Rect.unit (s := S512x3200) ![0, 3072] ![512, 128] hb3))
      (View.ld (Val := Elt Ideal) (e' := .bf16) (E2 w) (Rect.unit (s := S3104x1024) ![3072, 0] ![32, 1024] hb4))
      = E2 fun i => back (z i) w := by
  funext j; idx_vars j
  pointwise [k0_pay4, E2]
  simp only [mul_zero, Finset.sum_const_zero, add_zero]
  exact (Fin.sum_univ_add (a := 3072) (b := 32) fun k : Fin (3072 + 32) => z j0 ⟨k.val, by omega⟩ * w k j1).symm

theorem pay5_eq (x : Fin 512 → Fin 1024 → EReal) : k0_pay5 (F := Ideal) (E2 x) = E2 fun i (_ : Fin 1) => scale (x i) := by
  funext j; idx_vars j
  pointwise [k0_pay5, E2]
  rfl

theorem pay6_eq (x : Fin 512 → Fin 1024 → EReal) : k0_pay6 (F := Ideal) (E2 x) = E2 fun i => unit (x i) := by
  funext j; idx_vars j
  unfold k0_pay6
  rw [pay5_eq]
  pointwise [E2]
  rfl

theorem pay7_eq (z : Fin 512 → Fin 3200 → EReal) (w : Fin 3104 → Fin 1024 → EReal) (x : Fin 512 → Fin 1024 → EReal)
    (g : Fin 1 → Fin 1024 → EReal) (hb1 hb2 hb3 hb4) :
    k0_pay7 (F := Ideal) (View.ld (Val := Elt Ideal) (e' := .bf16) (E2 z) (Rect.unit (s := S512x3200) ![0, 0] ![512, 3072] hb1))
      (View.ld (Val := Elt Ideal) (e' := .bf16) (E2 w) (Rect.unit (s := S3104x1024) ![0, 0] ![3072, 1024] hb2))
      (View.ld (Val := Elt Ideal) (e' := .bf16) (E2 z) (Rect.unit (s := S512x3200) ![0, 3072] ![512, 128] hb3))
      (View.ld (Val := Elt Ideal) (e' := .bf16) (E2 w) (Rect.unit (s := S3104x1024) ![3072, 0] ![32, 1024] hb4)) (E2 x) (E2 g)
      = E2 fun i => dunit (x i) fun j => back (z i) w j * g 0 j := by
  funext j; idx_vars j
  unfold k0_pay7
  rw [pay4_eq, pay5_eq, pay6_eq]
  pointwise [E2]
  rfl

theorem pay1_eq (a b : Fin 512 → Fin 1024 → EReal) : k0_pay1 (F := Ideal) (E2 a) (E2 b) = E2 fun i j => b i j + a i j := by
  funext j; idx_vars j
  pointwise [k0_pay1, E2]

theorem pay2_eq (a b : Fin 512 → Fin 1024 → EReal) (o : Fin 8 → Fin 1024 → EReal) :
    k0_pay2 (F := Ideal) (E2 a) (E2 b) (E2 o) = E2 fun r j => o r j + ∑ i, a i j * b i j := by
  funext j; idx_vars j
  pointwise [k0_pay2, E2]

theorem pay3_eq : k0_pay3 (F := Ideal) = E2 fun _ _ => 0 := by
  funext j; idx_vars j
  pointwise [k0_pay3, E2]

section

variable (m : (ℓ : Loc nD τ sig) → Buf (Elt Ideal) ℓ) (c : Dev nD)

/-! The five arguments. -/

abbrev argZ : Fin 8192 → Fin 3200 → EReal := fun i j => m ((c.tc : Thread nD τ).loc main_arg0) (ix2 i j)
abbrev argW : Fin 3104 → Fin 1024 → EReal := fun i j => m ((c.tc : Thread nD τ).loc main_arg1) (ix2 i j)
abbrev argX : Fin 8192 → Fin 1024 → EReal := fun i j => m ((c.tc : Thread nD τ).loc main_arg2) (ix2 i j)
abbrev argY : Fin 8192 → Fin 1024 → EReal := fun i j => m ((c.tc : Thread nD τ).loc main_arg3) (ix2 i j)
abbrev argG : Fin 1 → Fin 1024 → EReal := fun i j => m ((c.tc : Thread nD τ).loc main_arg4) (ix2 i j)

/-- Where each window's block lies. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

theorem inside (n : ℕ) (h : n < cfg0.N) : 512 * (n + 1) ≤ 8192 := by
  have := lt_of_lt_of_eq h (show cfg0.N = 16 from N_0); omega

/-- Row `i` of the block of point `t`. -/
abbrev row (t : Fin cfg0.N) (i : Fin 512) : Fin 8192 := rowAt 512 t.val (inside t.val t.isLt) i

theorem blk0 (t : Fin cfg0.N) : iblk m c 0 t = E2 fun i => argZ m c (row t i) := by
  funext j; idx_vars j
  blk_ext [iblk, V, idx t, row, rowAt, E2]

theorem blk1 (t : Fin cfg0.N) : iblk m c 1 t = E2 (argW m c) := by
  funext j; idx_vars j
  blk_ext [iblk, V, idx t, E2]

theorem blk2 (t : Fin cfg0.N) : iblk m c 2 t = E2 fun i => argX m c (row t i) := by
  funext j; idx_vars j
  blk_ext [iblk, V, idx t, row, rowAt, E2]

theorem blk3 (t : Fin cfg0.N) : iblk m c 3 t = E2 fun i => argY m c (row t i) := by
  funext j; idx_vars j
  blk_ext [iblk, V, idx t, row, rowAt, E2]

theorem blk4 (t : Fin cfg0.N) : iblk m c 4 t = E2 (argG m c) := by
  funext j; idx_vars j
  blk_ext [iblk, V, idx t, E2]

/-- A row of the gradient of the input. -/
def rowX (z : Fin 3200 → EReal) (w : Fin 3104 → Fin 1024 → EReal) (x y : Fin 1024 → EReal) (g : Fin 1 → Fin 1024 → EReal) (j : Fin 1024) : EReal :=
  y j + dunit x (fun j => back z w j * g 0 j) j

/-- What a row adds to the gradient of the gain. -/
def rowG (z : Fin 3200 → EReal) (w : Fin 3104 → Fin 1024 → EReal) (x : Fin 1024 → EReal) (j : Fin 1024) : EReal := back z w j * unit x j

theorem after5 (t : Fin cfg0.N) : (dats m 0 c).after 5 t
    = E2 fun i => rowX (argZ m c (row t i)) (argW m c) (argX m c (row t i)) (argY m c (row t i)) (argG m c) := by
  by_cases h : t.val % 16 = 0
  · rw [after0_5, outsAt0_A m c t h]; frame_out
    simp only [blk0, blk1, blk2, blk3, blk4, pay7_eq]
    exact pay1_eq _ _
  · rw [after0_5, outsAt0_B m c t h]; frame_out
    simp only [blk0, blk1, blk2, blk3, blk4, pay7_eq]
    exact pay1_eq _ _

theorem after6_first (t : Fin cfg0.N) (h : t.val % 16 = 0) : (dats m 0 c).after 6 t
    = E2 fun _ j => ∑ i, rowG (argZ m c (row t i)) (argW m c) (argX m c (row t i)) j := by
  rw [after0_6, outsAt0_A m c t h]; frame_out
  simp only [blk0, blk1, blk2, blk3, blk4, pay3_eq, pay4_eq, pay6_eq, pay2_eq, zero_add]
  rfl

theorem after6_next (t : Fin cfg0.N) (h : ¬ t.val % 16 = 0) (o : Fin 8 → Fin 1024 → EReal)
    (ho : (outsAt0 m c (t.val - 1) (by omega)).2 = E2 o) : (dats m 0 c).after 6 t
    = E2 fun r j => o r j + ∑ i, rowG (argZ m c (row t i)) (argW m c) (argX m c (row t i)) j := by
  rw [after0_6, outsAt0_B m c t h]; frame_out
  simp only [blk0, blk1, blk2, blk3, blk4, ho, pay4_eq, pay6_eq, pay2_eq]
  rfl

/-- The gain's gradient after point `n`: the rows of the blocks up to it. -/
theorem acc6 (n : ℕ) (h : n < cfg0.N) : (outsAt0 m c n h).2
    = E2 fun _ j => upTo 512 (fun r => rowG (argZ m c r) (argW m c) (argX m c r) j) n (inside n h) := by
  have hN : cfg0.N = 16 := N_0
  induction n with
  | zero =>
    rw [← after0_6 m c ⟨0, h⟩, after6_first m c ⟨0, h⟩ rfl]
    simp only [upTo_zero]
  | succ n ih =>
    rw [← after0_6 m c ⟨n + 1, h⟩, after6_next m c ⟨n + 1, h⟩ (by simp only; omega) _ (ih (by omega))]
    simp only [upTo_succ]

theorem emb5 (t : Fin cfg0.N) (j : S512x1024.Idx) : (win0_5.blk t).view.emb j = ix2 (row t (j 0)) (j 1) := by
  idx_vars j; blk_ext [idx t, row, rowAt]

theorem emb6 (j : S8x1024.Idx) : (win0_6.blk t0_15).view.emb j = j := by
  idx_vars j; blk_ext [idx t0_15]

/-- The gradient of the input, as the kernel leaves it. -/
theorem arr5 : (dats m 0 c).arrAt 5 cfg0.N
    = E2 fun i => rowX (argZ m c i) (argW m c) (argX m c i) (argY m c i) (argG m c) := by
  refine (dats m 0 c).arrAt_eq_of_covers 5 _ (by decide +kernel) fun t hf j => ?_
  blk_simp
  rw [after5]
  exact Eq.trans rfl (congrArg (E2 fun i => rowX (argZ m c i) (argW m c) (argX m c i) (argY m c i) (argG m c)) (emb5 t j).symm)

/-- The gradient of the gain, as the kernel leaves it. -/
theorem arr6 : (dats m 0 c).arrAt 6 cfg0.N = E2 fun _ j => ∑ i, rowG (argZ m c i) (argW m c) (argX m c i) j := by
  refine (dats m 0 c).arrAt_eq_of_after_last 6 t0_15 (by decide +kernel) _ fun j => ?_
  blk_simp
  rw [after0_6, acc6]
  exact upTo_all 512 (fun r => rowG (argZ m c r) (argW m c) (argX m c r) (j 1)) 15 (by decide) rfl

end

end Cert.InputBack

end
-- ==== Proof.InputRef.lean ====
module

public import proofs.«01_k».proof.Proof.Gen.InputReferenceIdeal.Read
public import proofs.«01_k».proof.Proof.Input
public import Idealize.ShloMosaic.Lib.Pointwise

@[expose] public section

set_option maxRecDepth 16384

noncomputable section

/-! # The input projection's backward: the reference's values, stage by stage -/

namespace Cert.InputBack

open Idealize.ShloMosaic Idealize.ShloMosaic.TcCoe Idealize.SL.Sem Cert.InputReferenceIdeal Cert.InputReferenceIdeal.Read Cert.Rows

variable (z : Fin 8192 → Fin 3200 → EReal) (w : Fin 3104 → Fin 1024 → EReal) (x y : Fin 8192 → Fin 1024 → EReal)
  (g : Fin 1 → Fin 1024 → EReal)

theorem ref8 : val_main_v8 (F := Ideal) (E2 x) = E2 fun i (_ : Fin 1) => meanSq (x i) := by
  funext j; idx_vars j
  pointwise [val_main_v8, val_main_v7, val_main_v6, val_main_v5, val_main_v4, val_main_v3, val_main_v2, val_main_cst, val_main_cst_0,
    val_main_cst_1, E2]
  rfl

theorem ref9 : val_main_v9 (F := Ideal) (E2 x) = E2 fun i (_ : Fin 1) => scale (x i) := by
  funext j; idx_vars j; unfold val_main_v9; rw [ref8]; pointwise [E2]
  rfl

theorem ref14 : val_main_v14 (F := Ideal) (E2 x) = E2 fun i => unit (x i) := by
  funext j; idx_vars j; unfold val_main_v14 val_main_v13; rw [ref9]; pointwise [E2]
  rfl

theorem ref20 : val_main_v20 (F := Ideal) (E2 z) (E2 w) = E2 fun i => back (z i) w := by
  funext j; idx_vars j
  pointwise [val_main_v20, val_main_v19, val_main_v18, val_main_v1, val_main_v0, E2]
  rfl

theorem ref25 : val_main_v25 (F := Ideal) (E2 z) (E2 w) (E2 g) = E2 fun i j => back (z i) w j * g 0 j := by
  funext j; idx_vars j; unfold val_main_v25 val_main_v24; rw [ref20]; pointwise [E2]

theorem ref34 : val_main_v34 (F := Ideal) (E2 z) (E2 w) (E2 x) (E2 g) = fun i => slope (x (i 0)) fun j => back (z (i 0)) w j * g 0 j := by
  funext j; idx_vars j
  unfold val_main_v34 val_main_v33 val_main_v32 val_main_v31 val_main_v28 val_main_v27 val_main_v26 val_main_v12 val_main_v11 val_main_v10
  rw [ref25, ref9, ref8]
  pointwise [val_main_cst_2, val_main_cst_3, val_main_cst_4, val_main_cst_5, val_main_cst_6, E2]
  simp only [Fin.sum_univ_one, Finset.sum_const, Finset.card_univ, Fintype.card_fin, one_smul]
  rfl

/-- The gradient of the input. -/
theorem ref40 : val_main_v40 (F := Ideal) (E2 z) (E2 w) (E2 x) (E2 y) (E2 g) = E2 fun i => rowX (z i) w (x i) (y i) g := by
  funext j; idx_vars j
  unfold val_main_v40 val_main_v39 val_main_v38 val_main_v37 val_main_v36 val_main_v35 val_main_v30 val_main_v29
  rw [ref34, ref25, ref9]
  pointwise [E2]
  exact congrArg (y j0 j1 + ·) (dunit_eq (x j0) (fun j => back (z j0) w j * g 0 j) j1)

/-- The gradient of the gain. -/
theorem ref41 : val_main_v41 (F := Ideal) (E2 z) (E2 w) (E2 x) = E2 fun (_ : Fin 8) j => ∑ i, rowG (z i) w (x i) j := by
  funext j; idx_vars j
  unfold val_main_v41 val_main_v23 val_main_v22 val_main_v21
  rw [ref20, ref14]
  pointwise [val_main_cst_3, E2]
  exact Finset.sum_congr rfl fun i _ => mul_comm (G := EReal) _ _

end Cert.InputBack

end
-- ==== Proof.LossPoint.lean ====
module

public import proofs.«01_k».proof.Proof.Gen.LossIdeal.Value
public import proofs.«01_k».proof.Proof.Mlp

@[expose] public section

set_option maxRecDepth 16384

noncomputable section

/-! # The squared-rectifier layer and the loss: one grid point

A grid point takes 512 rows. It normalises them, forms the entries and their activations in eight slices of 512 columns, stores
the slices side by side and reads the activations back for the second product. From the rows that gives it forms the loss and
the gradient of those rows. -/

namespace Cert.LossFwd

open Idealize.ShloMosaic Idealize.ShloMosaic.TcCoe Idealize.SL.Sem Cert.LossIdeal Cert.LossIdeal.Gen Cert.LossIdeal.Value Cert.Rows
open Cert.MlpBack (act pre back colAt E2_rows two)
open Idealize.ShloMosaic.Pipeline (Dat)

/-- A row after the layer: the activations through the second product, added to the row. -/
def post (w : Fin 4096 → Fin 1024 → EReal) (a : Fin 4096 → EReal) (x : Fin 1024 → EReal) (j : Fin 1024) : EReal := x j + back a w j

/-- What separates the normalised row from the target. -/
def err (z : Fin 1024 → EReal) (f : Fin 1 → Fin 1024 → EReal) (t : Fin 1024 → EReal) (j : Fin 1024) : EReal := unit z j * f 0 j - t j

/-- The mean square of it. -/
def rowLoss (e : Fin 1024 → EReal) : EReal := Ideal.div (∑ j, e j * e j) (Ideal.ofBits .f32 0x44800000#32)

/-- The number one half, as the programs write it. -/
def half : EReal := Ideal.ofBits .f32 0x3F000000#32

/-- The reciprocal of the row's length, as the kernel writes it. -/
def recip : EReal := Ideal.ofBits .f32 0x3A800000#32

theorem bits_half : half = ((1 / 2 : ℝ) : EReal) := by
  simp [half, Ideal.ofBits, Ideal.ieee, -EReal.coe_mul]; norm_num

theorem bits_recip : recip = ((1 / 1024 : ℝ) : EReal) := by
  simp [recip, Ideal.ofBits, Ideal.ieee, -EReal.coe_mul]; norm_num

theorem bits_two : two = ((2 : ℝ) : EReal) := by
  simp [two, Ideal.ofBits, Ideal.ieee, -EReal.coe_mul]; norm_num

/-- The normalised row with its gain. -/
theorem pay3_eq (x : Fin 512 → Fin 1024 → EReal) (g : Fin 1 → Fin 1024 → EReal) :
    k0_pay3 (F := Ideal) (E2 x) (E2 g) = E2 fun i j => unit (x i) j * g 0 j := by
  funext j; idx_vars j
  pointwise [k0_pay3, E2]
  rfl

/-- A slice of entries. -/
abbrev ent (n : Fin 512 → Fin 1024 → EReal) (u : Fin 512 → Fin 1024 → EReal) (i d : Fin 512) : EReal := ∑ j, n i j * u d j

/-! The entries of each slice, and their activations. -/

theorem pay5_eq (x : Fin 512 → Fin 1024 → EReal) (g : Fin 1 → Fin 1024 → EReal) (u : Fin 512 → Fin 1024 → EReal) :
    k0_pay5 (F := Ideal) (E2 x) (E2 g) (E2 u) = E2 fun i d => ent (fun i j => unit (x i) j * g 0 j) u i d := by
  funext j; idx_vars j
  unfold k0_pay5 k0_pay4
  rw [pay3_eq]
  pointwise [E2]

theorem pay6_eq (x : Fin 512 → Fin 1024 → EReal) (g : Fin 1 → Fin 1024 → EReal) (u : Fin 512 → Fin 1024 → EReal) :
    k0_pay6 (F := Ideal) (E2 x) (E2 g) (E2 u) = E2 fun i d => act (ent (fun i j => unit (x i) j * g 0 j) u i d) := by
  funext j; idx_vars j
  unfold k0_pay6 k0_pay4
  rw [pay3_eq]
  pointwise [E2]
  rfl

theorem pay8_eq (x : Fin 512 → Fin 1024 → EReal) (g : Fin 1 → Fin 1024 → EReal) (u : Fin 512 → Fin 1024 → EReal) :
    k0_pay8 (F := Ideal) (E2 x) (E2 g) (E2 u) = E2 fun i d => ent (fun i j => unit (x i) j * g 0 j) u i d := by
  funext j; idx_vars j
  unfold k0_pay8 k0_pay7
  rw [pay3_eq]
  pointwise [E2]

theorem pay9_eq (x : Fin 512 → Fin 1024 → EReal) (g : Fin 1 → Fin 1024 → EReal) (u : Fin 512 → Fin 1024 → EReal) :
    k0_pay9 (F := Ideal) (k0_pay7 (E2 x) (E2 g) (E2 u)) = E2 fun i d => act (ent (fun i j => unit (x i) j * g 0 j) u i d) := by
  funext j; idx_vars j
  unfold k0_pay9 k0_pay7
  rw [pay3_eq]
  pointwise [E2]
  rfl

theorem pay11_eq (n u : Fin 512 → Fin 1024 → EReal) : k0_pay11 (F := Ideal) (E2 n) (E2 u) = E2 fun i d => ent n u i d := by
  funext j; idx_vars j
  pointwise [k0_pay11, k0_pay10, E2]

theorem pay12_eq (n u : Fin 512 → Fin 1024 → EReal) : k0_pay12 (F := Ideal) (E2 n) (E2 u) = E2 fun i d => act (ent n u i d) := by
  funext j; idx_vars j
  pointwise [k0_pay12, k0_pay10, E2]
  rfl

theorem pay14_eq (n u : Fin 512 → Fin 1024 → EReal) : k0_pay14 (F := Ideal) (E2 n) (E2 u) = E2 fun i d => ent n u i d := by
  funext j; idx_vars j
  pointwise [k0_pay14, k0_pay13, E2]

theorem pay15_eq (n u : Fin 512 → Fin 1024 → EReal) : k0_pay15 (F := Ideal) (E2 n) (E2 u) = E2 fun i d => act (ent n u i d) := by
  funext j; idx_vars j
  pointwise [k0_pay15, k0_pay13, E2]
  rfl

theorem pay17_eq (n u : Fin 512 → Fin 1024 → EReal) : k0_pay17 (F := Ideal) (E2 n) (E2 u) = E2 fun i d => ent n u i d := by
  funext j; idx_vars j
  pointwise [k0_pay17, k0_pay16, E2]

theorem pay18_eq (n u : Fin 512 → Fin 1024 → EReal) : k0_pay18 (F := Ideal) (E2 n) (E2 u) = E2 fun i d => act (ent n u i d) := by
  funext j; idx_vars j
  pointwise [k0_pay18, k0_pay16, E2]
  rfl

theorem pay20_eq (n u : Fin 512 → Fin 1024 → EReal) : k0_pay20 (F := Ideal) (E2 n) (E2 u) = E2 fun i d => ent n u i d := by
  funext j; idx_vars j
  pointwise [k0_pay20, k0_pay19, E2]

theorem pay21_eq (n u : Fin 512 → Fin 1024 → EReal) : k0_pay21 (F := Ideal) (E2 n) (E2 u) = E2 fun i d => act (ent n u i d) := by
  funext j; idx_vars j
  pointwise [k0_pay21, k0_pay19, E2]
  rfl

theorem pay23_eq (n u : Fin 512 → Fin 1024 → EReal) : k0_pay23 (F := Ideal) (E2 n) (E2 u) = E2 fun i d => ent n u i d := by
  funext j; idx_vars j
  pointwise [k0_pay23, k0_pay22, E2]

theorem pay24_eq (n u : Fin 512 → Fin 1024 → EReal) : k0_pay24 (F := Ideal) (E2 n) (E2 u) = E2 fun i d => act (ent n u i d) := by
  funext j; idx_vars j
  pointwise [k0_pay24, k0_pay22, E2]
  rfl

theorem pay26_eq (n u : Fin 512 → Fin 1024 → EReal) : k0_pay26 (F := Ideal) (E2 n) (E2 u) = E2 fun i d => ent n u i d := by
  funext j; idx_vars j
  pointwise [k0_pay26, k0_pay25, E2]

theorem pay27_eq (n u : Fin 512 → Fin 1024 → EReal) : k0_pay27 (F := Ideal) (E2 n) (E2 u) = E2 fun i d => act (ent n u i d) := by
  funext j; idx_vars j
  pointwise [k0_pay27, k0_pay25, E2]
  rfl

/-! The rest of the point. -/

theorem pay28_eq (x : Fin 512 → Fin 1024 → EReal) (a : Fin 512 → Fin 4096 → EReal) (w : Fin 4096 → Fin 1024 → EReal) :
    k0_pay28 (F := Ideal) (E2 x) (E2 a) (E2 w) = E2 fun i => post w (a i) (x i) := by
  funext j; idx_vars j
  pointwise [k0_pay28, E2]
  rfl

theorem pay29_eq (x : Fin 512 → Fin 1024 → EReal) (a : Fin 512 → Fin 4096 → EReal) (w : Fin 4096 → Fin 1024 → EReal) :
    k0_pay29 (F := Ideal) (E2 x) (E2 a) (E2 w) = E2 fun i (_ : Fin 1) => scale (post w (a i) (x i)) := by
  funext j; idx_vars j
  unfold k0_pay29
  rw [pay28_eq]
  pointwise [E2]
  rfl

theorem pay30_eq (x : Fin 512 → Fin 1024 → EReal) (a : Fin 512 → Fin 4096 → EReal) (w : Fin 4096 → Fin 1024 → EReal)
    (f : Fin 1 → Fin 1024 → EReal) (t : Fin 512 → Fin 1024 → EReal) :
    k0_pay30 (F := Ideal) (E2 x) (E2 a) (E2 w) (E2 f) (E2 t) = E2 fun i => err (post w (a i) (x i)) f (t i) := by
  funext j; idx_vars j
  unfold k0_pay30
  rw [pay28_eq, pay29_eq]
  pointwise [E2]
  rfl

theorem pay31_eq (x : Fin 512 → Fin 1024 → EReal) (a : Fin 512 → Fin 4096 → EReal) (w : Fin 4096 → Fin 1024 → EReal)
    (f : Fin 1 → Fin 1024 → EReal) (t : Fin 512 → Fin 1024 → EReal) :
    k0_pay31 (F := Ideal) (E2 x) (E2 a) (E2 w) (E2 f) (E2 t) = E2 fun i (_ : Fin 1) => rowLoss (err (post w (a i) (x i)) f (t i)) := by
  funext j; idx_vars j
  unfold k0_pay31
  rw [pay30_eq]
  pointwise [E2]
  rfl

theorem pay32_eq (l : Fin 512 → EReal) (o : Fin 8 → Fin 128 → EReal) :
    k0_pay32 (F := Ideal) (E2 fun i (_ : Fin 1) => l i) (E2 o) = E2 fun r s => o r s + half * ∑ i, l i := by
  funext j; idx_vars j
  pointwise [k0_pay32, E2]
  rfl

theorem pay35_eq (z : Fin 512 → Fin 1024 → EReal) (e : Fin 512 → Fin 1024 → EReal) (f : Fin 1 → Fin 1024 → EReal) :
    k0_pay35 (F := Ideal) (E2 z) (E2 fun i (_ : Fin 1) => scale (z i)) (E2 e) (E2 f)
      = E2 fun i => dunit (z i) fun j => e i j * recip * f 0 j := by
  funext j; idx_vars j
  pointwise [k0_pay35, k0_pay34, k0_pay33, E2]
  rfl

theorem pay36_eq (z : Fin 512 → Fin 1024 → EReal) (e : Fin 512 → Fin 1024 → EReal) (f : Fin 1 → Fin 1024 → EReal) :
    k0_pay36 (F := Ideal) (E2 z) (E2 fun i (_ : Fin 1) => scale (z i)) (E2 e) (E2 f)
      = E2 fun i => dunit (z i) fun j => e i j * recip * f 0 j := by
  unfold k0_pay36
  rw [pay35_eq]
  funext j; idx_vars j
  pointwise [E2]

theorem pay37_eq (z : Fin 512 → Fin 1024 → EReal) (e : Fin 512 → Fin 1024 → EReal) (o : Fin 8 → Fin 1024 → EReal) :
    k0_pay37 (F := Ideal) (E2 z) (E2 fun i (_ : Fin 1) => scale (z i)) (E2 e) (E2 o)
      = E2 fun r j => o r j + ∑ i, e i j * recip * unit (z i) j := by
  funext j; idx_vars j
  pointwise [k0_pay37, k0_pay34, k0_pay33, E2]
  rfl

theorem pay1_eq : k0_pay1 (F := Ideal) = E2 fun _ _ => 0 := by
  funext j; idx_vars j
  pointwise [k0_pay1, E2]

theorem pay2_eq : k0_pay2 (F := Ideal) = E2 fun _ _ => 0 := by
  funext j; idx_vars j
  pointwise [k0_pay2, E2]

/-! ## Slices -/

theorem ld_rows (f : Fin 4096 → Fin 1024 → EReal) (o : ℕ) (h : o + 512 ≤ 4096) (hb) :
    View.ld (Val := Elt Ideal) (e' := .bf16) (E2 f) (Rect.unit (s := S4096x1024) ![o, 0] ![512, 1024] hb) = E2 fun d => f (colAt o h d) := by
  funext j; idx_vars j
  exact congrArg₂ f (Fin.ext (by simp [LoadRect.idx, colAt])) (Fin.ext (by simp [LoadRect.idx]))

/-- A slice of a block: its elements are those of the whole at the slice's columns. -/
theorem piece (f : Fin 512 → Fin 4096 → EReal) (o : ℕ) (h : o + 512 ≤ 4096) (hb) (x : S512x512.Idx) :
    E2 (fun i d => f i (colAt o h d)) x = E2 f ((Rect.unit (s := S512x4096) ![0, o] ![512, 512] hb).emb x) :=
  congrArg₂ f (Fin.ext (by simp [Rect.emb_apply])) (Fin.ext (by simp [Rect.emb_apply, colAt]))

/-- Eight slices stored side by side are the whole block. -/
theorem canon_cols (f : Fin 512 → Fin 4096 → EReal) (hb0 hb1 hb2 hb3 hb4 hb5 hb6 hb7) :
    View.canon (Val := Elt Ideal) (s := S512x4096) (e := .bf16)
      [⟨Rect.unit ![0, 3584] ![512, 512] hb7, E2 fun i d => f i (colAt 3584 (by decide) d)⟩,
        ⟨Rect.unit ![0, 3072] ![512, 512] hb6, E2 fun i d => f i (colAt 3072 (by decide) d)⟩,
        ⟨Rect.unit ![0, 2560] ![512, 512] hb5, E2 fun i d => f i (colAt 2560 (by decide) d)⟩,
        ⟨Rect.unit ![0, 2048] ![512, 512] hb4, E2 fun i d => f i (colAt 2048 (by decide) d)⟩,
        ⟨Rect.unit ![0, 1536] ![512, 512] hb3, E2 fun i d => f i (colAt 1536 (by decide) d)⟩,
        ⟨Rect.unit ![0, 1024] ![512, 512] hb2, E2 fun i d => f i (colAt 1024 (by decide) d)⟩,
        ⟨Rect.unit ![0, 512] ![512, 512] hb1, E2 fun i d => f i (colAt 512 (by decide) d)⟩,
        ⟨Rect.unit ![0, 0] ![512, 512] hb0, E2 fun i d => f i (colAt 0 (by decide) d)⟩] = E2 f := by
  funext j
  refine View.canon_apply_of_pieces (Val := Elt Ideal) (S := S512x4096) (e := .bf16) (E2 f) _ ?_ j ?_
  · intro p hp x
    simp only [List.mem_cons, List.not_mem_nil, or_false] at hp
    rcases hp with rfl | rfl | rfl | rfl | rfl | rfl | rfl | rfl
    · exact piece f 3584 (by decide) hb7 x
    · exact piece f 3072 (by decide) hb6 x
    · exact piece f 2560 (by decide) hb5 x
    · exact piece f 2048 (by decide) hb4 x
    · exact piece f 1536 (by decide) hb3 x
    · exact piece f 1024 (by decide) hb2 x
    · exact piece f 512 (by decide) hb1 x
    · exact piece f 0 (by decide) hb0 x
  · exact View.cover_of_tiledL _ ![512, 512] (by rfl) j

/-- The whole block read back once the eight slices are stored. -/
theorem readCov_cols {sig κ sp} (v : View sig κ sp S512x4096 .bf16) (f : Fin 512 → Fin 4096 → EReal) (hb0 hb1 hb2 hb3 hb4 hb5 hb6 hb7 hw) :
    v.readCov (Val := Elt Ideal)
      [⟨Rect.unit ![0, 3584] ![512, 512] hb7, E2 fun i d => f i (colAt 3584 (by decide) d)⟩,
        ⟨Rect.unit ![0, 3072] ![512, 512] hb6, E2 fun i d => f i (colAt 3072 (by decide) d)⟩,
        ⟨Rect.unit ![0, 2560] ![512, 512] hb5, E2 fun i d => f i (colAt 2560 (by decide) d)⟩,
        ⟨Rect.unit ![0, 2048] ![512, 512] hb4, E2 fun i d => f i (colAt 2048 (by decide) d)⟩,
        ⟨Rect.unit ![0, 1536] ![512, 512] hb3, E2 fun i d => f i (colAt 1536 (by decide) d)⟩,
        ⟨Rect.unit ![0, 1024] ![512, 512] hb2, E2 fun i d => f i (colAt 1024 (by decide) d)⟩,
        ⟨Rect.unit ![0, 512] ![512, 512] hb1, E2 fun i d => f i (colAt 512 (by decide) d)⟩,
        ⟨Rect.unit ![0, 0] ![512, 512] hb0, E2 fun i d => f i (colAt 0 (by decide) d)⟩]
      (Rect.unit (s := S512x4096) ![0, 0] ![512, 4096] hw).toLoadRect = E2 f := by
  rw [View.readCov_eq_canon', canon_cols f hb0 hb1 hb2 hb3 hb4 hb5 hb6 hb7]
  funext j
  exact congrArg₂ f (Fin.ext (by simp [LoadRect.idx])) (Fin.ext (by simp [LoadRect.idx]))

/-! The slices, as a point leaves them: the entries and the activations of normalised rows. -/

theorem canon_ent (n : Fin 512 → Fin 1024 → EReal) (u : Fin 4096 → Fin 1024 → EReal) (hb0 hb1 hb2 hb3 hb4 hb5 hb6 hb7) :
    View.canon (Val := Elt Ideal) (s := S512x4096) (e := .bf16)
      [⟨Rect.unit ![0, 3584] ![512, 512] hb7, E2 fun i d => ent n (fun d => u (colAt 3584 (by decide) d)) i d⟩,
        ⟨Rect.unit ![0, 3072] ![512, 512] hb6, E2 fun i d => ent n (fun d => u (colAt 3072 (by decide) d)) i d⟩,
        ⟨Rect.unit ![0, 2560] ![512, 512] hb5, E2 fun i d => ent n (fun d => u (colAt 2560 (by decide) d)) i d⟩,
        ⟨Rect.unit ![0, 2048] ![512, 512] hb4, E2 fun i d => ent n (fun d => u (colAt 2048 (by decide) d)) i d⟩,
        ⟨Rect.unit ![0, 1536] ![512, 512] hb3, E2 fun i d => ent n (fun d => u (colAt 1536 (by decide) d)) i d⟩,
        ⟨Rect.unit ![0, 1024] ![512, 512] hb2, E2 fun i d => ent n (fun d => u (colAt 1024 (by decide) d)) i d⟩,
        ⟨Rect.unit ![0, 512] ![512, 512] hb1, E2 fun i d => ent n (fun d => u (colAt 512 (by decide) d)) i d⟩,
        ⟨Rect.unit ![0, 0] ![512, 512] hb0, E2 fun i d => ent n (fun d => u (colAt 0 (by decide) d)) i d⟩] = E2 fun i k => ∑ j, n i j * u k j :=
  canon_cols (fun i k => ∑ j, n i j * u k j) hb0 hb1 hb2 hb3 hb4 hb5 hb6 hb7

theorem readCov_act {sig κ sp} (v : View sig κ sp S512x4096 .bf16) (n : Fin 512 → Fin 1024 → EReal) (u : Fin 4096 → Fin 1024 → EReal) (hb0 hb1 hb2 hb3 hb4 hb5 hb6 hb7 hw) :
    v.readCov (Val := Elt Ideal)
      [⟨Rect.unit ![0, 3584] ![512, 512] hb7, E2 fun i d => act (ent n (fun d => u (colAt 3584 (by decide) d)) i d)⟩,
        ⟨Rect.unit ![0, 3072] ![512, 512] hb6, E2 fun i d => act (ent n (fun d => u (colAt 3072 (by decide) d)) i d)⟩,
        ⟨Rect.unit ![0, 2560] ![512, 512] hb5, E2 fun i d => act (ent n (fun d => u (colAt 2560 (by decide) d)) i d)⟩,
        ⟨Rect.unit ![0, 2048] ![512, 512] hb4, E2 fun i d => act (ent n (fun d => u (colAt 2048 (by decide) d)) i d)⟩,
        ⟨Rect.unit ![0, 1536] ![512, 512] hb3, E2 fun i d => act (ent n (fun d => u (colAt 1536 (by decide) d)) i d)⟩,
        ⟨Rect.unit ![0, 1024] ![512, 512] hb2, E2 fun i d => act (ent n (fun d => u (colAt 1024 (by decide) d)) i d)⟩,
        ⟨Rect.unit ![0, 512] ![512, 512] hb1, E2 fun i d => act (ent n (fun d => u (colAt 512 (by decide) d)) i d)⟩,
        ⟨Rect.unit ![0, 0] ![512, 512] hb0, E2 fun i d => act (ent n (fun d => u (colAt 0 (by decide) d)) i d)⟩]
      (Rect.unit (s := S512x4096) ![0, 0] ![512, 4096] hw).toLoadRect = E2 fun i k => act (∑ j, n i j * u k j) :=
  readCov_cols v (fun i k => act (∑ j, n i j * u k j)) hb0 hb1 hb2 hb3 hb4 hb5 hb6 hb7 hw

/-! The slices read. -/

theorem rows0 (f : Fin 4096 → Fin 1024 → EReal) (hb) :
    View.ld (Val := Elt Ideal) (e' := .bf16) (E2 f) (Rect.unit (s := S4096x1024) ![0, 0] ![512, 1024] hb)
      = E2 fun d => f (colAt 0 (by decide) d) := ld_rows f _ _ hb

theorem rows1 (f : Fin 4096 → Fin 1024 → EReal) (hb) :
    View.ld (Val := Elt Ideal) (e' := .bf16) (E2 f) (Rect.unit (s := S4096x1024) ![512, 0] ![512, 1024] hb)
      = E2 fun d => f (colAt 512 (by decide) d) := ld_rows f _ _ hb

theorem rows2 (f : Fin 4096 → Fin 1024 → EReal) (hb) :
    View.ld (Val := Elt Ideal) (e' := .bf16) (E2 f) (Rect.unit (s := S4096x1024) ![1024, 0] ![512, 1024] hb)
      = E2 fun d => f (colAt 1024 (by decide) d) := ld_rows f _ _ hb

theorem rows3 (f : Fin 4096 → Fin 1024 → EReal) (hb) :
    View.ld (Val := Elt Ideal) (e' := .bf16) (E2 f) (Rect.unit (s := S4096x1024) ![1536, 0] ![512, 1024] hb)
      = E2 fun d => f (colAt 1536 (by decide) d) := ld_rows f _ _ hb

theorem rows4 (f : Fin 4096 → Fin 1024 → EReal) (hb) :
    View.ld (Val := Elt Ideal) (e' := .bf16) (E2 f) (Rect.unit (s := S4096x1024) ![2048, 0] ![512, 1024] hb)
      = E2 fun d => f (colAt 2048 (by decide) d) := ld_rows f _ _ hb

theorem rows5 (f : Fin 4096 → Fin 1024 → EReal) (hb) :
    View.ld (Val := Elt Ideal) (e' := .bf16) (E2 f) (Rect.unit (s := S4096x1024) ![2560, 0] ![512, 1024] hb)
      = E2 fun d => f (colAt 2560 (by decide) d) := ld_rows f _ _ hb

theorem rows6 (f : Fin 4096 → Fin 1024 → EReal) (hb) :
    View.ld (Val := Elt Ideal) (e' := .bf16) (E2 f) (Rect.unit (s := S4096x1024) ![3072, 0] ![512, 1024] hb)
      = E2 fun d => f (colAt 3072 (by decide) d) := ld_rows f _ _ hb

theorem rows7 (f : Fin 4096 → Fin 1024 → EReal) (hb) :
    View.ld (Val := Elt Ideal) (e' := .bf16) (E2 f) (Rect.unit (s := S4096x1024) ![3584, 0] ![512, 1024] hb)
      = E2 fun d => f (colAt 3584 (by decide) d) := ld_rows f _ _ hb

end Cert.LossFwd

end
-- ==== Proof.Loss.lean ====
module

public import proofs.«01_k».proof.Proof.LossPoint

@[expose] public section

set_option maxRecDepth 16384

noncomputable section

/-! # The squared-rectifier layer and the loss: what the kernel leaves -/

namespace Cert.LossFwd

open Idealize.ShloMosaic Idealize.ShloMosaic.TcCoe Idealize.SL.Sem Cert.LossIdeal Cert.LossIdeal.Gen Cert.LossIdeal.Value Cert.Rows
open Cert.MlpBack (act pre back colAt E2_rows two)
open Idealize.ShloMosaic.Pipeline (Dat)

variable (m : (ℓ : Loc nD τ sig) → Buf (Elt Ideal) ℓ) (c : Dev nD)

/-! The six arguments. -/

abbrev argX : Fin 8192 → Fin 1024 → EReal := fun i j => m ((c.tc : Thread nD τ).loc main_arg0) (ix2 i j)
abbrev argG : Fin 1 → Fin 1024 → EReal := fun i j => m ((c.tc : Thread nD τ).loc main_arg1) (ix2 i j)
abbrev argU : Fin 4096 → Fin 1024 → EReal := fun i j => m ((c.tc : Thread nD τ).loc main_arg2) (ix2 i j)
abbrev argW : Fin 4096 → Fin 1024 → EReal := fun i j => m ((c.tc : Thread nD τ).loc main_arg3) (ix2 i j)
abbrev argF : Fin 1 → Fin 1024 → EReal := fun i j => m ((c.tc : Thread nD τ).loc main_arg4) (ix2 i j)
abbrev argT : Fin 8192 → Fin 1024 → EReal := fun i j => m ((c.tc : Thread nD τ).loc main_arg5) (ix2 i j)

/-- Where each window's block lies. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0] :=
  (by decide +kernel : ∀ t : Fin grid0.N, _)

theorem inside (n : ℕ) (h : n < cfg0.N) : 512 * (n + 1) ≤ 8192 := by
  have := lt_of_lt_of_eq h (show cfg0.N = 16 from N_0); omega

/-- Row `i` of the block of point `t`. -/
abbrev row (t : Fin cfg0.N) (i : Fin 512) : Fin 8192 := rowAt 512 t.val (inside t.val t.isLt) i

theorem blk0 (t : Fin cfg0.N) : iblk m c 0 t = E2 fun i => argX m c (row t i) := by
  funext j; idx_vars j
  blk_ext [iblk, V, idx t, row, rowAt, E2]

theorem blk1 (t : Fin cfg0.N) : iblk m c 1 t = E2 (argG m c) := by
  funext j; idx_vars j
  blk_ext [iblk, V, idx t, E2]

theorem blk2 (t : Fin cfg0.N) : iblk m c 2 t = E2 (argU m c) := by
  funext j; idx_vars j
  blk_ext [iblk, V, idx t, E2]

theorem blk3 (t : Fin cfg0.N) : iblk m c 3 t = E2 (argW m c) := by
  funext j; idx_vars j
  blk_ext [iblk, V, idx t, E2]

theorem blk4 (t : Fin cfg0.N) : iblk m c 4 t = E2 (argF m c) := by
  funext j; idx_vars j
  blk_ext [iblk, V, idx t, E2]

theorem blk5 (t : Fin cfg0.N) : iblk m c 5 t = E2 fun i => argT m c (row t i) := by
  funext j; idx_vars j
  blk_ext [iblk, V, idx t, row, rowAt, E2]

/-- The normalised row with its gain. -/
def rowN (x : Fin 1024 → EReal) (g : Fin 1 → Fin 1024 → EReal) (j : Fin 1024) : EReal := unit x j * g 0 j

/-- The row after the layer. -/
def rowZ (x : Fin 1024 → EReal) (g : Fin 1 → Fin 1024 → EReal) (u w : Fin 4096 → Fin 1024 → EReal) : Fin 1024 → EReal := post w (fun k => act (pre x g u k)) x

/-- What separates it, normalised, from the target. -/
def rowE (x : Fin 1024 → EReal) (g : Fin 1 → Fin 1024 → EReal) (u w : Fin 4096 → Fin 1024 → EReal)
    (f : Fin 1 → Fin 1024 → EReal) (t : Fin 1024 → EReal) : Fin 1024 → EReal :=
  err (rowZ x g u w) f t

/-- The gradient of the row after the layer. -/
def rowX (x : Fin 1024 → EReal) (g : Fin 1 → Fin 1024 → EReal) (u w : Fin 4096 → Fin 1024 → EReal)
    (f : Fin 1 → Fin 1024 → EReal) (t : Fin 1024 → EReal) : Fin 1024 → EReal :=
  dunit (rowZ x g u w) fun j => rowE x g u w f t j * recip * f 0 j

/-- What a row adds to the gradient of the gain. -/
def rowG (x : Fin 1024 → EReal) (g : Fin 1 → Fin 1024 → EReal) (u w : Fin 4096 → Fin 1024 → EReal)
    (f : Fin 1 → Fin 1024 → EReal) (t : Fin 1024 → EReal) (j : Fin 1024) : EReal :=
  rowE x g u w f t j * recip * unit (rowZ x g u w) j

/-- What a row adds to the loss, before the half. -/
def rowL (x : Fin 1024 → EReal) (g : Fin 1 → Fin 1024 → EReal) (u w : Fin 4096 → Fin 1024 → EReal)
    (f : Fin 1 → Fin 1024 → EReal) (t : Fin 1024 → EReal) : EReal :=
  rowLoss (rowE x g u w f t)

theorem after6 (t : Fin cfg0.N) : (dats m 0 c).after 6 t = E2 fun i => pre (argX m c (row t i)) (argG m c) (argU m c) := by
  by_cases h : t.val % 16 = 0
  · rw [after0_6, outsAt0_A m c t h]; frame_out
    simp only [blk0, blk1, blk2, rows0, rows1, rows2, rows3, rows4, rows5, rows6, rows7, pay3_eq, pay5_eq, pay8_eq, pay11_eq, pay14_eq, pay17_eq, pay20_eq, pay23_eq, pay26_eq]
    exact canon_ent (fun i j => unit (argX m c (row t i)) j * argG m c 0 j) (argU m c) _ _ _ _ _ _ _ _
  · rw [after0_6, outsAt0_B m c t h]; frame_out
    simp only [blk0, blk1, blk2, rows0, rows1, rows2, rows3, rows4, rows5, rows6, rows7, pay3_eq, pay5_eq, pay8_eq, pay11_eq, pay14_eq, pay17_eq, pay20_eq, pay23_eq, pay26_eq]
    exact canon_ent (fun i j => unit (argX m c (row t i)) j * argG m c 0 j) (argU m c) _ _ _ _ _ _ _ _

theorem after7 (t : Fin cfg0.N) : (dats m 0 c).after 7 t = E2 fun i => rowN (argX m c (row t i)) (argG m c) := by
  by_cases h : t.val % 16 = 0
  · rw [after0_7, outsAt0_A m c t h]; frame_out
    simp only [blk0, blk1]
    exact pay3_eq _ _
  · rw [after0_7, outsAt0_B m c t h]; frame_out
    simp only [blk0, blk1]
    exact pay3_eq _ _

theorem after8 (t : Fin cfg0.N) : (dats m 0 c).after 8 t = E2 fun i => rowX (argX m c (row t i)) (argG m c) (argU m c) (argW m c) (argF m c) (argT m c (row t i)) := by
  by_cases h : t.val % 16 = 0
  · rw [after0_8, outsAt0_A m c t h]; frame_out
    simp only [blk0, blk1, blk2, blk3, blk4, blk5, rows0, rows1, rows2, rows3, rows4, rows5, rows6, rows7, pay3_eq, pay6_eq, pay9_eq, pay12_eq, pay15_eq, pay18_eq, pay21_eq, pay24_eq, pay27_eq]
    rw [readCov_act _ (fun i j => unit (argX m c (row t i)) j * argG m c 0 j) (argU m c)]
    simp only [pay28_eq, pay29_eq, pay30_eq, pay35_eq]
    rfl
  · rw [after0_8, outsAt0_B m c t h]; frame_out
    simp only [blk0, blk1, blk2, blk3, blk4, blk5, rows0, rows1, rows2, rows3, rows4, rows5, rows6, rows7, pay3_eq, pay6_eq, pay9_eq, pay12_eq, pay15_eq, pay18_eq, pay21_eq, pay24_eq, pay27_eq]
    rw [readCov_act _ (fun i j => unit (argX m c (row t i)) j * argG m c 0 j) (argU m c)]
    simp only [pay28_eq, pay29_eq, pay30_eq, pay35_eq]
    rfl

theorem after9 (t : Fin cfg0.N) : (dats m 0 c).after 9 t = E2 fun i => rowX (argX m c (row t i)) (argG m c) (argU m c) (argW m c) (argF m c) (argT m c (row t i)) := by
  by_cases h : t.val % 16 = 0
  · rw [after0_9, outsAt0_A m c t h]; frame_out
    simp only [blk0, blk1, blk2, blk3, blk4, blk5, rows0, rows1, rows2, rows3, rows4, rows5, rows6, rows7, pay3_eq, pay6_eq, pay9_eq, pay12_eq, pay15_eq, pay18_eq, pay21_eq, pay24_eq, pay27_eq]
    rw [readCov_act _ (fun i j => unit (argX m c (row t i)) j * argG m c 0 j) (argU m c)]
    simp only [pay28_eq, pay29_eq, pay30_eq, pay36_eq]
    rfl
  · rw [after0_9, outsAt0_B m c t h]; frame_out
    simp only [blk0, blk1, blk2, blk3, blk4, blk5, rows0, rows1, rows2, rows3, rows4, rows5, rows6, rows7, pay3_eq, pay6_eq, pay9_eq, pay12_eq, pay15_eq, pay18_eq, pay21_eq, pay24_eq, pay27_eq]
    rw [readCov_act _ (fun i j => unit (argX m c (row t i)) j * argG m c 0 j) (argU m c)]
    simp only [pay28_eq, pay29_eq, pay30_eq, pay36_eq]
    rfl

theorem after10_first (t : Fin cfg0.N) (h : t.val % 16 = 0) : (dats m 0 c).after 10 t
    = E2 fun _ j => half * ∑ i, rowL (argX m c (row t i)) (argG m c) (argU m c) (argW m c) (argF m c) (argT m c (row t i)) := by
  rw [after0_10, outsAt0_A m c t h]; frame_out
  simp only [blk0, blk1, blk2, blk3, blk4, blk5, rows0, rows1, rows2, rows3, rows4, rows5, rows6, rows7, pay3_eq, pay6_eq, pay9_eq, pay12_eq, pay15_eq, pay18_eq, pay21_eq, pay24_eq, pay27_eq]
  rw [readCov_act _ (fun i j => unit (argX m c (row t i)) j * argG m c 0 j) (argU m c)]
  simp only [pay1_eq, pay31_eq, pay32_eq, zero_add]
  rfl

theorem after10_next (t : Fin cfg0.N) (h : ¬ t.val % 16 = 0) (o : Fin 8 → Fin 128 → EReal)
    (ho : (outsAt0 m c (t.val - 1) (by omega)).2.2.2.2.1 = E2 o) : (dats m 0 c).after 10 t
    = E2 fun r j => o r j + half * ∑ i, rowL (argX m c (row t i)) (argG m c) (argU m c) (argW m c) (argF m c) (argT m c (row t i)) := by
  rw [after0_10, outsAt0_B m c t h]; frame_out
  simp only [blk0, blk1, blk2, blk3, blk4, blk5, ho, rows0, rows1, rows2, rows3, rows4, rows5, rows6, rows7, pay3_eq, pay6_eq, pay9_eq, pay12_eq, pay15_eq, pay18_eq, pay21_eq, pay24_eq, pay27_eq]
  rw [readCov_act _ (fun i j => unit (argX m c (row t i)) j * argG m c 0 j) (argU m c)]
  simp only [pay31_eq, pay32_eq]
  rfl

theorem after11_first (t : Fin cfg0.N) (h : t.val % 16 = 0) : (dats m 0 c).after 11 t
    = E2 fun _ j => ∑ i, rowG (argX m c (row t i)) (argG m c) (argU m c) (argW m c) (argF m c) (argT m c (row t i)) j := by
  rw [after0_11, outsAt0_A m c t h]; frame_out
  simp only [blk0, blk1, blk2, blk3, blk4, blk5, rows0, rows1, rows2, rows3, rows4, rows5, rows6, rows7, pay3_eq, pay6_eq, pay9_eq, pay12_eq, pay15_eq, pay18_eq, pay21_eq, pay24_eq, pay27_eq]
  rw [readCov_act _ (fun i j => unit (argX m c (row t i)) j * argG m c 0 j) (argU m c)]
  simp only [pay2_eq, pay28_eq, pay29_eq, pay30_eq, pay37_eq, zero_add]
  rfl

theorem after11_next (t : Fin cfg0.N) (h : ¬ t.val % 16 = 0) (o : Fin 8 → Fin 1024 → EReal)
    (ho : (outsAt0 m c (t.val - 1) (by omega)).2.2.2.2.2 = E2 o) : (dats m 0 c).after 11 t
    = E2 fun r j => o r j + ∑ i, rowG (argX m c (row t i)) (argG m c) (argU m c) (argW m c) (argF m c) (argT m c (row t i)) j := by
  rw [after0_11, outsAt0_B m c t h]; frame_out
  simp only [blk0, blk1, blk2, blk3, blk4, blk5, ho, rows0, rows1, rows2, rows3, rows4, rows5, rows6, rows7, pay3_eq, pay6_eq, pay9_eq, pay12_eq, pay15_eq, pay18_eq, pay21_eq, pay24_eq, pay27_eq]
  rw [readCov_act _ (fun i j => unit (argX m c (row t i)) j * argG m c 0 j) (argU m c)]
  simp only [pay28_eq, pay29_eq, pay30_eq, pay37_eq]
  rfl

/-- One half is a real. -/
theorem half_real : half = ((1 / 2 : ℝ) : EReal) := bits_half

theorem half_sum {n : ℕ} (f : Fin n → EReal) : half * ∑ i, f i = ∑ i, half * f i := by
  rw [half_real]; exact coe_mul_sum _ (by norm_num) f

/-- The loss after point `n`: the rows of the blocks up to it. -/
theorem acc10 (n : ℕ) (h : n < cfg0.N) : (outsAt0 m c n h).2.2.2.2.1
    = E2 fun _ _ => upTo 512 (fun r => half * rowL (argX m c r) (argG m c) (argU m c) (argW m c) (argF m c) (argT m c r)) n (inside n h) := by
  have hN : cfg0.N = 16 := N_0
  induction n with
  | zero =>
    rw [← after0_10 m c ⟨0, h⟩, after10_first m c ⟨0, h⟩ rfl]
    simp only [upTo_zero, half_sum]
  | succ n ih =>
    rw [← after0_10 m c ⟨n + 1, h⟩, after10_next m c ⟨n + 1, h⟩ (by simp only; omega) _ (ih (by omega))]
    simp only [upTo_succ, half_sum]

/-- The gain's gradient after point `n`: the rows of the blocks up to it. -/
theorem acc11 (n : ℕ) (h : n < cfg0.N) : (outsAt0 m c n h).2.2.2.2.2
    = E2 fun _ j => upTo 512 (fun r => rowG (argX m c r) (argG m c) (argU m c) (argW m c) (argF m c) (argT m c r) j) n (inside n h) := by
  have hN : cfg0.N = 16 := N_0
  induction n with
  | zero =>
    rw [← after0_11 m c ⟨0, h⟩, after11_first m c ⟨0, h⟩ rfl]
    simp only [upTo_zero]
  | succ n ih =>
    rw [← after0_11 m c ⟨n + 1, h⟩, after11_next m c ⟨n + 1, h⟩ (by simp only; omega) _ (ih (by omega))]
    simp only [upTo_succ]

/-- The last point. -/
def last : Fin cfg0.N := ⟨15, lt_of_lt_of_eq (by decide : 15 < 16) (show cfg0.N = 16 from N_0).symm⟩

theorem emb6 (t : Fin cfg0.N) (j : S512x4096.Idx) : (win0_6.blk t).view.emb j = ix2 (row t (j 0)) (j 1) := by
  idx_vars j; blk_ext [idx t, row, rowAt]

/-- The entries, as the kernel leaves them. -/
theorem arr6 : (dats m 0 c).arrAt 6 cfg0.N = E2 fun i => pre (argX m c i) (argG m c) (argU m c) := by
  refine (dats m 0 c).arrAt_eq_of_covers 6 _ (by decide +kernel) fun t hf j => ?_
  blk_simp
  rw [after6]
  exact E2_rows (fun i => pre (argX m c i) (argG m c) (argU m c)) (row t) j _ (emb6 t j)

theorem emb7 (t : Fin cfg0.N) (j : S512x1024.Idx) : (win0_7.blk t).view.emb j = ix2 (row t (j 0)) (j 1) := by
  idx_vars j; blk_ext [idx t, row, rowAt]

/-- The normalised rows, as the kernel leaves them. -/
theorem arr7 : (dats m 0 c).arrAt 7 cfg0.N = E2 fun i => rowN (argX m c i) (argG m c) := by
  refine (dats m 0 c).arrAt_eq_of_covers 7 _ (by decide +kernel) fun t hf j => ?_
  blk_simp
  rw [after7]
  exact E2_rows (fun i => rowN (argX m c i) (argG m c)) (row t) j _ (emb7 t j)

theorem emb8 (t : Fin cfg0.N) (j : S512x1024.Idx) : (win0_8.blk t).view.emb j = ix2 (row t (j 0)) (j 1) := by
  idx_vars j; blk_ext [idx t, row, rowAt]

/-- The gradient of the rows after the layer, as the kernel leaves it. -/
theorem arr8 : (dats m 0 c).arrAt 8 cfg0.N = E2 fun i => rowX (argX m c i) (argG m c) (argU m c) (argW m c) (argF m c) (argT m c i) := by
  refine (dats m 0 c).arrAt_eq_of_covers 8 _ (by decide +kernel) fun t hf j => ?_
  blk_simp
  rw [after8]
  exact E2_rows (fun i => rowX (argX m c i) (argG m c) (argU m c) (argW m c) (argF m c) (argT m c i)) (row t) j _ (emb8 t j)

theorem emb9 (t : Fin cfg0.N) (j : S512x1024.Idx) : (win0_9.blk t).view.emb j = ix2 (row t (j 0)) (j 1) := by
  idx_vars j; blk_ext [idx t, row, rowAt]

/-- Its narrow copy, as the kernel leaves it. -/
theorem arr9 : (dats m 0 c).arrAt 9 cfg0.N = E2 fun i => rowX (argX m c i) (argG m c) (argU m c) (argW m c) (argF m c) (argT m c i) := by
  refine (dats m 0 c).arrAt_eq_of_covers 9 _ (by decide +kernel) fun t hf j => ?_
  blk_simp
  rw [after9]
  exact E2_rows (fun i => rowX (argX m c i) (argG m c) (argU m c) (argW m c) (argF m c) (argT m c i)) (row t) j _ (emb9 t j)

/-- The loss, as the kernel leaves it: everywhere in a block of eight by 128. -/
theorem arr10 : (dats m 0 c).arrAt 10 cfg0.N = E2 fun _ _ => half * ∑ i, rowL (argX m c i) (argG m c) (argU m c) (argW m c) (argF m c) (argT m c i) := by
  refine (dats m 0 c).arrAt_eq_of_after_last 10 last (by decide +kernel) _ fun j => ?_
  blk_simp
  rw [after0_10, acc10]
  refine (upTo_all 512 (fun r => half * rowL (argX m c r) (argG m c) (argU m c) (argW m c) (argF m c) (argT m c r)) 15 (by decide) rfl).trans ?_
  exact (half_sum fun i => rowL (argX m c i) (argG m c) (argU m c) (argW m c) (argF m c) (argT m c i)).symm

/-- The gradient of the gain, as the kernel leaves it. -/
theorem arr11 : (dats m 0 c).arrAt 11 cfg0.N = E2 fun _ j => ∑ i, rowG (argX m c i) (argG m c) (argU m c) (argW m c) (argF m c) (argT m c i) j := by
  refine (dats m 0 c).arrAt_eq_of_after_last 11 last (by decide +kernel) _ fun j => ?_
  blk_simp
  rw [after0_11, acc11]
  exact upTo_all 512 (fun r => rowG (argX m c r) (argG m c) (argU m c) (argW m c) (argF m c) (argT m c r) (j 1)) 15 (by decide) rfl

end Cert.LossFwd

end
-- ==== Proof.LossRef.lean ====
module

public import proofs.«01_k».proof.Proof.Gen.LossReferenceIdeal.Read
public import proofs.«01_k».proof.Proof.Loss

@[expose] public section

set_option maxRecDepth 16384

noncomputable section

/-! # The squared-rectifier layer and the loss: the reference

The forward lines of the layer, and the derivative of the loss by them. -/

namespace Cert.LossFwd

open Idealize.ShloMosaic Idealize.ShloMosaic.TcCoe Idealize.SL.Sem Cert.LossReferenceIdeal Cert.LossReferenceIdeal.Read Cert.Rows
open Cert.MlpBack (act pre back two)

/-- The loss's derivative by an entry: a half over the row's length times twice the entry is the entry over the length. -/
theorem grad_entry (e : EReal) :
    Ideal.div half (Ideal.ofBits .f32 0x44800000#32) * (two * e) = e * recip := by
  rw [bits_half, bits_two, bits_recip, Cert.Attn.bits_thousand, div_coe' _ _ (by norm_num), ← mul_assoc, mul_comm e]
  simp only [← EReal.coe_mul]
  congr 2; norm_num

variable (x : Fin 8192 → Fin 1024 → EReal) (g : Fin 1 → Fin 1024 → EReal) (u w : Fin 4096 → Fin 1024 → EReal)
  (f : Fin 1 → Fin 1024 → EReal) (t : Fin 8192 → Fin 1024 → EReal)

theorem ref12 : val_main_v12 (F := Ideal) (E2 x) = E2 fun i => unit (x i) := by
  funext j; idx_vars j
  pointwise [val_main_v12, val_main_v11, val_main_v10, val_main_v9, val_main_v8, val_main_v7, val_main_v6, val_main_v5, val_main_v4,
    val_main_v3, val_main_cst, val_main_cst_0, val_main_cst_1, E2]
  rfl

/-- The entries. -/
theorem ref15 : val_main_v15 (F := Ideal) (E2 x) (E2 g) (E2 u) = E2 fun i => pre (x i) g u := by
  funext j; idx_vars j
  unfold val_main_v15 val_main_v14 val_main_v13 val_main_v2 val_main_v1
  rw [ref12]
  pointwise [E2]
  rfl

theorem ref17 : val_main_v17 (F := Ideal) (E2 x) (E2 g) (E2 u) = E2 fun i k => act (pre (x i) g u k) := by
  funext j; idx_vars j
  unfold val_main_v17 val_main_v16
  rw [ref15]
  pointwise [val_main_call0_v0, val_main_call0_cst, E2]
  rfl

/-- The rows after the layer. -/
theorem ref19 : val_main_v19 (F := Ideal) (E2 x) (E2 g) (E2 u) (E2 w) = E2 fun i => rowZ (x i) g u w := by
  funext j; idx_vars j
  unfold val_main_v19 val_main_v18 val_main_v0
  rw [ref17]
  pointwise [E2]
  rfl

theorem ref26 : val_main_v26 (F := Ideal) (E2 x) (E2 g) (E2 u) (E2 w) = E2 fun i (_ : Fin 1) => meanSq (rowZ (x i) g u w) := by
  funext j; idx_vars j
  unfold val_main_v26 val_main_v25 val_main_v24 val_main_v23 val_main_v22 val_main_v21 val_main_v20
  rw [ref19]
  pointwise [val_main_cst_2, val_main_cst_3, val_main_cst_4, E2]
  rfl

theorem ref27 : val_main_v27 (F := Ideal) (E2 x) (E2 g) (E2 u) (E2 w) = E2 fun i (_ : Fin 1) => scale (rowZ (x i) g u w) := by
  funext j; idx_vars j; unfold val_main_v27; rw [ref26]; pointwise [E2]
  rfl

theorem ref32 : val_main_v32 (F := Ideal) (E2 x) (E2 g) (E2 u) (E2 w) = E2 fun i => unit (rowZ (x i) g u w) := by
  funext j; idx_vars j; unfold val_main_v32 val_main_v31; rw [ref27, ref19]; pointwise [E2]
  rfl

/-- What separates the normalised rows from the target. -/
theorem ref35 : val_main_v35 (F := Ideal) (E2 x) (E2 g) (E2 u) (E2 w) (E2 f) (E2 t) = E2 fun i => rowE (x i) g u w f (t i) := by
  funext j; idx_vars j; unfold val_main_v35 val_main_v34 val_main_v33; rw [ref32]; pointwise [E2]
  rfl

theorem ref41 : val_main_v41 (F := Ideal) (E2 x) (E2 g) (E2 u) (E2 w) (E2 f) (E2 t) = fun i => rowL (x (i 0)) g u w f (t (i 0)) := by
  funext j; idx_vars j
  unfold val_main_v41 val_main_v40 val_main_v39 val_main_v36
  rw [ref35]
  pointwise [val_main_cst_7, val_main_cst_8, E2]
  rfl

/-- The loss. -/
theorem ref84 : val_main_v84 (F := Ideal) (E2 x) (E2 g) (E2 u) (E2 w) (E2 f) (E2 t)
    = E2 fun (_ : Fin 8) (_ : Fin 128) => half * ∑ i, rowL (x i) g u w f (t i) := by
  funext j; idx_vars j
  unfold val_main_v84 val_main_v43 val_main_v42
  rw [ref41]
  pointwise [val_main_cst_9, val_main_cst_10, E2]
  rfl

/-- The loss's derivative by the normalised rows. -/
theorem ref49 : val_main_v49 (F := Ideal) (E2 x) (E2 g) (E2 u) (E2 w) (E2 f) (E2 t)
    = E2 fun i j => rowE (x i) g u w f (t i) j * recip := by
  funext j; idx_vars j
  unfold val_main_v49 val_main_v48 val_main_v47 val_main_v46 val_main_v45 val_main_v44 val_main_v38 val_main_v37
  rw [ref35]
  pointwise [val_main_cst_6, val_main_cst_11, val_main_cst_12, val_main_cst_13, E2]
  exact grad_entry (rowE (x j0) g u w f (t j0) j1)

theorem ref54 : val_main_v54 (F := Ideal) (E2 x) (E2 g) (E2 u) (E2 w) (E2 f) (E2 t)
    = E2 fun i j => rowE (x i) g u w f (t i) j * recip * f 0 j := by
  funext j; idx_vars j; unfold val_main_v54 val_main_v53; rw [ref49]; pointwise [E2]

theorem ref63 : val_main_v63 (F := Ideal) (E2 x) (E2 g) (E2 u) (E2 w) (E2 f) (E2 t)
    = fun i => slope (rowZ (x (i 0)) g u w) fun j => rowE (x (i 0)) g u w f (t (i 0)) j * recip * f 0 j := by
  funext j; idx_vars j
  unfold val_main_v63 val_main_v62 val_main_v61 val_main_v60 val_main_v57 val_main_v56 val_main_v55 val_main_v30 val_main_v29 val_main_v28
  rw [ref54, ref27, ref26, ref19]
  pointwise [val_main_cst_5, val_main_cst_15, val_main_cst_16, val_main_cst_17, E2]
  simp only [Fin.sum_univ_one, Finset.sum_const, Finset.card_univ, Fintype.card_fin, one_smul]
  rfl

/-- The gradient of the rows after the layer. -/
theorem ref68 : val_main_v68 (F := Ideal) (E2 x) (E2 g) (E2 u) (E2 w) (E2 f) (E2 t) = E2 fun i => rowX (x i) g u w f (t i) := by
  funext j; idx_vars j
  unfold val_main_v68 val_main_v67 val_main_v66 val_main_v65 val_main_v64 val_main_v59 val_main_v58
  rw [ref63, ref54, ref27, ref19]
  pointwise [E2]
  exact dunit_eq (rowZ (x j0) g u w) (fun j => rowE (x j0) g u w f (t j0) j * recip * f 0 j) j1

/-- The entries, narrow. -/
theorem ref69 : val_main_v69 (F := Ideal) (E2 x) (E2 g) (E2 u) = E2 fun i => pre (x i) g u := by
  funext j; idx_vars j; unfold val_main_v69; rw [ref15]; pointwise [E2]

/-- The normalised rows. -/
theorem ref82 : val_main_v82 (F := Ideal) (E2 x) (E2 g) = E2 fun i => rowN (x i) g := by
  funext j; idx_vars j
  pointwise [val_main_v82, val_main_v81, val_main_v80, val_main_v79, val_main_v78, val_main_v77, val_main_v76, val_main_v75, val_main_v74,
    val_main_v73, val_main_v72, val_main_v71, val_main_v70, val_main_cst_18, val_main_cst_19, val_main_cst_20, E2]
  rfl

/-- The gradient of the rows after the layer, narrow. -/
theorem ref83 : val_main_v83 (F := Ideal) (E2 x) (E2 g) (E2 u) (E2 w) (E2 f) (E2 t) = E2 fun i => rowX (x i) g u w f (t i) := by
  funext j; idx_vars j; unfold val_main_v83; rw [ref68]; pointwise [E2]

/-- The gradient of the gain. -/
theorem ref85 : val_main_v85 (F := Ideal) (E2 x) (E2 g) (E2 u) (E2 w) (E2 f) (E2 t)
    = E2 fun (_ : Fin 8) j => ∑ i, rowG (x i) g u w f (t i) j := by
  funext j; idx_vars j
  unfold val_main_v85 val_main_v52 val_main_v51 val_main_v50
  rw [ref49, ref32]
  pointwise [val_main_cst_14, E2]
  exact Finset.sum_congr rfl fun i _ => mul_comm (G := EReal) _ _

end Cert.LossFwd

end
-- ==== Proof.Memory.lean ====
module

public import proofs.«01_k».proof.Proof.Gen.MemoryIdeal.Value
public import proofs.«01_k».proof.Proof.Gen.MemoryReferenceIdeal.Read
public import proofs.«01_k».proof.Proof.Rows
public import Idealize.ShloMosaic.Lib.Pipeline.ValueKit
public import Idealize.ShloMosaic.Lib.Pipeline.ReadBack

@[expose] public section

set_option maxRecDepth 16384

noncomputable section

/-! # The backward of the memory's keys and values

The kernel takes the projection head by head, eight slices of 256 columns; the reference takes its 2048 columns at once. A sum
over the columns is the sum of the eight slices' sums, on all extended reals. -/

namespace Cert.MemoryBack

open Idealize.ShloMosaic Idealize.ShloMosaic.TcCoe Idealize.SL.Sem Cert.MemoryIdeal Cert.MemoryIdeal.Gen Cert.MemoryIdeal.Value Cert.Rows
open Idealize.ShloMosaic.Pipeline (Dat)

/-- Column `d` of slice `h`. -/
def col (h : Fin 8) (d : Fin 256) : Fin 2048 := ⟨256 * h.val + d.val, by omega⟩

/-- The gradient of the projection. -/
def gradW (dkv : Shape.Idx ⟨2, ![256, 2048]⟩ → EReal) (n : Shape.Idx ⟨2, ![256, 1024]⟩ → EReal) (i : Shape.Idx ⟨3, ![8, 1024, 256]⟩) : EReal :=
  ∑ k : Fin 256, n (ix2 k (i 1)) * dkv (ix2 k (col (i 0) (i 2)))

/-- The gradient of a normalised row. -/
def back (dkv : Shape.Idx ⟨2, ![256, 2048]⟩ → EReal) (w : Shape.Idx ⟨3, ![8, 1024, 256]⟩ → EReal) (k : Fin 256) (j : Fin 1024) : EReal :=
  ∑ h : Fin 8, ∑ d : Fin 256, dkv (ix2 k (col h d)) * w (ix3 h j d)

/-- The gradient of the gain. -/
def gradG (dkv : Shape.Idx ⟨2, ![256, 2048]⟩ → EReal) (x : Fin 256 → Fin 1024 → EReal) (w : Shape.Idx ⟨3, ![8, 1024, 256]⟩ → EReal)
    (j : Fin 1024) : EReal := ∑ k, unit (x k) j * back dkv w k j

theorem emb_slice (h : ℕ) (hh : h < 8) (hb) (j1 : Fin 1024) (j2 : Fin 256) :
    (Rect.unit (s := S8x1024x256) ![h, 0, 0] ![1, 1024, 256] hb).emb (ix3 0 j1 j2) = ix3 (⟨h, hh⟩ : Fin 8) j1 j2 := by
  refine (eq_ix3 _).trans ?_
  congr 1 <;> exact Fin.ext (by simp [Rect.emb_apply])

/-! The eight slices, by their columns. -/

theorem col_0 (d : Fin 256) : col 0 d = ⟨d.val, by omega⟩ := Fin.ext (by simp [col])
theorem col_1 (d : Fin 256) : col 1 d = ⟨256 + d.val, by omega⟩ := Fin.ext (by simp [col])
theorem col_2 (d : Fin 256) : col 2 d = ⟨512 + d.val, by omega⟩ := Fin.ext (by simp [col])
theorem col_3 (d : Fin 256) : col 3 d = ⟨768 + d.val, by omega⟩ := Fin.ext (by simp [col])
theorem col_4 (d : Fin 256) : col 4 d = ⟨1024 + d.val, by omega⟩ := Fin.ext (by simp [col])
theorem col_5 (d : Fin 256) : col 5 d = ⟨1280 + d.val, by omega⟩ := Fin.ext (by simp [col])
theorem col_6 (d : Fin 256) : col 6 d = ⟨1536 + d.val, by omega⟩ := Fin.ext (by simp [col])
theorem col_7 (d : Fin 256) : col 7 d = ⟨1792 + d.val, by omega⟩ := Fin.ext (by simp [col])

/-- The eight stores write the gradient of the projection. -/
theorem out5 (a0 : Vec Ideal S256x2048 .f32) (a1 : Vec Ideal S256x1024 .bf16) (a2 : Vec Ideal S256x1024 .f32) (a3 : Vec Ideal S1x1024 .f32)
    (a4 : Vec Ideal S8x1024x256 .bf16) : out0_5 a0 a1 a2 a3 a4 = gradW a0 a1 := by
  funext j
  unfold out0_5
  refine View.canon_apply_of_pieces (Val := Elt Ideal) (S := S8x1024x256) (e := .f32) (gradW a0 a1) _ ?_ j (cover0_5 _ _ _ _ _ _ _ _ j)
  intro p hp x
  simp only [List.mem_cons, List.not_mem_nil, or_false] at hp
  rcases hp with rfl | rfl | rfl | rfl | rfl | rfl | rfl | rfl
  · idx_vars x
    obtain rfl : x0 = 0 := Subsingleton.elim _ _
    refine Eq.trans ?_ (congrArg (gradW a0 a1) (emb_slice 7 (by decide) _ x1 x2)).symm
    pointwise [k0_pay15, k0_pay16, k0_pay2]
    exact Finset.sum_congr rfl fun k _ => congrArg (fun z => a1 (ix2 k x1) * a0 (ix2 k z)) (col_7 x2).symm
  · idx_vars x
    obtain rfl : x0 = 0 := Subsingleton.elim _ _
    refine Eq.trans ?_ (congrArg (gradW a0 a1) (emb_slice 6 (by decide) _ x1 x2)).symm
    pointwise [k0_pay13, k0_pay16, k0_pay2]
    exact Finset.sum_congr rfl fun k _ => congrArg (fun z => a1 (ix2 k x1) * a0 (ix2 k z)) (col_6 x2).symm
  · idx_vars x
    obtain rfl : x0 = 0 := Subsingleton.elim _ _
    refine Eq.trans ?_ (congrArg (gradW a0 a1) (emb_slice 5 (by decide) _ x1 x2)).symm
    pointwise [k0_pay12, k0_pay16, k0_pay2]
    exact Finset.sum_congr rfl fun k _ => congrArg (fun z => a1 (ix2 k x1) * a0 (ix2 k z)) (col_5 x2).symm
  · idx_vars x
    obtain rfl : x0 = 0 := Subsingleton.elim _ _
    refine Eq.trans ?_ (congrArg (gradW a0 a1) (emb_slice 4 (by decide) _ x1 x2)).symm
    pointwise [k0_pay10, k0_pay16, k0_pay2]
    exact Finset.sum_congr rfl fun k _ => congrArg (fun z => a1 (ix2 k x1) * a0 (ix2 k z)) (col_4 x2).symm
  · idx_vars x
    obtain rfl : x0 = 0 := Subsingleton.elim _ _
    refine Eq.trans ?_ (congrArg (gradW a0 a1) (emb_slice 3 (by decide) _ x1 x2)).symm
    pointwise [k0_pay8, k0_pay16, k0_pay2]
    exact Finset.sum_congr rfl fun k _ => congrArg (fun z => a1 (ix2 k x1) * a0 (ix2 k z)) (col_3 x2).symm
  · idx_vars x
    obtain rfl : x0 = 0 := Subsingleton.elim _ _
    refine Eq.trans ?_ (congrArg (gradW a0 a1) (emb_slice 2 (by decide) _ x1 x2)).symm
    pointwise [k0_pay7, k0_pay6, k0_pay2]
    exact Finset.sum_congr rfl fun k _ => congrArg (fun z => a1 (ix2 k x1) * a0 (ix2 k z)) (col_2 x2).symm
  · idx_vars x
    obtain rfl : x0 = 0 := Subsingleton.elim _ _
    refine Eq.trans ?_ (congrArg (gradW a0 a1) (emb_slice 1 (by decide) _ x1 x2)).symm
    pointwise [k0_pay4, k0_pay2]
    exact Finset.sum_congr rfl fun k _ => congrArg (fun z => a1 (ix2 k x1) * a0 (ix2 k z)) (col_1 x2).symm
  · idx_vars x
    obtain rfl : x0 = 0 := Subsingleton.elim _ _
    refine Eq.trans ?_ (congrArg (gradW a0 a1) (emb_slice 0 (by decide) _ x1 x2)).symm
    pointwise [k0_pay3, k0_pay2]
    exact Finset.sum_congr rfl fun k _ => congrArg (fun z => a1 (ix2 k x1) * a0 (ix2 k z)) (col_0 x2).symm

/-- The other store writes the gradient of the gain. -/
theorem out6 (a0 : Vec Ideal S256x2048 .f32) (a1 : Vec Ideal S256x1024 .bf16) (a2 : Fin 256 → Fin 1024 → EReal) (a3 : Vec Ideal S1x1024 .f32)
    (a4 : Vec Ideal S8x1024x256 .bf16) : out0_6 a0 a1 (E2 a2) a3 a4 = E2 fun _ j => gradG a0 a2 a4 j := by
  unfold out0_6
  frame_out
  funext j
  idx_vars j
  pointwise [k0_pay1, k0_pay2, k0_pay5, k0_pay9, k0_pay11, k0_pay14, k0_pay16, E2]
  refine Finset.sum_congr rfl fun k _ => (mul_assoc (G := EReal) _ _ _).trans ((mul_comm (G := EReal) _ _).trans (congrArg₂ (· * ·) rfl ?_))
  simp only [back, Fin.sum_univ_eight, col_0, col_1, col_2, col_3, col_4, col_5, col_6, col_7]

section

variable (m : (ℓ : Loc nD τ sig) → Buf (Elt Ideal) ℓ) (c : Dev nD)

/-! The four arguments. -/

abbrev argD : Shape.Idx ⟨2, ![256, 2048]⟩ → EReal := m ((c.tc : Thread nD τ).loc main_arg0)
abbrev argX : Fin 256 → Fin 1024 → EReal := fun i j => m ((c.tc : Thread nD τ).loc main_arg1) (ix2 i j)
abbrev argG : Fin 1 → Fin 1024 → EReal := fun i j => m ((c.tc : Thread nD τ).loc main_arg2) (ix2 i j)
abbrev argW : Shape.Idx ⟨3, ![8, 1024, 256]⟩ → EReal := m ((c.tc : Thread nD τ).loc main_arg3)

/-- The memory normalised before the kernel. -/
theorem host_norm : V m c main_v12 = E2 fun i j => unit (argX m c i) j * argG m c 0 j := by
  funext j; idx_vars j
  entry_read
  pointwise [E2]
  rfl

theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0, 0] ∧ win0_6.index t = ![0, 0] :=
  (by decide +kernel : ∀ t : Fin grid0.N, _)

theorem blk0 (t : Fin cfg0.N) : iblk m c 0 t = argD m c := by
  funext j; idx_vars j
  blk_ext [iblk, V, idx t]

theorem blk1 (t : Fin cfg0.N) : iblk m c 1 t = E2 fun i j => unit (argX m c i) j * argG m c 0 j := by
  funext j; idx_vars j
  refine Eq.trans ?_ (congrFun (host_norm m c) (ix2 j0 j1))
  blk_ext [iblk, idx t]

theorem blk2 (t : Fin cfg0.N) : iblk m c 2 t = E2 (argX m c) := by
  funext j; idx_vars j
  blk_ext [iblk, V, idx t, E2]

theorem blk4 (t : Fin cfg0.N) : iblk m c 4 t = argW m c := by
  funext j; idx_vars j
  blk_ext [iblk, V, idx t]

theorem emb5 (t : Fin cfg0.N) (j : S8x1024x256.Idx) : (win0_5.blk t).view.emb j = j := by
  idx_vars j; blk_ext [idx t]

theorem emb6 (t : Fin cfg0.N) (j : S8x1024.Idx) : (win0_6.blk t).view.emb j = j := by
  idx_vars j; blk_ext [idx t]

/-- The gradient of the projection, as the kernel leaves it. -/
theorem arr5 : (dats m 0 c).arrAt 5 cfg0.N = gradW (argD m c) (E2 fun i j => unit (argX m c i) j * argG m c 0 j) := by
  refine (dats m 0 c).arrAt_eq_of_covers 5 _ (by decide +kernel) fun t hf j => ?_
  blk_simp
  rw [after0_5, out5, blk0, blk1]
  exact congrArg (gradW (argD m c) (E2 fun i j => unit (argX m c i) j * argG m c 0 j)) (emb5 t j).symm

/-- The gradient of the gain, as the kernel leaves it. -/
theorem arr6 : (dats m 0 c).arrAt 6 cfg0.N = E2 fun _ j => gradG (argD m c) (argX m c) (argW m c) j := by
  refine (dats m 0 c).arrAt_eq_of_covers 6 _ (by decide +kernel) fun t hf j => ?_
  blk_simp
  rw [after0_6, blk2, out6, blk0, blk4]
  exact congrArg (E2 fun (_ : Fin 8) j => gradG (argD m c) (argX m c) (argW m c) j) (emb6 t j).symm

end

/-! The reference, from the same arguments. -/

section

open Cert.MemoryReferenceIdeal.Read

/-- The sum over all columns is that over the slices. -/
theorem back_flat (dkv : Shape.Idx ⟨2, ![256, 2048]⟩ → EReal) (w : Shape.Idx ⟨3, ![8, 1024, 256]⟩ → EReal) (k : Fin 256) (j : Fin 1024) :
    ∑ z : Fin 2048, dkv (ix2 k z) * w (ix3 (⟨z.val / 256, by omega⟩ : Fin 8) j (⟨z.val % 256, by omega⟩ : Fin 256)) = back dkv w k j := by
  refine Eq.trans (Fin.sum_mul_add_fin (M := EReal) 8 256 (fun z : Fin 2048 => _)).symm ?_
  refine Finset.sum_congr rfl fun h _ => Finset.sum_congr rfl fun d _ => ?_
  have hd := d.isLt
  refine congrArg₂ (· * ·) (congrArg (fun z => dkv (ix2 k z)) (Fin.ext ?_)) (congrArg₂ (fun a b => w (ix3 a j b)) (Fin.ext ?_) (Fin.ext ?_))
  · simp only [col]; omega
  · simp only; omega
  · simp only; omega

theorem ref23 (x0 : Shape.Idx ⟨2, ![256, 2048]⟩ → EReal) (x1 : Fin 256 → Fin 1024 → EReal) (x2 : Fin 1 → Fin 1024 → EReal) :
    val_main_v23 (F := Ideal) x0 (E2 x1) (E2 x2) = gradW x0 (E2 fun i j => unit (x1 i) j * x2 0 j) := by
  funext j; idx_vars j
  unfold val_main_v23 val_main_v22 val_main_v17 val_main_v16 val_main_v14 val_main_v13 val_main_v12 val_main_v11 val_main_v10 val_main_v9 val_main_v8 val_main_v7
     val_main_v6 val_main_v5 val_main_v4 val_main_v3 val_main_cst val_main_cst_0 val_main_cst_1
  pointwise [E2, gradW]
  refine Finset.sum_congr rfl fun k _ => (mul_comm (G := EReal) _ _).trans ?_
  exact congrArg (fun z => unit (x1 k) j1 * x2 0 j1 * x0 (ix2 k z)) (Fin.ext (by simp only [col]; omega))

theorem ref24 (x0 : Shape.Idx ⟨2, ![256, 2048]⟩ → EReal) (x1 : Fin 256 → Fin 1024 → EReal) (x3 : Shape.Idx ⟨3, ![8, 1024, 256]⟩ → EReal) :
    val_main_v24 (F := Ideal) x0 (E2 x1) x3 = E2 fun _ j => gradG x0 x1 x3 j := by
  funext j; idx_vars j
  unfold val_main_v24 val_main_v21 val_main_v20 val_main_v19 val_main_v18 val_main_v12 val_main_v11 val_main_v10 val_main_v9 val_main_v8 val_main_v7
     val_main_v6 val_main_v5 val_main_v4 val_main_v3 val_main_v2 val_main_v1 val_main_v0 val_main_cst val_main_cst_0 val_main_cst_1 val_main_cst_2
  pointwise [E2]
  refine Finset.sum_congr rfl fun k _ => congrArg (unit (x1 k) j1 * ·) ?_
  exact back_flat x0 x3 k j1

end

end Cert.MemoryBack

end
-- ==== Proof.Inproj.lean ====
module

public import proofs.«01_k».proof.Proof.Gen.InprojIdeal.Value
public import proofs.«01_k».proof.Proof.Gen.InprojReferenceIdeal.Read
public import proofs.«01_k».proof.Proof.Mlp
public import Idealize.ShloMosaic.Lib.Pipeline.ValueKit
public import Idealize.ShloMosaic.Lib.Pipeline.ReadBack

@[expose] public section

set_option maxRecDepth 16384

noncomputable section

/-! # The input projection

The kernel multiplies the normalised rows with the first 3072 rows of the weight, and with its last 32 rows and 96 rows of
zeros; the reference multiplies with all rows and pads the product with 96 columns of zeros. Every entry is the same sum, on
all extended reals. -/

namespace Cert.InputProjection

open Idealize.ShloMosaic Idealize.ShloMosaic.TcCoe Idealize.SL.Sem Cert.InprojIdeal Cert.InprojIdeal.Gen Cert.InprojIdeal.Value Cert.Rows
open Idealize.ShloMosaic.Pipeline (Dat)

/-- A normalised row. -/
def rowH (x : Fin 1024 → EReal) (g : Fin 1 → Fin 1024 → EReal) (j : Fin 1024) : EReal := unit x j * g 0 j

/-- A row of the product, with its padding. -/
def rowZ (h : Fin 1024 → EReal) (w : Fin 3104 → Fin 1024 → EReal) (j : Fin 3200) : EReal :=
  if hj : j.val < 3104 then ∑ k, h k * w ⟨j.val, hj⟩ k else 0

theorem pay1_eq (x : Fin 512 → Fin 1024 → EReal) (g : Fin 1 → Fin 1024 → EReal) :
    k0_pay1 (F := Ideal) (E2 x) (E2 g) = E2 fun i => rowH (x i) g := by
  funext j; idx_vars j
  pointwise [k0_pay1, E2]
  rfl

theorem pay2_eq (x : Fin 512 → Fin 1024 → EReal) (g : Fin 1 → Fin 1024 → EReal) (w : Fin 3104 → Fin 1024 → EReal) (hb) :
    k0_pay2 (F := Ideal) (E2 x) (E2 g)
      (View.ld (Val := Elt Ideal) (e' := .bf16) (E2 w) (Rect.unit (s := S3104x1024) ![0, 0] ![3072, 1024] hb))
      = E2 fun i (j : Fin 3072) => rowZ (rowH (x i) g) w ⟨j.val, by omega⟩ := by
  funext j; idx_vars j
  unfold k0_pay2
  rw [pay1_eq]
  pointwise [E2]
  rw [rowZ, dif_pos (show j1.val < 3104 by omega)]

theorem pay3_eq (x : Fin 512 → Fin 1024 → EReal) (g : Fin 1 → Fin 1024 → EReal) (w : Fin 3104 → Fin 1024 → EReal) (hb) :
    k0_pay3 (F := Ideal) (E2 x) (E2 g)
      (View.ld (Val := Elt Ideal) (e' := .bf16) (E2 w) (Rect.unit (s := S3104x1024) ![3072, 0] ![32, 1024] hb))
      = E2 fun i (j : Fin 128) => rowZ (rowH (x i) g) w ⟨3072 + j.val, by omega⟩ := by
  funext j; idx_vars j
  unfold k0_pay3
  rw [pay1_eq]
  pointwise [E2]
  rw [rowZ]
  by_cases h : j1.val < 32
  · rw [dif_pos (show 3072 + j1.val < 3104 by omega)]
    simp only [dif_pos h]
  · rw [dif_neg (show ¬ 3072 + j1.val < 3104 by omega)]
    simp only [dif_neg h, mul_zero, Finset.sum_const_zero]

/-- Both stores together write every column. -/
theorem canon_parts (f : Fin 512 → Fin 3200 → EReal) (hb0 hb1) :
    View.canon (Val := Elt Ideal) (s := S512x3200) (e := .f32)
      [⟨Rect.unit ![0, 3072] ![512, 128] hb1, E2 fun i (d : Fin 128) => f i ⟨3072 + d.val, by omega⟩⟩,
        ⟨Rect.unit ![0, 0] ![512, 3072] hb0, E2 fun i (d : Fin 3072) => f i ⟨d.val, by omega⟩⟩] = E2 f := by
  funext j
  refine View.canon_apply_of_pieces (Val := Elt Ideal) (S := S512x3200) (e := .f32) (E2 f) _ ?_ j ?_
  · intro p hp x
    simp only [List.mem_cons, List.not_mem_nil, or_false] at hp
    rcases hp with rfl | rfl
    · exact congrArg₂ f (Fin.ext (by simp [Rect.emb_apply])) (Fin.ext (by simp [Rect.emb_apply]))
    · exact congrArg₂ f (Fin.ext (by simp [Rect.emb_apply])) (Fin.ext (by simp [Rect.emb_apply]))
  · exact View.cover_of_tiledBy _ ![512, 128] (by sl_kernel_rfl) j

section

variable (m : (ℓ : Loc nD τ sig) → Buf (Elt Ideal) ℓ) (c : Dev nD)

/-! The three arguments. -/

abbrev argX : Fin 8192 → Fin 1024 → EReal := fun i j => m ((c.tc : Thread nD τ).loc main_arg0) (ix2 i j)
abbrev argG : Fin 1 → Fin 1024 → EReal := fun i j => m ((c.tc : Thread nD τ).loc main_arg1) (ix2 i j)
abbrev argW : Fin 3104 → Fin 1024 → EReal := fun i j => m ((c.tc : Thread nD τ).loc main_arg2) (ix2 i j)

/-- Where each window's block lies. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem inside (n : ℕ) (h : n < cfg0.N) : 512 * (n + 1) ≤ 8192 := by
  have := lt_of_lt_of_eq h (show cfg0.N = 16 from N_0); omega

/-- Row `i` of the block of point `t`. -/
abbrev row (t : Fin cfg0.N) (i : Fin 512) : Fin 8192 := rowAt 512 t.val (inside t.val t.isLt) i

theorem blk0 (t : Fin cfg0.N) : iblk m c 0 t = E2 fun i => argX m c (row t i) := by
  funext j; idx_vars j
  blk_ext [iblk, V, idx t, row, rowAt, E2]

theorem blk1 (t : Fin cfg0.N) : iblk m c 1 t = E2 (argG m c) := by
  funext j; idx_vars j
  blk_ext [iblk, V, idx t, E2]

theorem blk2 (t : Fin cfg0.N) : iblk m c 2 t = E2 (argW m c) := by
  funext j; idx_vars j
  blk_ext [iblk, V, idx t, E2]

theorem after3 (t : Fin cfg0.N) : (dats m 0 c).after 3 t = E2 fun i => rowZ (rowH (argX m c (row t i)) (argG m c)) (argW m c) := by
  rw [after0_3]
  unfold outsAt0
  frame_out
  simp only [blk0, blk1, blk2, pay2_eq, pay3_eq]
  exact canon_parts (fun i => rowZ (rowH (argX m c (row t i)) (argG m c)) (argW m c)) _ _

theorem after4 (t : Fin cfg0.N) : (dats m 0 c).after 4 t = E2 fun i => rowH (argX m c (row t i)) (argG m c) := by
  rw [after0_4]
  unfold outsAt0
  frame_out
  simp only [blk0, blk1, blk2, pay1_eq]

theorem emb3 (t : Fin cfg0.N) (j : S512x3200.Idx) : (win0_3.blk t).view.emb j = ix2 (row t (j 0)) (j 1) := by
  idx_vars j; blk_ext [idx t, row, rowAt]

theorem emb4 (t : Fin cfg0.N) (j : S512x1024.Idx) : (win0_4.blk t).view.emb j = ix2 (row t (j 0)) (j 1) := by
  idx_vars j; blk_ext [idx t, row, rowAt]

/-- The product, as the kernel leaves it. -/
theorem arr3 : (dats m 0 c).arrAt 3 cfg0.N = E2 fun i => rowZ (rowH (argX m c i) (argG m c)) (argW m c) := by
  refine (dats m 0 c).arrAt_eq_of_covers 3 _ (by decide +kernel) fun t hf j => ?_
  blk_simp
  rw [after3]
  exact Cert.MlpBack.E2_rows (fun i => rowZ (rowH (argX m c i) (argG m c)) (argW m c)) (row t) j _ (emb3 t j)

/-- The normalised rows, as the kernel leaves them. -/
theorem arr4 : (dats m 0 c).arrAt 4 cfg0.N = E2 fun i => rowH (argX m c i) (argG m c) := by
  refine (dats m 0 c).arrAt_eq_of_covers 4 _ (by decide +kernel) fun t hf j => ?_
  blk_simp
  rw [after4]
  exact Cert.MlpBack.E2_rows (fun i => rowH (argX m c i) (argG m c)) (row t) j _ (emb4 t j)

end

/-! The reference, from the same arguments. -/

section

open Cert.InprojReferenceIdeal.Read

variable (x : Fin 8192 → Fin 1024 → EReal) (g : Fin 1 → Fin 1024 → EReal) (w : Fin 3104 → Fin 1024 → EReal)

/-- The padding. -/
theorem pad_zero : FloatOps.sitofp (F := Ideal) .f32 0#32 = (0 : EReal) := by
  show (((0#32 : BitVec 32).toInt : ℝ) : EReal) = 0
  simp

theorem ref16 : val_main_v16 (F := Ideal) (E2 x) (E2 g) = E2 fun i => rowH (x i) g := by
  funext j; idx_vars j
  unfold val_main_v16 val_main_v11 val_main_v9 val_main_v10 val_main_v8 val_main_v7 val_main_v6 val_main_v5 val_main_v4 val_main_v3 val_main_v2 val_main_v1 val_main_v0
    val_main_cst val_main_cst_0 val_main_cst_1
  pointwise [E2]
  rfl

theorem ref11 : val_main_v11 (F := Ideal) (E2 x) (E2 g) = E2 fun i => rowH (x i) g := ref16 x g

theorem ref15 : val_main_v15 (F := Ideal) (E2 x) (E2 g) (E2 w) = E2 fun i => rowZ (rowH (x i) g) w := by
  funext j; idx_vars j
  unfold val_main_v15 val_main_v14 val_main_v13 val_main_v12 val_main_call0_v0 val_main_c
  rw [ref11]
  pointwise [E2]
  rw [rowZ]
  split
  · rfl
  · exact pad_zero

end

end Cert.InputProjection

end
-- ==== Proof.Kvproj.lean ====
module

public import proofs.«01_k».proof.Proof.Gen.KvprojIdeal.Value
public import proofs.«01_k».proof.Proof.Gen.KvprojReferenceIdeal.Read
public import proofs.«01_k».proof.Proof.Rows
public import Idealize.ShloMosaic.Lib.Pipeline.ValueKit
public import Idealize.ShloMosaic.Lib.Pipeline.ReadBack

@[expose] public section

set_option maxRecDepth 16384

noncomputable section

/-! # The memory's keys and values, forward

The kernel multiplies the normalised memory with eight slices of the projection, head by head; the reference with all its 2048
columns. Every entry is the same sum, on all extended reals. -/

namespace Cert.MemoryProjection

open Idealize.ShloMosaic Idealize.ShloMosaic.TcCoe Idealize.SL.Sem Cert.KvprojIdeal Cert.KvprojIdeal.Gen Cert.KvprojIdeal.Value Cert.Rows
open Idealize.ShloMosaic.Pipeline (Dat)

/-- The normalised memory. -/
def normed (x : Fin 256 → Fin 1024 → EReal) (g : Fin 1 → Fin 1024 → EReal) (i : Fin 256) (j : Fin 1024) : EReal := unit (x i) j * g 0 j

/-- The product with the projection. -/
def proj (x : Fin 256 → Fin 1024 → EReal) (g : Fin 1 → Fin 1024 → EReal) (w : Shape.Idx ⟨3, ![8, 1024, 256]⟩ → EReal) (i : Fin 256)
    (j : Fin 2048) : EReal :=
  ∑ k, normed x g i k * w (ix3 (⟨j.val / 256, by omega⟩ : Fin 8) k (⟨j.val % 256, by omega⟩ : Fin 256))

theorem emb_slice (o : ℕ) (ho : o + 256 ≤ 2048) (hb) (i : Fin 256) (d : Fin 256) :
    (Rect.unit (s := S256x2048) ![0, o] ![256, 256] hb).emb (ix2 i d) = ix2 i (⟨o + d.val, by omega⟩ : Fin 2048) := by
  refine (eq_ix2 _).trans ?_
  congr 1 <;> exact Fin.ext (by simp [Rect.emb_apply])

/-- The eight stores write the product. -/
theorem out3 (a0 : Fin 256 → Fin 1024 → EReal) (a1 : Fin 1 → Fin 1024 → EReal) (a2 : Vec Ideal S8x1024x256 .bf16) :
    out0_3 (F := Ideal) (E2 a0) (E2 a1) a2 = E2 (proj a0 a1 a2) := by
  funext j
  unfold out0_3
  refine View.canon_apply_of_pieces (Val := Elt Ideal) (S := S256x2048) (e := .f32) (E2 (proj a0 a1 a2)) _ ?_ j (cover0_3 _ _ _ _ _ _ _ _ j)
  intro p hp x
  simp only [List.mem_cons, List.not_mem_nil, or_false] at hp
  rcases hp with rfl | rfl | rfl | rfl | rfl | rfl | rfl | rfl
  · idx_vars x
    refine Eq.trans ?_ (congrArg (E2 (proj a0 a1 a2)) (emb_slice 1792 (by decide) _ x0 x1)).symm
    pointwise [k0_pay5, k0_pay10, k0_pay6, E2]
    exact Finset.sum_congr rfl fun k _ => congrArg₂ (fun z y => normed a0 a1 x0 k * a2 (ix3 z k y))
      (Fin.ext (show 7 = (1792 + x1.val) / 256 by omega)) (Fin.ext (show x1.val = (1792 + x1.val) % 256 by omega))
  · idx_vars x
    refine Eq.trans ?_ (congrArg (E2 (proj a0 a1 a2)) (emb_slice 1536 (by decide) _ x0 x1)).symm
    pointwise [k0_pay4, k0_pay10, k0_pay6, E2]
    exact Finset.sum_congr rfl fun k _ => congrArg₂ (fun z y => normed a0 a1 x0 k * a2 (ix3 z k y))
      (Fin.ext (show 6 = (1536 + x1.val) / 256 by omega)) (Fin.ext (show x1.val = (1536 + x1.val) % 256 by omega))
  · idx_vars x
    refine Eq.trans ?_ (congrArg (E2 (proj a0 a1 a2)) (emb_slice 1280 (by decide) _ x0 x1)).symm
    pointwise [k0_pay3, k0_pay10, k0_pay6, E2]
    exact Finset.sum_congr rfl fun k _ => congrArg₂ (fun z y => normed a0 a1 x0 k * a2 (ix3 z k y))
      (Fin.ext (show 5 = (1280 + x1.val) / 256 by omega)) (Fin.ext (show x1.val = (1280 + x1.val) % 256 by omega))
  · idx_vars x
    refine Eq.trans ?_ (congrArg (E2 (proj a0 a1 a2)) (emb_slice 1024 (by decide) _ x0 x1)).symm
    pointwise [k0_pay2, k0_pay10, k0_pay6, E2]
    exact Finset.sum_congr rfl fun k _ => congrArg₂ (fun z y => normed a0 a1 x0 k * a2 (ix3 z k y))
      (Fin.ext (show 4 = (1024 + x1.val) / 256 by omega)) (Fin.ext (show x1.val = (1024 + x1.val) % 256 by omega))
  · idx_vars x
    refine Eq.trans ?_ (congrArg (E2 (proj a0 a1 a2)) (emb_slice 768 (by decide) _ x0 x1)).symm
    pointwise [k0_pay1, k0_pay10, k0_pay6, E2]
    exact Finset.sum_congr rfl fun k _ => congrArg₂ (fun z y => normed a0 a1 x0 k * a2 (ix3 z k y))
      (Fin.ext (show 3 = (768 + x1.val) / 256 by omega)) (Fin.ext (show x1.val = (768 + x1.val) % 256 by omega))
  · idx_vars x
    refine Eq.trans ?_ (congrArg (E2 (proj a0 a1 a2)) (emb_slice 512 (by decide) _ x0 x1)).symm
    pointwise [k0_pay9, k0_pay6, E2]
    exact Finset.sum_congr rfl fun k _ => congrArg₂ (fun z y => normed a0 a1 x0 k * a2 (ix3 z k y))
      (Fin.ext (show 2 = (512 + x1.val) / 256 by omega)) (Fin.ext (show x1.val = (512 + x1.val) % 256 by omega))
  · idx_vars x
    refine Eq.trans ?_ (congrArg (E2 (proj a0 a1 a2)) (emb_slice 256 (by decide) _ x0 x1)).symm
    pointwise [k0_pay8, k0_pay6, E2]
    exact Finset.sum_congr rfl fun k _ => congrArg₂ (fun z y => normed a0 a1 x0 k * a2 (ix3 z k y))
      (Fin.ext (show 1 = (256 + x1.val) / 256 by omega)) (Fin.ext (show x1.val = (256 + x1.val) % 256 by omega))
  · idx_vars x
    refine Eq.trans ?_ (congrArg (E2 (proj a0 a1 a2)) (emb_slice 0 (by decide) _ x0 x1)).symm
    pointwise [k0_pay7, k0_pay6, E2]
    exact Finset.sum_congr rfl fun k _ => congrArg₂ (fun z y => normed a0 a1 x0 k * a2 (ix3 z k y))
      (Fin.ext (show 0 = x1.val / 256 by omega)) (Fin.ext (show x1.val = x1.val % 256 by omega))

/-- The other store writes the normalised memory. -/
theorem out4 (a0 : Fin 256 → Fin 1024 → EReal) (a1 : Fin 1 → Fin 1024 → EReal) (a2 : Vec Ideal S8x1024x256 .bf16) :
    out0_4 (F := Ideal) (E2 a0) (E2 a1) a2 = E2 (normed a0 a1) := by
  unfold out0_4
  frame_out
  funext j
  idx_vars j
  pointwise [k0_pay6, E2]
  rfl

section

variable (m : (ℓ : Loc nD τ sig) → Buf (Elt Ideal) ℓ) (c : Dev nD)

/-! The three arguments. -/

abbrev argX : Fin 256 → Fin 1024 → EReal := fun i j => m ((c.tc : Thread nD τ).loc main_arg0) (ix2 i j)
abbrev argG : Fin 1 → Fin 1024 → EReal := fun i j => m ((c.tc : Thread nD τ).loc main_arg1) (ix2 i j)
abbrev argW : Shape.Idx ⟨3, ![8, 1024, 256]⟩ → EReal := m ((c.tc : Thread nD τ).loc main_arg2)

theorem idx : ∀ t : Fin cfg0.N, win0_0.index t = ![0, 0] ∧ win0_1.index t = ![0, 0] ∧ win0_2.index t = ![0, 0, 0]
    ∧ win0_3.index t = ![0, 0] ∧ win0_4.index t = ![0, 0] :=
  (by decide +kernel : ∀ t : Fin grid0.N, _)

theorem blk0 (t : Fin cfg0.N) : iblk m c 0 t = E2 (argX m c) := by
  funext j; idx_vars j
  blk_ext [iblk, V, idx t, E2]

theorem blk1 (t : Fin cfg0.N) : iblk m c 1 t = E2 (argG m c) := by
  funext j; idx_vars j
  blk_ext [iblk, V, idx t, E2]

theorem blk2 (t : Fin cfg0.N) : iblk m c 2 t = argW m c := by
  funext j; idx_vars j
  blk_ext [iblk, V, idx t]

theorem emb3 (t : Fin cfg0.N) (j : S256x2048.Idx) : (win0_3.blk t).view.emb j = j := by
  idx_vars j; blk_ext [idx t]

theorem emb4 (t : Fin cfg0.N) (j : S256x1024.Idx) : (win0_4.blk t).view.emb j = j := by
  idx_vars j; blk_ext [idx t]

/-- The product, as the kernel leaves it. -/
theorem arr3 : (dats m 0 c).arrAt 3 cfg0.N = E2 (proj (argX m c) (argG m c) (argW m c)) := by
  refine (dats m 0 c).arrAt_eq_of_covers 3 _ (by decide +kernel) fun t hf j => ?_
  blk_simp
  rw [after0_3, blk0, blk1, out3, blk2]
  exact congrArg (E2 (proj (argX m c) (argG m c) (argW m c))) (emb3 t j).symm

/-- The normalised memory, as the kernel leaves it. -/
theorem arr4 : (dats m 0 c).arrAt 4 cfg0.N = E2 (normed (argX m c) (argG m c)) := by
  refine (dats m 0 c).arrAt_eq_of_covers 4 _ (by decide +kernel) fun t hf j => ?_
  blk_simp
  rw [after0_4, blk0, blk1, out4]
  exact congrArg (E2 (normed (argX m c) (argG m c))) (emb4 t j).symm

end

/-! The reference, from the same arguments. -/

section

open Cert.KvprojReferenceIdeal.Read

variable (x : Fin 256 → Fin 1024 → EReal) (g : Fin 1 → Fin 1024 → EReal) (w : Shape.Idx ⟨3, ![8, 1024, 256]⟩ → EReal)

theorem ref16 : val_main_v16 (F := Ideal) (E2 x) (E2 g) = E2 (normed x g) := by
  funext j; idx_vars j
  unfold val_main_v16 val_main_v11 val_main_v9 val_main_v10 val_main_v8 val_main_v7 val_main_v6 val_main_v5 val_main_v4 val_main_v3 val_main_v2
    val_main_v1 val_main_v0 val_main_cst val_main_cst_0 val_main_cst_1
  pointwise [E2]
  rfl

theorem ref11 : val_main_v11 (F := Ideal) (E2 x) (E2 g) = E2 (normed x g) := ref16 x g

theorem ref15 : val_main_v15 (F := Ideal) (E2 x) (E2 g) w = E2 (proj x g w) := by
  funext j; idx_vars j
  unfold val_main_v15 val_main_v14 val_main_v13 val_main_v12
  rw [ref11]
  pointwise [E2]
  rfl

end

end Cert.MemoryProjection

end
-- ==== Proof.Adam.lean ====
module

public import proofs.«01_k».proof.Proof.Rows

@[expose] public section

set_option maxRecDepth 16384

noncomputable section

/-! # The optimiser's update of one weight, on extended reals

The gradient is a device's own sum and three received ones. The kernels add the three one after the other, the reference adds
their sum: addition of extended reals is associative, so the two are equal. All else is the same at every entry. -/

namespace Cert.Adam

open Idealize.ShloMosaic

/-- The gradient: the own sum and the received ones. -/
def grad (o : EReal) (r : Fin 3 → EReal) : EReal := o + ∑ k, r k

/-- As the kernels add it. -/
theorem grad_add (o : EReal) (r : Fin 3 → EReal) : grad o r = o + r 0 + r 1 + r 2 := by
  rw [grad, Fin.sum_univ_three, add_assoc, add_assoc, add_assoc]

/-- The running mean of the gradient. -/
def mean (m g : EReal) : EReal := Ideal.ofBits .f32 0x3F666666#32 * m + Ideal.ofBits .f32 0x3DCCCCCD#32 * g

/-- The running mean of its square. -/
def square (v g : EReal) : EReal := Ideal.ofBits .f32 0x3F7FBE77#32 * v + Ideal.ofBits .f32 0x3A83126F#32 * (g * g)

/-- The change of the weight. -/
def change (w m v g : EReal) : EReal :=
  Ideal.ofBits .f32 0xBA83126F#32
    * (Ideal.div (Ideal.div (mean m g) (Ideal.ofBits .f32 0x3F26BD02#32))
        (Ideal.sqrt (Ideal.div (square v g) (Ideal.ofBits .f32 0x3C231ACC#32)) + Ideal.ofBits .f32 0x322BCC77#32)
      + Ideal.ofBits .f32 0x3C23D70A#32 * w)

variable {a b : ℕ}

/-- The gradient of a weight, entry by entry. -/
def gradA (o : Shape.Idx ⟨2, ![a, b]⟩ → EReal) (r : Shape.Idx ⟨3, ![3, a, b]⟩ → EReal) (i : Shape.Idx ⟨3, ![1, a, b]⟩) : EReal :=
  grad (o (ix2 (i 1) (i 2))) fun k => r (ix3 k (i 1) (i 2))

/-- A weight transposed. -/
def turn (w : Shape.Idx ⟨3, ![1, b, a]⟩ → EReal) (i : Shape.Idx ⟨3, ![1, a, b]⟩) : EReal := w (ix3 (i 0) (i 2) (i 1))

/-- The gradient of a weight whose own and received sums lie transposed. -/
def gradT (o : Shape.Idx ⟨2, ![b, a]⟩ → EReal) (r : Shape.Idx ⟨3, ![3, b, a]⟩ → EReal) (i : Shape.Idx ⟨3, ![1, a, b]⟩) : EReal :=
  grad (o (ix2 (i 2) (i 1))) fun k => r (ix3 k (i 2) (i 1))

/-- The running mean, entry by entry. -/
def meanA (m g : Shape.Idx ⟨3, ![1, a, b]⟩ → EReal) (i : Shape.Idx ⟨3, ![1, a, b]⟩) : EReal := mean (m i) (g i)

/-- The running mean of the square, entry by entry. -/
def squareA (v g : Shape.Idx ⟨3, ![1, a, b]⟩ → EReal) (i : Shape.Idx ⟨3, ![1, a, b]⟩) : EReal := square (v i) (g i)

/-- The change, entry by entry. -/
def changeA (w m v g : Shape.Idx ⟨3, ![1, a, b]⟩ → EReal) (i : Shape.Idx ⟨3, ![1, a, b]⟩) : EReal := change (w i) (m i) (v i) (g i)

end Cert.Adam

end
-- ==== Proof.AdamDown.lean ====
module

public import proofs.«01_k».proof.Proof.Gen.AdamDownIdeal.Value
public import proofs.«01_k».proof.Proof.Gen.AdamDownReferenceIdeal.Read
public import proofs.«01_k».proof.Proof.Adam
public import Idealize.ShloMosaic.Lib.Pointwise
public import Idealize.ShloMosaic.Lib.Pipeline.ValueKit
public import Idealize.ShloMosaic.Lib.Pipeline.ReadBack

@[expose] public section

set_option maxRecDepth 16384

noncomputable section

/-! # The optimiser's update of the down projection: kernel and reference, entry by entry

Both are the update of `Adam` at every entry; the kernel writes it block by block. -/

namespace Cert.AdamDown

open Idealize.ShloMosaic Idealize.ShloMosaic.TcCoe Idealize.SL.Sem Cert.AdamDownIdeal Cert.AdamDownIdeal.Gen
  Cert.AdamDownIdeal.Value Cert.Adam

variable {m : (ℓ : Loc nD τ sig) → Buf (Elt Ideal) ℓ} {c : Dev nD}

/-- Where each window's block lies. -/
theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the array that row `i` of a point's block is. -/
def row (t : Fin cfg0.N) (i : Fin 256) : Fin 512 :=
  ⟨256 * t.val + i.val, by
    have h : t.val < 2 := lt_of_lt_of_eq t.isLt (show cfg0.N = 2 from N_0)
    have := i.isLt
    omega⟩

theorem blk0 (t : Fin cfg0.N) (j0 : Fin 1) (j1 : Fin 256) (j2 : Fin 1024) :
    iblk m c 0 t (ix3 j0 j1 j2) = m ((c.tc : Thread nD τ).loc main_arg0) (ix3 j0 (row t j1) j2) := by
  blk_ext [iblk, V, idx t, row]

theorem blk1 (t : Fin cfg0.N) (j0 : Fin 1) (j1 : Fin 256) (j2 : Fin 1024) :
    iblk m c 1 t (ix3 j0 j1 j2) = m ((c.tc : Thread nD τ).loc main_arg1) (ix3 j0 (row t j1) j2) := by
  blk_ext [iblk, V, idx t, row]

theorem blk2 (t : Fin cfg0.N) (j0 : Fin 1) (j1 : Fin 256) (j2 : Fin 1024) :
    iblk m c 2 t (ix3 j0 j1 j2) = m ((c.tc : Thread nD τ).loc main_arg2) (ix3 j0 (row t j1) j2) := by
  blk_ext [iblk, V, idx t, row]

theorem blk3 (t : Fin cfg0.N) (j1 : Fin 256) (j2 : Fin 1024) :
    iblk m c 3 t (ix2 j1 j2) = m ((c.tc : Thread nD τ).loc main_arg3) (ix2 (row t j1) j2) := by
  blk_ext [iblk, V, idx t, row]

theorem blk4 (t : Fin cfg0.N) (j0 : Fin 3) (j1 : Fin 256) (j2 : Fin 1024) :
    iblk m c 4 t (ix3 j0 j1 j2) = m ((c.tc : Thread nD τ).loc main_arg4) (ix3 j0 (row t j1) j2) := by
  blk_ext [iblk, V, idx t, row]

theorem emb5 (t : Fin cfg0.N) (j0 : Fin 1) (j1 : Fin 256) (j2 : Fin 1024) :
    (win0_5.blk t).view.emb (ix3 j0 j1 j2) = ix3 j0 (row t j1) j2 := by
  blk_ext [idx t, row]

/-- The gradient, as the kernel leaves it. -/
theorem arr5 : (dats m 0 c).arrAt 5 cfg0.N
    = gradA (m ((c.tc : Thread nD τ).loc main_arg3)) (m ((c.tc : Thread nD τ).loc main_arg4)) := by
  refine (dats m 0 c).arrAt_eq_of_covers 5 _ (by decide +kernel) fun t hf j => ?_
  blk_simp
  rw [after0_5]
  frame_out
  idx_vars j
  obtain rfl : j0 = 0 := Subsingleton.elim _ _
  refine Eq.trans ?_ (congrArg (gradA (m ((c.tc : Thread nD τ).loc main_arg3)) (m ((c.tc : Thread nD τ).loc main_arg4))) (emb5 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

theorem emb6 (t : Fin cfg0.N) (j0 : Fin 1) (j1 : Fin 256) (j2 : Fin 1024) :
    (win0_6.blk t).view.emb (ix3 j0 j1 j2) = ix3 j0 (row t j1) j2 := by
  blk_ext [idx t, row]

/-- The change of the weight. -/
theorem arr6 : (dats m 0 c).arrAt 6 cfg0.N
    = changeA (m ((c.tc : Thread nD τ).loc main_arg0)) (m ((c.tc : Thread nD τ).loc main_arg1)) (m ((c.tc : Thread nD τ).loc main_arg2))
        (gradA (m ((c.tc : Thread nD τ).loc main_arg3)) (m ((c.tc : Thread nD τ).loc main_arg4))) := by
  refine (dats m 0 c).arrAt_eq_of_covers 6 _ (by decide +kernel) fun t hf j => ?_
  blk_simp
  rw [after0_6]
  frame_out
  idx_vars j
  obtain rfl : j0 = 0 := Subsingleton.elim _ _
  refine Eq.trans ?_ (congrArg (changeA (m ((c.tc : Thread nD τ).loc main_arg0)) (m ((c.tc : Thread nD τ).loc main_arg1)) (m ((c.tc : Thread nD τ).loc main_arg2))
        (gradA (m ((c.tc : Thread nD τ).loc main_arg3)) (m ((c.tc : Thread nD τ).loc main_arg4)))) (emb6 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

theorem emb7 (t : Fin cfg0.N) (j0 : Fin 1) (j1 : Fin 256) (j2 : Fin 1024) :
    (win0_7.blk t).view.emb (ix3 j0 j1 j2) = ix3 j0 (row t j1) j2 := by
  blk_ext [idx t, row]

/-- The new running mean. -/
theorem arr7 : (dats m 0 c).arrAt 7 cfg0.N
    = meanA (m ((c.tc : Thread nD τ).loc main_arg1))
        (gradA (m ((c.tc : Thread nD τ).loc main_arg3)) (m ((c.tc : Thread nD τ).loc main_arg4))) := by
  refine (dats m 0 c).arrAt_eq_of_covers 7 _ (by decide +kernel) fun t hf j => ?_
  blk_simp
  rw [after0_7]
  frame_out
  idx_vars j
  obtain rfl : j0 = 0 := Subsingleton.elim _ _
  refine Eq.trans ?_ (congrArg (meanA (m ((c.tc : Thread nD τ).loc main_arg1))
        (gradA (m ((c.tc : Thread nD τ).loc main_arg3)) (m ((c.tc : Thread nD τ).loc main_arg4)))) (emb7 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

theorem emb8 (t : Fin cfg0.N) (j0 : Fin 1) (j1 : Fin 256) (j2 : Fin 1024) :
    (win0_8.blk t).view.emb (ix3 j0 j1 j2) = ix3 j0 (row t j1) j2 := by
  blk_ext [idx t, row]

/-- The new running mean of the square. -/
theorem arr8 : (dats m 0 c).arrAt 8 cfg0.N
    = squareA (m ((c.tc : Thread nD τ).loc main_arg2))
        (gradA (m ((c.tc : Thread nD τ).loc main_arg3)) (m ((c.tc : Thread nD τ).loc main_arg4))) := by
  refine (dats m 0 c).arrAt_eq_of_covers 8 _ (by decide +kernel) fun t hf j => ?_
  blk_simp
  rw [after0_8]
  frame_out
  idx_vars j
  obtain rfl : j0 = 0 := Subsingleton.elim _ _
  refine Eq.trans ?_ (congrArg (squareA (m ((c.tc : Thread nD τ).loc main_arg2))
        (gradA (m ((c.tc : Thread nD τ).loc main_arg3)) (m ((c.tc : Thread nD τ).loc main_arg4)))) (emb8 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

/-- The reference's gradient. -/
theorem ref_v3 (x3 : Shape.Idx ⟨2, ![512, 1024]⟩ → EReal) (x4 : Shape.Idx ⟨3, ![3, 512, 1024]⟩ → EReal) : Cert.AdamDownReferenceIdeal.Read.val_main_v3 (F := Ideal) x3 x4 = gradA x3 x4 := by
  funext j; idx_vars j
  unfold Cert.AdamDownReferenceIdeal.Read.val_main_v3 Cert.AdamDownReferenceIdeal.Read.val_main_v2 Cert.AdamDownReferenceIdeal.Read.val_main_v1 Cert.AdamDownReferenceIdeal.Read.val_main_v0 Cert.AdamDownReferenceIdeal.Read.val_main_cst
  pointwise [gradA]
  rfl

/-- The reference's change. -/
theorem ref_v27 (x0 x1 x2 : Shape.Idx ⟨3, ![1, 512, 1024]⟩ → EReal) (x3 : Shape.Idx ⟨2, ![512, 1024]⟩ → EReal) (x4 : Shape.Idx ⟨3, ![3, 512, 1024]⟩ → EReal) :
    Cert.AdamDownReferenceIdeal.Read.val_main_v27 (F := Ideal) x0 x1 x2 x3 x4 = changeA x0 x1 x2 (gradA x3 x4) := by
  funext j; idx_vars j
  obtain rfl : j0 = 0 := Subsingleton.elim _ _
  unfold Cert.AdamDownReferenceIdeal.Read.val_main_v27 Cert.AdamDownReferenceIdeal.Read.val_main_v26 Cert.AdamDownReferenceIdeal.Read.val_main_v25 Cert.AdamDownReferenceIdeal.Read.val_main_cst_8 Cert.AdamDownReferenceIdeal.Read.val_main_v22 Cert.AdamDownReferenceIdeal.Read.val_main_v24 Cert.AdamDownReferenceIdeal.Read.val_main_v16 Cert.AdamDownReferenceIdeal.Read.val_main_v21 Cert.AdamDownReferenceIdeal.Read.val_main_v23 Cert.AdamDownReferenceIdeal.Read.val_main_v8 Cert.AdamDownReferenceIdeal.Read.val_main_v15 Cert.AdamDownReferenceIdeal.Read.val_main_v19 Cert.AdamDownReferenceIdeal.Read.val_main_v20 Cert.AdamDownReferenceIdeal.Read.val_main_cst_7 Cert.AdamDownReferenceIdeal.Read.val_main_v5 Cert.AdamDownReferenceIdeal.Read.val_main_v7 Cert.AdamDownReferenceIdeal.Read.val_main_cst_4 Cert.AdamDownReferenceIdeal.Read.val_main_v18 Cert.AdamDownReferenceIdeal.Read.val_main_cst_6 Cert.AdamDownReferenceIdeal.Read.val_main_v4 Cert.AdamDownReferenceIdeal.Read.val_main_v6 Cert.AdamDownReferenceIdeal.Read.val_main_v14 Cert.AdamDownReferenceIdeal.Read.val_main_v17 Cert.AdamDownReferenceIdeal.Read.val_main_cst_0 Cert.AdamDownReferenceIdeal.Read.val_main_cst_1 Cert.AdamDownReferenceIdeal.Read.val_main_v10 Cert.AdamDownReferenceIdeal.Read.val_main_v13 Cert.AdamDownReferenceIdeal.Read.val_main_cst_5 Cert.AdamDownReferenceIdeal.Read.val_main_v9 Cert.AdamDownReferenceIdeal.Read.val_main_v12 Cert.AdamDownReferenceIdeal.Read.val_main_v11 Cert.AdamDownReferenceIdeal.Read.val_main_cst_2 Cert.AdamDownReferenceIdeal.Read.val_main_cst_3
  rw [ref_v3]
  pointwise [changeA, meanA, squareA, change, mean, square, turn]
  try rfl

/-- The reference's running mean. -/
theorem ref_v8 (x1 : Shape.Idx ⟨3, ![1, 512, 1024]⟩ → EReal) (x3 : Shape.Idx ⟨2, ![512, 1024]⟩ → EReal) (x4 : Shape.Idx ⟨3, ![3, 512, 1024]⟩ → EReal) :
    Cert.AdamDownReferenceIdeal.Read.val_main_v8 (F := Ideal) x1 x3 x4 = meanA x1 (gradA x3 x4) := by
  funext j; idx_vars j
  obtain rfl : j0 = 0 := Subsingleton.elim _ _
  unfold Cert.AdamDownReferenceIdeal.Read.val_main_v8 Cert.AdamDownReferenceIdeal.Read.val_main_v5 Cert.AdamDownReferenceIdeal.Read.val_main_v7 Cert.AdamDownReferenceIdeal.Read.val_main_v4 Cert.AdamDownReferenceIdeal.Read.val_main_v6 Cert.AdamDownReferenceIdeal.Read.val_main_cst_0 Cert.AdamDownReferenceIdeal.Read.val_main_cst_1
  rw [ref_v3]
  pointwise [changeA, meanA, squareA, change, mean, square, turn]
  try rfl

/-- The reference's running mean of the square. -/
theorem ref_v14 (x2 : Shape.Idx ⟨3, ![1, 512, 1024]⟩ → EReal) (x3 : Shape.Idx ⟨2, ![512, 1024]⟩ → EReal) (x4 : Shape.Idx ⟨3, ![3, 512, 1024]⟩ → EReal) :
    Cert.AdamDownReferenceIdeal.Read.val_main_v14 (F := Ideal) x2 x3 x4 = squareA x2 (gradA x3 x4) := by
  funext j; idx_vars j
  obtain rfl : j0 = 0 := Subsingleton.elim _ _
  unfold Cert.AdamDownReferenceIdeal.Read.val_main_v14 Cert.AdamDownReferenceIdeal.Read.val_main_v10 Cert.AdamDownReferenceIdeal.Read.val_main_v13 Cert.AdamDownReferenceIdeal.Read.val_main_v9 Cert.AdamDownReferenceIdeal.Read.val_main_v12 Cert.AdamDownReferenceIdeal.Read.val_main_v11 Cert.AdamDownReferenceIdeal.Read.val_main_cst_2 Cert.AdamDownReferenceIdeal.Read.val_main_cst_3
  rw [ref_v3]
  pointwise [changeA, meanA, squareA, change, mean, square, turn]
  try rfl

end Cert.AdamDown

end
-- ==== Proof.AdamUp.lean ====
module

public import proofs.«01_k».proof.Proof.Gen.AdamUpIdeal.Value
public import proofs.«01_k».proof.Proof.Gen.AdamUpReferenceIdeal.Read
public import proofs.«01_k».proof.Proof.Adam
public import Idealize.ShloMosaic.Lib.Pointwise
public import Idealize.ShloMosaic.Lib.Pipeline.ValueKit
public import Idealize.ShloMosaic.Lib.Pipeline.ReadBack

@[expose] public section

set_option maxRecDepth 16384

noncomputable section

/-! # The optimiser's update of the up projection: kernel and reference, entry by entry

Both are the update of `Adam` at every entry; the kernel writes it block by block. The own and the received sums lie transposed, in the kernel and in the reference alike. -/

namespace Cert.AdamUp

open Idealize.ShloMosaic Idealize.ShloMosaic.TcCoe Idealize.SL.Sem Cert.AdamUpIdeal Cert.AdamUpIdeal.Gen
  Cert.AdamUpIdeal.Value Cert.Adam

variable {m : (ℓ : Loc nD τ sig) → Buf (Elt Ideal) ℓ} {c : Dev nD}

/-- Where each window's block lies. -/
theorem idx : ∀ t : Fin cfg0.N, win0_0.index t = ![0, t.val, 0] ∧ win0_1.index t = ![0, t.val, 0] ∧ win0_2.index t = ![0, t.val, 0]
    ∧ win0_3.index t = ![0, t.val] ∧ win0_4.index t = ![0, 0, t.val] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the array that row `i` of a point's block is. -/
def row (t : Fin cfg0.N) (i : Fin 256) : Fin 1024 :=
  ⟨256 * t.val + i.val, by
    have h : t.val < 4 := lt_of_lt_of_eq t.isLt (show cfg0.N = 4 from N_0)
    have := i.isLt
    omega⟩

theorem blk0 (t : Fin cfg0.N) (j0 : Fin 1) (j1 : Fin 256) (j2 : Fin 512) :
    iblk m c 0 t (ix3 j0 j1 j2) = m ((c.tc : Thread nD τ).loc main_arg0) (ix3 j0 (row t j1) j2) := by
  blk_ext [iblk, V, idx t, row]

theorem blk1 (t : Fin cfg0.N) (j0 : Fin 1) (j1 : Fin 256) (j2 : Fin 512) :
    iblk m c 1 t (ix3 j0 j1 j2) = m ((c.tc : Thread nD τ).loc main_arg1) (ix3 j0 (row t j1) j2) := by
  blk_ext [iblk, V, idx t, row]

theorem blk2 (t : Fin cfg0.N) (j0 : Fin 1) (j1 : Fin 256) (j2 : Fin 512) :
    iblk m c 2 t (ix3 j0 j1 j2) = m ((c.tc : Thread nD τ).loc main_arg2) (ix3 j0 (row t j1) j2) := by
  blk_ext [iblk, V, idx t, row]

theorem blk3 (t : Fin cfg0.N) (j1 : Fin 256) (j2 : Fin 512) :
    iblk m c 3 t (ix2 j2 j1) = m ((c.tc : Thread nD τ).loc main_arg3) (ix2 j2 (row t j1)) := by
  blk_ext [iblk, V, idx t, row]

theorem blk4 (t : Fin cfg0.N) (j0 : Fin 3) (j1 : Fin 256) (j2 : Fin 512) :
    iblk m c 4 t (ix3 j0 j2 j1) = m ((c.tc : Thread nD τ).loc main_arg4) (ix3 j0 j2 (row t j1)) := by
  blk_ext [iblk, V, idx t, row]

theorem emb5 (t : Fin cfg0.N) (j0 : Fin 1) (j1 : Fin 256) (j2 : Fin 512) :
    (win0_5.blk t).view.emb (ix3 j0 j1 j2) = ix3 j0 (row t j1) j2 := by
  blk_ext [idx t, row]

/-- The gradient, as the kernel leaves it. -/
theorem arr5 : (dats m 0 c).arrAt 5 cfg0.N
    = gradT (m ((c.tc : Thread nD τ).loc main_arg3)) (m ((c.tc : Thread nD τ).loc main_arg4)) := by
  refine (dats m 0 c).arrAt_eq_of_covers 5 _ (by decide +kernel) fun t hf j => ?_
  blk_simp
  rw [after0_5]
  frame_out
  idx_vars j
  obtain rfl : j0 = 0 := Subsingleton.elim _ _
  refine Eq.trans ?_ (congrArg (gradT (m ((c.tc : Thread nD τ).loc main_arg3)) (m ((c.tc : Thread nD τ).loc main_arg4))) (emb5 t 0 j1 j2)).symm
  pointwise [k0_pay1, k0_pay2, k0_pay3, k0_pay4, k0_pay5, k0_pay6, k0_pay7, k0_pay8, k0_pay9, k0_pay10, k0_pay11, k0_pay12, k0_pay13]
  simp only [blk0, blk1, blk2, blk3, blk4, changeA, meanA, squareA, gradT, change, mean, square, grad_add]
  rfl

theorem emb6 (t : Fin cfg0.N) (j0 : Fin 1) (j1 : Fin 256) (j2 : Fin 512) :
    (win0_6.blk t).view.emb (ix3 j0 j1 j2) = ix3 j0 (row t j1) j2 := by
  blk_ext [idx t, row]

/-- The change of the weight. -/
theorem arr6 : (dats m 0 c).arrAt 6 cfg0.N
    = changeA (m ((c.tc : Thread nD τ).loc main_arg0)) (m ((c.tc : Thread nD τ).loc main_arg1)) (m ((c.tc : Thread nD τ).loc main_arg2))
        (gradT (m ((c.tc : Thread nD τ).loc main_arg3)) (m ((c.tc : Thread nD τ).loc main_arg4))) := by
  refine (dats m 0 c).arrAt_eq_of_covers 6 _ (by decide +kernel) fun t hf j => ?_
  blk_simp
  rw [after0_6]
  frame_out
  idx_vars j
  obtain rfl : j0 = 0 := Subsingleton.elim _ _
  refine Eq.trans ?_ (congrArg (changeA (m ((c.tc : Thread nD τ).loc main_arg0)) (m ((c.tc : Thread nD τ).loc main_arg1)) (m ((c.tc : Thread nD τ).loc main_arg2))
        (gradT (m ((c.tc : Thread nD τ).loc main_arg3)) (m ((c.tc : Thread nD τ).loc main_arg4)))) (emb6 t 0 j1 j2)).symm
  pointwise [k0_pay1, k0_pay2, k0_pay3, k0_pay4, k0_pay5, k0_pay6, k0_pay7, k0_pay8, k0_pay9, k0_pay10, k0_pay11, k0_pay12, k0_pay13]
  simp only [blk0, blk1, blk2, blk3, blk4, changeA, meanA, squareA, gradT, change, mean, square, grad_add]
  rfl

theorem emb7 (t : Fin cfg0.N) (j0 : Fin 1) (j1 : Fin 256) (j2 : Fin 512) :
    (win0_7.blk t).view.emb (ix3 j0 j1 j2) = ix3 j0 (row t j1) j2 := by
  blk_ext [idx t, row]

/-- The new running mean. -/
theorem arr7 : (dats m 0 c).arrAt 7 cfg0.N
    = meanA (m ((c.tc : Thread nD τ).loc main_arg1))
        (gradT (m ((c.tc : Thread nD τ).loc main_arg3)) (m ((c.tc : Thread nD τ).loc main_arg4))) := by
  refine (dats m 0 c).arrAt_eq_of_covers 7 _ (by decide +kernel) fun t hf j => ?_
  blk_simp
  rw [after0_7]
  frame_out
  idx_vars j
  obtain rfl : j0 = 0 := Subsingleton.elim _ _
  refine Eq.trans ?_ (congrArg (meanA (m ((c.tc : Thread nD τ).loc main_arg1))
        (gradT (m ((c.tc : Thread nD τ).loc main_arg3)) (m ((c.tc : Thread nD τ).loc main_arg4)))) (emb7 t 0 j1 j2)).symm
  pointwise [k0_pay1, k0_pay2, k0_pay3, k0_pay4, k0_pay5, k0_pay6, k0_pay7, k0_pay8, k0_pay9, k0_pay10, k0_pay11, k0_pay12, k0_pay13]
  simp only [blk0, blk1, blk2, blk3, blk4, changeA, meanA, squareA, gradT, change, mean, square, grad_add]
  rfl

theorem emb8 (t : Fin cfg0.N) (j0 : Fin 1) (j1 : Fin 256) (j2 : Fin 512) :
    (win0_8.blk t).view.emb (ix3 j0 j1 j2) = ix3 j0 (row t j1) j2 := by
  blk_ext [idx t, row]

/-- The new running mean of the square. -/
theorem arr8 : (dats m 0 c).arrAt 8 cfg0.N
    = squareA (m ((c.tc : Thread nD τ).loc main_arg2))
        (gradT (m ((c.tc : Thread nD τ).loc main_arg3)) (m ((c.tc : Thread nD τ).loc main_arg4))) := by
  refine (dats m 0 c).arrAt_eq_of_covers 8 _ (by decide +kernel) fun t hf j => ?_
  blk_simp
  rw [after0_8]
  frame_out
  idx_vars j
  obtain rfl : j0 = 0 := Subsingleton.elim _ _
  refine Eq.trans ?_ (congrArg (squareA (m ((c.tc : Thread nD τ).loc main_arg2))
        (gradT (m ((c.tc : Thread nD τ).loc main_arg3)) (m ((c.tc : Thread nD τ).loc main_arg4)))) (emb8 t 0 j1 j2)).symm
  pointwise [k0_pay1, k0_pay2, k0_pay3, k0_pay4, k0_pay5, k0_pay6, k0_pay7, k0_pay8, k0_pay9, k0_pay10, k0_pay11, k0_pay12, k0_pay13]
  simp only [blk0, blk1, blk2, blk3, blk4, changeA, meanA, squareA, gradT, change, mean, square, grad_add]
  rfl

/-- The reference's gradient. -/
theorem ref_v4 (x3 : Shape.Idx ⟨2, ![512, 1024]⟩ → EReal) (x4 : Shape.Idx ⟨3, ![3, 512, 1024]⟩ → EReal) : Cert.AdamUpReferenceIdeal.Read.val_main_v4 (F := Ideal) x3 x4 = gradT x3 x4 := by
  funext j; idx_vars j
  unfold Cert.AdamUpReferenceIdeal.Read.val_main_v4 Cert.AdamUpReferenceIdeal.Read.val_main_v3 Cert.AdamUpReferenceIdeal.Read.val_main_v2 Cert.AdamUpReferenceIdeal.Read.val_main_v1 Cert.AdamUpReferenceIdeal.Read.val_main_v0 Cert.AdamUpReferenceIdeal.Read.val_main_cst
  pointwise [gradT]
  rfl

/-- The reference's change. -/
theorem ref_v28 (x0 x1 x2 : Shape.Idx ⟨3, ![1, 1024, 512]⟩ → EReal) (x3 : Shape.Idx ⟨2, ![512, 1024]⟩ → EReal) (x4 : Shape.Idx ⟨3, ![3, 512, 1024]⟩ → EReal) :
    Cert.AdamUpReferenceIdeal.Read.val_main_v28 (F := Ideal) x0 x1 x2 x3 x4 = changeA x0 x1 x2 (gradT x3 x4) := by
  funext j; idx_vars j
  obtain rfl : j0 = 0 := Subsingleton.elim _ _
  unfold Cert.AdamUpReferenceIdeal.Read.val_main_v28 Cert.AdamUpReferenceIdeal.Read.val_main_v27 Cert.AdamUpReferenceIdeal.Read.val_main_v26 Cert.AdamUpReferenceIdeal.Read.val_main_cst_8 Cert.AdamUpReferenceIdeal.Read.val_main_v23 Cert.AdamUpReferenceIdeal.Read.val_main_v25 Cert.AdamUpReferenceIdeal.Read.val_main_v17 Cert.AdamUpReferenceIdeal.Read.val_main_v22 Cert.AdamUpReferenceIdeal.Read.val_main_v24 Cert.AdamUpReferenceIdeal.Read.val_main_v9 Cert.AdamUpReferenceIdeal.Read.val_main_v16 Cert.AdamUpReferenceIdeal.Read.val_main_v20 Cert.AdamUpReferenceIdeal.Read.val_main_v21 Cert.AdamUpReferenceIdeal.Read.val_main_cst_7 Cert.AdamUpReferenceIdeal.Read.val_main_v6 Cert.AdamUpReferenceIdeal.Read.val_main_v8 Cert.AdamUpReferenceIdeal.Read.val_main_cst_4 Cert.AdamUpReferenceIdeal.Read.val_main_v19 Cert.AdamUpReferenceIdeal.Read.val_main_cst_6 Cert.AdamUpReferenceIdeal.Read.val_main_v5 Cert.AdamUpReferenceIdeal.Read.val_main_v7 Cert.AdamUpReferenceIdeal.Read.val_main_v15 Cert.AdamUpReferenceIdeal.Read.val_main_v18 Cert.AdamUpReferenceIdeal.Read.val_main_cst_0 Cert.AdamUpReferenceIdeal.Read.val_main_cst_1 Cert.AdamUpReferenceIdeal.Read.val_main_v11 Cert.AdamUpReferenceIdeal.Read.val_main_v14 Cert.AdamUpReferenceIdeal.Read.val_main_cst_5 Cert.AdamUpReferenceIdeal.Read.val_main_v10 Cert.AdamUpReferenceIdeal.Read.val_main_v13 Cert.AdamUpReferenceIdeal.Read.val_main_v12 Cert.AdamUpReferenceIdeal.Read.val_main_cst_2 Cert.AdamUpReferenceIdeal.Read.val_main_cst_3
  rw [ref_v4]
  pointwise [changeA, meanA, squareA, change, mean, square, turn]
  try rfl

/-- The reference's running mean. -/
theorem ref_v9 (x1 : Shape.Idx ⟨3, ![1, 1024, 512]⟩ → EReal) (x3 : Shape.Idx ⟨2, ![512, 1024]⟩ → EReal) (x4 : Shape.Idx ⟨3, ![3, 512, 1024]⟩ → EReal) :
    Cert.AdamUpReferenceIdeal.Read.val_main_v9 (F := Ideal) x1 x3 x4 = meanA x1 (gradT x3 x4) := by
  funext j; idx_vars j
  obtain rfl : j0 = 0 := Subsingleton.elim _ _
  unfold Cert.AdamUpReferenceIdeal.Read.val_main_v9 Cert.AdamUpReferenceIdeal.Read.val_main_v6 Cert.AdamUpReferenceIdeal.Read.val_main_v8 Cert.AdamUpReferenceIdeal.Read.val_main_v5 Cert.AdamUpReferenceIdeal.Read.val_main_v7 Cert.AdamUpReferenceIdeal.Read.val_main_cst_0 Cert.AdamUpReferenceIdeal.Read.val_main_cst_1
  rw [ref_v4]
  pointwise [changeA, meanA, squareA, change, mean, square, turn]
  try rfl

/-- The reference's running mean of the square. -/
theorem ref_v15 (x2 : Shape.Idx ⟨3, ![1, 1024, 512]⟩ → EReal) (x3 : Shape.Idx ⟨2, ![512, 1024]⟩ → EReal) (x4 : Shape.Idx ⟨3, ![3, 512, 1024]⟩ → EReal) :
    Cert.AdamUpReferenceIdeal.Read.val_main_v15 (F := Ideal) x2 x3 x4 = squareA x2 (gradT x3 x4) := by
  funext j; idx_vars j
  obtain rfl : j0 = 0 := Subsingleton.elim _ _
  unfold Cert.AdamUpReferenceIdeal.Read.val_main_v15 Cert.AdamUpReferenceIdeal.Read.val_main_v11 Cert.AdamUpReferenceIdeal.Read.val_main_v14 Cert.AdamUpReferenceIdeal.Read.val_main_v10 Cert.AdamUpReferenceIdeal.Read.val_main_v13 Cert.AdamUpReferenceIdeal.Read.val_main_v12 Cert.AdamUpReferenceIdeal.Read.val_main_cst_2 Cert.AdamUpReferenceIdeal.Read.val_main_cst_3
  rw [ref_v4]
  pointwise [changeA, meanA, squareA, change, mean, square, turn]
  try rfl

end Cert.AdamUp

end
-- ==== Proof.AdamMemory.lean ====
module

public import proofs.«01_k».proof.Proof.Gen.AdamMemoryIdeal.Value
public import proofs.«01_k».proof.Proof.Gen.AdamMemoryReferenceIdeal.Read
public import proofs.«01_k».proof.Proof.Adam
public import Idealize.ShloMosaic.Lib.Pointwise
public import Idealize.ShloMosaic.Lib.Pipeline.ValueKit
public import Idealize.ShloMosaic.Lib.Pipeline.ReadBack

@[expose] public section

set_option maxRecDepth 16384

noncomputable section

/-! # The optimiser's update of the memory's projection: kernel and reference, entry by entry

Both are the update of `Adam` at every entry; the kernel writes it block by block. -/

namespace Cert.AdamMemory

open Idealize.ShloMosaic Idealize.ShloMosaic.TcCoe Idealize.SL.Sem Cert.AdamMemoryIdeal Cert.AdamMemoryIdeal.Gen
  Cert.AdamMemoryIdeal.Value Cert.Adam

variable {m : (ℓ : Loc nD τ sig) → Buf (Elt Ideal) ℓ} {c : Dev nD}

/-- Where each window's block lies. -/
theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the array that row `i` of a point's block is. -/
def row (t : Fin cfg0.N) (i : Fin 256) : Fin 1024 :=
  ⟨256 * t.val + i.val, by
    have h : t.val < 4 := lt_of_lt_of_eq t.isLt (show cfg0.N = 4 from N_0)
    have := i.isLt
    omega⟩

theorem blk0 (t : Fin cfg0.N) (j0 : Fin 1) (j1 : Fin 256) (j2 : Fin 256) :
    iblk m c 0 t (ix3 j0 j1 j2) = m ((c.tc : Thread nD τ).loc main_arg0) (ix3 j0 (row t j1) j2) := by
  blk_ext [iblk, V, idx t, row]

theorem blk1 (t : Fin cfg0.N) (j0 : Fin 1) (j1 : Fin 256) (j2 : Fin 256) :
    iblk m c 1 t (ix3 j0 j1 j2) = m ((c.tc : Thread nD τ).loc main_arg1) (ix3 j0 (row t j1) j2) := by
  blk_ext [iblk, V, idx t, row]

theorem blk2 (t : Fin cfg0.N) (j0 : Fin 1) (j1 : Fin 256) (j2 : Fin 256) :
    iblk m c 2 t (ix3 j0 j1 j2) = m ((c.tc : Thread nD τ).loc main_arg2) (ix3 j0 (row t j1) j2) := by
  blk_ext [iblk, V, idx t, row]

theorem blk3 (t : Fin cfg0.N) (j1 : Fin 256) (j2 : Fin 256) :
    iblk m c 3 t (ix2 j1 j2) = m ((c.tc : Thread nD τ).loc main_arg3) (ix2 (row t j1) j2) := by
  blk_ext [iblk, V, idx t, row]

theorem blk4 (t : Fin cfg0.N) (j0 : Fin 3) (j1 : Fin 256) (j2 : Fin 256) :
    iblk m c 4 t (ix3 j0 j1 j2) = m ((c.tc : Thread nD τ).loc main_arg4) (ix3 j0 (row t j1) j2) := by
  blk_ext [iblk, V, idx t, row]

theorem emb5 (t : Fin cfg0.N) (j0 : Fin 1) (j1 : Fin 256) (j2 : Fin 256) :
    (win0_5.blk t).view.emb (ix3 j0 j1 j2) = ix3 j0 (row t j1) j2 := by
  blk_ext [idx t, row]

/-- The gradient, as the kernel leaves it. -/
theorem arr5 : (dats m 0 c).arrAt 5 cfg0.N
    = gradA (m ((c.tc : Thread nD τ).loc main_arg3)) (m ((c.tc : Thread nD τ).loc main_arg4)) := by
  refine (dats m 0 c).arrAt_eq_of_covers 5 _ (by decide +kernel) fun t hf j => ?_
  blk_simp
  rw [after0_5]
  frame_out
  idx_vars j
  obtain rfl : j0 = 0 := Subsingleton.elim _ _
  refine Eq.trans ?_ (congrArg (gradA (m ((c.tc : Thread nD τ).loc main_arg3)) (m ((c.tc : Thread nD τ).loc main_arg4))) (emb5 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

theorem emb6 (t : Fin cfg0.N) (j0 : Fin 1) (j1 : Fin 256) (j2 : Fin 256) :
    (win0_6.blk t).view.emb (ix3 j0 j1 j2) = ix3 j0 (row t j1) j2 := by
  blk_ext [idx t, row]

/-- The change of the weight. -/
theorem arr6 : (dats m 0 c).arrAt 6 cfg0.N
    = changeA (m ((c.tc : Thread nD τ).loc main_arg0)) (m ((c.tc : Thread nD τ).loc main_arg1)) (m ((c.tc : Thread nD τ).loc main_arg2))
        (gradA (m ((c.tc : Thread nD τ).loc main_arg3)) (m ((c.tc : Thread nD τ).loc main_arg4))) := by
  refine (dats m 0 c).arrAt_eq_of_covers 6 _ (by decide +kernel) fun t hf j => ?_
  blk_simp
  rw [after0_6]
  frame_out
  idx_vars j
  obtain rfl : j0 = 0 := Subsingleton.elim _ _
  refine Eq.trans ?_ (congrArg (changeA (m ((c.tc : Thread nD τ).loc main_arg0)) (m ((c.tc : Thread nD τ).loc main_arg1)) (m ((c.tc : Thread nD τ).loc main_arg2))
        (gradA (m ((c.tc : Thread nD τ).loc main_arg3)) (m ((c.tc : Thread nD τ).loc main_arg4)))) (emb6 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

theorem emb7 (t : Fin cfg0.N) (j0 : Fin 1) (j1 : Fin 256) (j2 : Fin 256) :
    (win0_7.blk t).view.emb (ix3 j0 j1 j2) = ix3 j0 (row t j1) j2 := by
  blk_ext [idx t, row]

/-- The new running mean. -/
theorem arr7 : (dats m 0 c).arrAt 7 cfg0.N
    = meanA (m ((c.tc : Thread nD τ).loc main_arg1))
        (gradA (m ((c.tc : Thread nD τ).loc main_arg3)) (m ((c.tc : Thread nD τ).loc main_arg4))) := by
  refine (dats m 0 c).arrAt_eq_of_covers 7 _ (by decide +kernel) fun t hf j => ?_
  blk_simp
  rw [after0_7]
  frame_out
  idx_vars j
  obtain rfl : j0 = 0 := Subsingleton.elim _ _
  refine Eq.trans ?_ (congrArg (meanA (m ((c.tc : Thread nD τ).loc main_arg1))
        (gradA (m ((c.tc : Thread nD τ).loc main_arg3)) (m ((c.tc : Thread nD τ).loc main_arg4)))) (emb7 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

theorem emb8 (t : Fin cfg0.N) (j0 : Fin 1) (j1 : Fin 256) (j2 : Fin 256) :
    (win0_8.blk t).view.emb (ix3 j0 j1 j2) = ix3 j0 (row t j1) j2 := by
  blk_ext [idx t, row]

/-- The new running mean of the square. -/
theorem arr8 : (dats m 0 c).arrAt 8 cfg0.N
    = squareA (m ((c.tc : Thread nD τ).loc main_arg2))
        (gradA (m ((c.tc : Thread nD τ).loc main_arg3)) (m ((c.tc : Thread nD τ).loc main_arg4))) := by
  refine (dats m 0 c).arrAt_eq_of_covers 8 _ (by decide +kernel) fun t hf j => ?_
  blk_simp
  rw [after0_8]
  frame_out
  idx_vars j
  obtain rfl : j0 = 0 := Subsingleton.elim _ _
  refine Eq.trans ?_ (congrArg (squareA (m ((c.tc : Thread nD τ).loc main_arg2))
        (gradA (m ((c.tc : Thread nD τ).loc main_arg3)) (m ((c.tc : Thread nD τ).loc main_arg4)))) (emb8 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

/-- The reference's gradient. -/
theorem ref_v3 (x3 : Shape.Idx ⟨2, ![1024, 256]⟩ → EReal) (x4 : Shape.Idx ⟨3, ![3, 1024, 256]⟩ → EReal) : Cert.AdamMemoryReferenceIdeal.Read.val_main_v3 (F := Ideal) x3 x4 = gradA x3 x4 := by
  funext j; idx_vars j
  unfold Cert.AdamMemoryReferenceIdeal.Read.val_main_v3 Cert.AdamMemoryReferenceIdeal.Read.val_main_v2 Cert.AdamMemoryReferenceIdeal.Read.val_main_v1 Cert.AdamMemoryReferenceIdeal.Read.val_main_v0 Cert.AdamMemoryReferenceIdeal.Read.val_main_cst
  pointwise [gradA]
  rfl

/-- The reference's change. -/
theorem ref_v27 (x0 x1 x2 : Shape.Idx ⟨3, ![1, 1024, 256]⟩ → EReal) (x3 : Shape.Idx ⟨2, ![1024, 256]⟩ → EReal) (x4 : Shape.Idx ⟨3, ![3, 1024, 256]⟩ → EReal) :
    Cert.AdamMemoryReferenceIdeal.Read.val_main_v27 (F := Ideal) x0 x1 x2 x3 x4 = changeA x0 x1 x2 (gradA x3 x4) := by
  funext j; idx_vars j
  obtain rfl : j0 = 0 := Subsingleton.elim _ _
  unfold Cert.AdamMemoryReferenceIdeal.Read.val_main_v27 Cert.AdamMemoryReferenceIdeal.Read.val_main_v26 Cert.AdamMemoryReferenceIdeal.Read.val_main_v25 Cert.AdamMemoryReferenceIdeal.Read.val_main_cst_8 Cert.AdamMemoryReferenceIdeal.Read.val_main_v22 Cert.AdamMemoryReferenceIdeal.Read.val_main_v24 Cert.AdamMemoryReferenceIdeal.Read.val_main_v16 Cert.AdamMemoryReferenceIdeal.Read.val_main_v21 Cert.AdamMemoryReferenceIdeal.Read.val_main_v23 Cert.AdamMemoryReferenceIdeal.Read.val_main_v8 Cert.AdamMemoryReferenceIdeal.Read.val_main_v15 Cert.AdamMemoryReferenceIdeal.Read.val_main_v19 Cert.AdamMemoryReferenceIdeal.Read.val_main_v20 Cert.AdamMemoryReferenceIdeal.Read.val_main_cst_7 Cert.AdamMemoryReferenceIdeal.Read.val_main_v5 Cert.AdamMemoryReferenceIdeal.Read.val_main_v7 Cert.AdamMemoryReferenceIdeal.Read.val_main_cst_4 Cert.AdamMemoryReferenceIdeal.Read.val_main_v18 Cert.AdamMemoryReferenceIdeal.Read.val_main_cst_6 Cert.AdamMemoryReferenceIdeal.Read.val_main_v4 Cert.AdamMemoryReferenceIdeal.Read.val_main_v6 Cert.AdamMemoryReferenceIdeal.Read.val_main_v14 Cert.AdamMemoryReferenceIdeal.Read.val_main_v17 Cert.AdamMemoryReferenceIdeal.Read.val_main_cst_0 Cert.AdamMemoryReferenceIdeal.Read.val_main_cst_1 Cert.AdamMemoryReferenceIdeal.Read.val_main_v10 Cert.AdamMemoryReferenceIdeal.Read.val_main_v13 Cert.AdamMemoryReferenceIdeal.Read.val_main_cst_5 Cert.AdamMemoryReferenceIdeal.Read.val_main_v9 Cert.AdamMemoryReferenceIdeal.Read.val_main_v12 Cert.AdamMemoryReferenceIdeal.Read.val_main_v11 Cert.AdamMemoryReferenceIdeal.Read.val_main_cst_2 Cert.AdamMemoryReferenceIdeal.Read.val_main_cst_3
  rw [ref_v3]
  pointwise [changeA, meanA, squareA, change, mean, square, turn]
  try rfl

/-- The reference's running mean. -/
theorem ref_v8 (x1 : Shape.Idx ⟨3, ![1, 1024, 256]⟩ → EReal) (x3 : Shape.Idx ⟨2, ![1024, 256]⟩ → EReal) (x4 : Shape.Idx ⟨3, ![3, 1024, 256]⟩ → EReal) :
    Cert.AdamMemoryReferenceIdeal.Read.val_main_v8 (F := Ideal) x1 x3 x4 = meanA x1 (gradA x3 x4) := by
  funext j; idx_vars j
  obtain rfl : j0 = 0 := Subsingleton.elim _ _
  unfold Cert.AdamMemoryReferenceIdeal.Read.val_main_v8 Cert.AdamMemoryReferenceIdeal.Read.val_main_v5 Cert.AdamMemoryReferenceIdeal.Read.val_main_v7 Cert.AdamMemoryReferenceIdeal.Read.val_main_v4 Cert.AdamMemoryReferenceIdeal.Read.val_main_v6 Cert.AdamMemoryReferenceIdeal.Read.val_main_cst_0 Cert.AdamMemoryReferenceIdeal.Read.val_main_cst_1
  rw [ref_v3]
  pointwise [changeA, meanA, squareA, change, mean, square, turn]
  try rfl

/-- The reference's running mean of the square. -/
theorem ref_v14 (x2 : Shape.Idx ⟨3, ![1, 1024, 256]⟩ → EReal) (x3 : Shape.Idx ⟨2, ![1024, 256]⟩ → EReal) (x4 : Shape.Idx ⟨3, ![3, 1024, 256]⟩ → EReal) :
    Cert.AdamMemoryReferenceIdeal.Read.val_main_v14 (F := Ideal) x2 x3 x4 = squareA x2 (gradA x3 x4) := by
  funext j; idx_vars j
  obtain rfl : j0 = 0 := Subsingleton.elim _ _
  unfold Cert.AdamMemoryReferenceIdeal.Read.val_main_v14 Cert.AdamMemoryReferenceIdeal.Read.val_main_v10 Cert.AdamMemoryReferenceIdeal.Read.val_main_v13 Cert.AdamMemoryReferenceIdeal.Read.val_main_v9 Cert.AdamMemoryReferenceIdeal.Read.val_main_v12 Cert.AdamMemoryReferenceIdeal.Read.val_main_v11 Cert.AdamMemoryReferenceIdeal.Read.val_main_cst_2 Cert.AdamMemoryReferenceIdeal.Read.val_main_cst_3
  rw [ref_v3]
  pointwise [changeA, meanA, squareA, change, mean, square, turn]
  try rfl

end Cert.AdamMemory

end
-- ==== Proof.AdamIn.lean ====
module

public import proofs.«01_k».proof.Proof.Gen.AdamInIdeal.Value
public import proofs.«01_k».proof.Proof.Gen.AdamInReferenceIdeal.Read
public import proofs.«01_k».proof.Proof.Adam
public import Idealize.ShloMosaic.Lib.Pointwise
public import Idealize.ShloMosaic.Lib.Pipeline.ValueKit
public import Idealize.ShloMosaic.Lib.Pipeline.ReadBack

@[expose] public section

set_option maxRecDepth 16384

noncomputable section

/-! # The optimiser's update of the input projection: kernel and reference, entry by entry

Both are the update of `Adam` at every entry; the kernel writes it in one block. The weight and its two running means are transposed before; the results stay so. -/

namespace Cert.AdamIn

open Idealize.ShloMosaic Idealize.ShloMosaic.TcCoe Idealize.SL.Sem Cert.AdamInIdeal Cert.AdamInIdeal.Gen
  Cert.AdamInIdeal.Value Cert.Adam

variable {m : (ℓ : Loc nD τ sig) → Buf (Elt Ideal) ℓ} {c : Dev nD}

/-- Where each window's block lies. -/
theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the array that row `i` of a point's block is. -/
def row (t : Fin cfg0.N) (i : Fin 388) : Fin 388 :=
  ⟨388 * t.val + i.val, by
    have h : t.val < 1 := lt_of_lt_of_eq t.isLt (show cfg0.N = 1 from N_0)
    have := i.isLt
    omega⟩

theorem pre0 : V m c main_v0 = turn (m ((c.tc : Thread nD τ).loc main_arg0)) := by
  funext j; idx_vars j
  obtain rfl : j0 = 0 := Subsingleton.elim _ _
  entry_read; pointwise [turn]

theorem blk0 (t : Fin cfg0.N) (j0 : Fin 1) (j1 : Fin 388) (j2 : Fin 1024) :
    iblk m c 0 t (ix3 j0 j1 j2) = turn (m ((c.tc : Thread nD τ).loc main_arg0)) (ix3 j0 (row t j1) j2) := by
  refine Eq.trans ?_ (congrFun (pre0 (m := m) (c := c)) (ix3 j0 (row t j1) j2))
  blk_ext [iblk, idx t, row]

theorem pre1 : V m c main_v1 = turn (m ((c.tc : Thread nD τ).loc main_arg1)) := by
  funext j; idx_vars j
  obtain rfl : j0 = 0 := Subsingleton.elim _ _
  entry_read; pointwise [turn]

theorem blk1 (t : Fin cfg0.N) (j0 : Fin 1) (j1 : Fin 388) (j2 : Fin 1024) :
    iblk m c 1 t (ix3 j0 j1 j2) = turn (m ((c.tc : Thread nD τ).loc main_arg1)) (ix3 j0 (row t j1) j2) := by
  refine Eq.trans ?_ (congrFun (pre1 (m := m) (c := c)) (ix3 j0 (row t j1) j2))
  blk_ext [iblk, idx t, row]

theorem pre2 : V m c main_v2 = turn (m ((c.tc : Thread nD τ).loc main_arg2)) := by
  funext j; idx_vars j
  obtain rfl : j0 = 0 := Subsingleton.elim _ _
  entry_read; pointwise [turn]

theorem blk2 (t : Fin cfg0.N) (j0 : Fin 1) (j1 : Fin 388) (j2 : Fin 1024) :
    iblk m c 2 t (ix3 j0 j1 j2) = turn (m ((c.tc : Thread nD τ).loc main_arg2)) (ix3 j0 (row t j1) j2) := by
  refine Eq.trans ?_ (congrFun (pre2 (m := m) (c := c)) (ix3 j0 (row t j1) j2))
  blk_ext [iblk, idx t, row]

theorem blk3 (t : Fin cfg0.N) (j1 : Fin 388) (j2 : Fin 1024) :
    iblk m c 3 t (ix2 j1 j2) = m ((c.tc : Thread nD τ).loc main_arg3) (ix2 (row t j1) j2) := by
  blk_ext [iblk, V, idx t, row]

theorem blk4 (t : Fin cfg0.N) (j0 : Fin 3) (j1 : Fin 388) (j2 : Fin 1024) :
    iblk m c 4 t (ix3 j0 j1 j2) = m ((c.tc : Thread nD τ).loc main_arg4) (ix3 j0 (row t j1) j2) := by
  blk_ext [iblk, V, idx t, row]

theorem emb5 (t : Fin cfg0.N) (j0 : Fin 1) (j1 : Fin 388) (j2 : Fin 1024) :
    (win0_5.blk t).view.emb (ix3 j0 j1 j2) = ix3 j0 (row t j1) j2 := by
  blk_ext [idx t, row]

/-- The gradient, as the kernel leaves it. -/
theorem arr5 : (dats m 0 c).arrAt 5 cfg0.N
    = gradA (m ((c.tc : Thread nD τ).loc main_arg3)) (m ((c.tc : Thread nD τ).loc main_arg4)) := by
  refine (dats m 0 c).arrAt_eq_of_covers 5 _ (by decide +kernel) fun t hf j => ?_
  blk_simp
  rw [after0_5]
  frame_out
  idx_vars j
  obtain rfl : j0 = 0 := Subsingleton.elim _ _
  refine Eq.trans ?_ (congrArg (gradA (m ((c.tc : Thread nD τ).loc main_arg3)) (m ((c.tc : Thread nD τ).loc main_arg4))) (emb5 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

theorem emb6 (t : Fin cfg0.N) (j0 : Fin 1) (j1 : Fin 388) (j2 : Fin 1024) :
    (win0_6.blk t).view.emb (ix3 j0 j1 j2) = ix3 j0 (row t j1) j2 := by
  blk_ext [idx t, row]

/-- The change of the weight. -/
theorem arr6 : (dats m 0 c).arrAt 6 cfg0.N
    = changeA (turn (m ((c.tc : Thread nD τ).loc main_arg0))) (turn (m ((c.tc : Thread nD τ).loc main_arg1))) (turn (m ((c.tc : Thread nD τ).loc main_arg2)))
        (gradA (m ((c.tc : Thread nD τ).loc main_arg3)) (m ((c.tc : Thread nD τ).loc main_arg4))) := by
  refine (dats m 0 c).arrAt_eq_of_covers 6 _ (by decide +kernel) fun t hf j => ?_
  blk_simp
  rw [after0_6]
  frame_out
  idx_vars j
  obtain rfl : j0 = 0 := Subsingleton.elim _ _
  refine Eq.trans ?_ (congrArg (changeA (turn (m ((c.tc : Thread nD τ).loc main_arg0))) (turn (m ((c.tc : Thread nD τ).loc main_arg1))) (turn (m ((c.tc : Thread nD τ).loc main_arg2)))
        (gradA (m ((c.tc : Thread nD τ).loc main_arg3)) (m ((c.tc : Thread nD τ).loc main_arg4)))) (emb6 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

theorem emb7 (t : Fin cfg0.N) (j0 : Fin 1) (j1 : Fin 388) (j2 : Fin 1024) :
    (win0_7.blk t).view.emb (ix3 j0 j1 j2) = ix3 j0 (row t j1) j2 := by
  blk_ext [idx t, row]

/-- The new running mean. -/
theorem arr7 : (dats m 0 c).arrAt 7 cfg0.N
    = meanA (turn (m ((c.tc : Thread nD τ).loc main_arg1)))
        (gradA (m ((c.tc : Thread nD τ).loc main_arg3)) (m ((c.tc : Thread nD τ).loc main_arg4))) := by
  refine (dats m 0 c).arrAt_eq_of_covers 7 _ (by decide +kernel) fun t hf j => ?_
  blk_simp
  rw [after0_7]
  frame_out
  idx_vars j
  obtain rfl : j0 = 0 := Subsingleton.elim _ _
  refine Eq.trans ?_ (congrArg (meanA (turn (m ((c.tc : Thread nD τ).loc main_arg1)))
        (gradA (m ((c.tc : Thread nD τ).loc main_arg3)) (m ((c.tc : Thread nD τ).loc main_arg4)))) (emb7 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

theorem emb8 (t : Fin cfg0.N) (j0 : Fin 1) (j1 : Fin 388) (j2 : Fin 1024) :
    (win0_8.blk t).view.emb (ix3 j0 j1 j2) = ix3 j0 (row t j1) j2 := by
  blk_ext [idx t, row]

/-- The new running mean of the square. -/
theorem arr8 : (dats m 0 c).arrAt 8 cfg0.N
    = squareA (turn (m ((c.tc : Thread nD τ).loc main_arg2)))
        (gradA (m ((c.tc : Thread nD τ).loc main_arg3)) (m ((c.tc : Thread nD τ).loc main_arg4))) := by
  refine (dats m 0 c).arrAt_eq_of_covers 8 _ (by decide +kernel) fun t hf j => ?_
  blk_simp
  rw [after0_8]
  frame_out
  idx_vars j
  obtain rfl : j0 = 0 := Subsingleton.elim _ _
  refine Eq.trans ?_ (congrArg (squareA (turn (m ((c.tc : Thread nD τ).loc main_arg2)))
        (gradA (m ((c.tc : Thread nD τ).loc main_arg3)) (m ((c.tc : Thread nD τ).loc main_arg4)))) (emb8 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15]
  simp only [blk0, blk1, blk2, blk3, blk4, changeA, meanA, squareA, gradA, change, mean, square, grad_add]
  rfl

/-- The reference's gradient. -/
theorem ref_v3 (x3 : Shape.Idx ⟨2, ![388, 1024]⟩ → EReal) (x4 : Shape.Idx ⟨3, ![3, 388, 1024]⟩ → EReal) : Cert.AdamInReferenceIdeal.Read.val_main_v3 (F := Ideal) x3 x4 = gradA x3 x4 := by
  funext j; idx_vars j
  unfold Cert.AdamInReferenceIdeal.Read.val_main_v3 Cert.AdamInReferenceIdeal.Read.val_main_v2 Cert.AdamInReferenceIdeal.Read.val_main_v1 Cert.AdamInReferenceIdeal.Read.val_main_v0 Cert.AdamInReferenceIdeal.Read.val_main_cst
  pointwise [gradA]
  rfl

/-- The reference's change. -/
theorem ref_v30 (x0 x1 x2 : Shape.Idx ⟨3, ![1, 1024, 388]⟩ → EReal) (x3 : Shape.Idx ⟨2, ![388, 1024]⟩ → EReal) (x4 : Shape.Idx ⟨3, ![3, 388, 1024]⟩ → EReal) :
    Cert.AdamInReferenceIdeal.Read.val_main_v30 (F := Ideal) x0 x1 x2 x3 x4 = changeA (turn x0) (turn x1) (turn x2) (gradA x3 x4) := by
  funext j; idx_vars j
  obtain rfl : j0 = 0 := Subsingleton.elim _ _
  unfold Cert.AdamInReferenceIdeal.Read.val_main_v30 Cert.AdamInReferenceIdeal.Read.val_main_v29 Cert.AdamInReferenceIdeal.Read.val_main_v28 Cert.AdamInReferenceIdeal.Read.val_main_cst_8 Cert.AdamInReferenceIdeal.Read.val_main_v25 Cert.AdamInReferenceIdeal.Read.val_main_v27 Cert.AdamInReferenceIdeal.Read.val_main_v19 Cert.AdamInReferenceIdeal.Read.val_main_v24 Cert.AdamInReferenceIdeal.Read.val_main_v26 Cert.AdamInReferenceIdeal.Read.val_main_v4 Cert.AdamInReferenceIdeal.Read.val_main_v11 Cert.AdamInReferenceIdeal.Read.val_main_v18 Cert.AdamInReferenceIdeal.Read.val_main_v22 Cert.AdamInReferenceIdeal.Read.val_main_v23 Cert.AdamInReferenceIdeal.Read.val_main_cst_7 Cert.AdamInReferenceIdeal.Read.val_main_v8 Cert.AdamInReferenceIdeal.Read.val_main_v10 Cert.AdamInReferenceIdeal.Read.val_main_cst_4 Cert.AdamInReferenceIdeal.Read.val_main_v21 Cert.AdamInReferenceIdeal.Read.val_main_cst_6 Cert.AdamInReferenceIdeal.Read.val_main_v7 Cert.AdamInReferenceIdeal.Read.val_main_v5 Cert.AdamInReferenceIdeal.Read.val_main_v9 Cert.AdamInReferenceIdeal.Read.val_main_v17 Cert.AdamInReferenceIdeal.Read.val_main_v20 Cert.AdamInReferenceIdeal.Read.val_main_cst_0 Cert.AdamInReferenceIdeal.Read.val_main_cst_1 Cert.AdamInReferenceIdeal.Read.val_main_v13 Cert.AdamInReferenceIdeal.Read.val_main_v16 Cert.AdamInReferenceIdeal.Read.val_main_cst_5 Cert.AdamInReferenceIdeal.Read.val_main_v12 Cert.AdamInReferenceIdeal.Read.val_main_v6 Cert.AdamInReferenceIdeal.Read.val_main_v15 Cert.AdamInReferenceIdeal.Read.val_main_v14 Cert.AdamInReferenceIdeal.Read.val_main_cst_2 Cert.AdamInReferenceIdeal.Read.val_main_cst_3
  rw [ref_v3]
  pointwise [changeA, meanA, squareA, change, mean, square, turn]
  try rfl

/-- The reference's running mean. -/
theorem ref_v11 (x1 : Shape.Idx ⟨3, ![1, 1024, 388]⟩ → EReal) (x3 : Shape.Idx ⟨2, ![388, 1024]⟩ → EReal) (x4 : Shape.Idx ⟨3, ![3, 388, 1024]⟩ → EReal) :
    Cert.AdamInReferenceIdeal.Read.val_main_v11 (F := Ideal) x1 x3 x4 = meanA (turn x1) (gradA x3 x4) := by
  funext j; idx_vars j
  obtain rfl : j0 = 0 := Subsingleton.elim _ _
  unfold Cert.AdamInReferenceIdeal.Read.val_main_v11 Cert.AdamInReferenceIdeal.Read.val_main_v8 Cert.AdamInReferenceIdeal.Read.val_main_v10 Cert.AdamInReferenceIdeal.Read.val_main_v7 Cert.AdamInReferenceIdeal.Read.val_main_v5 Cert.AdamInReferenceIdeal.Read.val_main_v9 Cert.AdamInReferenceIdeal.Read.val_main_cst_0 Cert.AdamInReferenceIdeal.Read.val_main_cst_1
  rw [ref_v3]
  pointwise [changeA, meanA, squareA, change, mean, square, turn]
  try rfl

/-- The reference's running mean of the square. -/
theorem ref_v17 (x2 : Shape.Idx ⟨3, ![1, 1024, 388]⟩ → EReal) (x3 : Shape.Idx ⟨2, ![388, 1024]⟩ → EReal) (x4 : Shape.Idx ⟨3, ![3, 388, 1024]⟩ → EReal) :
    Cert.AdamInReferenceIdeal.Read.val_main_v17 (F := Ideal) x2 x3 x4 = squareA (turn x2) (gradA x3 x4) := by
  funext j; idx_vars j
  obtain rfl : j0 = 0 := Subsingleton.elim _ _
  unfold Cert.AdamInReferenceIdeal.Read.val_main_v17 Cert.AdamInReferenceIdeal.Read.val_main_v13 Cert.AdamInReferenceIdeal.Read.val_main_v16 Cert.AdamInReferenceIdeal.Read.val_main_v12 Cert.AdamInReferenceIdeal.Read.val_main_v6 Cert.AdamInReferenceIdeal.Read.val_main_v15 Cert.AdamInReferenceIdeal.Read.val_main_v14 Cert.AdamInReferenceIdeal.Read.val_main_cst_2 Cert.AdamInReferenceIdeal.Read.val_main_cst_3
  rw [ref_v3]
  pointwise [changeA, meanA, squareA, change, mean, square, turn]
  try rfl

end Cert.AdamIn

end
-- ==== Proof.AdamSquare.lean ====
module

public import proofs.«01_k».proof.Proof.Gen.AdamSquareIdeal.Value
public import proofs.«01_k».proof.Proof.Gen.AdamSquareReferenceIdeal.Read
public import proofs.«01_k».proof.Proof.Adam
public import Idealize.ShloMosaic.Lib.Pointwise
public import Idealize.ShloMosaic.Lib.Pipeline.ValueKit
public import Idealize.ShloMosaic.Lib.Pipeline.ReadBack

@[expose] public section

set_option maxRecDepth 16384

noncomputable section

/-! # The optimiser's update of the three square products: kernel and reference, entry by entry

Both are the update of `Adam` at every entry; the kernel writes it in one block. -/

namespace Cert.AdamSquare

open Idealize.ShloMosaic Idealize.ShloMosaic.TcCoe Idealize.SL.Sem Cert.AdamSquareIdeal Cert.AdamSquareIdeal.Gen
  Cert.AdamSquareIdeal.Value Cert.Adam

variable {m : (ℓ : Loc nD τ sig) → Buf (Elt Ideal) ℓ} {c : Dev nD}

/-- Where the block of window 0 lies. -/
theorem idx0 : ∀ t : Fin cfg0.N, win0_0.index t = ![0, t.val, 0] :=
  (by decide +kernel : ∀ t : Fin grid0.N, _)

/-- Where the block of window 1 lies. -/
theorem idx1 : ∀ t : Fin cfg0.N, win0_1.index t = ![0, t.val, 0] :=
  (by decide +kernel : ∀ t : Fin grid0.N, _)

/-- Where the block of window 2 lies. -/
theorem idx2 : ∀ t : Fin cfg0.N, win0_2.index t = ![0, t.val, 0] :=
  (by decide +kernel : ∀ t : Fin grid0.N, _)

/-- Where the block of window 3 lies. -/
theorem idx3 : ∀ t : Fin cfg0.N, win0_3.index t = ![0, t.val, 0] :=
  (by decide +kernel : ∀ t : Fin grid0.N, _)

/-- Where the block of window 4 lies. -/
theorem idx4 : ∀ t : Fin cfg0.N, win0_4.index t = ![0, t.val, 0] :=
  (by decide +kernel : ∀ t : Fin grid0.N, _)

/-- Where the block of window 5 lies. -/
theorem idx5 : ∀ t : Fin cfg0.N, win0_5.index t = ![0, t.val, 0] :=
  (by decide +kernel : ∀ t : Fin grid0.N, _)

/-- Where the block of window 6 lies. -/
theorem idx6 : ∀ t : Fin cfg0.N, win0_6.index t = ![0, t.val, 0] :=
  (by decide +kernel : ∀ t : Fin grid0.N, _)

/-- Where the block of window 7 lies. -/
theorem idx7 : ∀ t : Fin cfg0.N, win0_7.index t = ![0, t.val, 0] :=
  (by decide +kernel : ∀ t : Fin grid0.N, _)

/-- Where the block of window 8 lies. -/
theorem idx8 : ∀ t : Fin cfg0.N, win0_8.index t = ![0, t.val, 0] :=
  (by decide +kernel : ∀ t : Fin grid0.N, _)

/-- Where the block of window 9 lies. -/
theorem idx9 : ∀ t : Fin cfg0.N, win0_9.index t = ![t.val, 0] :=
  (by decide +kernel : ∀ t : Fin grid0.N, _)

/-- Where the block of window 10 lies. -/
theorem idx10 : ∀ t : Fin cfg0.N, win0_10.index t = ![t.val, 0] :=
  (by decide +kernel : ∀ t : Fin grid0.N, _)

/-- Where the block of window 11 lies. -/
theorem idx11 : ∀ t : Fin cfg0.N, win0_11.index t = ![t.val, 0] :=
  (by decide +kernel : ∀ t : Fin grid0.N, _)

/-- Where the block of window 12 lies. -/
theorem idx12 : ∀ t : Fin cfg0.N, win0_12.index t = ![0, t.val, 0] :=
  (by decide +kernel : ∀ t : Fin grid0.N, _)

/-- Where the block of window 13 lies. -/
theorem idx13 : ∀ t : Fin cfg0.N, win0_13.index t = ![0, t.val, 0] :=
  (by decide +kernel : ∀ t : Fin grid0.N, _)

/-- Where the block of window 14 lies. -/
theorem idx14 : ∀ t : Fin cfg0.N, win0_14.index t = ![0, t.val, 0] :=
  (by decide +kernel : ∀ t : Fin grid0.N, _)

/-- Where the block of window 15 lies. -/
theorem idx15 : ∀ t : Fin cfg0.N, win0_15.index t = ![0, t.val, 0] :=
  (by decide +kernel : ∀ t : Fin grid0.N, _)

/-- Where the block of window 16 lies. -/
theorem idx16 : ∀ t : Fin cfg0.N, win0_16.index t = ![0, t.val, 0] :=
  (by decide +kernel : ∀ t : Fin grid0.N, _)

/-- Where the block of window 17 lies. -/
theorem idx17 : ∀ t : Fin cfg0.N, win0_17.index t = ![0, t.val, 0] :=
  (by decide +kernel : ∀ t : Fin grid0.N, _)

/-- Where the block of window 18 lies. -/
theorem idx18 : ∀ t : Fin cfg0.N, win0_18.index t = ![0, t.val, 0] :=
  (by decide +kernel : ∀ t : Fin grid0.N, _)

/-- Where the block of window 19 lies. -/
theorem idx19 : ∀ t : Fin cfg0.N, win0_19.index t = ![0, t.val, 0] :=
  (by decide +kernel : ∀ t : Fin grid0.N, _)

/-- Where the block of window 20 lies. -/
theorem idx20 : ∀ t : Fin cfg0.N, win0_20.index t = ![0, t.val, 0] :=
  (by decide +kernel : ∀ t : Fin grid0.N, _)

/-- Where the block of window 21 lies. -/
theorem idx21 : ∀ t : Fin cfg0.N, win0_21.index t = ![0, t.val, 0] :=
  (by decide +kernel : ∀ t : Fin grid0.N, _)

/-- Where the block of window 22 lies. -/
theorem idx22 : ∀ t : Fin cfg0.N, win0_22.index t = ![0, t.val, 0] :=
  (by decide +kernel : ∀ t : Fin grid0.N, _)

/-- Where the block of window 23 lies. -/
theorem idx23 : ∀ t : Fin cfg0.N, win0_23.index t = ![0, t.val, 0] :=
  (by decide +kernel : ∀ t : Fin grid0.N, _)

/-- Where the block of window 24 lies. -/
theorem idx24 : ∀ t : Fin cfg0.N, win0_24.index t = ![0, t.val, 0] :=
  (by decide +kernel : ∀ t : Fin grid0.N, _)

/-- Where the block of window 25 lies. -/
theorem idx25 : ∀ t : Fin cfg0.N, win0_25.index t = ![0, t.val, 0] :=
  (by decide +kernel : ∀ t : Fin grid0.N, _)

/-- Where the block of window 26 lies. -/
theorem idx26 : ∀ t : Fin cfg0.N, win0_26.index t = ![0, t.val, 0] :=
  (by decide +kernel : ∀ t : Fin grid0.N, _)

/-- The row of the array that row `i` of a point's block is. -/
def row (t : Fin cfg0.N) (i : Fin 128) : Fin 128 :=
  ⟨128 * t.val + i.val, by
    have h : t.val < 1 := lt_of_lt_of_eq t.isLt (show cfg0.N = 1 from N_0)
    have := i.isLt
    omega⟩

theorem blk0 (t : Fin cfg0.N) (j0 : Fin 1) (j1 : Fin 128) (j2 : Fin 1024) :
    iblk m c 0 t (ix3 j0 j1 j2) = m ((c.tc : Thread nD τ).loc main_arg0) (ix3 j0 (row t j1) j2) := by
  blk_ext [iblk, V, idx0 t, row]

theorem blk3 (t : Fin cfg0.N) (j0 : Fin 1) (j1 : Fin 128) (j2 : Fin 1024) :
    iblk m c 3 t (ix3 j0 j1 j2) = m ((c.tc : Thread nD τ).loc main_arg3) (ix3 j0 (row t j1) j2) := by
  blk_ext [iblk, V, idx3 t, row]

theorem blk6 (t : Fin cfg0.N) (j0 : Fin 1) (j1 : Fin 128) (j2 : Fin 1024) :
    iblk m c 6 t (ix3 j0 j1 j2) = m ((c.tc : Thread nD τ).loc main_arg6) (ix3 j0 (row t j1) j2) := by
  blk_ext [iblk, V, idx6 t, row]

theorem blk9 (t : Fin cfg0.N) (j1 : Fin 128) (j2 : Fin 1024) :
    iblk m c 9 t (ix2 j1 j2) = m ((c.tc : Thread nD τ).loc main_arg9) (ix2 (row t j1) j2) := by
  blk_ext [iblk, V, idx9 t, row]

theorem blk12 (t : Fin cfg0.N) (j0 : Fin 3) (j1 : Fin 128) (j2 : Fin 1024) :
    iblk m c 12 t (ix3 j0 j1 j2) = m ((c.tc : Thread nD τ).loc main_arg12) (ix3 j0 (row t j1) j2) := by
  blk_ext [iblk, V, idx12 t, row]

theorem blk1 (t : Fin cfg0.N) (j0 : Fin 1) (j1 : Fin 128) (j2 : Fin 1024) :
    iblk m c 1 t (ix3 j0 j1 j2) = m ((c.tc : Thread nD τ).loc main_arg1) (ix3 j0 (row t j1) j2) := by
  blk_ext [iblk, V, idx1 t, row]

theorem blk4 (t : Fin cfg0.N) (j0 : Fin 1) (j1 : Fin 128) (j2 : Fin 1024) :
    iblk m c 4 t (ix3 j0 j1 j2) = m ((c.tc : Thread nD τ).loc main_arg4) (ix3 j0 (row t j1) j2) := by
  blk_ext [iblk, V, idx4 t, row]

theorem blk7 (t : Fin cfg0.N) (j0 : Fin 1) (j1 : Fin 128) (j2 : Fin 1024) :
    iblk m c 7 t (ix3 j0 j1 j2) = m ((c.tc : Thread nD τ).loc main_arg7) (ix3 j0 (row t j1) j2) := by
  blk_ext [iblk, V, idx7 t, row]

theorem blk10 (t : Fin cfg0.N) (j1 : Fin 128) (j2 : Fin 1024) :
    iblk m c 10 t (ix2 j1 j2) = m ((c.tc : Thread nD τ).loc main_arg10) (ix2 (row t j1) j2) := by
  blk_ext [iblk, V, idx10 t, row]

theorem blk13 (t : Fin cfg0.N) (j0 : Fin 3) (j1 : Fin 128) (j2 : Fin 1024) :
    iblk m c 13 t (ix3 j0 j1 j2) = m ((c.tc : Thread nD τ).loc main_arg13) (ix3 j0 (row t j1) j2) := by
  blk_ext [iblk, V, idx13 t, row]

theorem blk2 (t : Fin cfg0.N) (j0 : Fin 1) (j1 : Fin 128) (j2 : Fin 1024) :
    iblk m c 2 t (ix3 j0 j1 j2) = m ((c.tc : Thread nD τ).loc main_arg2) (ix3 j0 (row t j1) j2) := by
  blk_ext [iblk, V, idx2 t, row]

theorem blk5 (t : Fin cfg0.N) (j0 : Fin 1) (j1 : Fin 128) (j2 : Fin 1024) :
    iblk m c 5 t (ix3 j0 j1 j2) = m ((c.tc : Thread nD τ).loc main_arg5) (ix3 j0 (row t j1) j2) := by
  blk_ext [iblk, V, idx5 t, row]

theorem blk8 (t : Fin cfg0.N) (j0 : Fin 1) (j1 : Fin 128) (j2 : Fin 1024) :
    iblk m c 8 t (ix3 j0 j1 j2) = m ((c.tc : Thread nD τ).loc main_arg8) (ix3 j0 (row t j1) j2) := by
  blk_ext [iblk, V, idx8 t, row]

theorem blk11 (t : Fin cfg0.N) (j1 : Fin 128) (j2 : Fin 1024) :
    iblk m c 11 t (ix2 j1 j2) = m ((c.tc : Thread nD τ).loc main_arg11) (ix2 (row t j1) j2) := by
  blk_ext [iblk, V, idx11 t, row]

theorem blk14 (t : Fin cfg0.N) (j0 : Fin 3) (j1 : Fin 128) (j2 : Fin 1024) :
    iblk m c 14 t (ix3 j0 j1 j2) = m ((c.tc : Thread nD τ).loc main_arg14) (ix3 j0 (row t j1) j2) := by
  blk_ext [iblk, V, idx14 t, row]

theorem emb15 (t : Fin cfg0.N) (j0 : Fin 1) (j1 : Fin 128) (j2 : Fin 1024) :
    (win0_15.blk t).view.emb (ix3 j0 j1 j2) = ix3 j0 (row t j1) j2 := by
  blk_ext [idx15 t, row]

/-- The gradient, as the kernel leaves it. -/
theorem arr15 : (dats m 0 c).arrAt 15 cfg0.N
    = gradA (m ((c.tc : Thread nD τ).loc main_arg9)) (m ((c.tc : Thread nD τ).loc main_arg12)) := by
  refine (dats m 0 c).arrAt_eq_of_covers 15 _ (by decide +kernel) fun t hf j => ?_
  blk_simp
  rw [after0_15]
  frame_out
  idx_vars j
  obtain rfl : j0 = 0 := Subsingleton.elim _ _
  refine Eq.trans ?_ (congrArg (gradA (m ((c.tc : Thread nD τ).loc main_arg9)) (m ((c.tc : Thread nD τ).loc main_arg12))) (emb15 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk0, blk3, blk6, blk9, blk12, changeA, meanA, squareA, gradA, change, mean, square, grad_add]
  rfl

theorem emb18 (t : Fin cfg0.N) (j0 : Fin 1) (j1 : Fin 128) (j2 : Fin 1024) :
    (win0_18.blk t).view.emb (ix3 j0 j1 j2) = ix3 j0 (row t j1) j2 := by
  blk_ext [idx18 t, row]

/-- The change of the weight. -/
theorem arr18 : (dats m 0 c).arrAt 18 cfg0.N
    = changeA (m ((c.tc : Thread nD τ).loc main_arg0)) (m ((c.tc : Thread nD τ).loc main_arg3)) (m ((c.tc : Thread nD τ).loc main_arg6))
        (gradA (m ((c.tc : Thread nD τ).loc main_arg9)) (m ((c.tc : Thread nD τ).loc main_arg12))) := by
  refine (dats m 0 c).arrAt_eq_of_covers 18 _ (by decide +kernel) fun t hf j => ?_
  blk_simp
  rw [after0_18]
  frame_out
  idx_vars j
  obtain rfl : j0 = 0 := Subsingleton.elim _ _
  refine Eq.trans ?_ (congrArg (changeA (m ((c.tc : Thread nD τ).loc main_arg0)) (m ((c.tc : Thread nD τ).loc main_arg3)) (m ((c.tc : Thread nD τ).loc main_arg6))
        (gradA (m ((c.tc : Thread nD τ).loc main_arg9)) (m ((c.tc : Thread nD τ).loc main_arg12)))) (emb18 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk0, blk3, blk6, blk9, blk12, changeA, meanA, squareA, gradA, change, mean, square, grad_add]
  rfl

theorem emb21 (t : Fin cfg0.N) (j0 : Fin 1) (j1 : Fin 128) (j2 : Fin 1024) :
    (win0_21.blk t).view.emb (ix3 j0 j1 j2) = ix3 j0 (row t j1) j2 := by
  blk_ext [idx21 t, row]

/-- The new running mean. -/
theorem arr21 : (dats m 0 c).arrAt 21 cfg0.N
    = meanA (m ((c.tc : Thread nD τ).loc main_arg3))
        (gradA (m ((c.tc : Thread nD τ).loc main_arg9)) (m ((c.tc : Thread nD τ).loc main_arg12))) := by
  refine (dats m 0 c).arrAt_eq_of_covers 21 _ (by decide +kernel) fun t hf j => ?_
  blk_simp
  rw [after0_21]
  frame_out
  idx_vars j
  obtain rfl : j0 = 0 := Subsingleton.elim _ _
  refine Eq.trans ?_ (congrArg (meanA (m ((c.tc : Thread nD τ).loc main_arg3))
        (gradA (m ((c.tc : Thread nD τ).loc main_arg9)) (m ((c.tc : Thread nD τ).loc main_arg12)))) (emb21 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk0, blk3, blk6, blk9, blk12, changeA, meanA, squareA, gradA, change, mean, square, grad_add]
  rfl

theorem emb24 (t : Fin cfg0.N) (j0 : Fin 1) (j1 : Fin 128) (j2 : Fin 1024) :
    (win0_24.blk t).view.emb (ix3 j0 j1 j2) = ix3 j0 (row t j1) j2 := by
  blk_ext [idx24 t, row]

/-- The new running mean of the square. -/
theorem arr24 : (dats m 0 c).arrAt 24 cfg0.N
    = squareA (m ((c.tc : Thread nD τ).loc main_arg6))
        (gradA (m ((c.tc : Thread nD τ).loc main_arg9)) (m ((c.tc : Thread nD τ).loc main_arg12))) := by
  refine (dats m 0 c).arrAt_eq_of_covers 24 _ (by decide +kernel) fun t hf j => ?_
  blk_simp
  rw [after0_24]
  frame_out
  idx_vars j
  obtain rfl : j0 = 0 := Subsingleton.elim _ _
  refine Eq.trans ?_ (congrArg (squareA (m ((c.tc : Thread nD τ).loc main_arg6))
        (gradA (m ((c.tc : Thread nD τ).loc main_arg9)) (m ((c.tc : Thread nD τ).loc main_arg12)))) (emb24 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk0, blk3, blk6, blk9, blk12, changeA, meanA, squareA, gradA, change, mean, square, grad_add]
  rfl

theorem emb16 (t : Fin cfg0.N) (j0 : Fin 1) (j1 : Fin 128) (j2 : Fin 1024) :
    (win0_16.blk t).view.emb (ix3 j0 j1 j2) = ix3 j0 (row t j1) j2 := by
  blk_ext [idx16 t, row]

/-- The gradient, as the kernel leaves it. -/
theorem arr16 : (dats m 0 c).arrAt 16 cfg0.N
    = gradA (m ((c.tc : Thread nD τ).loc main_arg10)) (m ((c.tc : Thread nD τ).loc main_arg13)) := by
  refine (dats m 0 c).arrAt_eq_of_covers 16 _ (by decide +kernel) fun t hf j => ?_
  blk_simp
  rw [after0_16]
  frame_out
  idx_vars j
  obtain rfl : j0 = 0 := Subsingleton.elim _ _
  refine Eq.trans ?_ (congrArg (gradA (m ((c.tc : Thread nD τ).loc main_arg10)) (m ((c.tc : Thread nD τ).loc main_arg13))) (emb16 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk1, blk4, blk7, blk10, blk13, changeA, meanA, squareA, gradA, change, mean, square, grad_add]
  rfl

theorem emb19 (t : Fin cfg0.N) (j0 : Fin 1) (j1 : Fin 128) (j2 : Fin 1024) :
    (win0_19.blk t).view.emb (ix3 j0 j1 j2) = ix3 j0 (row t j1) j2 := by
  blk_ext [idx19 t, row]

/-- The change of the weight. -/
theorem arr19 : (dats m 0 c).arrAt 19 cfg0.N
    = changeA (m ((c.tc : Thread nD τ).loc main_arg1)) (m ((c.tc : Thread nD τ).loc main_arg4)) (m ((c.tc : Thread nD τ).loc main_arg7))
        (gradA (m ((c.tc : Thread nD τ).loc main_arg10)) (m ((c.tc : Thread nD τ).loc main_arg13))) := by
  refine (dats m 0 c).arrAt_eq_of_covers 19 _ (by decide +kernel) fun t hf j => ?_
  blk_simp
  rw [after0_19]
  frame_out
  idx_vars j
  obtain rfl : j0 = 0 := Subsingleton.elim _ _
  refine Eq.trans ?_ (congrArg (changeA (m ((c.tc : Thread nD τ).loc main_arg1)) (m ((c.tc : Thread nD τ).loc main_arg4)) (m ((c.tc : Thread nD τ).loc main_arg7))
        (gradA (m ((c.tc : Thread nD τ).loc main_arg10)) (m ((c.tc : Thread nD τ).loc main_arg13)))) (emb19 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk1, blk4, blk7, blk10, blk13, changeA, meanA, squareA, gradA, change, mean, square, grad_add]
  rfl

theorem emb22 (t : Fin cfg0.N) (j0 : Fin 1) (j1 : Fin 128) (j2 : Fin 1024) :
    (win0_22.blk t).view.emb (ix3 j0 j1 j2) = ix3 j0 (row t j1) j2 := by
  blk_ext [idx22 t, row]

/-- The new running mean. -/
theorem arr22 : (dats m 0 c).arrAt 22 cfg0.N
    = meanA (m ((c.tc : Thread nD τ).loc main_arg4))
        (gradA (m ((c.tc : Thread nD τ).loc main_arg10)) (m ((c.tc : Thread nD τ).loc main_arg13))) := by
  refine (dats m 0 c).arrAt_eq_of_covers 22 _ (by decide +kernel) fun t hf j => ?_
  blk_simp
  rw [after0_22]
  frame_out
  idx_vars j
  obtain rfl : j0 = 0 := Subsingleton.elim _ _
  refine Eq.trans ?_ (congrArg (meanA (m ((c.tc : Thread nD τ).loc main_arg4))
        (gradA (m ((c.tc : Thread nD τ).loc main_arg10)) (m ((c.tc : Thread nD τ).loc main_arg13)))) (emb22 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk1, blk4, blk7, blk10, blk13, changeA, meanA, squareA, gradA, change, mean, square, grad_add]
  rfl

theorem emb25 (t : Fin cfg0.N) (j0 : Fin 1) (j1 : Fin 128) (j2 : Fin 1024) :
    (win0_25.blk t).view.emb (ix3 j0 j1 j2) = ix3 j0 (row t j1) j2 := by
  blk_ext [idx25 t, row]

/-- The new running mean of the square. -/
theorem arr25 : (dats m 0 c).arrAt 25 cfg0.N
    = squareA (m ((c.tc : Thread nD τ).loc main_arg7))
        (gradA (m ((c.tc : Thread nD τ).loc main_arg10)) (m ((c.tc : Thread nD τ).loc main_arg13))) := by
  refine (dats m 0 c).arrAt_eq_of_covers 25 _ (by decide +kernel) fun t hf j => ?_
  blk_simp
  rw [after0_25]
  frame_out
  idx_vars j
  obtain rfl : j0 = 0 := Subsingleton.elim _ _
  refine Eq.trans ?_ (congrArg (squareA (m ((c.tc : Thread nD τ).loc main_arg7))
        (gradA (m ((c.tc : Thread nD τ).loc main_arg10)) (m ((c.tc : Thread nD τ).loc main_arg13)))) (emb25 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk1, blk4, blk7, blk10, blk13, changeA, meanA, squareA, gradA, change, mean, square, grad_add]
  rfl

theorem emb17 (t : Fin cfg0.N) (j0 : Fin 1) (j1 : Fin 128) (j2 : Fin 1024) :
    (win0_17.blk t).view.emb (ix3 j0 j1 j2) = ix3 j0 (row t j1) j2 := by
  blk_ext [idx17 t, row]

/-- The gradient, as the kernel leaves it. -/
theorem arr17 : (dats m 0 c).arrAt 17 cfg0.N
    = gradA (m ((c.tc : Thread nD τ).loc main_arg11)) (m ((c.tc : Thread nD τ).loc main_arg14)) := by
  refine (dats m 0 c).arrAt_eq_of_covers 17 _ (by decide +kernel) fun t hf j => ?_
  blk_simp
  rw [after0_17]
  frame_out
  idx_vars j
  obtain rfl : j0 = 0 := Subsingleton.elim _ _
  refine Eq.trans ?_ (congrArg (gradA (m ((c.tc : Thread nD τ).loc main_arg11)) (m ((c.tc : Thread nD τ).loc main_arg14))) (emb17 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk2, blk5, blk8, blk11, blk14, changeA, meanA, squareA, gradA, change, mean, square, grad_add]
  rfl

theorem emb20 (t : Fin cfg0.N) (j0 : Fin 1) (j1 : Fin 128) (j2 : Fin 1024) :
    (win0_20.blk t).view.emb (ix3 j0 j1 j2) = ix3 j0 (row t j1) j2 := by
  blk_ext [idx20 t, row]

/-- The change of the weight. -/
theorem arr20 : (dats m 0 c).arrAt 20 cfg0.N
    = changeA (m ((c.tc : Thread nD τ).loc main_arg2)) (m ((c.tc : Thread nD τ).loc main_arg5)) (m ((c.tc : Thread nD τ).loc main_arg8))
        (gradA (m ((c.tc : Thread nD τ).loc main_arg11)) (m ((c.tc : Thread nD τ).loc main_arg14))) := by
  refine (dats m 0 c).arrAt_eq_of_covers 20 _ (by decide +kernel) fun t hf j => ?_
  blk_simp
  rw [after0_20]
  frame_out
  idx_vars j
  obtain rfl : j0 = 0 := Subsingleton.elim _ _
  refine Eq.trans ?_ (congrArg (changeA (m ((c.tc : Thread nD τ).loc main_arg2)) (m ((c.tc : Thread nD τ).loc main_arg5)) (m ((c.tc : Thread nD τ).loc main_arg8))
        (gradA (m ((c.tc : Thread nD τ).loc main_arg11)) (m ((c.tc : Thread nD τ).loc main_arg14)))) (emb20 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk2, blk5, blk8, blk11, blk14, changeA, meanA, squareA, gradA, change, mean, square, grad_add]
  rfl

theorem emb23 (t : Fin cfg0.N) (j0 : Fin 1) (j1 : Fin 128) (j2 : Fin 1024) :
    (win0_23.blk t).view.emb (ix3 j0 j1 j2) = ix3 j0 (row t j1) j2 := by
  blk_ext [idx23 t, row]

/-- The new running mean. -/
theorem arr23 : (dats m 0 c).arrAt 23 cfg0.N
    = meanA (m ((c.tc : Thread nD τ).loc main_arg5))
        (gradA (m ((c.tc : Thread nD τ).loc main_arg11)) (m ((c.tc : Thread nD τ).loc main_arg14))) := by
  refine (dats m 0 c).arrAt_eq_of_covers 23 _ (by decide +kernel) fun t hf j => ?_
  blk_simp
  rw [after0_23]
  frame_out
  idx_vars j
  obtain rfl : j0 = 0 := Subsingleton.elim _ _
  refine Eq.trans ?_ (congrArg (meanA (m ((c.tc : Thread nD τ).loc main_arg5))
        (gradA (m ((c.tc : Thread nD τ).loc main_arg11)) (m ((c.tc : Thread nD τ).loc main_arg14)))) (emb23 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk2, blk5, blk8, blk11, blk14, changeA, meanA, squareA, gradA, change, mean, square, grad_add]
  rfl

theorem emb26 (t : Fin cfg0.N) (j0 : Fin 1) (j1 : Fin 128) (j2 : Fin 1024) :
    (win0_26.blk t).view.emb (ix3 j0 j1 j2) = ix3 j0 (row t j1) j2 := by
  blk_ext [idx26 t, row]

/-- The new running mean of the square. -/
theorem arr26 : (dats m 0 c).arrAt 26 cfg0.N
    = squareA (m ((c.tc : Thread nD τ).loc main_arg8))
        (gradA (m ((c.tc : Thread nD τ).loc main_arg11)) (m ((c.tc : Thread nD τ).loc main_arg14))) := by
  refine (dats m 0 c).arrAt_eq_of_covers 26 _ (by decide +kernel) fun t hf j => ?_
  blk_simp
  rw [after0_26]
  frame_out
  idx_vars j
  obtain rfl : j0 = 0 := Subsingleton.elim _ _
  refine Eq.trans ?_ (congrArg (squareA (m ((c.tc : Thread nD τ).loc main_arg8))
        (gradA (m ((c.tc : Thread nD τ).loc main_arg11)) (m ((c.tc : Thread nD τ).loc main_arg14)))) (emb26 t 0 j1 j2)).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [blk2, blk5, blk8, blk11, blk14, changeA, meanA, squareA, gradA, change, mean, square, grad_add]
  rfl

/-- The reference's gradient. -/
theorem ref_v3 (x9 : Shape.Idx ⟨2, ![128, 1024]⟩ → EReal) (x12 : Shape.Idx ⟨3, ![3, 128, 1024]⟩ → EReal) : Cert.AdamSquareReferenceIdeal.Read.val_main_v3 (F := Ideal) x9 x12 = gradA x9 x12 := by
  funext j; idx_vars j
  unfold Cert.AdamSquareReferenceIdeal.Read.val_main_v3 Cert.AdamSquareReferenceIdeal.Read.val_main_v2 Cert.AdamSquareReferenceIdeal.Read.val_main_v1 Cert.AdamSquareReferenceIdeal.Read.val_main_v0 Cert.AdamSquareReferenceIdeal.Read.val_main_cst
  pointwise [gradA]
  rfl

/-- The reference's change. -/
theorem ref_v35 (x0 x3 x6 : Shape.Idx ⟨3, ![1, 128, 1024]⟩ → EReal) (x9 : Shape.Idx ⟨2, ![128, 1024]⟩ → EReal) (x12 : Shape.Idx ⟨3, ![3, 128, 1024]⟩ → EReal) :
    Cert.AdamSquareReferenceIdeal.Read.val_main_v35 (F := Ideal) x0 x3 x6 x9 x12 = changeA x0 x3 x6 (gradA x9 x12) := by
  funext j; idx_vars j
  obtain rfl : j0 = 0 := Subsingleton.elim _ _
  unfold Cert.AdamSquareReferenceIdeal.Read.val_main_v35 Cert.AdamSquareReferenceIdeal.Read.val_main_v34 Cert.AdamSquareReferenceIdeal.Read.val_main_v33 Cert.AdamSquareReferenceIdeal.Read.val_main_cst_10 Cert.AdamSquareReferenceIdeal.Read.val_main_v30 Cert.AdamSquareReferenceIdeal.Read.val_main_v32 Cert.AdamSquareReferenceIdeal.Read.val_main_v24 Cert.AdamSquareReferenceIdeal.Read.val_main_v29 Cert.AdamSquareReferenceIdeal.Read.val_main_v31 Cert.AdamSquareReferenceIdeal.Read.val_main_v16 Cert.AdamSquareReferenceIdeal.Read.val_main_v23 Cert.AdamSquareReferenceIdeal.Read.val_main_v27 Cert.AdamSquareReferenceIdeal.Read.val_main_v28 Cert.AdamSquareReferenceIdeal.Read.val_main_cst_9 Cert.AdamSquareReferenceIdeal.Read.val_main_v13 Cert.AdamSquareReferenceIdeal.Read.val_main_v15 Cert.AdamSquareReferenceIdeal.Read.val_main_cst_6 Cert.AdamSquareReferenceIdeal.Read.val_main_v26 Cert.AdamSquareReferenceIdeal.Read.val_main_cst_8 Cert.AdamSquareReferenceIdeal.Read.val_main_v12 Cert.AdamSquareReferenceIdeal.Read.val_main_v14 Cert.AdamSquareReferenceIdeal.Read.val_main_v22 Cert.AdamSquareReferenceIdeal.Read.val_main_v25 Cert.AdamSquareReferenceIdeal.Read.val_main_cst_2 Cert.AdamSquareReferenceIdeal.Read.val_main_cst_3 Cert.AdamSquareReferenceIdeal.Read.val_main_v18 Cert.AdamSquareReferenceIdeal.Read.val_main_v21 Cert.AdamSquareReferenceIdeal.Read.val_main_cst_7 Cert.AdamSquareReferenceIdeal.Read.val_main_v17 Cert.AdamSquareReferenceIdeal.Read.val_main_v20 Cert.AdamSquareReferenceIdeal.Read.val_main_v19 Cert.AdamSquareReferenceIdeal.Read.val_main_cst_4 Cert.AdamSquareReferenceIdeal.Read.val_main_cst_5
  rw [ref_v3]
  pointwise [changeA, meanA, squareA, change, mean, square, turn]
  try rfl

/-- The reference's running mean. -/
theorem ref_v16 (x3 : Shape.Idx ⟨3, ![1, 128, 1024]⟩ → EReal) (x9 : Shape.Idx ⟨2, ![128, 1024]⟩ → EReal) (x12 : Shape.Idx ⟨3, ![3, 128, 1024]⟩ → EReal) :
    Cert.AdamSquareReferenceIdeal.Read.val_main_v16 (F := Ideal) x3 x9 x12 = meanA x3 (gradA x9 x12) := by
  funext j; idx_vars j
  obtain rfl : j0 = 0 := Subsingleton.elim _ _
  unfold Cert.AdamSquareReferenceIdeal.Read.val_main_v16 Cert.AdamSquareReferenceIdeal.Read.val_main_v13 Cert.AdamSquareReferenceIdeal.Read.val_main_v15 Cert.AdamSquareReferenceIdeal.Read.val_main_v12 Cert.AdamSquareReferenceIdeal.Read.val_main_v14 Cert.AdamSquareReferenceIdeal.Read.val_main_cst_2 Cert.AdamSquareReferenceIdeal.Read.val_main_cst_3
  rw [ref_v3]
  pointwise [changeA, meanA, squareA, change, mean, square, turn]
  try rfl

/-- The reference's running mean of the square. -/
theorem ref_v22 (x6 : Shape.Idx ⟨3, ![1, 128, 1024]⟩ → EReal) (x9 : Shape.Idx ⟨2, ![128, 1024]⟩ → EReal) (x12 : Shape.Idx ⟨3, ![3, 128, 1024]⟩ → EReal) :
    Cert.AdamSquareReferenceIdeal.Read.val_main_v22 (F := Ideal) x6 x9 x12 = squareA x6 (gradA x9 x12) := by
  funext j; idx_vars j
  obtain rfl : j0 = 0 := Subsingleton.elim _ _
  unfold Cert.AdamSquareReferenceIdeal.Read.val_main_v22 Cert.AdamSquareReferenceIdeal.Read.val_main_v18 Cert.AdamSquareReferenceIdeal.Read.val_main_v21 Cert.AdamSquareReferenceIdeal.Read.val_main_v17 Cert.AdamSquareReferenceIdeal.Read.val_main_v20 Cert.AdamSquareReferenceIdeal.Read.val_main_v19 Cert.AdamSquareReferenceIdeal.Read.val_main_cst_4 Cert.AdamSquareReferenceIdeal.Read.val_main_cst_5
  rw [ref_v3]
  pointwise [changeA, meanA, squareA, change, mean, square, turn]
  try rfl

/-- The reference's gradient. -/
theorem ref_v7 (x10 : Shape.Idx ⟨2, ![128, 1024]⟩ → EReal) (x13 : Shape.Idx ⟨3, ![3, 128, 1024]⟩ → EReal) : Cert.AdamSquareReferenceIdeal.Read.val_main_v7 (F := Ideal) x10 x13 = gradA x10 x13 := by
  funext j; idx_vars j
  unfold Cert.AdamSquareReferenceIdeal.Read.val_main_v7 Cert.AdamSquareReferenceIdeal.Read.val_main_v6 Cert.AdamSquareReferenceIdeal.Read.val_main_v5 Cert.AdamSquareReferenceIdeal.Read.val_main_v4 Cert.AdamSquareReferenceIdeal.Read.val_main_cst_0
  pointwise [gradA]
  rfl

/-- The reference's change. -/
theorem ref_v59 (x1 x4 x7 : Shape.Idx ⟨3, ![1, 128, 1024]⟩ → EReal) (x10 : Shape.Idx ⟨2, ![128, 1024]⟩ → EReal) (x13 : Shape.Idx ⟨3, ![3, 128, 1024]⟩ → EReal) :
    Cert.AdamSquareReferenceIdeal.Read.val_main_v59 (F := Ideal) x1 x4 x7 x10 x13 = changeA x1 x4 x7 (gradA x10 x13) := by
  funext j; idx_vars j
  obtain rfl : j0 = 0 := Subsingleton.elim _ _
  unfold Cert.AdamSquareReferenceIdeal.Read.val_main_v59 Cert.AdamSquareReferenceIdeal.Read.val_main_v58 Cert.AdamSquareReferenceIdeal.Read.val_main_v57 Cert.AdamSquareReferenceIdeal.Read.val_main_cst_19 Cert.AdamSquareReferenceIdeal.Read.val_main_v54 Cert.AdamSquareReferenceIdeal.Read.val_main_v56 Cert.AdamSquareReferenceIdeal.Read.val_main_v48 Cert.AdamSquareReferenceIdeal.Read.val_main_v53 Cert.AdamSquareReferenceIdeal.Read.val_main_v55 Cert.AdamSquareReferenceIdeal.Read.val_main_v40 Cert.AdamSquareReferenceIdeal.Read.val_main_v47 Cert.AdamSquareReferenceIdeal.Read.val_main_v51 Cert.AdamSquareReferenceIdeal.Read.val_main_v52 Cert.AdamSquareReferenceIdeal.Read.val_main_cst_18 Cert.AdamSquareReferenceIdeal.Read.val_main_v37 Cert.AdamSquareReferenceIdeal.Read.val_main_v39 Cert.AdamSquareReferenceIdeal.Read.val_main_cst_15 Cert.AdamSquareReferenceIdeal.Read.val_main_v50 Cert.AdamSquareReferenceIdeal.Read.val_main_cst_17 Cert.AdamSquareReferenceIdeal.Read.val_main_v36 Cert.AdamSquareReferenceIdeal.Read.val_main_v38 Cert.AdamSquareReferenceIdeal.Read.val_main_v46 Cert.AdamSquareReferenceIdeal.Read.val_main_v49 Cert.AdamSquareReferenceIdeal.Read.val_main_cst_11 Cert.AdamSquareReferenceIdeal.Read.val_main_cst_12 Cert.AdamSquareReferenceIdeal.Read.val_main_v42 Cert.AdamSquareReferenceIdeal.Read.val_main_v45 Cert.AdamSquareReferenceIdeal.Read.val_main_cst_16 Cert.AdamSquareReferenceIdeal.Read.val_main_v41 Cert.AdamSquareReferenceIdeal.Read.val_main_v44 Cert.AdamSquareReferenceIdeal.Read.val_main_v43 Cert.AdamSquareReferenceIdeal.Read.val_main_cst_13 Cert.AdamSquareReferenceIdeal.Read.val_main_cst_14
  rw [ref_v7]
  pointwise [changeA, meanA, squareA, change, mean, square, turn]
  try rfl

/-- The reference's running mean. -/
theorem ref_v40 (x4 : Shape.Idx ⟨3, ![1, 128, 1024]⟩ → EReal) (x10 : Shape.Idx ⟨2, ![128, 1024]⟩ → EReal) (x13 : Shape.Idx ⟨3, ![3, 128, 1024]⟩ → EReal) :
    Cert.AdamSquareReferenceIdeal.Read.val_main_v40 (F := Ideal) x4 x10 x13 = meanA x4 (gradA x10 x13) := by
  funext j; idx_vars j
  obtain rfl : j0 = 0 := Subsingleton.elim _ _
  unfold Cert.AdamSquareReferenceIdeal.Read.val_main_v40 Cert.AdamSquareReferenceIdeal.Read.val_main_v37 Cert.AdamSquareReferenceIdeal.Read.val_main_v39 Cert.AdamSquareReferenceIdeal.Read.val_main_v36 Cert.AdamSquareReferenceIdeal.Read.val_main_v38 Cert.AdamSquareReferenceIdeal.Read.val_main_cst_11 Cert.AdamSquareReferenceIdeal.Read.val_main_cst_12
  rw [ref_v7]
  pointwise [changeA, meanA, squareA, change, mean, square, turn]
  try rfl

/-- The reference's running mean of the square. -/
theorem ref_v46 (x7 : Shape.Idx ⟨3, ![1, 128, 1024]⟩ → EReal) (x10 : Shape.Idx ⟨2, ![128, 1024]⟩ → EReal) (x13 : Shape.Idx ⟨3, ![3, 128, 1024]⟩ → EReal) :
    Cert.AdamSquareReferenceIdeal.Read.val_main_v46 (F := Ideal) x7 x10 x13 = squareA x7 (gradA x10 x13) := by
  funext j; idx_vars j
  obtain rfl : j0 = 0 := Subsingleton.elim _ _
  unfold Cert.AdamSquareReferenceIdeal.Read.val_main_v46 Cert.AdamSquareReferenceIdeal.Read.val_main_v42 Cert.AdamSquareReferenceIdeal.Read.val_main_v45 Cert.AdamSquareReferenceIdeal.Read.val_main_v41 Cert.AdamSquareReferenceIdeal.Read.val_main_v44 Cert.AdamSquareReferenceIdeal.Read.val_main_v43 Cert.AdamSquareReferenceIdeal.Read.val_main_cst_13 Cert.AdamSquareReferenceIdeal.Read.val_main_cst_14
  rw [ref_v7]
  pointwise [changeA, meanA, squareA, change, mean, square, turn]
  try rfl

/-- The reference's gradient. -/
theorem ref_v11 (x11 : Shape.Idx ⟨2, ![128, 1024]⟩ → EReal) (x14 : Shape.Idx ⟨3, ![3, 128, 1024]⟩ → EReal) : Cert.AdamSquareReferenceIdeal.Read.val_main_v11 (F := Ideal) x11 x14 = gradA x11 x14 := by
  funext j; idx_vars j
  unfold Cert.AdamSquareReferenceIdeal.Read.val_main_v11 Cert.AdamSquareReferenceIdeal.Read.val_main_v10 Cert.AdamSquareReferenceIdeal.Read.val_main_v9 Cert.AdamSquareReferenceIdeal.Read.val_main_v8 Cert.AdamSquareReferenceIdeal.Read.val_main_cst_1
  pointwise [gradA]
  rfl

/-- The reference's change. -/
theorem ref_v83 (x2 x5 x8 : Shape.Idx ⟨3, ![1, 128, 1024]⟩ → EReal) (x11 : Shape.Idx ⟨2, ![128, 1024]⟩ → EReal) (x14 : Shape.Idx ⟨3, ![3, 128, 1024]⟩ → EReal) :
    Cert.AdamSquareReferenceIdeal.Read.val_main_v83 (F := Ideal) x2 x5 x8 x11 x14 = changeA x2 x5 x8 (gradA x11 x14) := by
  funext j; idx_vars j
  obtain rfl : j0 = 0 := Subsingleton.elim _ _
  unfold Cert.AdamSquareReferenceIdeal.Read.val_main_v83 Cert.AdamSquareReferenceIdeal.Read.val_main_v82 Cert.AdamSquareReferenceIdeal.Read.val_main_v81 Cert.AdamSquareReferenceIdeal.Read.val_main_cst_28 Cert.AdamSquareReferenceIdeal.Read.val_main_v78 Cert.AdamSquareReferenceIdeal.Read.val_main_v80 Cert.AdamSquareReferenceIdeal.Read.val_main_v72 Cert.AdamSquareReferenceIdeal.Read.val_main_v77 Cert.AdamSquareReferenceIdeal.Read.val_main_v79 Cert.AdamSquareReferenceIdeal.Read.val_main_v64 Cert.AdamSquareReferenceIdeal.Read.val_main_v71 Cert.AdamSquareReferenceIdeal.Read.val_main_v75 Cert.AdamSquareReferenceIdeal.Read.val_main_v76 Cert.AdamSquareReferenceIdeal.Read.val_main_cst_27 Cert.AdamSquareReferenceIdeal.Read.val_main_v61 Cert.AdamSquareReferenceIdeal.Read.val_main_v63 Cert.AdamSquareReferenceIdeal.Read.val_main_cst_24 Cert.AdamSquareReferenceIdeal.Read.val_main_v74 Cert.AdamSquareReferenceIdeal.Read.val_main_cst_26 Cert.AdamSquareReferenceIdeal.Read.val_main_v60 Cert.AdamSquareReferenceIdeal.Read.val_main_v62 Cert.AdamSquareReferenceIdeal.Read.val_main_v70 Cert.AdamSquareReferenceIdeal.Read.val_main_v73 Cert.AdamSquareReferenceIdeal.Read.val_main_cst_20 Cert.AdamSquareReferenceIdeal.Read.val_main_cst_21 Cert.AdamSquareReferenceIdeal.Read.val_main_v66 Cert.AdamSquareReferenceIdeal.Read.val_main_v69 Cert.AdamSquareReferenceIdeal.Read.val_main_cst_25 Cert.AdamSquareReferenceIdeal.Read.val_main_v65 Cert.AdamSquareReferenceIdeal.Read.val_main_v68 Cert.AdamSquareReferenceIdeal.Read.val_main_v67 Cert.AdamSquareReferenceIdeal.Read.val_main_cst_22 Cert.AdamSquareReferenceIdeal.Read.val_main_cst_23
  rw [ref_v11]
  pointwise [changeA, meanA, squareA, change, mean, square, turn]
  try rfl

/-- The reference's running mean. -/
theorem ref_v64 (x5 : Shape.Idx ⟨3, ![1, 128, 1024]⟩ → EReal) (x11 : Shape.Idx ⟨2, ![128, 1024]⟩ → EReal) (x14 : Shape.Idx ⟨3, ![3, 128, 1024]⟩ → EReal) :
    Cert.AdamSquareReferenceIdeal.Read.val_main_v64 (F := Ideal) x5 x11 x14 = meanA x5 (gradA x11 x14) := by
  funext j; idx_vars j
  obtain rfl : j0 = 0 := Subsingleton.elim _ _
  unfold Cert.AdamSquareReferenceIdeal.Read.val_main_v64 Cert.AdamSquareReferenceIdeal.Read.val_main_v61 Cert.AdamSquareReferenceIdeal.Read.val_main_v63 Cert.AdamSquareReferenceIdeal.Read.val_main_v60 Cert.AdamSquareReferenceIdeal.Read.val_main_v62 Cert.AdamSquareReferenceIdeal.Read.val_main_cst_20 Cert.AdamSquareReferenceIdeal.Read.val_main_cst_21
  rw [ref_v11]
  pointwise [changeA, meanA, squareA, change, mean, square, turn]
  try rfl

/-- The reference's running mean of the square. -/
theorem ref_v70 (x8 : Shape.Idx ⟨3, ![1, 128, 1024]⟩ → EReal) (x11 : Shape.Idx ⟨2, ![128, 1024]⟩ → EReal) (x14 : Shape.Idx ⟨3, ![3, 128, 1024]⟩ → EReal) :
    Cert.AdamSquareReferenceIdeal.Read.val_main_v70 (F := Ideal) x8 x11 x14 = squareA x8 (gradA x11 x14) := by
  funext j; idx_vars j
  obtain rfl : j0 = 0 := Subsingleton.elim _ _
  unfold Cert.AdamSquareReferenceIdeal.Read.val_main_v70 Cert.AdamSquareReferenceIdeal.Read.val_main_v66 Cert.AdamSquareReferenceIdeal.Read.val_main_v69 Cert.AdamSquareReferenceIdeal.Read.val_main_v65 Cert.AdamSquareReferenceIdeal.Read.val_main_v68 Cert.AdamSquareReferenceIdeal.Read.val_main_v67 Cert.AdamSquareReferenceIdeal.Read.val_main_cst_22 Cert.AdamSquareReferenceIdeal.Read.val_main_cst_23
  rw [ref_v11]
  pointwise [changeA, meanA, squareA, change, mean, square, turn]
  try rfl

end Cert.AdamSquare

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.Wide
public import proofs.«01_k».proof.Proof.Gen.Wide.Skeleton
public import proofs.«01_k».proof.Proof.Gen.Wide.Launch
public import proofs.«01_k».proof.Proof.Gen.Wide.Points
public import proofs.«01_k».proof.Proof.Gen.Wide.Frame
public import proofs.«01_k».proof.Proof.Gen.WideIdeal
public import proofs.«01_k».proof.Proof.Gen.WideIdeal.Skeleton
public import proofs.«01_k».proof.Proof.Gen.WideIdeal.Launch
public import proofs.«01_k».proof.Proof.Gen.WideIdeal.Points
public import proofs.«01_k».proof.Proof.Gen.WideIdeal.Frame
public import proofs.«01_k».proof.Proof.Gen.WideReferenceIdeal
public import proofs.«01_k».proof.Proof.Gen.Square
public import proofs.«01_k».proof.Proof.Gen.Square.Skeleton
public import proofs.«01_k».proof.Proof.Gen.Square.Launch
public import proofs.«01_k».proof.Proof.Gen.Square.Points
public import proofs.«01_k».proof.Proof.Gen.Square.Frame
public import proofs.«01_k».proof.Proof.Gen.SquareIdeal
public import proofs.«01_k».proof.Proof.Gen.SquareIdeal.Skeleton
public import proofs.«01_k».proof.Proof.Gen.SquareIdeal.Launch
public import proofs.«01_k».proof.Proof.Gen.SquareIdeal.Points
public import proofs.«01_k».proof.Proof.Gen.SquareIdeal.Frame
public import proofs.«01_k».proof.Proof.Gen.SquareReferenceIdeal
public import proofs.«01_k».proof.Proof.Gen.Input
public import proofs.«01_k».proof.Proof.Gen.Input.Skeleton
public import proofs.«01_k».proof.Proof.Gen.Input.Launch
public import proofs.«01_k».proof.Proof.Gen.Input.Points
public import proofs.«01_k».proof.Proof.Gen.Input.Frame
public import proofs.«01_k».proof.Proof.Gen.InputIdeal
public import proofs.«01_k».proof.Proof.Gen.InputIdeal.Skeleton
public import proofs.«01_k».proof.Proof.Gen.InputIdeal.Launch
public import proofs.«01_k».proof.Proof.Gen.InputIdeal.Points
public import proofs.«01_k».proof.Proof.Gen.InputIdeal.Frame
public import proofs.«01_k».proof.Proof.Gen.InputReferenceIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossReferenceIdeal
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.Kvproj
public import proofs.«01_k».proof.Proof.Gen.Kvproj.Skeleton
public import proofs.«01_k».proof.Proof.Gen.Kvproj.Launch
public import proofs.«01_k».proof.Proof.Gen.Kvproj.Points
public import proofs.«01_k».proof.Proof.Gen.Kvproj.Frame
public import proofs.«01_k».proof.Proof.Gen.KvprojIdeal
public import proofs.«01_k».proof.Proof.Gen.KvprojIdeal.Skeleton
public import proofs.«01_k».proof.Proof.Gen.KvprojIdeal.Launch
public import proofs.«01_k».proof.Proof.Gen.KvprojIdeal.Points
public import proofs.«01_k».proof.Proof.Gen.KvprojIdeal.Frame
public import proofs.«01_k».proof.Proof.Gen.KvprojReferenceIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownReferenceIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpReferenceIdeal
public import proofs.«01_k».proof.Proof.Gen.AdamMemory
public import proofs.«01_k».proof.Proof.Gen.AdamMemory.Skeleton
public import proofs.«01_k».proof.Proof.Gen.AdamMemory.Launch
public import proofs.«01_k».proof.Proof.Gen.AdamMemory.Points
public import proofs.«01_k».proof.Proof.Gen.AdamMemory.Frame
public import proofs.«01_k».proof.Proof.Gen.AdamMemoryIdeal
public import proofs.«01_k».proof.Proof.Gen.AdamMemoryIdeal.Skeleton
public import proofs.«01_k».proof.Proof.Gen.AdamMemoryIdeal.Launch
public import proofs.«01_k».proof.Proof.Gen.AdamMemoryIdeal.Points
public import proofs.«01_k».proof.Proof.Gen.AdamMemoryIdeal.Frame
public import proofs.«01_k».proof.Proof.Gen.AdamMemoryReferenceIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInReferenceIdeal
public import proofs.«01_k».proof.Proof.Gen.AdamSquare
public import proofs.«01_k».proof.Proof.Gen.AdamSquare.Skeleton
public import proofs.«01_k».proof.Proof.Gen.AdamSquare.Launch
public import proofs.«01_k».proof.Proof.Gen.AdamSquare.Points
public import proofs.«01_k».proof.Proof.Gen.AdamSquare.Frame
public import proofs.«01_k».proof.Proof.Gen.AdamSquareIdeal
public import proofs.«01_k».proof.Proof.Gen.AdamSquareIdeal.Skeleton
public import proofs.«01_k».proof.Proof.Gen.AdamSquareIdeal.Launch
public import proofs.«01_k».proof.Proof.Gen.AdamSquareIdeal.Points
public import proofs.«01_k».proof.Proof.Gen.AdamSquareIdeal.Frame
public import proofs.«01_k».proof.Proof.Gen.AdamSquareReferenceIdeal
public import proofs.«01_k».proof.Proof.Gen.Pre_finite
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MlpIdeal.Value
public import proofs.«01_k».proof.Proof.Gen.MlpReferenceIdeal.Run
public import proofs.«01_k».proof.Proof.Gen.MlpReferenceIdeal.Read
public import proofs.«01_k».proof.Proof.Gen.WideIdeal.Value
public import proofs.«01_k».proof.Proof.Gen.WideReferenceIdeal.Run
public import proofs.«01_k».proof.Proof.Gen.WideReferenceIdeal.Read
public import proofs.«01_k».proof.Proof.Gen.SquareIdeal.Value
public import proofs.«01_k».proof.Proof.Gen.SquareReferenceIdeal.Run
public import proofs.«01_k».proof.Proof.Gen.SquareReferenceIdeal.Read
public import proofs.«01_k».proof.Proof.Gen.InputIdeal.Value
public import proofs.«01_k».proof.Proof.Gen.InputReferenceIdeal.Run
public import proofs.«01_k».proof.Proof.Gen.InputReferenceIdeal.Read
public import proofs.«01_k».proof.Proof.Gen.LossIdeal.Value
public import proofs.«01_k».proof.Proof.Gen.LossReferenceIdeal.Run
public import proofs.«01_k».proof.Proof.Gen.LossReferenceIdeal.Read
public import proofs.«01_k».proof.Proof.Gen.MemoryIdeal.Value
public import proofs.«01_k».proof.Proof.Gen.MemoryReferenceIdeal.Run
public import proofs.«01_k».proof.Proof.Gen.MemoryReferenceIdeal.Read
public import proofs.«01_k».proof.Proof.Gen.InprojIdeal.Value
public import proofs.«01_k».proof.Proof.Gen.InprojReferenceIdeal.Run
public import proofs.«01_k».proof.Proof.Gen.InprojReferenceIdeal.Read
public import proofs.«01_k».proof.Proof.Gen.KvprojIdeal.Value
public import proofs.«01_k».proof.Proof.Gen.KvprojReferenceIdeal.Run
public import proofs.«01_k».proof.Proof.Gen.KvprojReferenceIdeal.Read
public import proofs.«01_k».proof.Proof.Gen.AdamDownIdeal.Value
public import proofs.«01_k».proof.Proof.Gen.AdamDownReferenceIdeal.Run
public import proofs.«01_k».proof.Proof.Gen.AdamDownReferenceIdeal.Read
public import proofs.«01_k».proof.Proof.Gen.AdamUpIdeal.Value
public import proofs.«01_k».proof.Proof.Gen.AdamUpReferenceIdeal.Run
public import proofs.«01_k».proof.Proof.Gen.AdamUpReferenceIdeal.Read
public import proofs.«01_k».proof.Proof.Gen.AdamMemoryIdeal.Value
public import proofs.«01_k».proof.Proof.Gen.AdamMemoryReferenceIdeal.Run
public import proofs.«01_k».proof.Proof.Gen.AdamMemoryReferenceIdeal.Read
public import proofs.«01_k».proof.Proof.Gen.AdamInIdeal.Value
public import proofs.«01_k».proof.Proof.Gen.AdamInReferenceIdeal.Run
public import proofs.«01_k».proof.Proof.Gen.AdamInReferenceIdeal.Read
public import proofs.«01_k».proof.Proof.Gen.AdamSquareIdeal.Value
public import proofs.«01_k».proof.Proof.Gen.AdamSquareReferenceIdeal.Run
public import proofs.«01_k».proof.Proof.Gen.AdamSquareReferenceIdeal.Read
public import proofs.«01_k».proof.Proof.Finite
public import proofs.«01_k».proof.Proof.Ref
public import proofs.«01_k».proof.Proof.MlpRef
public import proofs.«01_k».proof.Proof.Wide
public import proofs.«01_k».proof.Proof.Square
public import proofs.«01_k».proof.Proof.InputRef
public import proofs.«01_k».proof.Proof.LossRef
public import proofs.«01_k».proof.Proof.Memory
public import proofs.«01_k».proof.Proof.Inproj
public import proofs.«01_k».proof.Proof.Kvproj
public import proofs.«01_k».proof.Proof.AdamDown
public import proofs.«01_k».proof.Proof.AdamUp
public import proofs.«01_k».proof.Proof.AdamMemory
public import proofs.«01_k».proof.Proof.AdamIn
public import proofs.«01_k».proof.Proof.AdamSquare

@[expose] public section

noncomputable section

namespace Cert.Proof

open Idealize.ShloMosaic Idealize.ShloMosaic.TcCoe Idealize.SL.Sem Cert.Attn Cert.Rows

/-- Every execution of the reference ends, with its arguments unchanged and every semaphore at zero. -/
theorem reference_frame : Cert.quiescent_ReferenceIdeal := fun m ρ _ =>
  (θ_run (Cert.ReferenceIdeal.defs (F := Ideal)) _ _).mono
    (fun r h => ⟨fun c => (h c).2.2.2.2.2.2, Idealize.ShloMosaic.sem_eq_zero_of_no_sems (by decide) r.2⟩)
    (Cert.ReferenceIdeal.Value.run m ρ)

/-- From the same finite arguments the kernel and the reference end with the same results. -/
theorem equal_results : Cert.algebraic_KernelIdeal_ReferenceIdeal_pre_finite := by
  intro m g m' g' hp he
  refine ⟨fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    Cert.KernelIdeal.Value.run_blocks m g, ?_⟩
  refine (θ_run (Cert.ReferenceIdeal.defs (F := Ideal)) _ _).mono (fun r h c => ?_) (Cert.ReferenceIdeal.Value.run m' g')
  obtain ⟨x, y, k, v, wo, wq, wu, gn, a⟩ := exists_args m hp c
  obtain ⟨e0, e1, e2, e3, e4, e5, e6, e7⟩ := he c
  obtain ⟨r0, r1, r2, r3, r4, r5, hargs⟩ := h c
  replace e0 := e0.trans a.hx
  replace e1 := e1.trans a.hy
  replace e2 := e2.trans a.hk
  replace e3 := e3.trans a.hv
  replace e4 := e4.trans a.hwo
  replace e5 := e5.trans a.hwq
  replace e6 := e6.trans a.hwu
  replace e7 := e7.trans a.hg
  refine ⟨r0.trans ?_, r1.trans ?_, r2.trans ?_, r3.trans ?_, r4.trans ?_, r5.trans ?_, hargs⟩
  · rw [Cert.ReferenceIdeal.Read.val_main_v106_eq, e0, e1, e2, e3, e4, e5, e7]
    exact (ref106 x y k v wo wq gn).trans (arr10 a).symm
  · rw [Cert.ReferenceIdeal.Read.val_main_v107_eq, e0, e1, e2, e3, e4, e5, e7]
    exact (ref107 x y k v wo wq gn).trans (arr11 a).symm
  · rw [Cert.ReferenceIdeal.Read.val_main_v109_eq, e0, e1, e2, e3, e4, e5, e6, e7]
    exact (ref109 x y k v wo wq wu gn).trans (arr12 a).symm
  · rw [Cert.ReferenceIdeal.Read.val_main_v110_eq, e0, e1, e2, e3, e4, e5, e7]
    exact (ref110 x y k v wo wq gn).trans (arr13 a).symm
  · rw [Cert.ReferenceIdeal.Read.val_main_v111_eq, e0, e1, e2, e3, e4, e5, e7]
    exact (ref111 x y k v wo wq gn).trans (arr14 a).symm
  · rw [Cert.ReferenceIdeal.Read.val_main_v112_eq, e0, e1, e2, e3, e4, e5, e7]
    exact (ref112 x y k v wo wq gn).trans (arr15 a).symm

/-- Every execution of the reference of the squared-rectifier layer's backward ends, with its arguments unchanged and every semaphore at zero. -/
theorem mlp_reference_frame : Cert.quiescent_MlpReferenceIdeal := fun m ρ _ =>
  (θ_run (Cert.MlpReferenceIdeal.defs (F := Ideal)) _ _).mono
    (fun r h => ⟨fun c => (h c).2.2.2.2.2, Idealize.ShloMosaic.sem_eq_zero_of_no_sems (by decide) r.2⟩)
    (Cert.MlpReferenceIdeal.Value.run m ρ)

/-- The squared-rectifier layer's backward: from the same arguments the kernel and the reference end with the same results. -/
theorem mlp_equal_results : Cert.algebraic_MlpIdeal_MlpReferenceIdeal := by
  intro m g m' g' hp he
  refine ⟨fun c => (Cert.MlpIdeal.Gen.dats m 0 c).arrAt 7 Cert.MlpIdeal.cfg0.N,
    fun c => (Cert.MlpIdeal.Gen.dats m 0 c).arrAt 8 Cert.MlpIdeal.cfg0.N,
    fun c => (Cert.MlpIdeal.Gen.dats m 0 c).arrAt 9 Cert.MlpIdeal.cfg0.N,
    fun c => (Cert.MlpIdeal.Gen.dats m 0 c).arrAt 10 Cert.MlpIdeal.cfg0.N,
    fun c => (Cert.MlpIdeal.Gen.dats m 0 c).arrAt 11 Cert.MlpIdeal.cfg0.N,
    Cert.MlpIdeal.Value.run_blocks m g, ?_⟩
  refine (θ_run (Cert.MlpReferenceIdeal.defs (F := Ideal)) _ _).mono (fun r h c => ?_) (Cert.MlpReferenceIdeal.Value.run m' g')
  obtain ⟨e0, e1, e2, e3, e4⟩ := he c
  obtain ⟨r0, r1, r2, r3, r4, hargs⟩ := h c
  replace e0 := e0.trans (eq_E2 _)
  replace e1 := e1.trans (eq_E2 _)
  replace e2 := e2.trans (eq_E2 _)
  replace e3 := e3.trans (eq_E2 _)
  replace e4 := e4.trans (eq_E2 _)
  refine ⟨r0.trans ?_, r1.trans ?_, r2.trans ?_, r3.trans ?_, r4.trans ?_, hargs⟩
  · refine (Cert.MlpReferenceIdeal.Read.val_main_v52_eq _ _ _).trans ?_
    rw [e2, e3, e4]
    exact (Cert.MlpBack.ref52 (Cert.MlpBack.argU m c) (Cert.MlpBack.argX m c) (Cert.MlpBack.argG m c)).trans (Cert.MlpBack.arr7 m c).symm
  · refine (Cert.MlpReferenceIdeal.Read.val_main_v53_eq _ _ _ _ _).trans ?_
    rw [e0, e1, e2, e3, e4]
    exact (Cert.MlpBack.ref53 (Cert.MlpBack.argY m c) (Cert.MlpBack.argW m c) (Cert.MlpBack.argU m c) (Cert.MlpBack.argX m c) (Cert.MlpBack.argG m c)).trans (Cert.MlpBack.arr8 m c).symm
  · rw [Cert.MlpReferenceIdeal.Read.val_main_v51_eq, e0, e1, e2, e3, e4]
    exact (Cert.MlpBack.ref51 (Cert.MlpBack.argY m c) (Cert.MlpBack.argW m c) (Cert.MlpBack.argU m c) (Cert.MlpBack.argX m c) (Cert.MlpBack.argG m c)).trans (Cert.MlpBack.arr9 m c).symm
  · rw [Cert.MlpReferenceIdeal.Read.val_main_v54_eq, e0, e1, e2, e3, e4]
    exact (Cert.MlpBack.ref54 (Cert.MlpBack.argY m c) (Cert.MlpBack.argW m c) (Cert.MlpBack.argU m c) (Cert.MlpBack.argX m c) (Cert.MlpBack.argG m c)).trans (Cert.MlpBack.arr10 m c).symm
  · refine (Cert.MlpReferenceIdeal.Read.val_main_v55_eq _ _ _ _ _).trans ?_
    rw [e0, e1, e2, e3, e4]
    exact (Cert.MlpBack.ref55 (Cert.MlpBack.argY m c) (Cert.MlpBack.argW m c) (Cert.MlpBack.argU m c) (Cert.MlpBack.argX m c) (Cert.MlpBack.argG m c)).trans (Cert.MlpBack.arr11 m c).symm

/-- Every execution of the reference of the wide product ends, with its arguments unchanged and every semaphore at zero. -/
theorem wide_reference_frame : Cert.quiescent_WideReferenceIdeal := fun m ρ _ =>
  (θ_run (Cert.WideReferenceIdeal.defs (F := Ideal)) _ _).mono
    (fun r h => ⟨fun c => (h c).2, Idealize.ShloMosaic.sem_eq_zero_of_no_sems (by decide) r.2⟩)
    (Cert.WideReferenceIdeal.Value.run m ρ)

/-- The wide product: from the same arguments the kernel and the reference end with the same results. -/
theorem wide_equal_results : Cert.algebraic_WideIdeal_WideReferenceIdeal := by
  intro m g m' g' hp he
  refine ⟨fun c => Cert.WideIdeal.Value.G2 m c, Cert.WideIdeal.Value.run m g, ?_⟩
  refine (θ_run (Cert.WideReferenceIdeal.defs (F := Ideal)) _ _).mono (fun r h c => ?_) (Cert.WideReferenceIdeal.Value.run m' g')
  obtain ⟨e0, e1⟩ := he c
  obtain ⟨r0, hargs⟩ := h c
  refine ⟨r0.trans ?_, hargs⟩
  · refine (Cert.WideReferenceIdeal.Read.val_main_v5_eq _ _).trans ?_
    rw [e0, e1]
    exact (Cert.WideProduct.reference_prod _ _).trans (Cert.WideProduct.kernel_prod).symm

/-- Every execution of the reference of the square product ends, with its arguments unchanged and every semaphore at zero. -/
theorem square_reference_frame : Cert.quiescent_SquareReferenceIdeal := fun m ρ _ =>
  (θ_run (Cert.SquareReferenceIdeal.defs (F := Ideal)) _ _).mono
    (fun r h => ⟨fun c => (h c).2, Idealize.ShloMosaic.sem_eq_zero_of_no_sems (by decide) r.2⟩)
    (Cert.SquareReferenceIdeal.Value.run m ρ)

/-- The square product: from the same arguments the kernel and the reference end with the same results. -/
theorem square_equal_results : Cert.algebraic_SquareIdeal_SquareReferenceIdeal := by
  intro m g m' g' hp he
  refine ⟨fun c => Cert.SquareIdeal.Value.G2 m c, Cert.SquareIdeal.Value.run m g, ?_⟩
  refine (θ_run (Cert.SquareReferenceIdeal.defs (F := Ideal)) _ _).mono (fun r h c => ?_) (Cert.SquareReferenceIdeal.Value.run m' g')
  obtain ⟨e0, e1⟩ := he c
  obtain ⟨r0, hargs⟩ := h c
  refine ⟨r0.trans ?_, hargs⟩
  · refine (Cert.SquareReferenceIdeal.Read.val_main_v5_eq _ _).trans ?_
    rw [e0, e1]
    exact (Cert.SquareProduct.reference_prod _ _).trans (Cert.SquareProduct.kernel_prod).symm

/-- Every execution of the reference of the input projection's backward ends, with its arguments unchanged and every semaphore at zero. -/
theorem input_reference_frame : Cert.quiescent_InputReferenceIdeal := fun m ρ _ =>
  (θ_run (Cert.InputReferenceIdeal.defs (F := Ideal)) _ _).mono
    (fun r h => ⟨fun c => (h c).2.2, Idealize.ShloMosaic.sem_eq_zero_of_no_sems (by decide) r.2⟩)
    (Cert.InputReferenceIdeal.Value.run m ρ)

/-- The input projection's backward: from the same arguments the kernel and the reference end with the same results. -/
theorem input_equal_results : Cert.algebraic_InputIdeal_InputReferenceIdeal := by
  intro m g m' g' hp he
  refine ⟨fun c => (Cert.InputIdeal.Gen.dats m 0 c).arrAt 5 Cert.InputIdeal.cfg0.N,
    fun c => (Cert.InputIdeal.Gen.dats m 0 c).arrAt 6 Cert.InputIdeal.cfg0.N,
    Cert.InputIdeal.Value.run_blocks m g, ?_⟩
  refine (θ_run (Cert.InputReferenceIdeal.defs (F := Ideal)) _ _).mono (fun r h c => ?_) (Cert.InputReferenceIdeal.Value.run m' g')
  obtain ⟨e0, e1, e2, e3, e4⟩ := he c
  obtain ⟨r0, r1, hargs⟩ := h c
  replace e0 := e0.trans (eq_E2 _)
  replace e1 := e1.trans (eq_E2 _)
  replace e2 := e2.trans (eq_E2 _)
  replace e3 := e3.trans (eq_E2 _)
  replace e4 := e4.trans (eq_E2 _)
  refine ⟨r0.trans ?_, r1.trans ?_, hargs⟩
  · rw [Cert.InputReferenceIdeal.Read.val_main_v40_eq, e0, e1, e2, e3, e4]
    exact (Cert.InputBack.ref40 (Cert.InputBack.argZ m c) (Cert.InputBack.argW m c) (Cert.InputBack.argX m c) (Cert.InputBack.argY m c) (Cert.InputBack.argG m c)).trans (Cert.InputBack.arr5 m c).symm
  · refine (Cert.InputReferenceIdeal.Read.val_main_v41_eq _ _ _).trans ?_
    rw [e0, e1, e2]
    exact (Cert.InputBack.ref41 (Cert.InputBack.argZ m c) (Cert.InputBack.argW m c) (Cert.InputBack.argX m c)).trans (Cert.InputBack.arr6 m c).symm

/-- Every execution of the reference of the layer's forward and the loss ends, with its arguments unchanged and every semaphore at zero. -/
theorem loss_reference_frame : Cert.quiescent_LossReferenceIdeal := fun m ρ _ =>
  (θ_run (Cert.LossReferenceIdeal.defs (F := Ideal)) _ _).mono
    (fun r h => ⟨fun c => (h c).2.2.2.2.2.2, Idealize.ShloMosaic.sem_eq_zero_of_no_sems (by decide) r.2⟩)
    (Cert.LossReferenceIdeal.Value.run m ρ)

/-- The layer's forward and the loss: from the same arguments the kernel and the reference end with the same results. -/
theorem loss_equal_results : Cert.algebraic_LossIdeal_LossReferenceIdeal := by
  intro m g m' g' hp he
  refine ⟨fun c => (Cert.LossIdeal.Gen.dats m 0 c).arrAt 6 Cert.LossIdeal.cfg0.N,
    fun c => (Cert.LossIdeal.Gen.dats m 0 c).arrAt 7 Cert.LossIdeal.cfg0.N,
    fun c => (Cert.LossIdeal.Gen.dats m 0 c).arrAt 8 Cert.LossIdeal.cfg0.N,
    fun c => (Cert.LossIdeal.Gen.dats m 0 c).arrAt 9 Cert.LossIdeal.cfg0.N,
    fun c => (Cert.LossIdeal.Gen.dats m 0 c).arrAt 10 Cert.LossIdeal.cfg0.N,
    fun c => (Cert.LossIdeal.Gen.dats m 0 c).arrAt 11 Cert.LossIdeal.cfg0.N,
    Cert.LossIdeal.Value.run_blocks m g, ?_⟩
  refine (θ_run (Cert.LossReferenceIdeal.defs (F := Ideal)) _ _).mono (fun r h c => ?_) (Cert.LossReferenceIdeal.Value.run m' g')
  obtain ⟨e0, e1, e2, e3, e4, e5⟩ := he c
  obtain ⟨r0, r1, r2, r3, r4, r5, hargs⟩ := h c
  replace e0 := e0.trans (eq_E2 _)
  replace e1 := e1.trans (eq_E2 _)
  replace e2 := e2.trans (eq_E2 _)
  replace e3 := e3.trans (eq_E2 _)
  replace e4 := e4.trans (eq_E2 _)
  replace e5 := e5.trans (eq_E2 _)
  refine ⟨r0.trans ?_, r1.trans ?_, r2.trans ?_, r3.trans ?_, r4.trans ?_, r5.trans ?_, hargs⟩
  · refine (Cert.LossReferenceIdeal.Read.val_main_v69_eq _ _ _).trans ?_
    rw [e0, e1, e2]
    exact (Cert.LossFwd.ref69 (Cert.LossFwd.argX m c) (Cert.LossFwd.argG m c) (Cert.LossFwd.argU m c)).trans (Cert.LossFwd.arr6 m c).symm
  · refine (Cert.LossReferenceIdeal.Read.val_main_v82_eq _ _).trans ?_
    rw [e0, e1]
    exact (Cert.LossFwd.ref82 (Cert.LossFwd.argX m c) (Cert.LossFwd.argG m c)).trans (Cert.LossFwd.arr7 m c).symm
  · rw [Cert.LossReferenceIdeal.Read.val_main_v68_eq, e0, e1, e2, e3, e4, e5]
    exact (Cert.LossFwd.ref68 (Cert.LossFwd.argX m c) (Cert.LossFwd.argG m c) (Cert.LossFwd.argU m c) (Cert.LossFwd.argW m c) (Cert.LossFwd.argF m c) (Cert.LossFwd.argT m c)).trans (Cert.LossFwd.arr8 m c).symm
  · rw [Cert.LossReferenceIdeal.Read.val_main_v83_eq, e0, e1, e2, e3, e4, e5]
    exact (Cert.LossFwd.ref83 (Cert.LossFwd.argX m c) (Cert.LossFwd.argG m c) (Cert.LossFwd.argU m c) (Cert.LossFwd.argW m c) (Cert.LossFwd.argF m c) (Cert.LossFwd.argT m c)).trans (Cert.LossFwd.arr9 m c).symm
  · rw [Cert.LossReferenceIdeal.Read.val_main_v84_eq, e0, e1, e2, e3, e4, e5]
    exact (Cert.LossFwd.ref84 (Cert.LossFwd.argX m c) (Cert.LossFwd.argG m c) (Cert.LossFwd.argU m c) (Cert.LossFwd.argW m c) (Cert.LossFwd.argF m c) (Cert.LossFwd.argT m c)).trans (Cert.LossFwd.arr10 m c).symm
  · rw [Cert.LossReferenceIdeal.Read.val_main_v85_eq, e0, e1, e2, e3, e4, e5]
    exact (Cert.LossFwd.ref85 (Cert.LossFwd.argX m c) (Cert.LossFwd.argG m c) (Cert.LossFwd.argU m c) (Cert.LossFwd.argW m c) (Cert.LossFwd.argF m c) (Cert.LossFwd.argT m c)).trans (Cert.LossFwd.arr11 m c).symm

/-- Every execution of the reference of the memory projections' backward ends, with its arguments unchanged and every semaphore at zero. -/
theorem memory_reference_frame : Cert.quiescent_MemoryReferenceIdeal := fun m ρ _ =>
  (θ_run (Cert.MemoryReferenceIdeal.defs (F := Ideal)) _ _).mono
    (fun r h => ⟨fun c => (h c).2.2, Idealize.ShloMosaic.sem_eq_zero_of_no_sems (by decide) r.2⟩)
    (Cert.MemoryReferenceIdeal.Value.run m ρ)

/-- The memory projections' backward: from the same arguments the kernel and the reference end with the same results. -/
theorem memory_equal_results : Cert.algebraic_MemoryIdeal_MemoryReferenceIdeal := by
  intro m g m' g' hp he
  refine ⟨fun c => (Cert.MemoryIdeal.Gen.dats m 0 c).arrAt 5 Cert.MemoryIdeal.cfg0.N,
    fun c => (Cert.MemoryIdeal.Gen.dats m 0 c).arrAt 6 Cert.MemoryIdeal.cfg0.N,
    Cert.MemoryIdeal.Value.run_blocks m g, ?_⟩
  refine (θ_run (Cert.MemoryReferenceIdeal.defs (F := Ideal)) _ _).mono (fun r h c => ?_) (Cert.MemoryReferenceIdeal.Value.run m' g')
  obtain ⟨e0, e1, e2, e3⟩ := he c
  obtain ⟨r0, r1, hargs⟩ := h c
  replace e1 := e1.trans (eq_E2 _)
  replace e2 := e2.trans (eq_E2 _)
  refine ⟨r0.trans ?_, r1.trans ?_, hargs⟩
  · refine (Cert.MemoryReferenceIdeal.Read.val_main_v23_eq _ _ _).trans ?_
    rw [e0, e1, e2]
    exact (Cert.MemoryBack.ref23 (Cert.MemoryBack.argD m c) (Cert.MemoryBack.argX m c) (Cert.MemoryBack.argG m c)).trans (Cert.MemoryBack.arr5 m c).symm
  · refine (Cert.MemoryReferenceIdeal.Read.val_main_v24_eq _ _ _).trans ?_
    rw [e0, e1, e3]
    exact (Cert.MemoryBack.ref24 (Cert.MemoryBack.argD m c) (Cert.MemoryBack.argX m c) (Cert.MemoryBack.argW m c)).trans (Cert.MemoryBack.arr6 m c).symm

/-- Every execution of the reference of the input projection ends, with its arguments unchanged and every semaphore at zero. -/
theorem inproj_reference_frame : Cert.quiescent_InprojReferenceIdeal := fun m ρ _ =>
  (θ_run (Cert.InprojReferenceIdeal.defs (F := Ideal)) _ _).mono
    (fun r h => ⟨fun c => (h c).2.2, Idealize.ShloMosaic.sem_eq_zero_of_no_sems (by decide) r.2⟩)
    (Cert.InprojReferenceIdeal.Value.run m ρ)

/-- The input projection: from the same arguments the kernel and the reference end with the same results. -/
theorem inproj_equal_results : Cert.algebraic_InprojIdeal_InprojReferenceIdeal := by
  intro m g m' g' hp he
  refine ⟨fun c => (Cert.InprojIdeal.Gen.dats m 0 c).arrAt 3 Cert.InprojIdeal.cfg0.N,
    fun c => (Cert.InprojIdeal.Gen.dats m 0 c).arrAt 4 Cert.InprojIdeal.cfg0.N,
    Cert.InprojIdeal.Value.run_blocks m g, ?_⟩
  refine (θ_run (Cert.InprojReferenceIdeal.defs (F := Ideal)) _ _).mono (fun r h c => ?_) (Cert.InprojReferenceIdeal.Value.run m' g')
  obtain ⟨e0, e1, e2⟩ := he c
  obtain ⟨r0, r1, hargs⟩ := h c
  replace e0 := e0.trans (eq_E2 _)
  replace e1 := e1.trans (eq_E2 _)
  replace e2 := e2.trans (eq_E2 _)
  refine ⟨r0.trans ?_, r1.trans ?_, hargs⟩
  · refine (Cert.InprojReferenceIdeal.Read.val_main_v15_eq _ _ _).trans ?_
    rw [e0, e1, e2]
    exact (Cert.InputProjection.ref15 (Cert.InputProjection.argX m c) (Cert.InputProjection.argG m c) (Cert.InputProjection.argW m c)).trans (Cert.InputProjection.arr3 m c).symm
  · refine (Cert.InprojReferenceIdeal.Read.val_main_v16_eq _ _).trans ?_
    rw [e0, e1]
    exact (Cert.InputProjection.ref16 (Cert.InputProjection.argX m c) (Cert.InputProjection.argG m c)).trans (Cert.InputProjection.arr4 m c).symm

/-- Every execution of the reference of the memory's projections ends, with its arguments unchanged and every semaphore at zero. -/
theorem kvproj_reference_frame : Cert.quiescent_KvprojReferenceIdeal := fun m ρ _ =>
  (θ_run (Cert.KvprojReferenceIdeal.defs (F := Ideal)) _ _).mono
    (fun r h => ⟨fun c => (h c).2.2, Idealize.ShloMosaic.sem_eq_zero_of_no_sems (by decide) r.2⟩)
    (Cert.KvprojReferenceIdeal.Value.run m ρ)

/-- The memory's projections: from the same arguments the kernel and the reference end with the same results. -/
theorem kvproj_equal_results : Cert.algebraic_KvprojIdeal_KvprojReferenceIdeal := by
  intro m g m' g' hp he
  refine ⟨fun c => (Cert.KvprojIdeal.Gen.dats m 0 c).arrAt 3 Cert.KvprojIdeal.cfg0.N,
    fun c => (Cert.KvprojIdeal.Gen.dats m 0 c).arrAt 4 Cert.KvprojIdeal.cfg0.N,
    Cert.KvprojIdeal.Value.run_blocks m g, ?_⟩
  refine (θ_run (Cert.KvprojReferenceIdeal.defs (F := Ideal)) _ _).mono (fun r h c => ?_) (Cert.KvprojReferenceIdeal.Value.run m' g')
  obtain ⟨e0, e1, e2⟩ := he c
  obtain ⟨r0, r1, hargs⟩ := h c
  replace e0 := e0.trans (eq_E2 _)
  replace e1 := e1.trans (eq_E2 _)
  refine ⟨r0.trans ?_, r1.trans ?_, hargs⟩
  · refine (Cert.KvprojReferenceIdeal.Read.val_main_v15_eq _ _ _).trans ?_
    rw [e0, e1, e2]
    exact (Cert.MemoryProjection.ref15 (Cert.MemoryProjection.argX m c) (Cert.MemoryProjection.argG m c) (Cert.MemoryProjection.argW m c)).trans (Cert.MemoryProjection.arr3 m c).symm
  · refine (Cert.KvprojReferenceIdeal.Read.val_main_v16_eq _ _).trans ?_
    rw [e0, e1]
    exact (Cert.MemoryProjection.ref16 (Cert.MemoryProjection.argX m c) (Cert.MemoryProjection.argG m c)).trans (Cert.MemoryProjection.arr4 m c).symm

/-- Every execution of the reference of the down projection's update ends, with its arguments unchanged and every semaphore at zero. -/
theorem adamdown_reference_frame : Cert.quiescent_AdamDownReferenceIdeal := fun m ρ _ =>
  (θ_run (Cert.AdamDownReferenceIdeal.defs (F := Ideal)) _ _).mono
    (fun r h => ⟨fun c => (h c).2.2.2.2, Idealize.ShloMosaic.sem_eq_zero_of_no_sems (by decide) r.2⟩)
    (Cert.AdamDownReferenceIdeal.Value.run m ρ)

/-- The down projection's update: from the same arguments the kernel and the reference end with the same results. -/
theorem adamdown_equal_results : Cert.algebraic_AdamDownIdeal_AdamDownReferenceIdeal := by
  intro m g m' g' hp he
  refine ⟨fun c => (Cert.AdamDownIdeal.Gen.dats m 0 c).arrAt 5 Cert.AdamDownIdeal.cfg0.N,
    fun c => (Cert.AdamDownIdeal.Gen.dats m 0 c).arrAt 6 Cert.AdamDownIdeal.cfg0.N,
    fun c => (Cert.AdamDownIdeal.Gen.dats m 0 c).arrAt 7 Cert.AdamDownIdeal.cfg0.N,
    fun c => (Cert.AdamDownIdeal.Gen.dats m 0 c).arrAt 8 Cert.AdamDownIdeal.cfg0.N,
    Cert.AdamDownIdeal.Value.run_blocks m g, ?_⟩
  refine (θ_run (Cert.AdamDownReferenceIdeal.defs (F := Ideal)) _ _).mono (fun r h c => ?_) (Cert.AdamDownReferenceIdeal.Value.run m' g')
  obtain ⟨e0, e1, e2, e3, e4⟩ := he c
  obtain ⟨r0, r1, r2, r3, hargs⟩ := h c
  refine ⟨r0.trans ?_, r1.trans ?_, r2.trans ?_, r3.trans ?_, hargs⟩
  · refine (Cert.AdamDownReferenceIdeal.Read.val_main_v3_eq _ _).trans ?_
    rw [e3, e4]
    exact (Cert.AdamDown.ref_v3 _ _).trans Cert.AdamDown.arr5.symm
  · refine (Cert.AdamDownReferenceIdeal.Read.val_main_v27_eq _ _ _ _ _).trans ?_
    rw [e0, e1, e2, e3, e4]
    exact (Cert.AdamDown.ref_v27 _ _ _ _ _).trans Cert.AdamDown.arr6.symm
  · refine (Cert.AdamDownReferenceIdeal.Read.val_main_v8_eq _ _ _).trans ?_
    rw [e1, e3, e4]
    exact (Cert.AdamDown.ref_v8 _ _ _).trans Cert.AdamDown.arr7.symm
  · refine (Cert.AdamDownReferenceIdeal.Read.val_main_v14_eq _ _ _).trans ?_
    rw [e2, e3, e4]
    exact (Cert.AdamDown.ref_v14 _ _ _).trans Cert.AdamDown.arr8.symm

/-- Every execution of the reference of the up projection's update ends, with its arguments unchanged and every semaphore at zero. -/
theorem adamup_reference_frame : Cert.quiescent_AdamUpReferenceIdeal := fun m ρ _ =>
  (θ_run (Cert.AdamUpReferenceIdeal.defs (F := Ideal)) _ _).mono
    (fun r h => ⟨fun c => (h c).2.2.2.2, Idealize.ShloMosaic.sem_eq_zero_of_no_sems (by decide) r.2⟩)
    (Cert.AdamUpReferenceIdeal.Value.run m ρ)

/-- The up projection's update: from the same arguments the kernel and the reference end with the same results. -/
theorem adamup_equal_results : Cert.algebraic_AdamUpIdeal_AdamUpReferenceIdeal := by
  intro m g m' g' hp he
  refine ⟨fun c => (Cert.AdamUpIdeal.Gen.dats m 0 c).arrAt 5 Cert.AdamUpIdeal.cfg0.N,
    fun c => (Cert.AdamUpIdeal.Gen.dats m 0 c).arrAt 6 Cert.AdamUpIdeal.cfg0.N,
    fun c => (Cert.AdamUpIdeal.Gen.dats m 0 c).arrAt 7 Cert.AdamUpIdeal.cfg0.N,
    fun c => (Cert.AdamUpIdeal.Gen.dats m 0 c).arrAt 8 Cert.AdamUpIdeal.cfg0.N,
    Cert.AdamUpIdeal.Value.run_blocks m g, ?_⟩
  refine (θ_run (Cert.AdamUpReferenceIdeal.defs (F := Ideal)) _ _).mono (fun r h c => ?_) (Cert.AdamUpReferenceIdeal.Value.run m' g')
  obtain ⟨e0, e1, e2, e3, e4⟩ := he c
  obtain ⟨r0, r1, r2, r3, hargs⟩ := h c
  refine ⟨r0.trans ?_, r1.trans ?_, r2.trans ?_, r3.trans ?_, hargs⟩
  · refine (Cert.AdamUpReferenceIdeal.Read.val_main_v4_eq _ _).trans ?_
    rw [e3, e4]
    exact (Cert.AdamUp.ref_v4 _ _).trans Cert.AdamUp.arr5.symm
  · refine (Cert.AdamUpReferenceIdeal.Read.val_main_v28_eq _ _ _ _ _).trans ?_
    rw [e0, e1, e2, e3, e4]
    exact (Cert.AdamUp.ref_v28 _ _ _ _ _).trans Cert.AdamUp.arr6.symm
  · refine (Cert.AdamUpReferenceIdeal.Read.val_main_v9_eq _ _ _).trans ?_
    rw [e1, e3, e4]
    exact (Cert.AdamUp.ref_v9 _ _ _).trans Cert.AdamUp.arr7.symm
  · refine (Cert.AdamUpReferenceIdeal.Read.val_main_v15_eq _ _ _).trans ?_
    rw [e2, e3, e4]
    exact (Cert.AdamUp.ref_v15 _ _ _).trans Cert.AdamUp.arr8.symm

/-- Every execution of the reference of the memory projection's update ends, with its arguments unchanged and every semaphore at zero. -/
theorem adammemory_reference_frame : Cert.quiescent_AdamMemoryReferenceIdeal := fun m ρ _ =>
  (θ_run (Cert.AdamMemoryReferenceIdeal.defs (F := Ideal)) _ _).mono
    (fun r h => ⟨fun c => (h c).2.2.2.2, Idealize.ShloMosaic.sem_eq_zero_of_no_sems (by decide) r.2⟩)
    (Cert.AdamMemoryReferenceIdeal.Value.run m ρ)

/-- The memory projection's update: from the same arguments the kernel and the reference end with the same results. -/
theorem adammemory_equal_results : Cert.algebraic_AdamMemoryIdeal_AdamMemoryReferenceIdeal := by
  intro m g m' g' hp he
  refine ⟨fun c => (Cert.AdamMemoryIdeal.Gen.dats m 0 c).arrAt 5 Cert.AdamMemoryIdeal.cfg0.N,
    fun c => (Cert.AdamMemoryIdeal.Gen.dats m 0 c).arrAt 6 Cert.AdamMemoryIdeal.cfg0.N,
    fun c => (Cert.AdamMemoryIdeal.Gen.dats m 0 c).arrAt 7 Cert.AdamMemoryIdeal.cfg0.N,
    fun c => (Cert.AdamMemoryIdeal.Gen.dats m 0 c).arrAt 8 Cert.AdamMemoryIdeal.cfg0.N,
    Cert.AdamMemoryIdeal.Value.run_blocks m g, ?_⟩
  refine (θ_run (Cert.AdamMemoryReferenceIdeal.defs (F := Ideal)) _ _).mono (fun r h c => ?_) (Cert.AdamMemoryReferenceIdeal.Value.run m' g')
  obtain ⟨e0, e1, e2, e3, e4⟩ := he c
  obtain ⟨r0, r1, r2, r3, hargs⟩ := h c
  refine ⟨r0.trans ?_, r1.trans ?_, r2.trans ?_, r3.trans ?_, hargs⟩
  · refine (Cert.AdamMemoryReferenceIdeal.Read.val_main_v3_eq _ _).trans ?_
    rw [e3, e4]
    exact (Cert.AdamMemory.ref_v3 _ _).trans Cert.AdamMemory.arr5.symm
  · refine (Cert.AdamMemoryReferenceIdeal.Read.val_main_v27_eq _ _ _ _ _).trans ?_
    rw [e0, e1, e2, e3, e4]
    exact (Cert.AdamMemory.ref_v27 _ _ _ _ _).trans Cert.AdamMemory.arr6.symm
  · refine (Cert.AdamMemoryReferenceIdeal.Read.val_main_v8_eq _ _ _).trans ?_
    rw [e1, e3, e4]
    exact (Cert.AdamMemory.ref_v8 _ _ _).trans Cert.AdamMemory.arr7.symm
  · refine (Cert.AdamMemoryReferenceIdeal.Read.val_main_v14_eq _ _ _).trans ?_
    rw [e2, e3, e4]
    exact (Cert.AdamMemory.ref_v14 _ _ _).trans Cert.AdamMemory.arr8.symm

/-- Every execution of the reference of the input projection's update ends, with its arguments unchanged and every semaphore at zero. -/
theorem adamin_reference_frame : Cert.quiescent_AdamInReferenceIdeal := fun m ρ _ =>
  (θ_run (Cert.AdamInReferenceIdeal.defs (F := Ideal)) _ _).mono
    (fun r h => ⟨fun c => (h c).2.2.2.2, Idealize.ShloMosaic.sem_eq_zero_of_no_sems (by decide) r.2⟩)
    (Cert.AdamInReferenceIdeal.Value.run m ρ)

/-- The input projection's update: from the same arguments the kernel and the reference end with the same results. -/
theorem adamin_equal_results : Cert.algebraic_AdamInIdeal_AdamInReferenceIdeal := by
  intro m g m' g' hp he
  refine ⟨fun c => (Cert.AdamInIdeal.Gen.dats m 0 c).arrAt 5 Cert.AdamInIdeal.cfg0.N,
    fun c => (Cert.AdamInIdeal.Gen.dats m 0 c).arrAt 6 Cert.AdamInIdeal.cfg0.N,
    fun c => (Cert.AdamInIdeal.Gen.dats m 0 c).arrAt 7 Cert.AdamInIdeal.cfg0.N,
    fun c => (Cert.AdamInIdeal.Gen.dats m 0 c).arrAt 8 Cert.AdamInIdeal.cfg0.N,
    Cert.AdamInIdeal.Value.run_blocks m g, ?_⟩
  refine (θ_run (Cert.AdamInReferenceIdeal.defs (F := Ideal)) _ _).mono (fun r h c => ?_) (Cert.AdamInReferenceIdeal.Value.run m' g')
  obtain ⟨e0, e1, e2, e3, e4⟩ := he c
  obtain ⟨r0, r1, r2, r3, hargs⟩ := h c
  refine ⟨r0.trans ?_, r1.trans ?_, r2.trans ?_, r3.trans ?_, hargs⟩
  · refine (Cert.AdamInReferenceIdeal.Read.val_main_v3_eq _ _).trans ?_
    rw [e3, e4]
    exact (Cert.AdamIn.ref_v3 _ _).trans Cert.AdamIn.arr5.symm
  · refine (Cert.AdamInReferenceIdeal.Read.val_main_v30_eq _ _ _ _ _).trans ?_
    rw [e0, e1, e2, e3, e4]
    exact (Cert.AdamIn.ref_v30 _ _ _ _ _).trans Cert.AdamIn.arr6.symm
  · refine (Cert.AdamInReferenceIdeal.Read.val_main_v11_eq _ _ _).trans ?_
    rw [e1, e3, e4]
    exact (Cert.AdamIn.ref_v11 _ _ _).trans Cert.AdamIn.arr7.symm
  · refine (Cert.AdamInReferenceIdeal.Read.val_main_v17_eq _ _ _).trans ?_
    rw [e2, e3, e4]
    exact (Cert.AdamIn.ref_v17 _ _ _).trans Cert.AdamIn.arr8.symm

/-- Every execution of the reference of the square weights' update ends, with its arguments unchanged and every semaphore at zero. -/
theorem adamsquare_reference_frame : Cert.quiescent_AdamSquareReferenceIdeal := fun m ρ _ =>
  (θ_run (Cert.AdamSquareReferenceIdeal.defs (F := Ideal)) _ _).mono
    (fun r h => ⟨fun c => (h c).2.2.2.2.2.2.2.2.2.2.2.2, Idealize.ShloMosaic.sem_eq_zero_of_no_sems (by decide) r.2⟩)
    (Cert.AdamSquareReferenceIdeal.Value.run m ρ)

set_option maxHeartbeats 2000000 in
/-- The square weights' update: from the same arguments the kernel and the reference end with the same results. -/
theorem adamsquare_equal_results : Cert.algebraic_AdamSquareIdeal_AdamSquareReferenceIdeal := by
  intro m g m' g' hp he
  refine ⟨fun c => (Cert.AdamSquareIdeal.Gen.dats m 0 c).arrAt 15 Cert.AdamSquareIdeal.cfg0.N,
    fun c => (Cert.AdamSquareIdeal.Gen.dats m 0 c).arrAt 18 Cert.AdamSquareIdeal.cfg0.N,
    fun c => (Cert.AdamSquareIdeal.Gen.dats m 0 c).arrAt 21 Cert.AdamSquareIdeal.cfg0.N,
    fun c => (Cert.AdamSquareIdeal.Gen.dats m 0 c).arrAt 24 Cert.AdamSquareIdeal.cfg0.N,
    fun c => (Cert.AdamSquareIdeal.Gen.dats m 0 c).arrAt 16 Cert.AdamSquareIdeal.cfg0.N,
    fun c => (Cert.AdamSquareIdeal.Gen.dats m 0 c).arrAt 19 Cert.AdamSquareIdeal.cfg0.N,
    fun c => (Cert.AdamSquareIdeal.Gen.dats m 0 c).arrAt 22 Cert.AdamSquareIdeal.cfg0.N,
    fun c => (Cert.AdamSquareIdeal.Gen.dats m 0 c).arrAt 25 Cert.AdamSquareIdeal.cfg0.N,
    fun c => (Cert.AdamSquareIdeal.Gen.dats m 0 c).arrAt 17 Cert.AdamSquareIdeal.cfg0.N,
    fun c => (Cert.AdamSquareIdeal.Gen.dats m 0 c).arrAt 20 Cert.AdamSquareIdeal.cfg0.N,
    fun c => (Cert.AdamSquareIdeal.Gen.dats m 0 c).arrAt 23 Cert.AdamSquareIdeal.cfg0.N,
    fun c => (Cert.AdamSquareIdeal.Gen.dats m 0 c).arrAt 26 Cert.AdamSquareIdeal.cfg0.N,
    (θ_run (Cert.AdamSquareIdeal.defs (F := Ideal)) _ _).mono (fun r h c => ?_) (Cert.AdamSquareIdeal.Value.run_blocks m g), ?_⟩
  · obtain ⟨k0, k1, k2, k3, k4, k5, k6, k7, k8, k9, k10, k11, hargs⟩ := h c
    exact ⟨k0, k3, k6, k9, k1, k4, k7, k10, k2, k5, k8, k11, hargs⟩
  refine (θ_run (Cert.AdamSquareReferenceIdeal.defs (F := Ideal)) _ _).mono (fun r h c => ?_) (Cert.AdamSquareReferenceIdeal.Value.run m' g')
  obtain ⟨e0, e1, e2, e3, e4, e5, e6, e7, e8, e9, e10, e11, e12, e13, e14⟩ := he c
  obtain ⟨r0, r1, r2, r3, r4, r5, r6, r7, r8, r9, r10, r11, hargs⟩ := h c
  refine ⟨r0.trans ?_, r1.trans ?_, r2.trans ?_, r3.trans ?_, r4.trans ?_, r5.trans ?_, r6.trans ?_, r7.trans ?_, r8.trans ?_, r9.trans ?_, r10.trans ?_, r11.trans ?_, hargs⟩
  · refine (Cert.AdamSquareReferenceIdeal.Read.val_main_v3_eq _ _).trans ?_
    rw [e9, e12]
    exact (Cert.AdamSquare.ref_v3 _ _).trans Cert.AdamSquare.arr15.symm
  · refine (Cert.AdamSquareReferenceIdeal.Read.val_main_v35_eq _ _ _ _ _).trans ?_
    rw [e0, e3, e6, e9, e12]
    exact (Cert.AdamSquare.ref_v35 _ _ _ _ _).trans Cert.AdamSquare.arr18.symm
  · refine (Cert.AdamSquareReferenceIdeal.Read.val_main_v16_eq _ _ _).trans ?_
    rw [e3, e9, e12]
    exact (Cert.AdamSquare.ref_v16 _ _ _).trans Cert.AdamSquare.arr21.symm
  · refine (Cert.AdamSquareReferenceIdeal.Read.val_main_v22_eq _ _ _).trans ?_
    rw [e6, e9, e12]
    exact (Cert.AdamSquare.ref_v22 _ _ _).trans Cert.AdamSquare.arr24.symm
  · refine (Cert.AdamSquareReferenceIdeal.Read.val_main_v7_eq _ _).trans ?_
    rw [e10, e13]
    exact (Cert.AdamSquare.ref_v7 _ _).trans Cert.AdamSquare.arr16.symm
  · refine (Cert.AdamSquareReferenceIdeal.Read.val_main_v59_eq _ _ _ _ _).trans ?_
    rw [e1, e4, e7, e10, e13]
    exact (Cert.AdamSquare.ref_v59 _ _ _ _ _).trans Cert.AdamSquare.arr19.symm
  · refine (Cert.AdamSquareReferenceIdeal.Read.val_main_v40_eq _ _ _).trans ?_
    rw [e4, e10, e13]
    exact (Cert.AdamSquare.ref_v40 _ _ _).trans Cert.AdamSquare.arr22.symm
  · refine (Cert.AdamSquareReferenceIdeal.Read.val_main_v46_eq _ _ _).trans ?_
    rw [e7, e10, e13]
    exact (Cert.AdamSquare.ref_v46 _ _ _).trans Cert.AdamSquare.arr25.symm
  · refine (Cert.AdamSquareReferenceIdeal.Read.val_main_v11_eq _ _).trans ?_
    rw [e11, e14]
    exact (Cert.AdamSquare.ref_v11 _ _).trans Cert.AdamSquare.arr17.symm
  · refine (Cert.AdamSquareReferenceIdeal.Read.val_main_v83_eq _ _ _ _ _).trans ?_
    rw [e2, e5, e8, e11, e14]
    exact (Cert.AdamSquare.ref_v83 _ _ _ _ _).trans Cert.AdamSquare.arr20.symm
  · refine (Cert.AdamSquareReferenceIdeal.Read.val_main_v64_eq _ _ _).trans ?_
    rw [e5, e11, e14]
    exact (Cert.AdamSquare.ref_v64 _ _ _).trans Cert.AdamSquare.arr23.symm
  · refine (Cert.AdamSquareReferenceIdeal.Read.val_main_v70_eq _ _ _).trans ?_
    rw [e8, e11, e14]
    exact (Cert.AdamSquare.ref_v70 _ _ _).trans Cert.AdamSquare.arr26.symm

theorem claim : Cert.Claim := ⟨Cert.Kernel.Gen.facts,
  Cert.KernelIdeal.Gen.facts,
  Cert.ReferenceIdeal.Gen.facts,
  Cert.Mlp.Gen.facts,
  Cert.MlpIdeal.Gen.facts,
  Cert.MlpReferenceIdeal.Gen.facts,
  Cert.Wide.Gen.facts,
  Cert.WideIdeal.Gen.facts,
  Cert.WideReferenceIdeal.Gen.facts,
  Cert.Square.Gen.facts,
  Cert.SquareIdeal.Gen.facts,
  Cert.SquareReferenceIdeal.Gen.facts,
  Cert.Input.Gen.facts,
  Cert.InputIdeal.Gen.facts,
  Cert.InputReferenceIdeal.Gen.facts,
  Cert.Loss.Gen.facts,
  Cert.LossIdeal.Gen.facts,
  Cert.LossReferenceIdeal.Gen.facts,
  Cert.Memory.Gen.facts,
  Cert.MemoryIdeal.Gen.facts,
  Cert.MemoryReferenceIdeal.Gen.facts,
  Cert.Inproj.Gen.facts,
  Cert.InprojIdeal.Gen.facts,
  Cert.InprojReferenceIdeal.Gen.facts,
  Cert.Kvproj.Gen.facts,
  Cert.KvprojIdeal.Gen.facts,
  Cert.KvprojReferenceIdeal.Gen.facts,
  Cert.AdamDown.Gen.facts,
  Cert.AdamDownIdeal.Gen.facts,
  Cert.AdamDownReferenceIdeal.Gen.facts,
  Cert.AdamUp.Gen.facts,
  Cert.AdamUpIdeal.Gen.facts,
  Cert.AdamUpReferenceIdeal.Gen.facts,
  Cert.AdamMemory.Gen.facts,
  Cert.AdamMemoryIdeal.Gen.facts,
  Cert.AdamMemoryReferenceIdeal.Gen.facts,
  Cert.AdamIn.Gen.facts,
  Cert.AdamInIdeal.Gen.facts,
  Cert.AdamInReferenceIdeal.Gen.facts,
  Cert.AdamSquare.Gen.facts,
  Cert.AdamSquareIdeal.Gen.facts,
  Cert.AdamSquareReferenceIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Mlp.Gen.frame m ρ,
  fun m ρ _ => Cert.MlpIdeal.Gen.frame m ρ,
  mlp_reference_frame,
  fun m ρ _ => Cert.Wide.Gen.frame m ρ,
  fun m ρ _ => Cert.WideIdeal.Gen.frame m ρ,
  wide_reference_frame,
  fun m ρ _ => Cert.Square.Gen.frame m ρ,
  fun m ρ _ => Cert.SquareIdeal.Gen.frame m ρ,
  square_reference_frame,
  fun m ρ _ => Cert.Input.Gen.frame m ρ,
  fun m ρ _ => Cert.InputIdeal.Gen.frame m ρ,
  input_reference_frame,
  fun m ρ _ => Cert.Loss.Gen.frame m ρ,
  fun m ρ _ => Cert.LossIdeal.Gen.frame m ρ,
  loss_reference_frame,
  fun m ρ _ => Cert.Memory.Gen.frame m ρ,
  fun m ρ _ => Cert.MemoryIdeal.Gen.frame m ρ,
  memory_reference_frame,
  fun m ρ _ => Cert.Inproj.Gen.frame m ρ,
  fun m ρ _ => Cert.InprojIdeal.Gen.frame m ρ,
  inproj_reference_frame,
  fun m ρ _ => Cert.Kvproj.Gen.frame m ρ,
  fun m ρ _ => Cert.KvprojIdeal.Gen.frame m ρ,
  kvproj_reference_frame,
  fun m ρ _ => Cert.AdamDown.Gen.frame m ρ,
  fun m ρ _ => Cert.AdamDownIdeal.Gen.frame m ρ,
  adamdown_reference_frame,
  fun m ρ _ => Cert.AdamUp.Gen.frame m ρ,
  fun m ρ _ => Cert.AdamUpIdeal.Gen.frame m ρ,
  adamup_reference_frame,
  fun m ρ _ => Cert.AdamMemory.Gen.frame m ρ,
  fun m ρ _ => Cert.AdamMemoryIdeal.Gen.frame m ρ,
  adammemory_reference_frame,
  fun m ρ _ => Cert.AdamIn.Gen.frame m ρ,
  fun m ρ _ => Cert.AdamInIdeal.Gen.frame m ρ,
  adamin_reference_frame,
  fun m ρ _ => Cert.AdamSquare.Gen.frame m ρ,
  fun m ρ _ => Cert.AdamSquareIdeal.Gen.frame m ρ,
  adamsquare_reference_frame,
  trivial,
  equal_results,
  trivial,
  mlp_equal_results,
  trivial,
  wide_equal_results,
  trivial,
  square_equal_results,
  trivial,
  input_equal_results,
  trivial,
  loss_equal_results,
  trivial,
  memory_equal_results,
  trivial,
  inproj_equal_results,
  trivial,
  kvproj_equal_results,
  trivial,
  adamdown_equal_results,
  trivial,
  adamup_equal_results,
  trivial,
  adammemory_equal_results,
  trivial,
  adamin_equal_results,
  trivial,
  adamsquare_equal_results⟩

end Cert.Proof

end
